-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_on_reached [hKernelIdeal : Cert.KernelIdeal.Facts] [hReferenceIdeal : Cert.ReferenceIdeal.Facts] [hOn_reached : Cert.On_reached.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v165)) (v1 : (c : Dev Cert.KernelIdeal.nD) → Buf (Elt Ideal) ((c.tc : Thread Cert.KernelIdeal.nD Cert.KernelIdeal.τ).loc Cert.KernelIdeal.main_v167)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![2, 896, 16, 64]⟩ : Shape).Idx, (Cert.On_reached.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v165) i = v0 c i)
          ∧ (∀ i : (⟨3, ![2, 896, 16]⟩ : Shape).Idx, (Cert.On_reached.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.KernelIdeal.nD Cert.KernelIdeal.τ).loc Cert.KernelIdeal.main_v167) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![2, 896, 16, 64]⟩ : Shape).Idx, (Cert.On_reached.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v171) i = v0 c i)
          ∧ (∀ i : (⟨3, ![2, 896, 16]⟩ : Shape).Idx, (Cert.On_reached.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 i = 1#1 → r.2.mem ((c.tc : Thread Cert.ReferenceIdeal.nD Cert.ReferenceIdeal.τ).loc Cert.ReferenceIdeal.main_v172) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hOn_reached : Cert.On_reached.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_reached (hKernelIdeal := hKernelIdeal) (hReferenceIdeal := hReferenceIdeal) (hOn_reached := hOn_reached)
-- ==== On_reached.lean ====
abbrev S2x896x16x64 : Shape := ⟨4, ![2, 896, 16, 64]⟩
abbrev S16 : Shape := ⟨1, ![16]⟩
abbrev S254 : Shape := ⟨1, ![254]⟩
abbrev S1x254 : Shape := ⟨2, ![1, 254]⟩
abbrev S_ : Shape := ⟨0, ![]⟩
abbrev S16x1 : Shape := ⟨2, ![16, 1]⟩
abbrev S16x254 : Shape := ⟨2, ![16, 254]⟩
abbrev S2x16x896x64 : Shape := ⟨4, ![2, 16, 896, 64]⟩
abbrev S2x16x896x896 : Shape := ⟨4, ![2, 16, 896, 896]⟩
abbrev S2x16x896 : Shape := ⟨3, ![2, 16, 896]⟩
abbrev S2x16x896x1 : Shape := ⟨4, ![2, 16, 896, 1]⟩
abbrev S1x16x1x1 : Shape := ⟨4, ![1, 16, 1, 1]⟩
abbrev S1x16x1 : Shape := ⟨3, ![1, 16, 1]⟩
abbrev S2x896x16 : Shape := ⟨3, ![2, 896, 16]⟩
abbrev S2x896x16x1 : Shape := ⟨4, ![2, 896, 16, 1]⟩
abbrev S1x1x16 : Shape := ⟨3, ![1, 1, 16]⟩

class Facts : Prop where
  bcast_S254_S1x254_1 : S254.BroadcastsInDim S1x254 (![1] : Fin 1 → Fin S1x254.rank)
  bcast_S_S16 : S_.BroadcastsInDim S16 (![] : Fin 0 → Fin S16.rank)
  bcast_S16_S16x1_0 : S16.BroadcastsInDim S16x1 (![0] : Fin 1 → Fin S16x1.rank)
  bcast_S16x1_S16x254_0_1 : S16x1.BroadcastsInDim S16x254 (![0, 1] : Fin 2 → Fin S16x254.rank)
  bcast_S1x254_S16x254_0_1 : S1x254.BroadcastsInDim S16x254 (![0, 1] : Fin 2 → Fin S16x254.rank)
  bcast_S_S16x254 : S_.BroadcastsInDim S16x254 (![] : Fin 0 → Fin S16x254.rank)
  reducesTo_S16x254_S16_d1 : S16x254.ReducesTo [1] S16
  h_S_ : 0 < S_.numel
  transposes_S2x896x16x64_S2x16x896x64_0_2_1_3 : S2x896x16x64.Transposes [0, 2, 1, 3] S2x16x896x64
  natLt_8_32 : 8 < 32
  bitsLt_bf16_f32 : FTy.bits .bf16 < FTy.bits .f32
  reducesTo_S2x16x896x896_S2x16x896_d3 : S2x16x896x896.ReducesTo [3] S2x16x896
  bcast_S2x16x896_S2x16x896x1_0_1_2 : S2x16x896.BroadcastsInDim S2x16x896x1 (![0, 1, 2] : Fin 3 → Fin S2x16x896x1.rank)
  bcast_S2x16x896x1_S2x16x896x896_0_1_2_3 : S2x16x896x1.BroadcastsInDim S2x16x896x896 (![0, 1, 2, 3] : Fin 4 → Fin S2x16x896x896.rank)
  bcast_S16_S1x16x1x1_1 : S16.BroadcastsInDim S1x16x1x1 (![1] : Fin 1 → Fin S1x16x1x1.rank)
  bcast_S1x16x1x1_S2x16x896x896_0_1_2_3 : S1x16x1x1.BroadcastsInDim S2x16x896x896 (![0, 1, 2, 3] : Fin 4 → Fin S2x16x896x896.rank)
  natLt_1_32 : 1 < 32
  bcast_S_S2x16x896x896 : S_.BroadcastsInDim S2x16x896x896 (![] : Fin 0 → Fin S2x16x896x896.rank)
  bcast_S16_S1x16x1_1 : S16.BroadcastsInDim S1x16x1 (![1] : Fin 1 → Fin S1x16x1.rank)
  bcast_S_S2x16x896 : S_.BroadcastsInDim S2x16x896 (![] : Fin 0 → Fin S2x16x896.rank)
  bcast_S1x16x1_S2x16x896_0_1_2 : S1x16x1.BroadcastsInDim S2x16x896 (![0, 1, 2] : Fin 3 → Fin S2x16x896.rank)
  transposes_S2x16x896_S2x896x16_0_2_1 : S2x16x896.Transposes [0, 2, 1] S2x896x16
  bcast_S2x896x16_S2x896x16x1_0_1_2 : S2x896x16.BroadcastsInDim S2x896x16x1 (![0, 1, 2] : Fin 3 → Fin S2x896x16x1.rank)
  bcast_S2x896x16x1_S2x896x16x64_0_1_2_3 : S2x896x16x1.BroadcastsInDim S2x896x16x64 (![0, 1, 2, 3] : Fin 4 → Fin S2x896x16x64.rank)
  transposes_S1x16x1_S1x1x16_0_2_1 : S1x16x1.Transposes [0, 2, 1] S1x1x16
  bcast_S1x1x16_S2x896x16_0_1_2 : S1x1x16.BroadcastsInDim S2x896x16 (![0, 1, 2] : Fin 3 → Fin S2x896x16.rank)
  dot_S2x16x896x64_S2x16x896x64_S2x16x896x896_3_3_2_2_01_01_wf : DotDims.WF S2x16x896x64 S2x16x896x64 S2x16x896x896 [3] [3] [2] [2] [0, 1] [0, 1]

variable [Facts]

def dot_S2x16x896x64_S2x16x896x64_S2x16x896x896_3_3_2_2_01_01 : DotDims S2x16x896x64 S2x16x896x64 S2x16x896x896 where
  lhsContracting := [3]
  rhsContracting := [3]
  lhsNonContracting := [2]
  rhsNonContracting := [2]
  lhsBatch := [0, 1]
  rhsBatch := [0, 1]
  wf := dot_S2x16x896x64_S2x16x896x64_S2x16x896x896_3_3_2_2_01_01_wf

noncomputable abbrev lit0 : Fin 254 → BitVec 32 := fun
  | 0 => 0x00800000#32 | 1 => 0x01000000#32 | 2 => 0x01800000#32 | 3 => 0x02000000#32 | 4 => 0x02800000#32 | 5 => 0x03000000#32 | 6 => 0x03800000#32 | 7 => 0x04000000#32
  | 8 => 0x04800000#32 | 9 => 0x05000000#32 | 10 => 0x05800000#32 | 11 => 0x06000000#32 | 12 => 0x06800000#32 | 13 => 0x07000000#32 | 14 => 0x07800000#32 | 15 => 0x08000000#32
  | 16 => 0x08800000#32 | 17 => 0x09000000#32 | 18 => 0x09800000#32 | 19 => 0x0A000000#32 | 20 => 0x0A800000#32 | 21 => 0x0B000000#32 | 22 => 0x0B800000#32 | 23 => 0x0C000000#32
  | 24 => 0x0C800000#32 | 25 => 0x0D000000#32 | 26 => 0x0D800000#32 | 27 => 0x0E000000#32 | 28 => 0x0E800000#32 | 29 => 0x0F000000#32 | 30 => 0x0F800000#32 | 31 => 0x10000000#32
  | 32 => 0x10800000#32 | 33 => 0x11000000#32 | 34 => 0x11800000#32 | 35 => 0x12000000#32 | 36 => 0x12800000#32 | 37 => 0x13000000#32 | 38 => 0x13800000#32 | 39 => 0x14000000#32
  | 40 => 0x14800000#32 | 41 => 0x15000000#32 | 42 => 0x15800000#32 | 43 => 0x16000000#32 | 44 => 0x16800000#32 | 45 => 0x17000000#32 | 46 => 0x17800000#32 | 47 => 0x18000000#32
  | 48 => 0x18800000#32 | 49 => 0x19000000#32 | 50 => 0x19800000#32 | 51 => 0x1A000000#32 | 52 => 0x1A800000#32 | 53 => 0x1B000000#32 | 54 => 0x1B800000#32 | 55 => 0x1C000000#32
  | 56 => 0x1C800000#32 | 57 => 0x1D000000#32 | 58 => 0x1D800000#32 | 59 => 0x1E000000#32 | 60 => 0x1E800000#32 | 61 => 0x1F000000#32 | 62 => 0x1F800000#32 | 63 => 0x20000000#32
  | 64 => 0x20800000#32 | 65 => 0x21000000#32 | 66 => 0x21800000#32 | 67 => 0x22000000#32 | 68 => 0x22800000#32 | 69 => 0x23000000#32 | 70 => 0x23800000#32 | 71 => 0x24000000#32
  | 72 => 0x24800000#32 | 73 => 0x25000000#32 | 74 => 0x25800000#32 | 75 => 0x26000000#32 | 76 => 0x26800000#32 | 77 => 0x27000000#32 | 78 => 0x27800000#32 | 79 => 0x28000000#32
  | 80 => 0x28800000#32 | 81 => 0x29000000#32 | 82 => 0x29800000#32 | 83 => 0x2A000000#32 | 84 => 0x2A800000#32 | 85 => 0x2B000000#32 | 86 => 0x2B800000#32 | 87 => 0x2C000000#32
  | 88 => 0x2C800000#32 | 89 => 0x2D000000#32 | 90 => 0x2D800000#32 | 91 => 0x2E000000#32 | 92 => 0x2E800000#32 | 93 => 0x2F000000#32 | 94 => 0x2F800000#32 | 95 => 0x30000000#32
  | 96 => 0x30800000#32 | 97 => 0x31000000#32 | 98 => 0x31800000#32 | 99 => 0x32000000#32 | 100 => 0x32800000#32 | 101 => 0x33000000#32 | 102 => 0x33800000#32 | 103 => 0x34000000#32
  | 104 => 0x34800000#32 | 105 => 0x35000000#32 | 106 => 0x35800000#32 | 107 => 0x36000000#32 | 108 => 0x36800000#32 | 109 => 0x37000000#32 | 110 => 0x37800000#32 | 111 => 0x38000000#32
  | 112 => 0x38800000#32 | 113 => 0x39000000#32 | 114 => 0x39800000#32 | 115 => 0x3A000000#32 | 116 => 0x3A800000#32 | 117 => 0x3B000000#32 | 118 => 0x3B800000#32 | 119 => 0x3C000000#32
  | 120 => 0x3C800000#32 | 121 => 0x3D000000#32 | 122 => 0x3D800000#32 | 123 => 0x3E000000#32 | 124 => 0x3E800000#32 | 125 => 0x3F000000#32 | 126 => 0x3F800000#32 | 127 => 0x40000000#32
  | 128 => 0x40800000#32 | 129 => 0x41000000#32 | 130 => 0x41800000#32 | 131 => 0x42000000#32 | 132 => 0x42800000#32 | 133 => 0x43000000#32 | 134 => 0x43800000#32 | 135 => 0x44000000#32
  | 136 => 0x44800000#32 | 137 => 0x45000000#32 | 138 => 0x45800000#32 | 139 => 0x46000000#32 | 140 => 0x46800000#32 | 141 => 0x47000000#32 | 142 => 0x47800000#32 | 143 => 0x48000000#32
  | 144 => 0x48800000#32 | 145 => 0x49000000#32 | 146 => 0x49800000#32 | 147 => 0x4A000000#32 | 148 => 0x4A800000#32 | 149 => 0x4B000000#32 | 150 => 0x4B800000#32 | 151 => 0x4C000000#32
  | 152 => 0x4C800000#32 | 153 => 0x4D000000#32 | 154 => 0x4D800000#32 | 155 => 0x4E000000#32 | 156 => 0x4E800000#32 | 157 => 0x4F000000#32 | 158 => 0x4F800000#32 | 159 => 0x50000000#32
  | 160 => 0x50800000#32 | 161 => 0x51000000#32 | 162 => 0x51800000#32 | 163 => 0x52000000#32 | 164 => 0x52800000#32 | 165 => 0x53000000#32 | 166 => 0x53800000#32 | 167 => 0x54000000#32
  | 168 => 0x54800000#32 | 169 => 0x55000000#32 | 170 => 0x55800000#32 | 171 => 0x56000000#32 | 172 => 0x56800000#32 | 173 => 0x57000000#32 | 174 => 0x57800000#32 | 175 => 0x58000000#32
  | 176 => 0x58800000#32 | 177 => 0x59000000#32 | 178 => 0x59800000#32 | 179 => 0x5A000000#32 | 180 => 0x5A800000#32 | 181 => 0x5B000000#32 | 182 => 0x5B800000#32 | 183 => 0x5C000000#32
  | 184 => 0x5C800000#32 | 185 => 0x5D000000#32 | 186 => 0x5D800000#32 | 187 => 0x5E000000#32 | 188 => 0x5E800000#32 | 189 => 0x5F000000#32 | 190 => 0x5F800000#32 | 191 => 0x60000000#32
  | 192 => 0x60800000#32 | 193 => 0x61000000#32 | 194 => 0x61800000#32 | 195 => 0x62000000#32 | 196 => 0x62800000#32 | 197 => 0x63000000#32 | 198 => 0x63800000#32 | 199 => 0x64000000#32
  | 200 => 0x64800000#32 | 201 => 0x65000000#32 | 202 => 0x65800000#32 | 203 => 0x66000000#32 | 204 => 0x66800000#32 | 205 => 0x67000000#32 | 206 => 0x67800000#32 | 207 => 0x68000000#32
  | 208 => 0x68800000#32 | 209 => 0x69000000#32 | 210 => 0x69800000#32 | 211 => 0x6A000000#32 | 212 => 0x6A800000#32 | 213 => 0x6B000000#32 | 214 => 0x6B800000#32 | 215 => 0x6C000000#32
  | 216 => 0x6C800000#32 | 217 => 0x6D000000#32 | 218 => 0x6D800000#32 | 219 => 0x6E000000#32 | 220 => 0x6E800000#32 | 221 => 0x6F000000#32 | 222 => 0x6F800000#32 | 223 => 0x70000000#32
  | 224 => 0x70800000#32 | 225 => 0x71000000#32 | 226 => 0x71800000#32 | 227 => 0x72000000#32 | 228 => 0x72800000#32 | 229 => 0x73000000#32 | 230 => 0x73800000#32 | 231 => 0x74000000#32
  | 232 => 0x74800000#32 | 233 => 0x75000000#32 | 234 => 0x75800000#32 | 235 => 0x76000000#32 | 236 => 0x76800000#32 | 237 => 0x77000000#32 | 238 => 0x77800000#32 | 239 => 0x78000000#32
  | 240 => 0x78800000#32 | 241 => 0x79000000#32 | 242 => 0x79800000#32 | 243 => 0x7A000000#32 | 244 => 0x7A800000#32 | 245 => 0x7B000000#32 | 246 => 0x7B800000#32 | 247 => 0x7C000000#32
  | 248 => 0x7C800000#32 | 249 => 0x7D000000#32 | 250 => 0x7D800000#32 | 251 => 0x7E000000#32 | 252 => 0x7E800000#32 | 253 => 0x7F000000#32
  | _ => 0#32

noncomputable abbrev lit1 : Fin 254 → BitVec 32 := fun
  | 0 => 4294967171#32 | 1 => 4294967172#32 | 2 => 4294967173#32 | 3 => 4294967174#32 | 4 => 4294967175#32 | 5 => 4294967176#32 | 6 => 4294967177#32 | 7 => 4294967178#32
  | 8 => 4294967179#32 | 9 => 4294967180#32 | 10 => 4294967181#32 | 11 => 4294967182#32 | 12 => 4294967183#32 | 13 => 4294967184#32 | 14 => 4294967185#32 | 15 => 4294967186#32
  | 16 => 4294967187#32 | 17 => 4294967188#32 | 18 => 4294967189#32 | 19 => 4294967190#32 | 20 => 4294967191#32 | 21 => 4294967192#32 | 22 => 4294967193#32 | 23 => 4294967194#32
  | 24 => 4294967195#32 | 25 => 4294967196#32 | 26 => 4294967197#32 | 27 => 4294967198#32 | 28 => 4294967199#32 | 29 => 4294967200#32 | 30 => 4294967201#32 | 31 => 4294967202#32
  | 32 => 4294967203#32 | 33 => 4294967204#32 | 34 => 4294967205#32 | 35 => 4294967206#32 | 36 => 4294967207#32 | 37 => 4294967208#32 | 38 => 4294967209#32 | 39 => 4294967210#32
  | 40 => 4294967211#32 | 41 => 4294967212#32 | 42 => 4294967213#32 | 43 => 4294967214#32 | 44 => 4294967215#32 | 45 => 4294967216#32 | 46 => 4294967217#32 | 47 => 4294967218#32
  | 48 => 4294967219#32 | 49 => 4294967220#32 | 50 => 4294967221#32 | 51 => 4294967222#32 | 52 => 4294967223#32 | 53 => 4294967224#32 | 54 => 4294967225#32 | 55 => 4294967226#32
  | 56 => 4294967227#32 | 57 => 4294967228#32 | 58 => 4294967229#32 | 59 => 4294967230#32 | 60 => 4294967231#32 | 61 => 4294967232#32 | 62 => 4294967233#32 | 63 => 4294967234#32
  | 64 => 4294967235#32 | 65 => 4294967236#32 | 66 => 4294967237#32 | 67 => 4294967238#32 | 68 => 4294967239#32 | 69 => 4294967240#32 | 70 => 4294967241#32 | 71 => 4294967242#32
  | 72 => 4294967243#32 | 73 => 4294967244#32 | 74 => 4294967245#32 | 75 => 4294967246#32 | 76 => 4294967247#32 | 77 => 4294967248#32 | 78 => 4294967249#32 | 79 => 4294967250#32
  | 80 => 4294967251#32 | 81 => 4294967252#32 | 82 => 4294967253#32 | 83 => 4294967254#32 | 84 => 4294967255#32 | 85 => 4294967256#32 | 86 => 4294967257#32 | 87 => 4294967258#32
  | 88 => 4294967259#32 | 89 => 4294967260#32 | 90 => 4294967261#32 | 91 => 4294967262#32 | 92 => 4294967263#32 | 93 => 4294967264#32 | 94 => 4294967265#32 | 95 => 4294967266#32
  | 96 => 4294967267#32 | 97 => 4294967268#32 | 98 => 4294967269#32 | 99 => 4294967270#32 | 100 => 4294967271#32 | 101 => 4294967272#32 | 102 => 4294967273#32 | 103 => 4294967274#32
  | 104 => 4294967275#32 | 105 => 4294967276#32 | 106 => 4294967277#32 | 107 => 4294967278#32 | 108 => 4294967279#32 | 109 => 4294967280#32 | 110 => 4294967281#32 | 111 => 4294967282#32
  | 112 => 4294967283#32 | 113 => 4294967284#32 | 114 => 4294967285#32 | 115 => 4294967286#32 | 116 => 4294967287#32 | 117 => 4294967288#32 | 118 => 4294967289#32 | 119 => 4294967290#32
  | 120 => 4294967291#32 | 121 => 4294967292#32 | 122 => 4294967293#32 | 123 => 4294967294#32 | 124 => 4294967295#32 | 125 => 0#32 | 126 => 1#32 | 127 => 2#32
  | 128 => 3#32 | 129 => 4#32 | 130 => 5#32 | 131 => 6#32 | 132 => 7#32 | 133 => 8#32 | 134 => 9#32 | 135 => 10#32
  | 136 => 11#32 | 137 => 12#32 | 138 => 13#32 | 139 => 14#32 | 140 => 15#32 | 141 => 16#32 | 142 => 17#32 | 143 => 18#32
  | 144 => 19#32 | 145 => 20#32 | 146 => 21#32 | 147 => 22#32 | 148 => 23#32 | 149 => 24#32 | 150 => 25#32 | 151 => 26#32
  | 152 => 27#32 | 153 => 28#32 | 154 => 29#32 | 155 => 30#32 | 156 => 31#32 | 157 => 32#32 | 158 => 33#32 | 159 => 34#32
  | 160 => 35#32 | 161 => 36#32 | 162 => 37#32 | 163 => 38#32 | 164 => 39#32 | 165 => 40#32 | 166 => 41#32 | 167 => 42#32
  | 168 => 43#32 | 169 => 44#32 | 170 => 45#32 | 171 => 46#32 | 172 => 47#32 | 173 => 48#32 | 174 => 49#32 | 175 => 50#32
  | 176 => 51#32 | 177 => 52#32 | 178 => 53#32 | 179 => 54#32 | 180 => 55#32 | 181 => 56#32 | 182 => 57#32 | 183 => 58#32
  | 184 => 59#32 | 185 => 60#32 | 186 => 61#32 | 187 => 62#32 | 188 => 63#32 | 189 => 64#32 | 190 => 65#32 | 191 => 66#32
  | 192 => 67#32 | 193 => 68#32 | 194 => 69#32 | 195 => 70#32 | 196 => 71#32 | 197 => 72#32 | 198 => 73#32 | 199 => 74#32
  | 200 => 75#32 | 201 => 76#32 | 202 => 77#32 | 203 => 78#32 | 204 => 79#32 | 205 => 80#32 | 206 => 81#32 | 207 => 82#32
  | 208 => 83#32 | 209 => 84#32 | 210 => 85#32 | 211 => 86#32 | 212 => 87#32 | 213 => 88#32 | 214 => 89#32 | 215 => 90#32
  | 216 => 91#32 | 217 => 92#32 | 218 => 93#32 | 219 => 94#32 | 220 => 95#32 | 221 => 96#32 | 222 => 97#32 | 223 => 98#32
  | 224 => 99#32 | 225 => 100#32 | 226 => 101#32 | 227 => 102#32 | 228 => 103#32 | 229 => 104#32 | 230 => 105#32 | 231 => 106#32
  | 232 => 107#32 | 233 => 108#32 | 234 => 109#32 | 235 => 110#32 | 236 => 111#32 | 237 => 112#32 | 238 => 113#32 | 239 => 114#32
  | 240 => 115#32 | 241 => 116#32 | 242 => 117#32 | 243 => 118#32 | 244 => 119#32 | 245 => 120#32 | 246 => 121#32 | 247 => 122#32
  | 248 => 123#32 | 249 => 124#32 | 250 => 125#32 | 251 => 126#32 | 252 => 127#32 | 253 => 128#32
  | _ => 0#32

noncomputable abbrev lit2 : Fin 254 → BitVec 32 := fun
  | 0 => 0x00800000#32 | 1 => 0x01000000#32 | 2 => 0x01800000#32 | 3 => 0x02000000#32 | 4 => 0x02800000#32 | 5 => 0x03000000#32 | 6 => 0x03800000#32 | 7 => 0x04000000#32
  | 8 => 0x04800000#32 | 9 => 0x05000000#32 | 10 => 0x05800000#32 | 11 => 0x06000000#32 | 12 => 0x06800000#32 | 13 => 0x07000000#32 | 14 => 0x07800000#32 | 15 => 0x08000000#32
  | 16 => 0x08800000#32 | 17 => 0x09000000#32 | 18 => 0x09800000#32 | 19 => 0x0A000000#32 | 20 => 0x0A800000#32 | 21 => 0x0B000000#32 | 22 => 0x0B800000#32 | 23 => 0x0C000000#32
  | 24 => 0x0C800000#32 | 25 => 0x0D000000#32 | 26 => 0x0D800000#32 | 27 => 0x0E000000#32 | 28 => 0x0E800000#32 | 29 => 0x0F000000#32 | 30 => 0x0F800000#32 | 31 => 0x10000000#32
  | 32 => 0x10800000#32 | 33 => 0x11000000#32 | 34 => 0x11800000#32 | 35 => 0x12000000#32 | 36 => 0x12800000#32 | 37 => 0x13000000#32 | 38 => 0x13800000#32 | 39 => 0x14000000#32
  | 40 => 0x14800000#32 | 41 => 0x15000000#32 | 42 => 0x15800000#32 | 43 => 0x16000000#32 | 44 => 0x16800000#32 | 45 => 0x17000000#32 | 46 => 0x17800000#32 | 47 => 0x18000000#32
  | 48 => 0x18800000#32 | 49 => 0x19000000#32 | 50 => 0x19800000#32 | 51 => 0x1A000000#32 | 52 => 0x1A800000#32 | 53 => 0x1B000000#32 | 54 => 0x1B800000#32 | 55 => 0x1C000000#32
  | 56 => 0x1C800000#32 | 57 => 0x1D000000#32 | 58 => 0x1D800000#32 | 59 => 0x1E000000#32 | 60 => 0x1E800000#32 | 61 => 0x1F000000#32 | 62 => 0x1F800000#32 | 63 => 0x20000000#32
  | 64 => 0x20800000#32 | 65 => 0x21000000#32 | 66 => 0x21800000#32 | 67 => 0x22000000#32 | 68 => 0x22800000#32 | 69 => 0x23000000#32 | 70 => 0x23800000#32 | 71 => 0x24000000#32
  | 72 => 0x24800000#32 | 73 => 0x25000000#32 | 74 => 0x25800000#32 | 75 => 0x26000000#32 | 76 => 0x26800000#32 | 77 => 0x27000000#32 | 78 => 0x27800000#32 | 79 => 0x28000000#32
  | 80 => 0x28800000#32 | 81 => 0x29000000#32 | 82 => 0x29800000#32 | 83 => 0x2A000000#32 | 84 => 0x2A800000#32 | 85 => 0x2B000000#32 | 86 => 0x2B800000#32 | 87 => 0x2C000000#32
  | 88 => 0x2C800000#32 | 89 => 0x2D000000#32 | 90 => 0x2D800000#32 | 91 => 0x2E000000#32 | 92 => 0x2E800000#32 | 93 => 0x2F000000#32 | 94 => 0x2F800000#32 | 95 => 0x30000000#32
  | 96 => 0x30800000#32 | 97 => 0x31000000#32 | 98 => 0x31800000#32 | 99 => 0x32000000#32 | 100 => 0x32800000#32 | 101 => 0x33000000#32 | 102 => 0x33800000#32 | 103 => 0x34000000#32
  | 104 => 0x34800000#32 | 105 => 0x35000000#32 | 106 => 0x35800000#32 | 107 => 0x36000000#32 | 108 => 0x36800000#32 | 109 => 0x37000000#32 | 110 => 0x37800000#32 | 111 => 0x38000000#32
  | 112 => 0x38800000#32 | 113 => 0x39000000#32 | 114 => 0x39800000#32 | 115 => 0x3A000000#32 | 116 => 0x3A800000#32 | 117 => 0x3B000000#32 | 118 => 0x3B800000#32 | 119 => 0x3C000000#32
  | 120 => 0x3C800000#32 | 121 => 0x3D000000#32 | 122 => 0x3D800000#32 | 123 => 0x3E000000#32 | 124 => 0x3E800000#32 | 125 => 0x3F000000#32 | 126 => 0x3F800000#32 | 127 => 0x40000000#32
  | 128 => 0x40800000#32 | 129 => 0x41000000#32 | 130 => 0x41800000#32 | 131 => 0x42000000#32 | 132 => 0x42800000#32 | 133 => 0x43000000#32 | 134 => 0x43800000#32 | 135 => 0x44000000#32
  | 136 => 0x44800000#32 | 137 => 0x45000000#32 | 138 => 0x45800000#32 | 139 => 0x46000000#32 | 140 => 0x46800000#32 | 141 => 0x47000000#32 | 142 => 0x47800000#32 | 143 => 0x48000000#32
  | 144 => 0x48800000#32 | 145 => 0x49000000#32 | 146 => 0x49800000#32 | 147 => 0x4A000000#32 | 148 => 0x4A800000#32 | 149 => 0x4B000000#32 | 150 => 0x4B800000#32 | 151 => 0x4C000000#32
  | 152 => 0x4C800000#32 | 153 => 0x4D000000#32 | 154 => 0x4D800000#32 | 155 => 0x4E000000#32 | 156 => 0x4E800000#32 | 157 => 0x4F000000#32 | 158 => 0x4F800000#32 | 159 => 0x50000000#32
  | 160 => 0x50800000#32 | 161 => 0x51000000#32 | 162 => 0x51800000#32 | 163 => 0x52000000#32 | 164 => 0x52800000#32 | 165 => 0x53000000#32 | 166 => 0x53800000#32 | 167 => 0x54000000#32
  | 168 => 0x54800000#32 | 169 => 0x55000000#32 | 170 => 0x55800000#32 | 171 => 0x56000000#32 | 172 => 0x56800000#32 | 173 => 0x57000000#32 | 174 => 0x57800000#32 | 175 => 0x58000000#32
  | 176 => 0x58800000#32 | 177 => 0x59000000#32 | 178 => 0x59800000#32 | 179 => 0x5A000000#32 | 180 => 0x5A800000#32 | 181 => 0x5B000000#32 | 182 => 0x5B800000#32 | 183 => 0x5C000000#32
  | 184 => 0x5C800000#32 | 185 => 0x5D000000#32 | 186 => 0x5D800000#32 | 187 => 0x5E000000#32 | 188 => 0x5E800000#32 | 189 => 0x5F000000#32 | 190 => 0x5F800000#32 | 191 => 0x60000000#32
  | 192 => 0x60800000#32 | 193 => 0x61000000#32 | 194 => 0x61800000#32 | 195 => 0x62000000#32 | 196 => 0x62800000#32 | 197 => 0x63000000#32 | 198 => 0x63800000#32 | 199 => 0x64000000#32
  | 200 => 0x64800000#32 | 201 => 0x65000000#32 | 202 => 0x65800000#32 | 203 => 0x66000000#32 | 204 => 0x66800000#32 | 205 => 0x67000000#32 | 206 => 0x67800000#32 | 207 => 0x68000000#32
  | 208 => 0x68800000#32 | 209 => 0x69000000#32 | 210 => 0x69800000#32 | 211 => 0x6A000000#32 | 212 => 0x6A800000#32 | 213 => 0x6B000000#32 | 214 => 0x6B800000#32 | 215 => 0x6C000000#32
  | 216 => 0x6C800000#32 | 217 => 0x6D000000#32 | 218 => 0x6D800000#32 | 219 => 0x6E000000#32 | 220 => 0x6E800000#32 | 221 => 0x6F000000#32 | 222 => 0x6F800000#32 | 223 => 0x70000000#32
  | 224 => 0x70800000#32 | 225 => 0x71000000#32 | 226 => 0x71800000#32 | 227 => 0x72000000#32 | 228 => 0x72800000#32 | 229 => 0x73000000#32 | 230 => 0x73800000#32 | 231 => 0x74000000#32
  | 232 => 0x74800000#32 | 233 => 0x75000000#32 | 234 => 0x75800000#32 | 235 => 0x76000000#32 | 236 => 0x76800000#32 | 237 => 0x77000000#32 | 238 => 0x77800000#32 | 239 => 0x78000000#32
  | 240 => 0x78800000#32 | 241 => 0x79000000#32 | 242 => 0x79800000#32 | 243 => 0x7A000000#32 | 244 => 0x7A800000#32 | 245 => 0x7B000000#32 | 246 => 0x7B800000#32 | 247 => 0x7C000000#32
  | 248 => 0x7C800000#32 | 249 => 0x7D000000#32 | 250 => 0x7D800000#32 | 251 => 0x7E000000#32 | 252 => 0x7E800000#32 | 253 => 0x7F000000#32
  | _ => 0#32

noncomputable abbrev lit3 : Fin 254 → BitVec 32 := fun
  | 0 => 4294967171#32 | 1 => 4294967172#32 | 2 => 4294967173#32 | 3 => 4294967174#32 | 4 => 4294967175#32 | 5 => 4294967176#32 | 6 => 4294967177#32 | 7 => 4294967178#32
  | 8 => 4294967179#32 | 9 => 4294967180#32 | 10 => 4294967181#32 | 11 => 4294967182#32 | 12 => 4294967183#32 | 13 => 4294967184#32 | 14 => 4294967185#32 | 15 => 4294967186#32
  | 16 => 4294967187#32 | 17 => 4294967188#32 | 18 => 4294967189#32 | 19 => 4294967190#32 | 20 => 4294967191#32 | 21 => 4294967192#32 | 22 => 4294967193#32 | 23 => 4294967194#32
  | 24 => 4294967195#32 | 25 => 4294967196#32 | 26 => 4294967197#32 | 27 => 4294967198#32 | 28 => 4294967199#32 | 29 => 4294967200#32 | 30 => 4294967201#32 | 31 => 4294967202#32
  | 32 => 4294967203#32 | 33 => 4294967204#32 | 34 => 4294967205#32 | 35 => 4294967206#32 | 36 => 4294967207#32 | 37 => 4294967208#32 | 38 => 4294967209#32 | 39 => 4294967210#32
  | 40 => 4294967211#32 | 41 => 4294967212#32 | 42 => 4294967213#32 | 43 => 4294967214#32 | 44 => 4294967215#32 | 45 => 4294967216#32 | 46 => 4294967217#32 | 47 => 4294967218#32
  | 48 => 4294967219#32 | 49 => 4294967220#32 | 50 => 4294967221#32 | 51 => 4294967222#32 | 52 => 4294967223#32 | 53 => 4294967224#32 | 54 => 4294967225#32 | 55 => 4294967226#32
  | 56 => 4294967227#32 | 57 => 4294967228#32 | 58 => 4294967229#32 | 59 => 4294967230#32 | 60 => 4294967231#32 | 61 => 4294967232#32 | 62 => 4294967233#32 | 63 => 4294967234#32
  | 64 => 4294967235#32 | 65 => 4294967236#32 | 66 => 4294967237#32 | 67 => 4294967238#32 | 68 => 4294967239#32 | 69 => 4294967240#32 | 70 => 4294967241#32 | 71 => 4294967242#32
  | 72 => 4294967243#32 | 73 => 4294967244#32 | 74 => 4294967245#32 | 75 => 4294967246#32 | 76 => 4294967247#32 | 77 => 4294967248#32 | 78 => 4294967249#32 | 79 => 4294967250#32
  | 80 => 4294967251#32 | 81 => 4294967252#32 | 82 => 4294967253#32 | 83 => 4294967254#32 | 84 => 4294967255#32 | 85 => 4294967256#32 | 86 => 4294967257#32 | 87 => 4294967258#32
  | 88 => 4294967259#32 | 89 => 4294967260#32 | 90 => 4294967261#32 | 91 => 4294967262#32 | 92 => 4294967263#32 | 93 => 4294967264#32 | 94 => 4294967265#32 | 95 => 4294967266#32
  | 96 => 4294967267#32 | 97 => 4294967268#32 | 98 => 4294967269#32 | 99 => 4294967270#32 | 100 => 4294967271#32 | 101 => 4294967272#32 | 102 => 4294967273#32 | 103 => 4294967274#32
  | 104 => 4294967275#32 | 105 => 4294967276#32 | 106 => 4294967277#32 | 107 => 4294967278#32 | 108 => 4294967279#32 | 109 => 4294967280#32 | 110 => 4294967281#32 | 111 => 4294967282#32
  | 112 => 4294967283#32 | 113 => 4294967284#32 | 114 => 4294967285#32 | 115 => 4294967286#32 | 116 => 4294967287#32 | 117 => 4294967288#32 | 118 => 4294967289#32 | 119 => 4294967290#32
  | 120 => 4294967291#32 | 121 => 4294967292#32 | 122 => 4294967293#32 | 123 => 4294967294#32 | 124 => 4294967295#32 | 125 => 0#32 | 126 => 1#32 | 127 => 2#32
  | 128 => 3#32 | 129 => 4#32 | 130 => 5#32 | 131 => 6#32 | 132 => 7#32 | 133 => 8#32 | 134 => 9#32 | 135 => 10#32
  | 136 => 11#32 | 137 => 12#32 | 138 => 13#32 | 139 => 14#32 | 140 => 15#32 | 141 => 16#32 | 142 => 17#32 | 143 => 18#32
  | 144 => 19#32 | 145 => 20#32 | 146 => 21#32 | 147 => 22#32 | 148 => 23#32 | 149 => 24#32 | 150 => 25#32 | 151 => 26#32
  | 152 => 27#32 | 153 => 28#32 | 154 => 29#32 | 155 => 30#32 | 156 => 31#32 | 157 => 32#32 | 158 => 33#32 | 159 => 34#32
  | 160 => 35#32 | 161 => 36#32 | 162 => 37#32 | 163 => 38#32 | 164 => 39#32 | 165 => 40#32 | 166 => 41#32 | 167 => 42#32
  | 168 => 43#32 | 169 => 44#32 | 170 => 45#32 | 171 => 46#32 | 172 => 47#32 | 173 => 48#32 | 174 => 49#32 | 175 => 50#32
  | 176 => 51#32 | 177 => 52#32 | 178 => 53#32 | 179 => 54#32 | 180 => 55#32 | 181 => 56#32 | 182 => 57#32 | 183 => 58#32
  | 184 => 59#32 | 185 => 60#32 | 186 => 61#32 | 187 => 62#32 | 188 => 63#32 | 189 => 64#32 | 190 => 65#32 | 191 => 66#32
  | 192 => 67#32 | 193 => 68#32 | 194 => 69#32 | 195 => 70#32 | 196 => 71#32 | 197 => 72#32 | 198 => 73#32 | 199 => 74#32
  | 200 => 75#32 | 201 => 76#32 | 202 => 77#32 | 203 => 78#32 | 204 => 79#32 | 205 => 80#32 | 206 => 81#32 | 207 => 82#32
  | 208 => 83#32 | 209 => 84#32 | 210 => 85#32 | 211 => 86#32 | 212 => 87#32 | 213 => 88#32 | 214 => 89#32 | 215 => 90#32
  | 216 => 91#32 | 217 => 92#32 | 218 => 93#32 | 219 => 94#32 | 220 => 95#32 | 221 => 96#32 | 222 => 97#32 | 223 => 98#32
  | 224 => 99#32 | 225 => 100#32 | 226 => 101#32 | 227 => 102#32 | 228 => 103#32 | 229 => 104#32 | 230 => 105#32 | 231 => 106#32
  | 232 => 107#32 | 233 => 108#32 | 234 => 109#32 | 235 => 110#32 | 236 => 111#32 | 237 => 112#32 | 238 => 113#32 | 239 => 114#32
  | 240 => 115#32 | 241 => 116#32 | 242 => 117#32 | 243 => 118#32 | 244 => 119#32 | 245 => 120#32 | 246 => 121#32 | 247 => 122#32
  | 248 => 123#32 | 249 => 124#32 | 250 => 125#32 | 251 => 126#32 | 252 => 127#32 | 253 => 128#32
  | _ => 0#32

def fn_where {F : FTy → Type} [FloatOps F] (arg0 : IVec S16x254 1) (arg1 : FVec F S16x254 .f32) (arg2 : FVec F S_ .f32) : FVec F S16x254 .f32 :=
  let v0 : FVec F S_ .f32 := id arg2
  let v1 : FVec F S16x254 .f32 := broadcastInDim S16x254 ![] bcast_S_S16x254 v0
  let v2 : FVec F S16x254 .f32 := select arg0 arg1 v1
  v2

def fn_where_0 {F : FTy → Type} [FloatOps F] (arg0 : IVec S16x254 1) (arg1 : IVec S1x254 32) (arg2 : IVec S_ 32) : IVec S16x254 32 :=
  let v0 : IVec S_ 32 := id arg2
  let v1 : IVec S16x254 32 := broadcastInDim S16x254 ![0, 1] bcast_S1x254_S16x254_0_1 arg1
  let v2 : IVec S16x254 32 := broadcastInDim S16x254 ![] bcast_S_S16x254 v0
  let v3 : IVec S16x254 32 := select arg0 v1 v2
  v3

def fn_round {F : FTy → Type} [FloatOps F] (arg0 : FVec F S16 .f32) : FVec F S16 .f32 :=
  let v0 : FVec F S16 .f32 := Host.roundeven arg0
  v0

def fn_where_1 {F : FTy → Type} [FloatOps F] (arg0 : IVec S1x16x1 1) (arg1 : IVec S2x16x896 1) (arg2 : IVec S2x16x896 1) : IVec S2x16x896 1 :=
  let v0 : IVec S2x16x896 1 := broadcastInDim S2x16x896 ![0, 1, 2] bcast_S1x16x1_S2x16x896_0_1_2 arg0
  let v1 : IVec S2x16x896 1 := select v0 arg1 arg2
  v1

def fn_part10 {F : FTy → Type} [FloatOps F] (main_v126 : IVec S2x16x896 32) (main_v145 : IVec S1x16x1 1) (main_v174 : IVec S2x16x896 1) (main_v189 : IVec S16 1) (main_v190 : IVec S1x16x1 1) (main_v191 : IVec S2x16x896 32) : IVec S2x896x16x64 1 × IVec S2x896x16 1 :=
  let main_v192 : IVec S2x16x896 1 := cmpi .ne main_v126 main_v191
  let main_v193 : IVec S2x16x896 1 := broadcastInDim S2x16x896 ![0, 1, 2] bcast_S1x16x1_S2x16x896_0_1_2 main_v145
  let main_v194 : IVec S2x16x896 1 := andi main_v193 main_v192
  let main_v195 : IVec S2x16x896 1 := fn_where_1 (F := F) main_v190 main_v174 main_v194
  let main_v196 : IVec S1x16x1 1 := broadcastInDim S1x16x1 ![1] bcast_S16_S1x16x1_1 main_v189
  let main_v197 : IVec S2x16x896 1 := broadcastInDim S2x16x896 ![0, 1, 2] bcast_S1x16x1_S2x16x896_0_1_2 main_v196
  let main_v198 : IVec S2x16x896 1 := andi main_v195 main_v197
  let main_v199 : IVec S2x896x16 1 := (transpose S2x896x16 [0, 2, 1] · transposes_S2x16x896_S2x896x16_0_2_1) main_v198
  let main_v200 : IVec S2x896x16x1 1 := broadcastInDim S2x896x16x1 ![0, 1, 2] bcast_S2x896x16_S2x896x16x1_0_1_2 main_v199
  let main_v201 : IVec S2x896x16x64 1 := broadcastInDim S2x896x16x64 ![0, 1, 2, 3] bcast_S2x896x16x1_S2x896x16x64_0_1_2_3 main_v200
  let main_v202 : IVec S1x1x16 1 := (transpose S1x1x16 [0, 2, 1] · transposes_S1x16x1_S1x1x16_0_2_1) main_v145
  let main_v203 : IVec S2x896x16 1 := broadcastInDim S2x896x16 ![0, 1, 2] bcast_S1x1x16_S2x896x16_0_1_2 main_v202
  (main_v201, main_v203)

def fn_part9 {F : FTy → Type} [FloatOps F] (main_arg5 : FVec F S16 .f32) (main_arg6 : FVec F S16 .f32) (main_v126 : IVec S2x16x896 32) (main_v141 : IVec S16 1) (main_v145 : IVec S1x16x1 1) (main_v173 : IVec S2x16x896x896 1) (main_c_39 : IVec S_ 1) : IVec S2x896x16x64 1 × IVec S2x896x16 1 :=
  let main_v174 : IVec S2x16x896 1 := (fun x v => Host.reduce IntOp.andi x v reducesTo_S2x16x896x896_S2x16x896_d3 h_S_) main_v173 main_c_39
  let main_cst_40 : FVec F S_ .f32 := constant S_ .f32 0x437F0000#32
  let main_v175 : FVec F S16 .f32 := broadcastInDim S16 ![] bcast_S_S16 main_cst_40
  let main_v176 : FVec F S16 .f32 := mulf main_arg6 main_v175
  let main_v177 : FVec F S16 .f32 := Host.divf main_arg5 main_v176
  let main_cst_41 : FVec F S_ .f32 := constant S_ .f32 0x00000000#32
  let main_v178 : FVec F S16 .f32 := broadcastInDim S16 ![] bcast_S_S16 main_cst_41
  let main_v179 : IVec S16 1 := cmpf .oeq main_v177 main_v178
  let main_v180 : FVec F S16 .f32 := Host.absf main_v177
  let main_cst_42 : FVec F S_ .f32 := constant S_ .f32 0x00800000#32
  let main_v181 : FVec F S16 .f32 := broadcastInDim S16 ![] bcast_S_S16 main_cst_42
  let main_v182 : IVec S16 1 := cmpf .oge main_v180 main_v181
  let main_v183 : FVec F S16 .f32 := Host.absf main_v177
  let main_cst_43 : FVec F S_ .f32 := constant S_ .f32 0x3F000000#32
  let main_v184 : FVec F S16 .f32 := broadcastInDim S16 ![] bcast_S_S16 main_cst_43
  let main_v185 : FVec F S16 .f32 := mulf main_v184 main_v183
  let main_cst_44 : FVec F S_ .f32 := constant S_ .f32 0x7F000000#32
  let main_v186 : FVec F S16 .f32 := broadcastInDim S16 ![] bcast_S_S16 main_cst_44
  let main_v187 : IVec S16 1 := cmpf .olt main_v185 main_v186
  let main_v188 : IVec S16 1 := andi main_v182 main_v187
  let main_v189 : IVec S16 1 := ori main_v179 main_v188
  let main_v190 : IVec S1x16x1 1 := broadcastInDim S1x16x1 ![1] bcast_S16_S1x16x1_1 main_v141
  let main_c_45 : IVec S_ 32 := constantI S_ 32 0#32
  let main_v191 : IVec S2x16x896 32 := broadcastInDim S2x16x896 ![] bcast_S_S2x16x896 main_c_45
  fn_part10 (F := F) main_v126 main_v145 main_v174 main_v189 main_v190 main_v191

def fn_part8 {F : FTy → Type} [FloatOps F] (main_arg5 : FVec F S16 .f32) (main_arg6 : FVec F S16 .f32) (main_v125 : IVec S2x16x896x896 32) (main_v126 : IVec S2x16x896 32) (main_v141 : IVec S16 1) (main_v145 : IVec S1x16x1 1) (main_v146 : IVec S2x16x896x1 32) (main_v148 : IVec S2x16x896x896 32) (main_v153 : FVec F S2x16x896x896 .f32) : IVec S2x896x16x64 1 × IVec S2x896x16 1 :=
  let main_v154 : IVec S2x16x896x896 32 := fptosi 32 main_v153
  let main_v155 : IVec S2x16x896x896 32 := broadcastInDim S2x16x896x896 ![0, 1, 2, 3] bcast_S2x16x896x1_S2x16x896x896_0_1_2_3 main_v146
  let main_v156 : IVec S2x16x896x896 32 := muli main_v154 main_v155
  let main_v157 : IVec S2x16x896x896 32 := subi main_v148 main_v156
  let main_v158 : IVec S2x16x896x896 32 := broadcastInDim S2x16x896x896 ![0, 1, 2, 3] bcast_S2x16x896x1_S2x16x896x896_0_1_2_3 main_v146
  let main_v159 : IVec S2x16x896x896 1 := cmpi .sge main_v157 main_v158
  let main_v160 : IVec S2x16x896x896 32 := (extui 32 · natLt_1_32) main_v159
  let main_v161 : IVec S2x16x896x896 32 := addi main_v154 main_v160
  let main_c_36 : IVec S_ 32 := constantI S_ 32 0#32
  let main_v162 : IVec S2x16x896x896 32 := broadcastInDim S2x16x896x896 ![] bcast_S_S2x16x896x896 main_c_36
  let main_v163 : IVec S2x16x896x896 1 := cmpi .slt main_v157 main_v162
  let main_v164 : IVec S2x16x896x896 32 := (extui 32 · natLt_1_32) main_v163
  let main_v165 : IVec S2x16x896x896 32 := subi main_v161 main_v164
  let main_c_37 : IVec S_ 32 := constantI S_ 32 0#32
  let main_v166 : IVec S2x16x896x896 32 := broadcastInDim S2x16x896x896 ![] bcast_S_S2x16x896x896 main_c_37
  let main_v167 : IVec S2x16x896x896 1 := cmpi .eq main_v125 main_v166
  let main_c_38 : IVec S_ 32 := constantI S_ 32 255#32
  let main_v168 : IVec S2x16x896x896 32 := broadcastInDim S2x16x896x896 ![] bcast_S_S2x16x896x896 main_c_38
  let main_v169 : IVec S2x16x896x896 32 := muli main_v125 main_v168
  let main_v170 : IVec S2x16x896x896 32 := broadcastInDim S2x16x896x896 ![0, 1, 2, 3] bcast_S2x16x896x1_S2x16x896x896_0_1_2_3 main_v146
  let main_v171 : IVec S2x16x896x896 32 := muli main_v165 main_v170
  let main_v172 : IVec S2x16x896x896 1 := cmpi .ne main_v169 main_v171
  let main_v173 : IVec S2x16x896x896 1 := ori main_v167 main_v172
  let main_c_39 : IVec S_ 1 := constantI S_ 1 1#1
  fn_part9 (F := F) main_arg5 main_arg6 main_v126 main_v141 main_v145 main_v173 main_c_39

def fn_part7 {F : FTy → Type} [FloatOps F] (main_arg5 : FVec F S16 .f32) (main_arg6 : FVec F S16 .f32) (main_v10 : IVec S16 32) (main_v14 : IVec S16 32) (main_v21 : IVec S16 32) (main_v125 : IVec S2x16x896x896 32) (main_v126 : IVec S2x16x896 32) (main_v128 : IVec S16 32) (main_v132 : IVec S16 1) (main_v133 : IVec S16 32) : IVec S2x896x16x64 1 × IVec S2x896x16 1 :=
  let main_v134 : IVec S16 1 := cmpi .slt main_v14 main_v133
  let main_v135 : IVec S16 1 := andi main_v132 main_v134
  let main_c_32 : IVec S_ 32 := constantI S_ 32 0#32
  let main_v136 : IVec S16 32 := broadcastInDim S16 ![] bcast_S_S16 main_c_32
  let main_v137 : IVec S16 1 := cmpi .sge main_v21 main_v136
  let main_v138 : IVec S16 1 := andi main_v135 main_v137
  let main_c_33 : IVec S_ 32 := constantI S_ 32 16777216#32
  let main_v139 : IVec S16 32 := broadcastInDim S16 ![] bcast_S_S16 main_c_33
  let main_v140 : IVec S16 1 := cmpi .slt main_v128 main_v139
  let main_v141 : IVec S16 1 := andi main_v138 main_v140
  let main_c_34 : IVec S_ 32 := constantI S_ 32 0#32
  let main_v142 : IVec S16 32 := broadcastInDim S16 ![] bcast_S_S16 main_c_34
  let main_v143 : IVec S16 1 := cmpi .ne main_v10 main_v142
  let main_v144 : IVec S16 1 := ori main_v141 main_v143
  let main_v145 : IVec S1x16x1 1 := broadcastInDim S1x16x1 ![1] bcast_S16_S1x16x1_1 main_v144
  let main_v146 : IVec S2x16x896x1 32 := broadcastInDim S2x16x896x1 ![0, 1, 2] bcast_S2x16x896_S2x16x896x1_0_1_2 main_v126
  let main_c_35 : IVec S_ 32 := constantI S_ 32 255#32
  let main_v147 : IVec S2x16x896x896 32 := broadcastInDim S2x16x896x896 ![] bcast_S_S2x16x896x896 main_c_35
  let main_v148 : IVec S2x16x896x896 32 := muli main_v125 main_v147
  let main_v149 : FVec F S2x16x896x896 .f32 := sitofp .f32 main_v148
  let main_v150 : FVec F S2x16x896x1 .f32 := sitofp .f32 main_v146
  let main_v151 : FVec F S2x16x896x896 .f32 := broadcastInDim S2x16x896x896 ![0, 1, 2, 3] bcast_S2x16x896x1_S2x16x896x896_0_1_2_3 main_v150
  let main_v152 : FVec F S2x16x896x896 .f32 := Host.divf main_v149 main_v151
  let main_v153 : FVec F S2x16x896x896 .f32 := Host.floor main_v152
  fn_part8 (F := F) main_arg5 main_arg6 main_v125 main_v126 main_v141 main_v145 main_v146 main_v148 main_v153

def fn_part6 {F : FTy → Type} [FloatOps F] (main_arg5 : FVec F S16 .f32) (main_arg6 : FVec F S16 .f32) (main_v10 : IVec S16 32) (main_v14 : IVec S16 32) (main_v21 : IVec S16 32) (main_v45 : IVec S16 32) (main_v103 : IVec S2x16x896x896 32) (main_v109 : IVec S2x16x896x896 32) (main_v112 : IVec S2x16x896x896 32) (main_v113 : IVec S1x16x1x1 32) : IVec S2x896x16x64 1 × IVec S2x896x16 1 :=
  let main_v114 : IVec S2x16x896x896 32 := broadcastInDim S2x16x896x896 ![0, 1, 2, 3] bcast_S1x16x1x1_S2x16x896x896_0_1_2_3 main_v113
  let main_v115 : IVec S2x16x896x896 32 := addi main_v109 main_v114
  let main_v116 : IVec S2x16x896x896 32 := muli main_v112 main_v115
  let main_v117 : IVec S1x16x1x1 32 := broadcastInDim S1x16x1x1 ![1] bcast_S16_S1x16x1x1_1 main_v21
  let main_v118 : IVec S2x16x896x896 32 := broadcastInDim S2x16x896x896 ![0, 1, 2, 3] bcast_S1x16x1x1_S2x16x896x896_0_1_2_3 main_v117
  let main_v119 : IVec S2x16x896x896 32 := addi main_v116 main_v118
  let main_v120 : IVec S1x16x1x1 32 := broadcastInDim S1x16x1x1 ![1] bcast_S16_S1x16x1x1_1 main_v45
  let main_v121 : IVec S2x16x896x896 32 := broadcastInDim S2x16x896x896 ![0, 1, 2, 3] bcast_S1x16x1x1_S2x16x896x896_0_1_2_3 main_v120
  let main_v122 : IVec S2x16x896x896 32 := addi main_v103 main_v121
  let main_c_28 : IVec S_ 32 := constantI S_ 32 31#32
  let main_v123 : IVec S2x16x896x896 32 := broadcastInDim S2x16x896x896 ![] bcast_S_S2x16x896x896 main_c_28
  let main_v124 : IVec S2x16x896x896 32 := minsi main_v122 main_v123
  let main_v125 : IVec S2x16x896x896 32 := Host.shrsi main_v119 main_v124
  let main_c_29 : IVec S_ 32 := constantI S_ 32 0#32
  let main_v126 : IVec S2x16x896 32 := (fun x v => Host.reduce IntOp.addi x v reducesTo_S2x16x896x896_S2x16x896_d3 h_S_) main_v125 main_c_29
  let main_v127 : IVec S16 32 := muli main_v14 main_v14
  let main_v128 : IVec S16 32 := addi main_v127 main_v21
  let main_c_30 : IVec S_ 32 := constantI S_ 32 1#32
  let main_v129 : IVec S16 32 := broadcastInDim S16 ![] bcast_S_S16 main_c_30
  let main_v130 : IVec S16 1 := cmpi .sge main_v10 main_v129
  let main_v131 : IVec S16 1 := cmpi .sge main_v14 main_v10
  let main_v132 : IVec S16 1 := andi main_v130 main_v131
  let main_c_31 : IVec S_ 32 := constantI S_ 32 4096#32
  let main_v133 : IVec S16 32 := broadcastInDim S16 ![] bcast_S_S16 main_c_31
  fn_part7 (F := F) main_arg5 main_arg6 main_v10 main_v14 main_v21 main_v125 main_v126 main_v128 main_v132 main_v133

def fn_part5 {F : FTy → Type} [FloatOps F] (main_arg5 : FVec F S16 .f32) (main_arg6 : FVec F S16 .f32) (main_v10 : IVec S16 32) (main_v14 : IVec S16 32) (main_v21 : IVec S16 32) (main_v45 : IVec S16 32) (main_v81 : IVec S2x16x896x896 32) (main_v83 : IVec S2x16x896x1 32) (main_v85 : IVec S2x16x896x896 32) (main_v86 : IVec S1x16x1x1 32) (main_v90 : FVec F S2x16x896x896 .f32) : IVec S2x896x16x64 1 × IVec S2x896x16 1 :=
  let main_v91 : FVec F S2x16x896x896 .f32 := Host.floor main_v90
  let main_v92 : IVec S2x16x896x896 32 := fptosi 32 main_v91
  let main_v93 : IVec S2x16x896x896 32 := broadcastInDim S2x16x896x896 ![0, 1, 2, 3] bcast_S1x16x1x1_S2x16x896x896_0_1_2_3 main_v86
  let main_v94 : IVec S2x16x896x896 32 := muli main_v92 main_v93
  let main_v95 : IVec S2x16x896x896 32 := subi main_v85 main_v94
  let main_v96 : IVec S2x16x896x896 32 := broadcastInDim S2x16x896x896 ![0, 1, 2, 3] bcast_S1x16x1x1_S2x16x896x896_0_1_2_3 main_v86
  let main_v97 : IVec S2x16x896x896 1 := cmpi .sge main_v95 main_v96
  let main_v98 : IVec S2x16x896x896 32 := (extui 32 · natLt_1_32) main_v97
  let main_v99 : IVec S2x16x896x896 32 := addi main_v92 main_v98
  let main_c_27 : IVec S_ 32 := constantI S_ 32 0#32
  let main_v100 : IVec S2x16x896x896 32 := broadcastInDim S2x16x896x896 ![] bcast_S_S2x16x896x896 main_c_27
  let main_v101 : IVec S2x16x896x896 1 := cmpi .slt main_v95 main_v100
  let main_v102 : IVec S2x16x896x896 32 := (extui 32 · natLt_1_32) main_v101
  let main_v103 : IVec S2x16x896x896 32 := subi main_v99 main_v102
  let main_v104 : IVec S2x16x896x896 32 := broadcastInDim S2x16x896x896 ![0, 1, 2, 3] bcast_S2x16x896x1_S2x16x896x896_0_1_2_3 main_v83
  let main_v105 : IVec S2x16x896x896 32 := subi main_v81 main_v104
  let main_v106 : IVec S1x16x1x1 32 := broadcastInDim S1x16x1x1 ![1] bcast_S16_S1x16x1x1_1 main_v10
  let main_v107 : IVec S2x16x896x896 32 := broadcastInDim S2x16x896x896 ![0, 1, 2, 3] bcast_S1x16x1x1_S2x16x896x896_0_1_2_3 main_v106
  let main_v108 : IVec S2x16x896x896 32 := muli main_v103 main_v107
  let main_v109 : IVec S2x16x896x896 32 := addi main_v105 main_v108
  let main_v110 : IVec S1x16x1x1 32 := broadcastInDim S1x16x1x1 ![1] bcast_S16_S1x16x1x1_1 main_v14
  let main_v111 : IVec S2x16x896x896 32 := broadcastInDim S2x16x896x896 ![0, 1, 2, 3] bcast_S1x16x1x1_S2x16x896x896_0_1_2_3 main_v110
  let main_v112 : IVec S2x16x896x896 32 := addi main_v109 main_v111
  let main_v113 : IVec S1x16x1x1 32 := broadcastInDim S1x16x1x1 ![1] bcast_S16_S1x16x1x1_1 main_v14
  fn_part6 (F := F) main_arg5 main_arg6 main_v10 main_v14 main_v21 main_v45 main_v103 main_v109 main_v112 main_v113

def fn_part4 {F : FTy → Type} [FloatOps F] (main_arg0 : IVec S2x896x16x64 8) (main_arg1 : IVec S2x896x16x64 8) (main_arg5 : FVec F S16 .f32) (main_arg6 : FVec F S16 .f32) (main_v10 : IVec S16 32) (main_v14 : IVec S16 32) (main_v21 : IVec S16 32) (main_v45 : IVec S16 32) (main_v65 : IVec S16 32) (main_v68 : FVec F S16 .f32) : IVec S2x896x16x64 1 × IVec S2x896x16 1 :=
  let main_v69 : IVec S16 32 := fptosi 32 main_v68
  let main_c_25 : IVec S_ 32 := constantI S_ 32 15#32
  let main_v70 : IVec S16 32 := broadcastInDim S16 ![] bcast_S_S16 main_c_25
  let main_v71 : IVec S16 32 := subi main_v70 main_v65
  let main_v72 : IVec S2x16x896x64 8 := (transpose S2x16x896x64 [0, 2, 1, 3] · transposes_S2x896x16x64_S2x16x896x64_0_2_1_3) main_arg0
  let main_v73 : IVec S2x16x896x64 32 := (extsi 32 · natLt_8_32) main_v72
  let main_v74 : FVec F S2x16x896x64 .f32 := sitofp .f32 main_v73
  let main_v75 : FVec F S2x16x896x64 .bf16 := (truncf .bf16 · bitsLt_bf16_f32) main_v74
  let main_v76 : IVec S2x16x896x64 8 := (transpose S2x16x896x64 [0, 2, 1, 3] · transposes_S2x896x16x64_S2x16x896x64_0_2_1_3) main_arg1
  let main_v77 : IVec S2x16x896x64 32 := (extsi 32 · natLt_8_32) main_v76
  let main_v78 : FVec F S2x16x896x64 .f32 := sitofp .f32 main_v77
  let main_v79 : FVec F S2x16x896x64 .bf16 := (truncf .bf16 · bitsLt_bf16_f32) main_v78
  let main_v80 : FVec F S2x16x896x896 .f32 := (fun l r => Host.dotGeneral dot_S2x16x896x64_S2x16x896x64_S2x16x896x896_3_3_2_2_01_01 none l r) main_v75 main_v79
  let main_v81 : IVec S2x16x896x896 32 := fptosi 32 main_v80
  let main_c_26 : IVec S_ 32 := constantI S_ 32 2147483648#32
  let main_v82 : IVec S2x16x896 32 := (fun x v => Host.reduce IntOp.maxsi x v reducesTo_S2x16x896x896_S2x16x896_d3 h_S_) main_v81 main_c_26
  let main_v83 : IVec S2x16x896x1 32 := broadcastInDim S2x16x896x1 ![0, 1, 2] bcast_S2x16x896_S2x16x896x1_0_1_2 main_v82
  let main_v84 : IVec S2x16x896x896 32 := broadcastInDim S2x16x896x896 ![0, 1, 2, 3] bcast_S2x16x896x1_S2x16x896x896_0_1_2_3 main_v83
  let main_v85 : IVec S2x16x896x896 32 := subi main_v84 main_v81
  let main_v86 : IVec S1x16x1x1 32 := broadcastInDim S1x16x1x1 ![1] bcast_S16_S1x16x1x1_1 main_v10
  let main_v87 : FVec F S2x16x896x896 .f32 := sitofp .f32 main_v85
  let main_v88 : FVec F S1x16x1x1 .f32 := sitofp .f32 main_v86
  let main_v89 : FVec F S2x16x896x896 .f32 := broadcastInDim S2x16x896x896 ![0, 1, 2, 3] bcast_S1x16x1x1_S2x16x896x896_0_1_2_3 main_v88
  let main_v90 : FVec F S2x16x896x896 .f32 := Host.divf main_v87 main_v89
  fn_part5 (F := F) main_arg5 main_arg6 main_v10 main_v14 main_v21 main_v45 main_v81 main_v83 main_v85 main_v86 main_v90

def fn_part3 {F : FTy → Type} [FloatOps F] (main_arg0 : IVec S2x896x16x64 8) (main_arg1 : IVec S2x896x16x64 8) (main_arg5 : FVec F S16 .f32) (main_arg6 : FVec F S16 .f32) (main_v3 : IVec S1x254 32) (main_v10 : IVec S16 32) (main_v14 : IVec S16 32) (main_v21 : IVec S16 32) (main_v45 : IVec S16 32) (main_v52 : FVec F S16x254 .f32) : IVec S2x896x16x64 1 × IVec S2x896x16 1 :=
  let main_v53 : FVec F S16x254 .f32 := Host.absf main_v52
  let main_cst_17 : FVec F S_ .f32 := constant S_ .f32 0x3F800000#32
  let main_v54 : FVec F S16x254 .f32 := broadcastInDim S16x254 ![] bcast_S_S16x254 main_cst_17
  let main_v55 : IVec S16x254 1 := cmpf .oge main_v53 main_v54
  let main_v56 : FVec F S16x254 .f32 := Host.absf main_v52
  let main_cst_18 : FVec F S_ .f32 := constant S_ .f32 0x40000000#32
  let main_v57 : FVec F S16x254 .f32 := broadcastInDim S16x254 ![] bcast_S_S16x254 main_cst_18
  let main_v58 : IVec S16x254 1 := cmpf .olt main_v56 main_v57
  let main_v59 : IVec S16x254 1 := andi main_v55 main_v58
  let main_cst_19 : FVec F S_ .f32 := constant S_ .f32 0x00000000#32
  let main_v60 : FVec F S16x254 .f32 := fn_where (F := F) main_v59 main_v52 main_cst_19
  let main_cst_20 : FVec F S_ .f32 := constant S_ .f32 0x00000000#32
  let main_v61 : FVec F S16 .f32 := (fun x v => Host.reduceAdd x v reducesTo_S16x254_S16_d1 h_S_) main_v60 main_cst_20
  let main_cst_21 : FVec F S_ .f32 := constant S_ .f32 0x3F000000#32
  let main_v62 : FVec F S16 .f32 := broadcastInDim S16 ![] bcast_S_S16 main_cst_21
  let main_v63 : FVec F S16 .f32 := mulf main_v62 main_v61
  let main_c_22 : IVec S_ 32 := constantI S_ 32 0#32
  let main_v64 : IVec S16x254 32 := fn_where_0 (F := F) main_v59 main_v3 main_c_22
  let main_c_23 : IVec S_ 32 := constantI S_ 32 0#32
  let main_v65 : IVec S16 32 := (fun x v => Host.reduce IntOp.addi x v reducesTo_S16x254_S16_d1 h_S_) main_v64 main_c_23
  let main_cst_24 : FVec F S_ .f32 := constant S_ .f32 0x47000000#32
  let main_v66 : FVec F S16 .f32 := broadcastInDim S16 ![] bcast_S_S16 main_cst_24
  let main_v67 : FVec F S16 .f32 := mulf main_v63 main_v66
  let main_v68 : FVec F S16 .f32 := fn_round (F := F) main_v67
  fn_part4 (F := F) main_arg0 main_arg1 main_arg5 main_arg6 main_v10 main_v14 main_v21 main_v45 main_v65 main_v68

def fn_part2 {F : FTy → Type} [FloatOps F] (main_arg0 : IVec S2x896x16x64 8) (main_arg1 : IVec S2x896x16x64 8) (main_arg5 : FVec F S16 .f32) (main_arg6 : FVec F S16 .f32) (main_v1 : IVec S1x254 32) (main_v2 : FVec F S1x254 .f32) (main_v3 : IVec S1x254 32) (main_v10 : IVec S16 32) (main_v14 : IVec S16 32) (main_v21 : IVec S16 32) (main_v28 : FVec F S16x254 .f32) (main_v35 : IVec S16x254 1) (main_cst_9 : FVec F S_ .f32) : IVec S2x896x16x64 1 × IVec S2x896x16 1 :=
  let main_v36 : FVec F S16x254 .f32 := fn_where (F := F) main_v35 main_v28 main_cst_9
  let main_cst_10 : FVec F S_ .f32 := constant S_ .f32 0x00000000#32
  let main_v37 : FVec F S16 .f32 := (fun x v => Host.reduceAdd x v reducesTo_S16x254_S16_d1 h_S_) main_v36 main_cst_10
  let main_cst_11 : FVec F S_ .f32 := constant S_ .f32 0x3F000000#32
  let main_v38 : FVec F S16 .f32 := broadcastInDim S16 ![] bcast_S_S16 main_cst_11
  let main_v39 : FVec F S16 .f32 := mulf main_v38 main_v37
  let main_c_12 : IVec S_ 32 := constantI S_ 32 0#32
  let main_v40 : IVec S16x254 32 := fn_where_0 (F := F) main_v35 main_v1 main_c_12
  let main_c_13 : IVec S_ 32 := constantI S_ 32 0#32
  let main_v41 : IVec S16 32 := (fun x v => Host.reduce IntOp.addi x v reducesTo_S16x254_S16_d1 h_S_) main_v40 main_c_13
  let main_c_14 : IVec S_ 32 := constantI S_ 32 16#32
  let main_v42 : IVec S16 32 := broadcastInDim S16 ![] bcast_S_S16 main_c_14
  let main_v43 : IVec S16 32 := subi main_v41 main_v42
  let main_c_15 : IVec S_ 32 := constantI S_ 32 0#32
  let main_v44 : IVec S16 32 := broadcastInDim S16 ![] bcast_S_S16 main_c_15
  let main_v45 : IVec S16 32 := maxsi main_v43 main_v44
  let main_cst_16 : FVec F S_ .f32 := constant S_ .f32 0x437F0000#32
  let main_v46 : FVec F S16 .f32 := broadcastInDim S16 ![] bcast_S_S16 main_cst_16
  let main_v47 : FVec F S16 .f32 := mulf main_arg6 main_v46
  let main_v48 : FVec F S16 .f32 := Host.divf main_arg5 main_v47
  let main_v49 : FVec F S16x1 .f32 := broadcastInDim S16x1 ![0] bcast_S16_S16x1_0 main_v48
  let main_v50 : FVec F S16x254 .f32 := broadcastInDim S16x254 ![0, 1] bcast_S16x1_S16x254_0_1 main_v49
  let main_v51 : FVec F S16x254 .f32 := broadcastInDim S16x254 ![0, 1] bcast_S1x254_S16x254_0_1 main_v2
  let main_v52 : FVec F S16x254 .f32 := Host.divf main_v50 main_v51
  fn_part3 (F := F) main_arg0 main_arg1 main_arg5 main_arg6 main_v3 main_v10 main_v14 main_v21 main_v45 main_v52

def fn_part1 {F : FTy → Type} [FloatOps F] (main_arg0 : IVec S2x896x16x64 8) (main_arg1 : IVec S2x896x16x64 8) (main_arg5 : FVec F S16 .f32) (main_arg6 : FVec F S16 .f32) (main_v0 : FVec F S1x254 .f32) (main_v1 : IVec S1x254 32) (main_v2 : FVec F S1x254 .f32) (main_v3 : IVec S1x254 32) (main_v6 : FVec F S16 .f32) (main_v10 : IVec S16 32) (main_v14 : IVec S16 32) (main_v15 : FVec F S16 .f32) : IVec S2x896x16x64 1 × IVec S2x896x16 1 :=
  let main_v16 : FVec F S16 .f32 := mulf main_v15 main_v6
  let main_v17 : FVec F S16 .f32 := mulf main_v16 main_v6
  let main_cst_6 : FVec F S_ .f32 := constant S_ .f32 0x3EB020C5#32
  let main_v18 : FVec F S16 .f32 := broadcastInDim S16 ![] bcast_S_S16 main_cst_6
  let main_v19 : FVec F S16 .f32 := Host.divf main_v18 main_v17
  let main_v20 : FVec F S16 .f32 := Host.floor main_v19
  let main_v21 : IVec S16 32 := fptosi 32 main_v20
  let main_v22 : IVec S16 32 := muli main_v14 main_v14
  let main_v23 : IVec S16 32 := addi main_v22 main_v21
  let main_v24 : FVec F S16 .f32 := sitofp .f32 main_v23
  let main_v25 : FVec F S16x1 .f32 := broadcastInDim S16x1 ![0] bcast_S16_S16x1_0 main_v24
  let main_v26 : FVec F S16x254 .f32 := broadcastInDim S16x254 ![0, 1] bcast_S16x1_S16x254_0_1 main_v25
  let main_v27 : FVec F S16x254 .f32 := broadcastInDim S16x254 ![0, 1] bcast_S1x254_S16x254_0_1 main_v0
  let main_v28 : FVec F S16x254 .f32 := Host.divf main_v26 main_v27
  let main_v29 : FVec F S16x254 .f32 := Host.absf main_v28
  let main_cst_7 : FVec F S_ .f32 := constant S_ .f32 0x3F800000#32
  let main_v30 : FVec F S16x254 .f32 := broadcastInDim S16x254 ![] bcast_S_S16x254 main_cst_7
  let main_v31 : IVec S16x254 1 := cmpf .oge main_v29 main_v30
  let main_v32 : FVec F S16x254 .f32 := Host.absf main_v28
  let main_cst_8 : FVec F S_ .f32 := constant S_ .f32 0x40000000#32
  let main_v33 : FVec F S16x254 .f32 := broadcastInDim S16x254 ![] bcast_S_S16x254 main_cst_8
  let main_v34 : IVec S16x254 1 := cmpf .olt main_v32 main_v33
  let main_v35 : IVec S16x254 1 := andi main_v31 main_v34
  let main_cst_9 : FVec F S_ .f32 := constant S_ .f32 0x00000000#32
  fn_part2 (F := F) main_arg0 main_arg1 main_arg5 main_arg6 main_v1 main_v2 main_v3 main_v10 main_v14 main_v21 main_v28 main_v35 main_cst_9

def fn {F : FTy → Type} [FloatOps F] (main_arg0 : IVec S2x896x16x64 8) (main_arg1 : IVec S2x896x16x64 8) (main_arg2 : IVec S2x896x16x64 8) (main_arg3 : FVec F S16 .f32) (main_arg4 : FVec F S16 .f32) (main_arg5 : FVec F S16 .f32) (main_arg6 : FVec F S16 .f32) : IVec S2x896x16x64 1 × IVec S2x896x16 1 :=
  let main_cst : FVec F S254 .f32 := fun i => FloatOps.ofBits .f32 (lit0 (S254.rowMajor i))
  let main_v0 : FVec F S1x254 .f32 := broadcastInDim S1x254 ![1] bcast_S254_S1x254_1 main_cst
  let main_c : IVec S254 32 := fun i => lit1 (S254.rowMajor i)
  let main_v1 : IVec S1x254 32 := broadcastInDim S1x254 ![1] bcast_S254_S1x254_1 main_c
  let main_cst_0 : FVec F S254 .f32 := fun i => FloatOps.ofBits .f32 (lit2 (S254.rowMajor i))
  let main_v2 : FVec F S1x254 .f32 := broadcastInDim S1x254 ![1] bcast_S254_S1x254_1 main_cst_0
  let main_c_1 : IVec S254 32 := fun i => lit3 (S254.rowMajor i)
  let main_v3 : IVec S1x254 32 := broadcastInDim S1x254 ![1] bcast_S254_S1x254_1 main_c_1
  let main_v4 : FVec F S16 .f32 := mulf main_arg3 main_arg4
  let main_cst_2 : FVec F S_ .f32 := constant S_ .f32 0x3E000000#32
  let main_v5 : FVec F S16 .f32 := broadcastInDim S16 ![] bcast_S_S16 main_cst_2
  let main_v6 : FVec F S16 .f32 := mulf main_v4 main_v5
  let main_cst_3 : FVec F S_ .f32 := constant S_ .f32 0x3F316F00#32
  let main_v7 : FVec F S16 .f32 := broadcastInDim S16 ![] bcast_S_S16 main_cst_3
  let main_v8 : FVec F S16 .f32 := Host.divf main_v7 main_v6
  let main_v9 : FVec F S16 .f32 := Host.floor main_v8
  let main_v10 : IVec S16 32 := fptosi 32 main_v9
  let main_cst_4 : FVec F S_ .f32 := constant S_ .f32 0x3FAD2F1B#32
  let main_v11 : FVec F S16 .f32 := broadcastInDim S16 ![] bcast_S_S16 main_cst_4
  let main_v12 : FVec F S16 .f32 := Host.divf main_v11 main_v6
  let main_v13 : FVec F S16 .f32 := Host.floor main_v12
  let main_v14 : IVec S16 32 := fptosi 32 main_v13
  let main_cst_5 : FVec F S_ .f32 := constant S_ .f32 0x3EB78D50#32
  let main_v15 : FVec F S16 .f32 := broadcastInDim S16 ![] bcast_S_S16 main_cst_5
  fn_part1 (F := F) main_arg0 main_arg1 main_arg5 main_arg6 main_v0 main_v1 main_v2 main_v3 main_v6 main_v10 main_v14 main_v15
-- ==== Kernel.lean ====
abbrev S2x896x16x64 : Shape := ⟨4, ![2, 896, 16, 64]⟩
abbrev S16 : Shape := ⟨1, ![16]⟩
abbrev S254 : Shape := ⟨1, ![254]⟩
abbrev S1x254 : Shape := ⟨2, ![1, 254]⟩
abbrev S_ : Shape := ⟨0, ![]⟩
abbrev S16x1 : Shape := ⟨2, ![16, 1]⟩
abbrev S16x254 : Shape := ⟨2, ![16, 254]⟩
abbrev S16x8 : Shape := ⟨2, ![16, 8]⟩
abbrev S16x5 : Shape := ⟨2, ![16, 5]⟩
abbrev S2x16x64x896 : Shape := ⟨4, ![2, 16, 64, 896]⟩
abbrev S2x16x1x896 : Shape := ⟨4, ![2, 16, 1, 896]⟩
abbrev S1x1x64x896 : Shape := ⟨4, ![1, 1, 64, 896]⟩
abbrev S1x1x1x896 : Shape := ⟨4, ![1, 1, 1, 896]⟩
abbrev S896x128 : Shape := ⟨2, ![896, 128]⟩
abbrev S128x896 : Shape := ⟨2, ![128, 896]⟩
abbrev S64x896 : Shape := ⟨2, ![64, 896]⟩
abbrev S896x256 : Shape := ⟨2, ![896, 256]⟩
abbrev S1x1 : Shape := ⟨2, ![1, 1]⟩
abbrev S128x256 : Shape := ⟨2, ![128, 256]⟩
abbrev S8x256 : Shape := ⟨2, ![8, 256]⟩
abbrev S256 : Shape := ⟨1, ![256]⟩
abbrev S1x256 : Shape := ⟨2, ![1, 256]⟩
abbrev S16x256 : Shape := ⟨2, ![16, 256]⟩
abbrev S1x1x1x256 : Shape := ⟨4, ![1, 1, 1, 256]⟩
abbrev S64x256 : Shape := ⟨2, ![64, 256]⟩
abbrev S1x1x64x256 : Shape := ⟨4, ![1, 1, 64, 256]⟩
abbrev S128x128 : Shape := ⟨2, ![128, 128]⟩
abbrev S8x128 : Shape := ⟨2, ![8, 128]⟩
abbrev S128 : Shape := ⟨1, ![128]⟩
abbrev S1x128 : Shape := ⟨2, ![1, 128]⟩
abbrev S16x128 : Shape := ⟨2, ![16, 128]⟩
abbrev S1x1x1x128 : Shape := ⟨4, ![1, 1, 1, 128]⟩
abbrev S64x128 : Shape := ⟨2, ![64, 128]⟩
abbrev S1x1x64x128 : Shape := ⟨4, ![1, 1, 64, 128]⟩
abbrev S896x64 : Shape := ⟨2, ![896, 64]⟩
abbrev S2x16x896 : Shape := ⟨3, ![2, 16, 896]⟩
abbrev S2x896x16 : Shape := ⟨3, ![2, 896, 16]⟩

abbrev nBuf : Space → Nat
  | .hbm => 285
  | .vmem => 17
  | .smem => 2
  | _ => 0

abbrev hbmTy0_0 (i : Nat) : BufTy := match i % 128 with
  | 0 => ⟨S2x896x16x64, .i8⟩
  | 1 => ⟨S2x896x16x64, .i8⟩
  | 2 => ⟨S2x896x16x64, .i8⟩
  | 3 => ⟨S16, .f32⟩
  | 4 => ⟨S16, .f32⟩
  | 5 => ⟨S16, .f32⟩
  | 6 => ⟨S16, .f32⟩
  | 7 => ⟨S254, .f32⟩
  | 8 => ⟨S1x254, .f32⟩
  | 9 => ⟨S254, .f32⟩
  | 10 => ⟨S1x254, .f32⟩
  | 11 => ⟨S254, .f32⟩
  | 12 => ⟨S1x254, .f32⟩
  | 13 => ⟨S254, .f32⟩
  | 14 => ⟨S1x254, .f32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S16, .i32⟩
  | 24 => ⟨S_, .f32⟩
  | 25 => ⟨S16, .f32⟩
  | 26 => ⟨S16, .f32⟩
  | 27 => ⟨S16, .f32⟩
  | 28 => ⟨S16, .i32⟩
  | 29 => ⟨S_, .f32⟩
  | 30 => ⟨S16, .f32⟩
  | 31 => ⟨S16, .f32⟩
  | 32 => ⟨S16, .f32⟩
  | 33 => ⟨S_, .f32⟩
  | 34 => ⟨S16, .f32⟩
  | 35 => ⟨S16, .f32⟩
  | 36 => ⟨S16, .f32⟩
  | 37 => ⟨S16, .i32⟩
  | 38 => ⟨S16, .i32⟩
  | 39 => ⟨S16, .i32⟩
  | 40 => ⟨S16, .f32⟩
  | 41 => ⟨S16, .f32⟩
  | 42 => ⟨S16x1, .f32⟩
  | 43 => ⟨S16x254, .f32⟩
  | 44 => ⟨S16x254, .f32⟩
  | 45 => ⟨S16x254, .i1⟩
  | 46 => ⟨S_, .f32⟩
  | 47 => ⟨S_, .f32⟩
  | 48 => ⟨S16x254, .f32⟩
  | 49 => ⟨S16x254, .f32⟩
  | 50 => ⟨S16x254, .f32⟩
  | 51 => ⟨S_, .f32⟩
  | 52 => ⟨S16, .f32⟩
  | 53 => ⟨S16x254, .i32⟩
  | 54 => ⟨S_, .i32⟩
  | 55 => ⟨S16, .i32⟩
  | 56 => ⟨S_, .i32⟩
  | 57 => ⟨S16, .i32⟩
  | 58 => ⟨S16, .i32⟩
  | 59 => ⟨S_, .f32⟩
  | 60 => ⟨S16, .f32⟩
  | 61 => ⟨S16, .i1⟩
  | 62 => ⟨S16, .f32⟩
  | 63 => ⟨S_, .f32⟩
  | 64 => ⟨S16, .f32⟩
  | 65 => ⟨S16, .f32⟩
  | 66 => ⟨S_, .f32⟩
  | 67 => ⟨S_, .f32⟩
  | 68 => ⟨S16, .f32⟩
  | 69 => ⟨S16, .f32⟩
  | 70 => ⟨S_, .i32⟩
  | 71 => ⟨S_, .i32⟩
  | 72 => ⟨S16, .i32⟩
  | 73 => ⟨S16, .i32⟩
  | 74 => ⟨S_, .i32⟩
  | 75 => ⟨S16, .i32⟩
  | 76 => ⟨S16, .i32⟩
  | 77 => ⟨S_, .i32⟩
  | 78 => ⟨S16, .i32⟩
  | 79 => ⟨S16, .i32⟩
  | 80 => ⟨S_, .f32⟩
  | 81 => ⟨S16, .f32⟩
  | 82 => ⟨S16, .f32⟩
  | 83 => ⟨S16, .f32⟩
  | 84 => ⟨S16, .f32⟩
  | 85 => ⟨S16x1, .f32⟩
  | 86 => ⟨S16x254, .f32⟩
  | 87 => ⟨S16x254, .f32⟩
  | 88 => ⟨S16x254, .i1⟩
  | 89 => ⟨S_, .f32⟩
  | 90 => ⟨S_, .f32⟩
  | 91 => ⟨S16x254, .f32⟩
  | 92 => ⟨S16x254, .f32⟩
  | 93 => ⟨S16x254, .f32⟩
  | 94 => ⟨S_, .f32⟩
  | 95 => ⟨S16, .f32⟩
  | 96 => ⟨S16x254, .i32⟩
  | 97 => ⟨S_, .i32⟩
  | 98 => ⟨S16, .i32⟩
  | 99 => ⟨S_, .i32⟩
  | 100 => ⟨S16, .i32⟩
  | 101 => ⟨S16, .i32⟩
  | 102 => ⟨S_, .f32⟩
  | 103 => ⟨S16, .f32⟩
  | 104 => ⟨S16, .i1⟩
  | 105 => ⟨S16, .f32⟩
  | 106 => ⟨S_, .f32⟩
  | 107 => ⟨S16, .f32⟩
  | 108 => ⟨S16, .f32⟩
  | 109 => ⟨S_, .f32⟩
  | 110 => ⟨S_, .f32⟩
  | 111 => ⟨S16, .f32⟩
  | 112 => ⟨S16, .f32⟩
  | 113 => ⟨S_, .i32⟩
  | 114 => ⟨S_, .i32⟩
  | 115 => ⟨S16, .i32⟩
  | 116 => ⟨S16, .i32⟩
  | 117 => ⟨S_, .f32⟩
  | 118 => ⟨S16, .f32⟩
  | 119 => ⟨S16, .f32⟩
  | 120 => ⟨S16, .f32⟩
  | 121 => ⟨S16, .i32⟩
  | 122 => ⟨S_, .i32⟩
  | 123 => ⟨S16, .i32⟩
  | 124 => ⟨S16, .i32⟩
  | 125 => ⟨S_, .i32⟩
  | 126 => ⟨S16, .i32⟩
  | 127 => ⟨S16, .i32⟩
  | _ => ⟨S2x896x16x64, .i8⟩

abbrev hbmTy0_1 (i : Nat) : BufTy := match i % 128 with
  | 0 => ⟨S_, .i32⟩
  | 1 => ⟨S16, .i32⟩
  | 2 => ⟨S16, .i32⟩
  | 3 => ⟨S_, .i32⟩
  | 4 => ⟨S16, .i32⟩
  | 5 => ⟨S16, .i1⟩
  | 6 => ⟨S_, .i32⟩
  | 7 => ⟨S16, .i32⟩
  | 8 => ⟨S16, .i1⟩
  | 9 => ⟨S16, .i1⟩
  | 10 => ⟨S_, .i32⟩
  | 11 => ⟨S16, .i32⟩
  | 12 => ⟨S16, .i1⟩
  | 13 => ⟨S16, .i1⟩
  | 14 => ⟨S16, .i1⟩
  | 15 => ⟨S_, .i32⟩
  | 16 => ⟨S16, .i32⟩
  | 17 => ⟨S16, .i1⟩
  | 18 => ⟨S16, .i1⟩
  | 19 => ⟨S_, .i32⟩
  | 20 => ⟨S16, .i32⟩
  | 21 => ⟨S16, .i1⟩
  | 22 => ⟨S16, .i1⟩
  | 23 => ⟨S_, .i32⟩
  | 24 => ⟨S16, .i32⟩
  | 25 => ⟨S16, .i1⟩
  | 26 => ⟨S16, .i1⟩
  | 27 => ⟨S_, .i32⟩
  | 28 => ⟨S_, .i32⟩
  | 29 => ⟨S16, .i32⟩
  | 30 => ⟨S16, .i32⟩
  | 31 => ⟨S16, .i32⟩
  | 32 => ⟨S16x1, .i32⟩
  | 33 => ⟨S16x1, .i32⟩
  | 34 => ⟨S16x1, .i32⟩
  | 35 => ⟨S16x1, .i32⟩
  | 36 => ⟨S16x1, .i32⟩
  | 37 => ⟨S16x1, .i32⟩
  | 38 => ⟨S16x1, .i32⟩
  | 39 => ⟨S16x1, .i32⟩
  | 40 => ⟨S16x8, .i32⟩
  | 41 => ⟨S16, .f32⟩
  | 42 => ⟨S_, .f32⟩
  | 43 => ⟨S16, .f32⟩
  | 44 => ⟨S16, .f32⟩
  | 45 => ⟨S_, .f32⟩
  | 46 => ⟨S16, .f32⟩
  | 47 => ⟨S_, .f32⟩
  | 48 => ⟨S16, .f32⟩
  | 49 => ⟨S16, .i1⟩
  | 50 => ⟨S_, .f32⟩
  | 51 => ⟨S_, .f32⟩
  | 52 => ⟨S16, .f32⟩
  | 53 => ⟨S16, .f32⟩
  | 54 => ⟨S_, .f32⟩
  | 55 => ⟨S16, .f32⟩
  | 56 => ⟨S16, .i1⟩
  | 57 => ⟨S_, .f32⟩
  | 58 => ⟨S_, .f32⟩
  | 59 => ⟨S16, .f32⟩
  | 60 => ⟨S16, .f32⟩
  | 61 => ⟨S_, .f32⟩
  | 62 => ⟨S16, .f32⟩
  | 63 => ⟨S16, .i1⟩
  | 64 => ⟨S_, .f32⟩
  | 65 => ⟨S_, .f32⟩
  | 66 => ⟨S16, .f32⟩
  | 67 => ⟨S16, .f32⟩
  | 68 => ⟨S_, .f32⟩
  | 69 => ⟨S16, .f32⟩
  | 70 => ⟨S16, .i1⟩
  | 71 => ⟨S_, .f32⟩
  | 72 => ⟨S_, .f32⟩
  | 73 => ⟨S16, .f32⟩
  | 74 => ⟨S16, .f32⟩
  | 75 => ⟨S_, .f32⟩
  | 76 => ⟨S16, .f32⟩
  | 77 => ⟨S16, .i1⟩
  | 78 => ⟨S_, .f32⟩
  | 79 => ⟨S_, .f32⟩
  | 80 => ⟨S16, .f32⟩
  | 81 => ⟨S16, .f32⟩
  | 82 => ⟨S_, .f32⟩
  | 83 => ⟨S16, .f32⟩
  | 84 => ⟨S16, .i1⟩
  | 85 => ⟨S_, .f32⟩
  | 86 => ⟨S_, .f32⟩
  | 87 => ⟨S16, .f32⟩
  | 88 => ⟨S16, .f32⟩
  | 89 => ⟨S_, .f32⟩
  | 90 => ⟨S16, .f32⟩
  | 91 => ⟨S16, .i1⟩
  | 92 => ⟨S_, .f32⟩
  | 93 => ⟨S_, .f32⟩
  | 94 => ⟨S16, .f32⟩
  | 95 => ⟨S16, .f32⟩
  | 96 => ⟨S_, .f32⟩
  | 97 => ⟨S16, .f32⟩
  | 98 => ⟨S16, .i1⟩
  | 99 => ⟨S_, .f32⟩
  | 100 => ⟨S_, .f32⟩
  | 101 => ⟨S16, .f32⟩
  | 102 => ⟨S16, .f32⟩
  | 103 => ⟨S_, .f32⟩
  | 104 => ⟨S16, .f32⟩
  | 105 => ⟨S16, .i1⟩
  | 106 => ⟨S_, .f32⟩
  | 107 => ⟨S_, .f32⟩
  | 108 => ⟨S16, .f32⟩
  | 109 => ⟨S16, .f32⟩
  | 110 => ⟨S_, .f32⟩
  | 111 => ⟨S16, .f32⟩
  | 112 => ⟨S16, .i1⟩
  | 113 => ⟨S_, .f32⟩
  | 114 => ⟨S_, .f32⟩
  | 115 => ⟨S16, .f32⟩
  | 116 => ⟨S16, .f32⟩
  | 117 => ⟨S_, .f32⟩
  | 118 => ⟨S16, .f32⟩
  | 119 => ⟨S16, .i1⟩
  | 120 => ⟨S_, .f32⟩
  | 121 => ⟨S_, .f32⟩
  | 122 => ⟨S16, .f32⟩
  | 123 => ⟨S16, .f32⟩
  | 124 => ⟨S_, .f32⟩
  | 125 => ⟨S16, .f32⟩
  | 126 => ⟨S16, .i1⟩
  | 127 => ⟨S_, .f32⟩
  | _ => ⟨S2x896x16x64, .i8⟩

abbrev hbmTy0_2 (i : Nat) : BufTy := match i % 128 with
  | 0 => ⟨S_, .f32⟩
  | 1 => ⟨S16, .f32⟩
  | 2 => ⟨S16, .f32⟩
  | 3 => ⟨S_, .f32⟩
  | 4 => ⟨S16, .f32⟩
  | 5 => ⟨S16, .i1⟩
  | 6 => ⟨S_, .f32⟩
  | 7 => ⟨S_, .f32⟩
  | 8 => ⟨S16, .f32⟩
  | 9 => ⟨S16, .f32⟩
  | 10 => ⟨S16, .f32⟩
  | 11 => ⟨S16, .f32⟩
  | 12 => ⟨S16, .f32⟩
  | 13 => ⟨S16, .i32⟩
  | 14 => ⟨S16, .f32⟩
  | 15 => ⟨S16x1, .f32⟩
  | 16 => ⟨S16x1, .f32⟩
  | 17 => ⟨S16x1, .f32⟩
  | 18 => ⟨S16x1, .f32⟩
  | 19 => ⟨S16x1, .f32⟩
  | 20 => ⟨S16x5, .f32⟩
  | 21 => ⟨S2x16x64x896, .i8⟩
  | 22 => ⟨S2x16x64x896, .i8⟩
  | 23 => ⟨S2x16x64x896, .i8⟩
  | 24 => ⟨S2x16x64x896, .i8⟩
  | 25 => ⟨S2x16x1x896, .i32⟩
  | 26 => ⟨S2x896x16x64, .i8⟩
  | 27 => ⟨S2x16x896, .i32⟩
  | 28 => ⟨S2x896x16, .i32⟩
  | _ => ⟨S2x896x16x64, .i8⟩

abbrev hbmTy (i : Nat) : BufTy := match i / 128 with
  | 0 => hbmTy0_0 i
  | 1 => hbmTy0_1 i
  | 2 => hbmTy0_2 i
  | _ => ⟨S2x896x16x64, .i8⟩

abbrev bufTy : (tb : Table) → Fin (tcTables nBuf tb) → BufTy
  | .hbm, ⟨i, _⟩ => hbmTy i
  | .local _ .vmem, ⟨0, _⟩ => ⟨S1x1x64x896, .i8⟩
  | .local _ .vmem, ⟨1, _⟩ => ⟨S1x1x64x896, .i8⟩
  | .local _ .vmem, ⟨2, _⟩ => ⟨S1x1x64x896, .i8⟩
  | .local _ .vmem, ⟨3, _⟩ => ⟨S1x1x64x896, .i8⟩
  | .local _ .vmem, ⟨4, _⟩ => ⟨S1x1x64x896, .i8⟩
  | .local _ .vmem, ⟨5, _⟩ => ⟨S1x1x64x896, .i8⟩
  | .local _ .vmem, ⟨6, _⟩ => ⟨S1x1x64x896, .i8⟩
  | .local _ .vmem, ⟨7, _⟩ => ⟨S1x1x64x896, .i8⟩
  | .local _ .vmem, ⟨8, _⟩ => ⟨S1x1x1x896, .i32⟩
  | .local _ .vmem, ⟨9, _⟩ => ⟨S1x1x1x896, .i32⟩
  | .local _ .vmem, ⟨10, _⟩ => ⟨S896x128, .bf16⟩
  | .local _ .vmem, ⟨11, _⟩ => ⟨S128x896, .bf16⟩
  | .local _ .vmem, ⟨12, _⟩ => ⟨S64x896, .bf16⟩
  | .local _ .vmem, ⟨13, _⟩ => ⟨S896x256, .f32⟩
  | .local _ .vmem, ⟨14, _⟩ => ⟨S896x256, .f32⟩
  | .local _ .vmem, ⟨15, _⟩ => ⟨S896x256, .bf16⟩
  | .local _ .vmem, ⟨16, _⟩ => ⟨S896x128, .i32⟩
  | .local _ .smem, ⟨0, _⟩ => ⟨S16x8, .i32⟩
  | .local _ .smem, ⟨1, _⟩ => ⟨S16x5, .f32⟩
  | _, _ => ⟨S2x896x16x64, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_cst_2 : Ref sig .tc := ⟨.hbm, 13, rfl⟩
abbrev main_v3 : Ref sig .tc := ⟨.hbm, 14, rfl⟩
abbrev main_v4 : Ref sig .tc := ⟨.hbm, 15, rfl⟩
abbrev main_cst_3 : Ref sig .tc := ⟨.hbm, 16, rfl⟩
abbrev main_v5 : Ref sig .tc := ⟨.hbm, 17, rfl⟩
abbrev main_v6 : Ref sig .tc := ⟨.hbm, 18, rfl⟩
abbrev main_cst_4 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_5 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_6 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_7 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_8 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_c : Ref sig .tc := ⟨.hbm, 54, rfl⟩
abbrev main_v33 : Ref sig .tc := ⟨.hbm, 55, rfl⟩
abbrev main_c_10 : Ref sig .tc := ⟨.hbm, 56, rfl⟩
abbrev main_v34 : Ref sig .tc := ⟨.hbm, 57, rfl⟩
abbrev main_v35 : Ref sig .tc := ⟨.hbm, 58, rfl⟩
abbrev main_cst_11 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_12 : Ref sig .tc := ⟨.hbm, 63, rfl⟩
abbrev main_v39 : Ref sig .tc := ⟨.hbm, 64, rfl⟩
abbrev main_v40 : Ref sig .tc := ⟨.hbm, 65, rfl⟩
abbrev main_cst_13 : Ref sig .tc := ⟨.hbm, 66, rfl⟩
abbrev main_call1_v0 : Ref sig .tc := ⟨.hbm, 67, rfl⟩
abbrev main_call1_v1 : Ref sig .tc := ⟨.hbm, 68, rfl⟩
abbrev main_v41 : Ref sig .tc := ⟨.hbm, 69, rfl⟩
abbrev main_c_14 : Ref sig .tc := ⟨.hbm, 70, rfl⟩
abbrev main_call2_v0 : Ref sig .tc := ⟨.hbm, 71, rfl⟩
abbrev main_call2_v1 : Ref sig .tc := ⟨.hbm, 72, rfl⟩
abbrev main_v42 : Ref sig .tc := ⟨.hbm, 73, rfl⟩
abbrev main_c_15 : Ref sig .tc := ⟨.hbm, 74, rfl⟩
abbrev main_v43 : Ref sig .tc := ⟨.hbm, 75, rfl⟩
abbrev main_v44 : Ref sig .tc := ⟨.hbm, 76, rfl⟩
abbrev main_c_16 : Ref sig .tc := ⟨.hbm, 77, rfl⟩
abbrev main_v45 : Ref sig .tc := ⟨.hbm, 78, rfl⟩
abbrev main_v46 : Ref sig .tc := ⟨.hbm, 79, rfl⟩
abbrev main_cst_17 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_18 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v55 : Ref sig .tc := ⟨.hbm, 93, rfl⟩
abbrev main_cst_19 : Ref sig .tc := ⟨.hbm, 94, rfl⟩
abbrev main_v56 : Ref sig .tc := ⟨.hbm, 95, rfl⟩
abbrev main_v57 : Ref sig .tc := ⟨.hbm, 96, rfl⟩
abbrev main_c_20 : Ref sig .tc := ⟨.hbm, 97, rfl⟩
abbrev main_v58 : Ref sig .tc := ⟨.hbm, 98, rfl⟩
abbrev main_c_21 : Ref sig .tc := ⟨.hbm, 99, rfl⟩
abbrev main_v59 : Ref sig .tc := ⟨.hbm, 100, rfl⟩
abbrev main_v60 : Ref sig .tc := ⟨.hbm, 101, rfl⟩
abbrev main_cst_22 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_cst_23 : Ref sig .tc := ⟨.hbm, 106, rfl⟩
abbrev main_v64 : Ref sig .tc := ⟨.hbm, 107, rfl⟩
abbrev main_v65 : Ref sig .tc := ⟨.hbm, 108, rfl⟩
abbrev main_cst_24 : Ref sig .tc := ⟨.hbm, 109, rfl⟩
abbrev main_call4_v0 : Ref sig .tc := ⟨.hbm, 110, rfl⟩
abbrev main_call4_v1 : Ref sig .tc := ⟨.hbm, 111, rfl⟩
abbrev main_v66 : Ref sig .tc := ⟨.hbm, 112, rfl⟩
abbrev main_c_25 : Ref sig .tc := ⟨.hbm, 113, rfl⟩
abbrev main_call5_v0 : Ref sig .tc := ⟨.hbm, 114, rfl⟩
abbrev main_call5_v1 : Ref sig .tc := ⟨.hbm, 115, rfl⟩
abbrev main_v67 : Ref sig .tc := ⟨.hbm, 116, rfl⟩
abbrev main_cst_26 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_c_27 : Ref sig .tc := ⟨.hbm, 122, rfl⟩
abbrev main_v72 : Ref sig .tc := ⟨.hbm, 123, rfl⟩
abbrev main_v73 : Ref sig .tc := ⟨.hbm, 124, rfl⟩
abbrev main_c_28 : Ref sig .tc := ⟨.hbm, 125, rfl⟩
abbrev main_v74 : Ref sig .tc := ⟨.hbm, 126, rfl⟩
abbrev main_v75 : Ref sig .tc := ⟨.hbm, 127, rfl⟩
abbrev main_c_29 : Ref sig .tc := ⟨.hbm, 128, rfl⟩
abbrev main_v76 : Ref sig .tc := ⟨.hbm, 129, rfl⟩
abbrev main_v77 : Ref sig .tc := ⟨.hbm, 130, rfl⟩
abbrev main_c_30 : Ref sig .tc := ⟨.hbm, 131, rfl⟩
abbrev main_v78 : Ref sig .tc := ⟨.hbm, 132, rfl⟩
abbrev main_v79 : Ref sig .tc := ⟨.hbm, 133, rfl⟩
abbrev main_c_31 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_c_32 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_c_33 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_c_34 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_c_35 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_c_36 : Ref sig .tc := ⟨.hbm, 155, rfl⟩
abbrev main_call7_v0 : Ref sig .tc := ⟨.hbm, 156, rfl⟩
abbrev main_call7_v1 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_cst_37 : Ref sig .tc := ⟨.hbm, 170, rfl⟩
abbrev main_v108 : Ref sig .tc := ⟨.hbm, 171, rfl⟩
abbrev main_v109 : Ref sig .tc := ⟨.hbm, 172, rfl⟩
abbrev main_cst_38 : Ref sig .tc := ⟨.hbm, 173, rfl⟩
abbrev main_v110 : Ref sig .tc := ⟨.hbm, 174, rfl⟩
abbrev main_cst_39 : Ref sig .tc := ⟨.hbm, 175, rfl⟩
abbrev main_v111 : Ref sig .tc := ⟨.hbm, 176, rfl⟩
abbrev main_v112 : Ref sig .tc := ⟨.hbm, 177, rfl⟩
abbrev main_cst_40 : Ref sig .tc := ⟨.hbm, 178, rfl⟩
abbrev main_call8_v0 : Ref sig .tc := ⟨.hbm, 179, rfl⟩
abbrev main_call8_v1 : Ref sig .tc := ⟨.hbm, 180, rfl⟩
abbrev main_v113 : Ref sig .tc := ⟨.hbm, 181, rfl⟩
abbrev main_cst_41 : Ref sig .tc := ⟨.hbm, 182, rfl⟩
abbrev main_v114 : Ref sig .tc := ⟨.hbm, 183, rfl⟩
abbrev main_v115 : Ref sig .tc := ⟨.hbm, 184, rfl⟩
abbrev main_cst_42 : Ref sig .tc := ⟨.hbm, 185, rfl⟩
abbrev main_call9_v0 : Ref sig .tc := ⟨.hbm, 186, rfl⟩
abbrev main_call9_v1 : Ref sig .tc := ⟨.hbm, 187, rfl⟩
abbrev main_v116 : Ref sig .tc := ⟨.hbm, 188, rfl⟩
abbrev main_cst_43 : Ref sig .tc := ⟨.hbm, 189, rfl⟩
abbrev main_v117 : Ref sig .tc := ⟨.hbm, 190, rfl⟩
abbrev main_v118 : Ref sig .tc := ⟨.hbm, 191, rfl⟩
abbrev main_cst_44 : Ref sig .tc := ⟨.hbm, 192, rfl⟩
abbrev main_call10_v0 : Ref sig .tc := ⟨.hbm, 193, rfl⟩
abbrev main_call10_v1 : Ref sig .tc := ⟨.hbm, 194, rfl⟩
abbrev main_v119 : Ref sig .tc := ⟨.hbm, 195, rfl⟩
abbrev main_cst_45 : Ref sig .tc := ⟨.hbm, 196, rfl⟩
abbrev main_v120 : Ref sig .tc := ⟨.hbm, 197, rfl⟩
abbrev main_v121 : Ref sig .tc := ⟨.hbm, 198, rfl⟩
abbrev main_cst_46 : Ref sig .tc := ⟨.hbm, 199, rfl⟩
abbrev main_call11_v0 : Ref sig .tc := ⟨.hbm, 200, rfl⟩
abbrev main_call11_v1 : Ref sig .tc := ⟨.hbm, 201, rfl⟩
abbrev main_v122 : Ref sig .tc := ⟨.hbm, 202, rfl⟩
abbrev main_cst_47 : Ref sig .tc := ⟨.hbm, 203, rfl⟩
abbrev main_v123 : Ref sig .tc := ⟨.hbm, 204, rfl⟩
abbrev main_v124 : Ref sig .tc := ⟨.hbm, 205, rfl⟩
abbrev main_cst_48 : Ref sig .tc := ⟨.hbm, 206, rfl⟩
abbrev main_call12_v0 : Ref sig .tc := ⟨.hbm, 207, rfl⟩
abbrev main_call12_v1 : Ref sig .tc := ⟨.hbm, 208, rfl⟩
abbrev main_v125 : Ref sig .tc := ⟨.hbm, 209, rfl⟩
abbrev main_cst_49 : Ref sig .tc := ⟨.hbm, 210, rfl⟩
abbrev main_v126 : Ref sig .tc := ⟨.hbm, 211, rfl⟩
abbrev main_v127 : Ref sig .tc := ⟨.hbm, 212, rfl⟩
abbrev main_cst_50 : Ref sig .tc := ⟨.hbm, 213, rfl⟩
abbrev main_call13_v0 : Ref sig .tc := ⟨.hbm, 214, rfl⟩
abbrev main_call13_v1 : Ref sig .tc := ⟨.hbm, 215, rfl⟩
abbrev main_v128 : Ref sig .tc := ⟨.hbm, 216, rfl⟩
abbrev main_cst_51 : Ref sig .tc := ⟨.hbm, 217, rfl⟩
abbrev main_v129 : Ref sig .tc := ⟨.hbm, 218, rfl⟩
abbrev main_v130 : Ref sig .tc := ⟨.hbm, 219, rfl⟩
abbrev main_cst_52 : Ref sig .tc := ⟨.hbm, 220, rfl⟩
abbrev main_call14_v0 : Ref sig .tc := ⟨.hbm, 221, rfl⟩
abbrev main_call14_v1 : Ref sig .tc := ⟨.hbm, 222, rfl⟩
abbrev main_v131 : Ref sig .tc := ⟨.hbm, 223, rfl⟩
abbrev main_cst_53 : Ref sig .tc := ⟨.hbm, 224, rfl⟩
abbrev main_v132 : Ref sig .tc := ⟨.hbm, 225, rfl⟩
abbrev main_v133 : Ref sig .tc := ⟨.hbm, 226, rfl⟩
abbrev main_cst_54 : Ref sig .tc := ⟨.hbm, 227, rfl⟩
abbrev main_call15_v0 : Ref sig .tc := ⟨.hbm, 228, rfl⟩
abbrev main_call15_v1 : Ref sig .tc := ⟨.hbm, 229, rfl⟩
abbrev main_v134 : Ref sig .tc := ⟨.hbm, 230, rfl⟩
abbrev main_cst_55 : Ref sig .tc := ⟨.hbm, 231, rfl⟩
abbrev main_v135 : Ref sig .tc := ⟨.hbm, 232, rfl⟩
abbrev main_v136 : Ref sig .tc := ⟨.hbm, 233, rfl⟩
abbrev main_cst_56 : Ref sig .tc := ⟨.hbm, 234, rfl⟩
abbrev main_call16_v0 : Ref sig .tc := ⟨.hbm, 235, rfl⟩
abbrev main_call16_v1 : Ref sig .tc := ⟨.hbm, 236, rfl⟩
abbrev main_v137 : Ref sig .tc := ⟨.hbm, 237, rfl⟩
abbrev main_cst_57 : Ref sig .tc := ⟨.hbm, 238, rfl⟩
abbrev main_v138 : Ref sig .tc := ⟨.hbm, 239, rfl⟩
abbrev main_v139 : Ref sig .tc := ⟨.hbm, 240, rfl⟩
abbrev main_cst_58 : Ref sig .tc := ⟨.hbm, 241, rfl⟩
abbrev main_call17_v0 : Ref sig .tc := ⟨.hbm, 242, rfl⟩
abbrev main_call17_v1 : Ref sig .tc := ⟨.hbm, 243, rfl⟩
abbrev main_v140 : Ref sig .tc := ⟨.hbm, 244, rfl⟩
abbrev main_cst_59 : Ref sig .tc := ⟨.hbm, 245, rfl⟩
abbrev main_v141 : Ref sig .tc := ⟨.hbm, 246, rfl⟩
abbrev main_v142 : Ref sig .tc := ⟨.hbm, 247, rfl⟩
abbrev main_cst_60 : Ref sig .tc := ⟨.hbm, 248, rfl⟩
abbrev main_call18_v0 : Ref sig .tc := ⟨.hbm, 249, rfl⟩
abbrev main_call18_v1 : Ref sig .tc := ⟨.hbm, 250, rfl⟩
abbrev main_v143 : Ref sig .tc := ⟨.hbm, 251, rfl⟩
abbrev main_cst_61 : Ref sig .tc := ⟨.hbm, 252, rfl⟩
abbrev main_v144 : Ref sig .tc := ⟨.hbm, 253, rfl⟩
abbrev main_v145 : Ref sig .tc := ⟨.hbm, 254, rfl⟩
abbrev main_cst_62 : Ref sig .tc := ⟨.hbm, 255, rfl⟩
abbrev main_call19_v0 : Ref sig .tc := ⟨.hbm, 256, rfl⟩
abbrev main_call19_v1 : Ref sig .tc := ⟨.hbm, 257, rfl⟩
abbrev main_v146 : Ref sig .tc := ⟨.hbm, 258, rfl⟩
abbrev main_cst_63 : Ref sig .tc := ⟨.hbm, 259, rfl⟩
abbrev main_v147 : Ref sig .tc := ⟨.hbm, 260, rfl⟩
abbrev main_v148 : Ref sig .tc := ⟨.hbm, 261, rfl⟩
abbrev main_cst_64 : Ref sig .tc := ⟨.hbm, 262, rfl⟩
abbrev main_call20_v0 : Ref sig .tc := ⟨.hbm, 263, rfl⟩
abbrev main_call20_v1 : Ref sig .tc := ⟨.hbm, 264, rfl⟩
abbrev main_v149 : Ref sig .tc := ⟨.hbm, 265, rfl⟩
abbrev main_v150 : Ref sig .tc := ⟨.hbm, 266, rfl⟩
abbrev main_v151 : Ref sig .tc := ⟨.hbm, 267, rfl⟩
abbrev main_v152 : Ref sig .tc := ⟨.hbm, 268, rfl⟩
abbrev main_v153 : Ref sig .tc := ⟨.hbm, 269, rfl⟩
abbrev main_v154 : Ref sig .tc := ⟨.hbm, 270, rfl⟩
abbrev main_v155 : Ref sig .tc := ⟨.hbm, 271, rfl⟩
abbrev main_v156 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_v160 : Ref sig .tc := ⟨.hbm, 276, rfl⟩
abbrev main_v161 : Ref sig .tc := ⟨.hbm, 277, rfl⟩
abbrev main_v162 : Ref sig .tc := ⟨.hbm, 278, rfl⟩
abbrev main_v163 : Ref sig .tc := ⟨.hbm, 279, rfl⟩
abbrev main_v164_0 : Ref sig .tc := ⟨.hbm, 280, rfl⟩
abbrev main_v164_1 : Ref sig .tc := ⟨.hbm, 281, rfl⟩
abbrev main_v165 : Ref sig .tc := ⟨.hbm, 282, rfl⟩
abbrev main_v166 : Ref sig .tc := ⟨.hbm, 283, rfl⟩
abbrev main_v167 : Ref sig .tc := ⟨.hbm, 284, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v41 : Index := Scalar.indexCast v9
  let c7 : Index := 7#32
  ![v41.toNat, 7]
def k0_off2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v51 : Index := Scalar.indexCast v9
  let c0_28 : Index := 0#32
  ![v51.toNat, 0]
def k0_off3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : Index := Scalar.indexCast v9
  let c1 : Index := 1#32
  ![v53.toNat, 1]
def k0_off4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v55 : Index := Scalar.indexCast v9
  let c2 : Index := 2#32
  ![v55.toNat, 2]
def k0_off5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v57 : Index := Scalar.indexCast v9
  let c3 : Index := 3#32
  ![v57.toNat, 3]
def k0_off6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v59 : Index := Scalar.indexCast v9
  let c4 : Index := 4#32
  ![v59.toNat, 4]
def k0_off7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3331 : Index := Scalar.indexCast v9
  let c4_738 : Index := 4#32
  ![v3331.toNat, 4]
def k0_off8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3335 : Index := Scalar.indexCast v9
  let c6 : Index := 6#32
  ![v3335.toNat, 6]
def k0_off9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3339 : Index := Scalar.indexCast v9
  let c5 : Index := 5#32
  ![v3339.toNat, 5]
def k0_off10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v46 : Index := Scalar.indexCast v9
  let c7_25 : Index := 7#32
  ![v46.toNat, 7]
def k0_off11 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v51 : Index := Scalar.indexCast v9
  let c0_28 : Index := 0#32
  ![v51.toNat, 0]
def k0_off12 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v53 : Index := Scalar.indexCast v9
  let c1 : Index := 1#32
  ![v53.toNat, 1]
def k0_off13 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v55 : Index := Scalar.indexCast v9
  let c2 : Index := 2#32
  ![v55.toNat, 2]
def k0_off14 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v57 : Index := Scalar.indexCast v9
  let c3 : Index := 3#32
  ![v57.toNat, 3]
def k0_off15 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v59 : Index := Scalar.indexCast v9
  let c0_29 : Index := 0#32
  ![v59.toNat, 0]
@[reducible] def k0_t1_loop : Scf.Loop 32 :=
  let c0_i32_30 : BitVec 32 := 0#32
  let c7_i32 : BitVec 32 := 7#32
  let v61 : BitVec 32 := Scalar.addi c0_i32_30 c7_i32
  let c1_i32_31 : BitVec 32 := 1#32
  ⟨c0_i32_30, v61, c1_i32_31⟩
def k0_mult1 (k0_t1 : Fin k0_t1_loop.trips) : BitVec 32 :=
  let c0_i32_30 : BitVec 32 := 0#32
  let c1_i32_31 : BitVec 32 := 1#32
  let arg15 : BitVec 32 := Scf.iv c0_i32_30 c1_i32_31 k0_t1
  let c128_i32 : BitVec 32 := 128#32
  let v62 : BitVec 32 := Scalar.muli arg15 c128_i32
  v62
def k0_off16 (k0_t1 : Fin k0_t1_loop.trips) : Fin 2 → Nat :=
  let c0_35 : Index := 0#32
  let c0_i32_30 : BitVec 32 := 0#32
  let c1_i32_31 : BitVec 32 := 1#32
  let arg15 : BitVec 32 := Scf.iv c0_i32_30 c1_i32_31 k0_t1
  let c128_i32 : BitVec 32 := 128#32
  let v62 : BitVec 32 := Scalar.muli arg15 c128_i32
  let v63 : BitVec 32 := v62
  let v65 : Index := Scalar.indexCast v63
  ![0, v65.toNat]
@[reducible] def k0_t2_loop : Scf.Loop 32 :=
  let c0_i32_41 : BitVec 32 := 0#32
  let c56_i32 : BitVec 32 := 56#32
  let v74 : BitVec 32 := Scalar.addi c0_i32_41 c56_i32
  let c1_i32_42 : BitVec 32 := 1#32
  ⟨c0_i32_41, v74, c1_i32_42⟩
def k0_mult2 (k0_t2 : Fin k0_t2_loop.trips) : BitVec 32 :=
  let c0_i32_41 : BitVec 32 := 0#32
  let c1_i32_42 : BitVec 32 := 1#32
  let arg16 : BitVec 32 := Scf.iv c0_i32_41 c1_i32_42 k0_t2
  let c16_i32_60 : BitVec 32 := 16#32
  let v109 : BitVec 32 := Scalar.muli arg16 c16_i32_60
  v109
def k0_off17 (k0_t2 : Fin k0_t2_loop.trips) : Fin 2 → Nat :=
  let c0_i32_41 : BitVec 32 := 0#32
  let c1_i32_42 : BitVec 32 := 1#32
  let arg16 : BitVec 32 := Scf.iv c0_i32_41 c1_i32_42 k0_t2
  let c16_i32_60 : BitVec 32 := 16#32
  let v109 : BitVec 32 := Scalar.muli arg16 c16_i32_60
  let v110 : BitVec 32 := v109
  let v111 : Index := Scalar.indexCast v110
  let c0_61 : Index := 0#32
  ![v111.toNat, 0]
def k0_off18 (k0_t2 : Fin k0_t2_loop.trips) : Fin 2 → Nat :=
  let c0_i32_41 : BitVec 32 := 0#32
  let c1_i32_42 : BitVec 32 := 1#32
  let arg16 : BitVec 32 := Scf.iv c0_i32_41 c1_i32_42 k0_t2
  let c16_i32_60 : BitVec 32 := 16#32
  let v109 : BitVec 32 := Scalar.muli arg16 c16_i32_60
  let v110 : BitVec 32 := v109
  let v168 : Index := Scalar.indexCast v110
  let c0_71 : Index := 0#32
  ![v168.toNat, 0]
def k0_off19 (k0_t1 : Fin k0_t1_loop.trips) : Fin 4 → Nat :=
  let c0_45 : Index := 0#32
  let c0_46 : Index := 0#32
  let c0_47 : Index := 0#32
  let c0_i32_30 : BitVec 32 := 0#32
  let c1_i32_31 : BitVec 32 := 1#32
  let arg15 : BitVec 32 := Scf.iv c0_i32_30 c1_i32_31 k0_t1
  let c128_i32 : BitVec 32 := 128#32
  let v62 : BitVec 32 := Scalar.muli arg15 c128_i32
  let v63 : BitVec 32 := v62
  let v78 : Index := Scalar.indexCast v63
  ![0, 0, 0, v78.toNat]
@[reducible] def k0_t3_loop : Scf.Loop 32 :=
  let c0_i32_48 : BitVec 32 := 0#32
  let c56_i32_49 : BitVec 32 := 56#32
  let v83 : BitVec 32 := Scalar.addi c0_i32_48 c56_i32_49
  let c1_i32_50 : BitVec 32 := 1#32
  ⟨c0_i32_48, v83, c1_i32_50⟩
def k0_mult3 (k0_t3 : Fin k0_t3_loop.trips) : BitVec 32 :=
  let c0_i32_48 : BitVec 32 := 0#32
  let c1_i32_50 : BitVec 32 := 1#32
  let arg16 : BitVec 32 := Scf.iv c0_i32_48 c1_i32_50 k0_t3
  let c16_i32_60 : BitVec 32 := 16#32
  let v109 : BitVec 32 := Scalar.muli arg16 c16_i32_60
  v109
def k0_off20 (k0_t3 : Fin k0_t3_loop.trips) : Fin 2 → Nat :=
  let c0_i32_48 : BitVec 32 := 0#32
  let c1_i32_50 : BitVec 32 := 1#32
  let arg16 : BitVec 32 := Scf.iv c0_i32_48 c1_i32_50 k0_t3
  let c16_i32_60 : BitVec 32 := 16#32
  let v109 : BitVec 32 := Scalar.muli arg16 c16_i32_60
  let v110 : BitVec 32 := v109
  let v111 : Index := Scalar.indexCast v110
  let c0_61 : Index := 0#32
  ![v111.toNat, 0]
def k0_off21 (k0_t3 : Fin k0_t3_loop.trips) : Fin 2 → Nat :=
  let c0_i32_48 : BitVec 32 := 0#32
  let c1_i32_50 : BitVec 32 := 1#32
  let arg16 : BitVec 32 := Scf.iv c0_i32_48 c1_i32_50 k0_t3
  let c16_i32_60 : BitVec 32 := 16#32
  let v109 : BitVec 32 := Scalar.muli arg16 c16_i32_60
  let v110 : BitVec 32 := v109
  let v153 : Index := Scalar.indexCast v110
  let c0_70 : Index := 0#32
  ![v153.toNat, 0]
def k0_off22 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v88 : Index := Scalar.indexCast v9
  let c4 : Index := 4#32
  ![v88.toNat, 4]
def k0_off23 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v92 : Index := Scalar.indexCast v9
  let c6 : Index := 6#32
  ![v92.toNat, 6]
def k0_off24 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v96 : Index := Scalar.indexCast v9
  let c5 : Index := 5#32
  ![v96.toNat, 5]
def k0_off25 (k0_t1 : Fin k0_t1_loop.trips) : Fin 4 → Nat :=
  let c0_57 : Index := 0#32
  let c0_58 : Index := 0#32
  let c0_59 : Index := 0#32
  let c0_i32_30 : BitVec 32 := 0#32
  let c1_i32_31 : BitVec 32 := 1#32
  let arg15 : BitVec 32 := Scf.iv c0_i32_30 c1_i32_31 k0_t1
  let c128_i32 : BitVec 32 := 128#32
  let v62 : BitVec 32 := Scalar.muli arg15 c128_i32
  let v63 : BitVec 32 := v62
  let v105 : Index := Scalar.indexCast v63
  ![0, 0, 0, v105.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_3 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_4 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_5 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_6 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage0_0 : Fin 1 → Memref sig .tc .smem S16x8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x64x896 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64x896 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64x896 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64x896 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x896 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x896x16x64 : Shape := ⟨4, ![2, 896, 16, 64]⟩
abbrev S16 : Shape := ⟨1, ![16]⟩
abbrev S254 : Shape := ⟨1, ![254]⟩
abbrev S1x254 : Shape := ⟨2, ![1, 254]⟩
abbrev S_ : Shape := ⟨0, ![]⟩
abbrev S16x1 : Shape := ⟨2, ![16, 1]⟩
abbrev S16x254 : Shape := ⟨2, ![16, 254]⟩
abbrev S2x16x896x64 : Shape := ⟨4, ![2, 16, 896, 64]⟩
abbrev S2x16x896x896 : Shape := ⟨4, ![2, 16, 896, 896]⟩
abbrev S2x16x896 : Shape := ⟨3, ![2, 16, 896]⟩
abbrev S2x16x896x1 : Shape := ⟨4, ![2, 16, 896, 1]⟩
abbrev S1x16x1x1 : Shape := ⟨4, ![1, 16, 1, 1]⟩
abbrev S2x896x16 : Shape := ⟨3, ![2, 896, 16]⟩

abbrev nBuf : Space → Nat
  | .hbm => 233
  | .vmem => 0
  | .smem => 0
  | _ => 0

abbrev hbmTy0_0 (i : Nat) : BufTy := match i % 128 with
  | 0 => ⟨S2x896x16x64, .i8⟩
  | 1 => ⟨S2x896x16x64, .i8⟩
  | 2 => ⟨S2x896x16x64, .i8⟩
  | 3 => ⟨S16, .f32⟩
  | 4 => ⟨S16, .f32⟩
  | 5 => ⟨S16, .f32⟩
  | 6 => ⟨S16, .f32⟩
  | 7 => ⟨S254, .f32⟩
  | 8 => ⟨S1x254, .f32⟩
  | 9 => ⟨S254, .i32⟩
  | 10 => ⟨S1x254, .i32⟩
  | 11 => ⟨S254, .f32⟩
  | 12 => ⟨S1x254, .f32⟩
  | 13 => ⟨S254, .i32⟩
  | 14 => ⟨S1x254, .i32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S16, .i32⟩
  | 24 => ⟨S_, .f32⟩
  | 25 => ⟨S16, .f32⟩
  | 26 => ⟨S16, .f32⟩
  | 27 => ⟨S16, .f32⟩
  | 28 => ⟨S16, .i32⟩
  | 29 => ⟨S_, .f32⟩
  | 30 => ⟨S16, .f32⟩
  | 31 => ⟨S16, .f32⟩
  | 32 => ⟨S16, .f32⟩
  | 33 => ⟨S_, .f32⟩
  | 34 => ⟨S16, .f32⟩
  | 35 => ⟨S16, .f32⟩
  | 36 => ⟨S16, .f32⟩
  | 37 => ⟨S16, .i32⟩
  | 38 => ⟨S16, .i32⟩
  | 39 => ⟨S16, .i32⟩
  | 40 => ⟨S16, .f32⟩
  | 41 => ⟨S16x1, .f32⟩
  | 42 => ⟨S16x254, .f32⟩
  | 43 => ⟨S16x254, .f32⟩
  | 44 => ⟨S16x254, .f32⟩
  | 45 => ⟨S16x254, .f32⟩
  | 46 => ⟨S_, .f32⟩
  | 47 => ⟨S16x254, .f32⟩
  | 48 => ⟨S16x254, .i1⟩
  | 49 => ⟨S16x254, .f32⟩
  | 50 => ⟨S_, .f32⟩
  | 51 => ⟨S16x254, .f32⟩
  | 52 => ⟨S16x254, .i1⟩
  | 53 => ⟨S16x254, .i1⟩
  | 54 => ⟨S_, .f32⟩
  | 55 => ⟨S_, .f32⟩
  | 56 => ⟨S16x254, .f32⟩
  | 57 => ⟨S16x254, .f32⟩
  | 58 => ⟨S_, .f32⟩
  | 59 => ⟨S16, .f32⟩
  | 60 => ⟨S_, .f32⟩
  | 61 => ⟨S16, .f32⟩
  | 62 => ⟨S16, .f32⟩
  | 63 => ⟨S_, .i32⟩
  | 64 => ⟨S_, .i32⟩
  | 65 => ⟨S16x254, .i32⟩
  | 66 => ⟨S16x254, .i32⟩
  | 67 => ⟨S16x254, .i32⟩
  | 68 => ⟨S_, .i32⟩
  | 69 => ⟨S16, .i32⟩
  | 70 => ⟨S_, .i32⟩
  | 71 => ⟨S16, .i32⟩
  | 72 => ⟨S16, .i32⟩
  | 73 => ⟨S_, .i32⟩
  | 74 => ⟨S16, .i32⟩
  | 75 => ⟨S16, .i32⟩
  | 76 => ⟨S_, .f32⟩
  | 77 => ⟨S16, .f32⟩
  | 78 => ⟨S16, .f32⟩
  | 79 => ⟨S16, .f32⟩
  | 80 => ⟨S16x1, .f32⟩
  | 81 => ⟨S16x254, .f32⟩
  | 82 => ⟨S16x254, .f32⟩
  | 83 => ⟨S16x254, .f32⟩
  | 84 => ⟨S16x254, .f32⟩
  | 85 => ⟨S_, .f32⟩
  | 86 => ⟨S16x254, .f32⟩
  | 87 => ⟨S16x254, .i1⟩
  | 88 => ⟨S16x254, .f32⟩
  | 89 => ⟨S_, .f32⟩
  | 90 => ⟨S16x254, .f32⟩
  | 91 => ⟨S16x254, .i1⟩
  | 92 => ⟨S16x254, .i1⟩
  | 93 => ⟨S_, .f32⟩
  | 94 => ⟨S_, .f32⟩
  | 95 => ⟨S16x254, .f32⟩
  | 96 => ⟨S16x254, .f32⟩
  | 97 => ⟨S_, .f32⟩
  | 98 => ⟨S16, .f32⟩
  | 99 => ⟨S_, .f32⟩
  | 100 => ⟨S16, .f32⟩
  | 101 => ⟨S16, .f32⟩
  | 102 => ⟨S_, .i32⟩
  | 103 => ⟨S_, .i32⟩
  | 104 => ⟨S16x254, .i32⟩
  | 105 => ⟨S16x254, .i32⟩
  | 106 => ⟨S16x254, .i32⟩
  | 107 => ⟨S_, .i32⟩
  | 108 => ⟨S16, .i32⟩
  | 109 => ⟨S_, .f32⟩
  | 110 => ⟨S16, .f32⟩
  | 111 => ⟨S16, .f32⟩
  | 112 => ⟨S16, .f32⟩
  | 113 => ⟨S16, .i32⟩
  | 114 => ⟨S_, .i32⟩
  | 115 => ⟨S16, .i32⟩
  | 116 => ⟨S16, .i32⟩
  | 117 => ⟨S2x16x896x64, .i8⟩
  | 118 => ⟨S2x16x896x64, .i32⟩
  | 119 => ⟨S2x16x896x64, .f32⟩
  | 120 => ⟨S2x16x896x64, .bf16⟩
  | 121 => ⟨S2x16x896x64, .i8⟩
  | 122 => ⟨S2x16x896x64, .i32⟩
  | 123 => ⟨S2x16x896x64, .f32⟩
  | 124 => ⟨S2x16x896x64, .bf16⟩
  | 125 => ⟨S2x16x896x896, .f32⟩
  | 126 => ⟨S2x16x896x896, .i32⟩
  | 127 => ⟨S_, .i32⟩
  | _ => ⟨S2x896x16x64, .i8⟩

abbrev hbmTy0_1 (i : Nat) : BufTy := match i % 128 with
  | 0 => ⟨S2x16x896, .i32⟩
  | 1 => ⟨S2x16x896x1, .i32⟩
  | 2 => ⟨S2x16x896x896, .i32⟩
  | 3 => ⟨S2x16x896x896, .i32⟩
  | 4 => ⟨S1x16x1x1, .i32⟩
  | 5 => ⟨S2x16x896x896, .f32⟩
  | 6 => ⟨S1x16x1x1, .f32⟩
  | 7 => ⟨S2x16x896x896, .f32⟩
  | 8 => ⟨S2x16x896x896, .f32⟩
  | 9 => ⟨S2x16x896x896, .f32⟩
  | 10 => ⟨S2x16x896x896, .i32⟩
  | 11 => ⟨S2x16x896x896, .i32⟩
  | 12 => ⟨S2x16x896x896, .i32⟩
  | 13 => ⟨S2x16x896x896, .i32⟩
  | 14 => ⟨S2x16x896x896, .i32⟩
  | 15 => ⟨S2x16x896x896, .i1⟩
  | 16 => ⟨S2x16x896x896, .i32⟩
  | 17 => ⟨S2x16x896x896, .i32⟩
  | 18 => ⟨S_, .i32⟩
  | 19 => ⟨S2x16x896x896, .i32⟩
  | 20 => ⟨S2x16x896x896, .i1⟩
  | 21 => ⟨S2x16x896x896, .i32⟩
  | 22 => ⟨S2x16x896x896, .i32⟩
  | 23 => ⟨S2x16x896x896, .i32⟩
  | 24 => ⟨S2x16x896x896, .i32⟩
  | 25 => ⟨S1x16x1x1, .i32⟩
  | 26 => ⟨S2x16x896x896, .i32⟩
  | 27 => ⟨S2x16x896x896, .i32⟩
  | 28 => ⟨S2x16x896x896, .i32⟩
  | 29 => ⟨S1x16x1x1, .i32⟩
  | 30 => ⟨S2x16x896x896, .i32⟩
  | 31 => ⟨S2x16x896x896, .i32⟩
  | 32 => ⟨S1x16x1x1, .i32⟩
  | 33 => ⟨S2x16x896x896, .i32⟩
  | 34 => ⟨S2x16x896x896, .i32⟩
  | 35 => ⟨S2x16x896x896, .i32⟩
  | 36 => ⟨S1x16x1x1, .i32⟩
  | 37 => ⟨S2x16x896x896, .i32⟩
  | 38 => ⟨S2x16x896x896, .i32⟩
  | 39 => ⟨S1x16x1x1, .i32⟩
  | 40 => ⟨S2x16x896x896, .i32⟩
  | 41 => ⟨S2x16x896x896, .i32⟩
  | 42 => ⟨S_, .i32⟩
  | 43 => ⟨S2x16x896x896, .i32⟩
  | 44 => ⟨S2x16x896x896, .i32⟩
  | 45 => ⟨S2x16x896x896, .i32⟩
  | 46 => ⟨S_, .i32⟩
  | 47 => ⟨S2x16x896, .i32⟩
  | 48 => ⟨S_, .i32⟩
  | 49 => ⟨S2x16x896x896, .i32⟩
  | 50 => ⟨S2x16x896x896, .i32⟩
  | 51 => ⟨S2x16x896x1, .i32⟩
  | 52 => ⟨S2x16x896x896, .f32⟩
  | 53 => ⟨S2x16x896x1, .f32⟩
  | 54 => ⟨S2x16x896x896, .f32⟩
  | 55 => ⟨S2x16x896x896, .f32⟩
  | 56 => ⟨S2x16x896x896, .f32⟩
  | 57 => ⟨S2x16x896x896, .i32⟩
  | 58 => ⟨S2x16x896x896, .i32⟩
  | 59 => ⟨S2x16x896x896, .i32⟩
  | 60 => ⟨S2x16x896x896, .i32⟩
  | 61 => ⟨S2x16x896x896, .i32⟩
  | 62 => ⟨S2x16x896x896, .i1⟩
  | 63 => ⟨S2x16x896x896, .i32⟩
  | 64 => ⟨S2x16x896x896, .i32⟩
  | 65 => ⟨S_, .i32⟩
  | 66 => ⟨S2x16x896x896, .i32⟩
  | 67 => ⟨S2x16x896x896, .i1⟩
  | 68 => ⟨S2x16x896x896, .i32⟩
  | 69 => ⟨S2x16x896x896, .i32⟩
  | 70 => ⟨S2x16x896x896, .i8⟩
  | 71 => ⟨S2x16x896x896, .i32⟩
  | 72 => ⟨S2x16x896x896, .f32⟩
  | 73 => ⟨S2x16x896x896, .bf16⟩
  | 74 => ⟨S2x16x896x64, .i8⟩
  | 75 => ⟨S2x16x896x64, .i32⟩
  | 76 => ⟨S2x16x896x64, .f32⟩
  | 77 => ⟨S2x16x896x64, .bf16⟩
  | 78 => ⟨S2x16x896x64, .f32⟩
  | 79 => ⟨S2x16x896x64, .i32⟩
  | 80 => ⟨S1x16x1x1, .i32⟩
  | 81 => ⟨S1x16x1x1, .i32⟩
  | 82 => ⟨S_, .i32⟩
  | 83 => ⟨S1x16x1x1, .i32⟩
  | 84 => ⟨S1x16x1x1, .i32⟩
  | 85 => ⟨S_, .i32⟩
  | 86 => ⟨S1x16x1x1, .i32⟩
  | 87 => ⟨S1x16x1x1, .i32⟩
  | 88 => ⟨S2x16x896x64, .i32⟩
  | 89 => ⟨S2x16x896x64, .i32⟩
  | 90 => ⟨S2x16x896x64, .i32⟩
  | 91 => ⟨S2x16x896x64, .i32⟩
  | 92 => ⟨S2x16x896x64, .i32⟩
  | 93 => ⟨S2x16x896x64, .i32⟩
  | 94 => ⟨S_, .i32⟩
  | 95 => ⟨S_, .i32⟩
  | 96 => ⟨S_, .i32⟩
  | 97 => ⟨S2x16x896x64, .i32⟩
  | 98 => ⟨S2x16x896x64, .i32⟩
  | 99 => ⟨S_, .i32⟩
  | 100 => ⟨S2x16x896x64, .i32⟩
  | 101 => ⟨S2x16x896x64, .i32⟩
  | 102 => ⟨S2x16x896x64, .i8⟩
  | 103 => ⟨S2x896x16x64, .i8⟩
  | 104 => ⟨S2x896x16, .i32⟩
  | _ => ⟨S2x896x16x64, .i8⟩

abbrev hbmTy (i : Nat) : BufTy := match i / 128 with
  | 0 => hbmTy0_0 i
  | 1 => hbmTy0_1 i
  | _ => ⟨S2x896x16x64, .i8⟩

abbrev bufTy : (tb : Table) → Fin (tcTables nBuf tb) → BufTy
  | .hbm, ⟨i, _⟩ => hbmTy i
  | _, _ => ⟨S2x896x16x64, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_cst_3 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_call0_v0 : Ref sig .tc := ⟨.hbm, 55, rfl⟩
abbrev main_call0_v1 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_v39 : Ref sig .tc := ⟨.hbm, 62, rfl⟩
abbrev main_c_12 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v40 : Ref sig .tc := ⟨.hbm, 67, rfl⟩
abbrev main_c_13 : Ref sig .tc := ⟨.hbm, 68, rfl⟩
abbrev main_v41 : Ref sig .tc := ⟨.hbm, 69, rfl⟩
abbrev main_c_14 : Ref sig .tc := ⟨.hbm, 70, rfl⟩
abbrev main_v42 : Ref sig .tc := ⟨.hbm, 71, rfl⟩
abbrev main_v43 : Ref sig .tc := ⟨.hbm, 72, rfl⟩
abbrev main_c_15 : Ref sig .tc := ⟨.hbm, 73, rfl⟩
abbrev main_v44 : Ref sig .tc := ⟨.hbm, 74, rfl⟩
abbrev main_v45 : Ref sig .tc := ⟨.hbm, 75, rfl⟩
abbrev main_cst_16 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_17 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_18 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_19 : Ref sig .tc := ⟨.hbm, 93, rfl⟩
abbrev main_call2_v0 : Ref sig .tc := ⟨.hbm, 94, rfl⟩
abbrev main_call2_v1 : Ref sig .tc := ⟨.hbm, 95, rfl⟩
abbrev main_v60 : Ref sig .tc := ⟨.hbm, 96, rfl⟩
abbrev main_cst_20 : Ref sig .tc := ⟨.hbm, 97, rfl⟩
abbrev main_v61 : Ref sig .tc := ⟨.hbm, 98, rfl⟩
abbrev main_cst_21 : Ref sig .tc := ⟨.hbm, 99, rfl⟩
abbrev main_v62 : Ref sig .tc := ⟨.hbm, 100, rfl⟩
abbrev main_v63 : Ref sig .tc := ⟨.hbm, 101, rfl⟩
abbrev main_c_22 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_v64 : Ref sig .tc := ⟨.hbm, 106, rfl⟩
abbrev main_c_23 : Ref sig .tc := ⟨.hbm, 107, rfl⟩
abbrev main_v65 : Ref sig .tc := ⟨.hbm, 108, rfl⟩
abbrev main_cst_24 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_c_25 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_c_26 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_c_27 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_c_28 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_c_29 : Ref sig .tc := ⟨.hbm, 174, rfl⟩
abbrev main_v126 : Ref sig .tc := ⟨.hbm, 175, rfl⟩
abbrev main_c_30 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_c_31 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_c_32 : Ref sig .tc := ⟨.hbm, 210, rfl⟩
abbrev main_v159 : Ref sig .tc := ⟨.hbm, 211, rfl⟩
abbrev main_v160 : Ref sig .tc := ⟨.hbm, 212, rfl⟩
abbrev main_c_33 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_c_34 : Ref sig .tc := ⟨.hbm, 222, rfl⟩
abbrev main_c_35 : Ref sig .tc := ⟨.hbm, 223, rfl⟩
abbrev main_call5_v0 : Ref sig .tc := ⟨.hbm, 224, rfl⟩
abbrev main_call5_v1 : Ref sig .tc := ⟨.hbm, 225, rfl⟩
abbrev main_call5_v2 : Ref sig .tc := ⟨.hbm, 226, rfl⟩
abbrev main_call5_v3 : Ref sig .tc := ⟨.hbm, 227, rfl⟩
abbrev main_call5_v4 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩

abbrev nD : Nat := 1
abbrev τ : Topo := Topo.v7x

variable {F : FTy → Type} [FloatOps F]
-- ==== Proof.Rolled.lean ====
/-
  The kernel's fast branch written with its repetitions as recursions: the same memory operations in the same
  order over the same pure terms, at a tile of any width.
-/
module

public import proofs.«01_k».proof.Proof.Gen.KernelIdeal
public import Idealize.ShloMosaic.Init

@[expose] public section

noncomputable section

namespace Cert.Proof.KernelIdeal

open Cert.KernelIdeal Cert.KernelIdeal.Gen
open Idealize.ShloMosaic Idealize.ShloMosaic.TcCoe
open Idealize.SL.Sem

variable {F : FTy → Type} [FloatOps F]

/-- The shapes of a tile of `w` queries. -/
abbrev SA (w : ℕ) : Shape := ⟨2, ![896, w]⟩
abbrev S8 (w : ℕ) : Shape := ⟨2, ![8, w]⟩
abbrev SR (w : ℕ) : Shape := ⟨2, ![16, w]⟩
abbrev S1 (w : ℕ) : Shape := ⟨2, ![1, w]⟩
abbrev SV (w : ℕ) : Shape := ⟨1, ![w]⟩
abbrev SQ (w : ℕ) : Shape := ⟨2, ![128, w]⟩
abbrev SO (w : ℕ) : Shape := ⟨2, ![64, w]⟩
abbrev SO4 (w : ℕ) : Shape := ⟨4, ![1, 1, 64, w]⟩
abbrev SS4 (w : ℕ) : Shape := ⟨4, ![1, 1, 1, w]⟩

/-- The side conditions of the operations at a tile of `w` queries from query `st` on. -/
structure TileOk (w st : ℕ) : Prop where
  inbQ : ∀ a, (![0, st] : Fin 2 → Nat) a + (SQ w).size a ≤ S128x896.size a
  inbB : ∀ a, (![64, st] : Fin 2 → Nat) a + (SR w).size a ≤ S128x896.size a
  inbA : ∀ a, (![0, 0] : Fin 2 → Nat) a + (SA w).size a ≤ S896x256.size a
  inb8 : ∀ i < 112, ∀ a, (![8 * i, 0] : Fin 2 → Nat) a + (S8 w).size a ≤ S896x256.size a
  inb16 : ∀ i < 56, ∀ a, (![16 * i, 0] : Fin 2 → Nat) a + (SR w).size a ≤ S896x256.size a
  inbS : ∀ a, (![0, 0, 0, st] : Fin 4 → Nat) a + (SS4 w).size a ≤ S1x1x1x896.size a
  inbO : ∀ a, (![0, 0, 0, st] : Fin 4 → Nat) a + (SO4 w).size a ≤ S1x1x64x896.size a
  posQ : 0 < (SQ w).numel
  posR : 0 < (SR w).numel
  posA : 0 < (SA w).numel
  pos8 : 0 < (S8 w).numel
  posS : 0 < (SS4 w).numel
  posO : 0 < (SO4 w).numel
  dotKQ : DotDims.WF S896x128 (SQ w) (SA w) [1] [0] [0] [1] [] []
  dotVP : DotDims.WF S64x896 (SA w) (SO w) [1] [0] [0] [1] [] []
  slice : ∀ i < 112, (SA w).Slices ![8 * i, 0] (S8 w)
  red : (S8 w).Reduces [0] (SV w)
  castV : (SV w).ShapeCasts (S1 w)
  cast1 : (S1 w).ShapeCasts (S1 w)
  castR : (SR w).ShapeCasts (SR w)
  castA : (SA w).ShapeCasts (SA w)
  cast8 : (S8 w).ShapeCasts (S8 w)
  castS : (S1 w).ShapeCasts (SS4 w)
  castO : (SO w).ShapeCasts (SO4 w)
  iotaR : (SR w).Iotas .tc 32 [0]
  bc16 : (S1 w).Broadcasts (SR w)
  bc8 : (S1 w).Broadcasts (S8 w)
  cat : Shape.Concatenates [S8 w, S8 w] (SR w) 0
  packB : S128x896.PackedRowsAt (EltTy.packing .bf16) ![64, st] (SR w).size (fun _ => 1)
  pack16 : ∀ i < 56, S896x256.PackedRowsAt (EltTy.packing .bf16) ![16 * i, 0] (SR w).size (fun _ => 1)
  packO : S1x1x64x896.PackedRowsAt (EltTy.packing .i8) ![0, 0, 0, st] (SO4 w).size (fun _ => 1)

section
variable {w st : ℕ} (T : TileOk w st)

def dKQ : DotDims S896x128 (SQ w) (SA w) where
  lhsContracting := [1]
  rhsContracting := [0]
  lhsNonContracting := [0]
  rhsNonContracting := [1]
  lhsBatch := []
  rhsBatch := []
  wf := T.dotKQ

def dVP : DotDims S64x896 (SA w) (SO w) where
  lhsContracting := [1]
  rhsContracting := [0]
  lhsNonContracting := [0]
  rhsNonContracting := [1]
  lhsBatch := []
  rhsBatch := []
  wf := T.dotVP

/-- The scores' product. -/
def scores (x : Vec F S896x128 .bf16) (y : Vec F (SQ w) .bf16) : FVec F (SA w) .f32 :=
  matmul (dKQ T) none x y (constant (SA w) .f32 0x00000000#32)

/-- The running maximum of the scores' groups of eight rows, up to group `n`. -/
def maxFold (s : FVec F (SA w) .f32) : (n : ℕ) → (h : n < 112) → FVec F (S8 w) .f32
  | 0, h => extractStridedSlice (S8 w) ![8 * 0, 0] s (T.slice 0 h)
  | n + 1, h => maximumf (maxFold s n (Nat.lt_of_succ_lt h)) (extractStridedSlice (S8 w) ![8 * (n + 1), 0] s (T.slice (n + 1) h))

/-- The negated shift of every query. -/
def betaV (s : FVec F (SA w) .f32) (bias : F .f32) : FVec F (S1 w) .f32 :=
  subf (broadcast (S1 w) (Scalar.ofBits .f32 0x00000000#32))
    (addf (shapeCast (S1 w) (multiReduction .maximumf [0] (SV w) (maxFold T s 111 (by omega)) 0xFF800000#32 T.red (.inl rfl) rfl) T.castV)
      (broadcast (S1 w) bias))

/-- The shift's three parts as the rows of the augmented queries. -/
def biasRows (beta : FVec F (S1 w) .f32) : FVec F (SR w) .bf16 :=
  let b1 : FVec F (S1 w) .f32 := extf .f32 (truncf .bf16 beta bitsLt_bf16_f32) bitsLt_bf16_f32
  let b2 : FVec F (S1 w) .f32 := extf .f32 (truncf .bf16 (subf beta b1) bitsLt_bf16_f32) bitsLt_bf16_f32
  let b3 : FVec F (S1 w) .f32 := subf (subf beta b1) b2
  let io : IVec (SR w) 32 := iota .tc (SR w) 32 [0] T.iotaR
  let e0 : IVec (SR w) 1 := cmpi .eq io (broadcast (SR w) 0#32)
  let e1 : IVec (SR w) 1 := cmpi .eq io (broadcast (SR w) 1#32)
  let e2 : IVec (SR w) 1 := cmpi .eq io (broadcast (SR w) 2#32)
  let z : F .f32 := Scalar.ofBits .f32 0x00000000#32
  let r3 : FVec F (SR w) .f32 := select e2 (broadcastTo (SR w) (shapeCast (S1 w) b3 T.cast1) T.bc16) (broadcast (SR w) z)
  let r2 : FVec F (SR w) .f32 := select e1 (broadcastTo (SR w) (shapeCast (S1 w) b2 T.cast1) T.bc16) r3
  let r1 : FVec F (SR w) .f32 := select e0 (broadcastTo (SR w) (shapeCast (S1 w) b1 T.cast1) T.bc16) r2
  truncf .bf16 r1 bitsLt_bf16_f32

/-- One group's exponentials. -/
def expV (u : Vec F (S8 w) .f32) (ln2 inv cb cc : F .f32) : FVec F (S8 w) .f32 :=
  let zc : FVec F (S8 w) .f32 := ceil (mulf u (broadcast (S8 w) inv))
  let x : FVec F (S8 w) .f32 := addf (subf u (mulf zc (broadcast (S8 w) ln2))) (broadcast (S8 w) cb)
  floor (mulf (addf (mulf x x) (broadcast (S8 w) cc)) (exp2 zc))

/-- The row sums of a tile from the running sum of its groups. -/
def totalV (acc : FVec F (S8 w) .f32) : IVec (S1 w) 32 :=
  shapeCast (S1 w) (multiReductionI .add [0] (SV w) (fptosi 32 acc) 0#32 T.red rfl) T.castV

/-- The row sums on eight rows. -/
def total8 (t : IVec (S1 w) 32) : IVec (S8 w) 32 := broadcastTo (S8 w) (shapeCast (S1 w) t T.cast1) T.bc8

/-- The reciprocal of the row sums. -/
def invV (t8 : IVec (S8 w) 32) : FVec F (S8 w) .f32 :=
  divf (broadcast (S8 w) (Scalar.ofBits .f32 0x3F800000#32)) (sitofp .f32 t8)

/-- The leading part of 255 over the row sum. -/
def hiV (t8 : IVec (S8 w) 32) : FVec F (S8 w) .f32 :=
  extf .f32 (truncf .bf16 (mulf (broadcast (S8 w) (Scalar.ofBits .f32 0x437F0000#32)) (invV t8)) bitsLt_bf16_f32) bitsLt_bf16_f32

/-- The remaining part. -/
def loV (t8 : IVec (S8 w) 32) : FVec F (S8 w) .f32 :=
  let hi : FVec F (S8 w) .f32 := hiV t8
  let rhi : IVec (S8 w) 32 := shli (shrsi t8 (broadcast (S8 w) 12#32)) (broadcast (S8 w) 12#32)
  let rlo : IVec (S8 w) 32 := subi t8 rhi
  let rest : FVec F (S8 w) .f32 := subf (subf (broadcast (S8 w) (Scalar.ofBits .f32 0x437F0000#32)) (mulf (sitofp .f32 rhi) hi)) (mulf (sitofp .f32 rlo) hi)
  subf (mulf rest (invV t8)) (mulf hi (broadcast (S8 w) (Scalar.ofBits .f32 0x32000000#32)))

/-- Two groups' probabilities. -/
def probV (hi lo : FVec F (S8 w) .f32) (ea eb : Vec F (S8 w) .f32) : FVec F (SR w) .bf16 :=
  truncf .bf16 (concatenate (SR w) 0 [⟨S8 w, floor (addf (mulf ea hi) (mulf ea lo))⟩, ⟨S8 w, floor (addf (mulf eb hi) (mulf eb lo))⟩] T.cat) bitsLt_bf16_f32

/-- The product with the values. -/
def outs (v : Vec F S64x896 .bf16) (p : Vec F (SA w) .bf16) : FVec F (SO w) .f32 :=
  matmul (dVP T) none v p (constant (SO w) .f32 0x00000000#32)

/-- The requantised outputs of a tile. -/
def quantV (o : FVec F (SO w) .f32) (mult half shift : Elt F .i32) : IVec (SO w) 8 :=
  trunci 8 (minsi (broadcast (SO w) 127#32) (maxsi (broadcast (SO w) (-127#32))
    (shrsi (addi (muli (fptosi 32 o) (broadcast (SO w) mult)) (broadcast (SO w) half)) (broadcast (SO w) shift)))) natLt_8_32

end

section
variable {w st : ℕ} (T : TileOk w st)

/-- One group of the exponential pass. -/
def expStep (arg11 arg12 : Memref sig .tc .vmem S896x256 .f32) (ln2 inv cb cc : F .f32) (i : ℕ) (h : i < 112) (acc : FVec F (S8 w) .f32) :
    Prog (TpuEff nD τ sig (Elt F) Λ₀ .tc) (FVec F (S8 w) .f32) := do
  let u : Vec F (S8 w) .f32 ← Prog.lift (.load arg11 (Rect.unit (s := S896x256) ![8 * i, 0] (S8 w).size (T.inb8 i h)).toLoadRect (View.loadsAt_vmem T.pos8))
  let _d : Vec F (S8 w) .f32 ← Prog.lift (.load arg12 (Rect.unit (s := S896x256) ![8 * i, 0] (S8 w).size (T.inb8 i h)).toLoadRect (View.loadsAt_vmem T.pos8))
  Prog.lift (.store arg12 (Rect.unit (s := S896x256) ![8 * i, 0] (S8 w).size (T.inb8 i h)) (shapeCast (S8 w) (expV u ln2 inv cb cc) T.cast8) Finset.univ (View.stores_vmem_bits_univ T.pos8 rfl) (.inl rfl))
  pure (addf acc (expV u ln2 inv cb cc))

/-- The exponential pass from group `i` on, `n` groups. -/
def expFrom (arg11 arg12 : Memref sig .tc .vmem S896x256 .f32) (ln2 inv cb cc : F .f32) : (n i : ℕ) → (h : i + n = 112) → FVec F (S8 w) .f32 →
    Prog (TpuEff nD τ sig (Elt F) Λ₀ .tc) (FVec F (S8 w) .f32)
  | 0, _, _, acc => pure acc
  | n + 1, i, h, acc => do
    let acc' ← expStep T arg11 arg12 ln2 inv cb cc i (by omega) acc
    expFrom arg11 arg12 ln2 inv cb cc n (i + 1) (by omega) acc'

/-- One pair of groups of the probability pass. -/
def probStep (arg12 : Memref sig .tc .vmem S896x256 .f32) (arg13 : Memref sig .tc .vmem S896x256 .bf16) (harg13 : arg13.IsWhole)
    (hi lo : FVec F (S8 w) .f32) (i : ℕ) (h : i < 56) : Prog (TpuEff nD τ sig (Elt F) Λ₀ .tc) PUnit := do
  let a : Vec F (S8 w) .f32 ← Prog.lift (.load arg12 (Rect.unit (s := S896x256) ![8 * (2 * i), 0] (S8 w).size (T.inb8 (2 * i) (by omega))).toLoadRect (View.loadsAt_vmem T.pos8))
  let b : Vec F (S8 w) .f32 ← Prog.lift (.load arg12 (Rect.unit (s := S896x256) ![8 * (2 * i + 1), 0] (S8 w).size (T.inb8 (2 * i + 1) (by omega))).toLoadRect (View.loadsAt_vmem T.pos8))
  let _d : Vec F (SR w) .bf16 ← Prog.lift (.load arg13 (Rect.unit (s := S896x256) ![16 * i, 0] (SR w).size (T.inb16 i h)).toLoadRect (View.loadsAt_vmem T.posR))
  Prog.lift (.store arg13 (Rect.unit (s := S896x256) ![16 * i, 0] (SR w).size (T.inb16 i h)) (shapeCast (SR w) (probV T hi lo a b) T.castR) Finset.univ (View.stores_vmem T.posR (harg13.storeExact_slice rfl _ (T.pack16 i h)) (fun _ => rfl)) (.inl rfl))

/-- The probability pass from pair `i` on, `n` pairs. -/
def probFrom (arg12 : Memref sig .tc .vmem S896x256 .f32) (arg13 : Memref sig .tc .vmem S896x256 .bf16) (harg13 : arg13.IsWhole)
    (hi lo : FVec F (S8 w) .f32) : (n i : ℕ) → (h : i + n = 56) → Prog (TpuEff nD τ sig (Elt F) Λ₀ .tc) PUnit
  | 0, _, _ => pure ⟨⟩
  | n + 1, i, h => do
    probStep T arg12 arg13 harg13 hi lo i (by omega)
    probFrom arg12 arg13 harg13 hi lo n (i + 1) (by omega)

/-- One tile of queries. -/
def tile (i : grid0.Coords) (arg1 : Memref sig .tc .smem S16x8 .i32) (arg6 : Memref sig .tc .vmem S1x1x64x896 .i8) (harg6 : arg6.IsWhole)
    (arg7 : Memref sig .tc .vmem S1x1x1x896 .i32) (arg8 : Memref sig .tc .vmem S896x128 .bf16)
    (arg9 : Memref sig .tc .vmem S128x896 .bf16) (harg9 : arg9.IsWhole) (arg10 : Memref sig .tc .vmem S64x896 .bf16)
    (arg11 arg12 : Memref sig .tc .vmem S896x256 .f32) (arg13 : Memref sig .tc .vmem S896x256 .bf16) (harg13 : arg13.IsWhole)
    (ln2 inv cb cc bias : F .f32) : Prog (TpuEff nD τ sig (Elt F) Λ₀ .tc) PUnit := do
  let ka : Vec F S896x128 .bf16 ← Prog.lift (.load arg8 (Rect.unit (s := S896x128) ![0, 0] S896x128.size inb_S896x128_S896x128_0_0).toLoadRect (View.loadsAt_vmem h_S896x128))
  let qa : Vec F (SQ w) .bf16 ← Prog.lift (.load arg9 (Rect.unit (s := S128x896) ![0, st] (SQ w).size T.inbQ).toLoadRect (View.loadsAt_vmem T.posQ))
  let _d : Vec F (SR w) .bf16 ← Prog.lift (.load arg9 (Rect.unit (s := S128x896) ![64, st] (SR w).size T.inbB).toLoadRect (View.loadsAt_vmem T.posR))
  Prog.lift (.store arg9 (Rect.unit (s := S128x896) ![64, st] (SR w).size T.inbB) (shapeCast (SR w) (biasRows T (betaV T (scores T ka qa) bias)) T.castR) Finset.univ (View.stores_vmem T.posR (harg9.storeExact_slice rfl _ T.packB) (fun _ => rfl)) (.inl rfl))
  let kb : Vec F S896x128 .bf16 ← Prog.lift (.load arg8 (Rect.unit (s := S896x128) ![0, 0] S896x128.size inb_S896x128_S896x128_0_0).toLoadRect (View.loadsAt_vmem h_S896x128))
  let qb : Vec F (SQ w) .bf16 ← Prog.lift (.load arg9 (Rect.unit (s := S128x896) ![0, st] (SQ w).size T.inbQ).toLoadRect (View.loadsAt_vmem T.posQ))
  let _d : Vec F (SA w) .f32 ← Prog.lift (.load arg11 (Rect.unit (s := S896x256) ![0, 0] (SA w).size T.inbA).toLoadRect (View.loadsAt_vmem T.posA))
  Prog.lift (.store arg11 (Rect.unit (s := S896x256) ![0, 0] (SA w).size T.inbA) (shapeCast (SA w) (scores T kb qb) T.castA) Finset.univ (View.stores_vmem_bits_univ T.posA rfl) (.inl rfl))
  let acc ← expFrom T arg11 arg12 ln2 inv cb cc 112 0 rfl (broadcast (S8 w) (Scalar.ofBits .f32 0x00000000#32))
  let _d : Vec F (SS4 w) .i32 ← Prog.lift (.load arg7 (Rect.unit (s := S1x1x1x896) ![0, 0, 0, st] (SS4 w).size T.inbS).toLoadRect (View.loadsAt_vmem T.posS))
  Prog.lift (.store arg7 (Rect.unit (s := S1x1x1x896) ![0, 0, 0, st] (SS4 w).size T.inbS) (shapeCast (SS4 w) (totalV T acc) T.castS) Finset.univ (View.stores_vmem_bits_univ T.posS rfl) (.inl rfl))
  probFrom T arg12 arg13 harg13 (hiV (total8 T (totalV T acc))) (loV (total8 T (totalV T acc))) 56 0 rfl
  let vb : Vec F S64x896 .bf16 ← Prog.lift (.load arg10 (Rect.unit (s := S64x896) ![0, 0] S64x896.size inb_S64x896_S64x896_0_0).toLoadRect (View.loadsAt_vmem h_S64x896))
  let pb : Vec F (SA w) .bf16 ← Prog.lift (.load arg13 (Rect.unit (s := S896x256) ![0, 0] (SA w).size T.inbA).toLoadRect (View.loadsAt_vmem T.posA))
  let mult : Elt F .i32 ← smemLoad arg1 (Rect.unit (s := S16x8) (k0_off7 i) S1x1.size (k0_off7_inb i)) numel1_S1x1 rfl
  let half : Elt F .i32 ← smemLoad arg1 (Rect.unit (s := S16x8) (k0_off8 i) S1x1.size (k0_off8_inb i)) numel1_S1x1 rfl
  let shift : Elt F .i32 ← smemLoad arg1 (Rect.unit (s := S16x8) (k0_off9 i) S1x1.size (k0_off9_inb i)) numel1_S1x1 rfl
  let _d : Vec F (SO4 w) .i8 ← Prog.lift (.load arg6 (Rect.unit (s := S1x1x64x896) ![0, 0, 0, st] (SO4 w).size T.inbO).toLoadRect (View.loadsAt_vmem T.posO))
  Prog.lift (.store arg6 (Rect.unit (s := S1x1x64x896) ![0, 0, 0, st] (SO4 w).size T.inbO) (shapeCast (SO4 w) (quantV (outs T vb pb) mult half shift) T.castO) Finset.univ (View.stores_vmem T.posO (harg6.storeExact_slice rfl _ T.packO) (fun _ => rfl)) (.inl rfl))

end

/-- The side conditions hold at the four tiles. -/
theorem ok0 : TileOk 256 0 := by constructor <;> decide +kernel
theorem ok1 : TileOk 256 256 := by constructor <;> decide +kernel
theorem ok2 : TileOk 256 512 := by constructor <;> decide +kernel
theorem ok3 : TileOk 128 768 := by constructor <;> decide +kernel

/-- The fast branch: its scalars, then the four tiles. -/
def fast (i : grid0.Coords) (arg1 : Memref sig .tc .smem S16x8 .i32) (arg2 : Memref sig .tc .smem S16x5 .f32) (arg6 : Memref sig .tc .vmem S1x1x64x896 .i8) (harg6 : arg6.IsWhole)
    (arg7 : Memref sig .tc .vmem S1x1x1x896 .i32) (arg8 : Memref sig .tc .vmem S896x128 .bf16)
    (arg9 : Memref sig .tc .vmem S128x896 .bf16) (harg9 : arg9.IsWhole) (arg10 : Memref sig .tc .vmem S64x896 .bf16)
    (arg11 arg12 : Memref sig .tc .vmem S896x256 .f32) (arg13 : Memref sig .tc .vmem S896x256 .bf16) (harg13 : arg13.IsWhole) :
    Prog (TpuEff nD τ sig (Elt F) Λ₀ .tc) PUnit := do
  let ln2 : Elt F .f32 ← smemLoad arg2 (Rect.unit (s := S16x5) (k0_off2 i) S1x1.size (k0_off2_inb i)) numel1_S1x1 rfl
  let inv : Elt F .f32 ← smemLoad arg2 (Rect.unit (s := S16x5) (k0_off3 i) S1x1.size (k0_off3_inb i)) numel1_S1x1 rfl
  let cb : Elt F .f32 ← smemLoad arg2 (Rect.unit (s := S16x5) (k0_off4 i) S1x1.size (k0_off4_inb i)) numel1_S1x1 rfl
  let cc : Elt F .f32 ← smemLoad arg2 (Rect.unit (s := S16x5) (k0_off5 i) S1x1.size (k0_off5_inb i)) numel1_S1x1 rfl
  let bias : Elt F .f32 ← smemLoad arg2 (Rect.unit (s := S16x5) (k0_off6 i) S1x1.size (k0_off6_inb i)) numel1_S1x1 rfl
  tile ok0 i arg1 arg6 harg6 arg7 arg8 arg9 harg9 arg10 arg11 arg12 arg13 harg13 ln2 inv cb cc bias
  tile ok1 i arg1 arg6 harg6 arg7 arg8 arg9 harg9 arg10 arg11 arg12 arg13 harg13 ln2 inv cb cc bias
  tile ok2 i arg1 arg6 harg6 arg7 arg8 arg9 harg9 arg10 arg11 arg12 arg13 harg13 ln2 inv cb cc bias
  tile ok3 i arg1 arg6 harg6 arg7 arg8 arg9 harg9 arg10 arg11 arg12 arg13 harg13 ln2 inv cb cc bias
  pure ⟨⟩

end Cert.Proof.KernelIdeal

end
-- ==== Proof.Cells.lean ====
/-
  The memory one grid point works on, as values. `Refs` names the fourteen buffers, `Cells` what they hold, `heap` says
  that they are held at those contents, and `Runs p σ σ' x` that the program `p` takes the contents `σ` to `σ'` and
  returns `x`. A load reads a window of a buffer's contents, a store puts its payload over one.
-/
module

public import proofs.«01_k».proof.Proof.Gen.KernelIdeal
public import Idealize.ShloMosaic.Lib.Tactic
public import Idealize.ShloMosaic.Lib.VecWindow

@[expose] public section

noncomputable section

namespace Cert.Proof.KernelIdeal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipeline's cells. -/
abbrev UR : Type := URounds (GSem nD τ sig) Unit

local notation "𝕄" => MT nD τ sig Unit (Elt F) ℕ UR ℕ

/-- The buffers of one grid point. -/
structure Refs where
  a1 : Memref sig .tc .smem S16x8 .i32
  h1 : a1.IsWhole
  a2 : Memref sig .tc .smem S16x5 .f32
  h2 : a2.IsWhole
  a3 : Memref sig .tc .vmem S1x1x64x896 .i8
  h3 : a3.IsWhole
  a4 : Memref sig .tc .vmem S1x1x64x896 .i8
  h4 : a4.IsWhole
  a5 : Memref sig .tc .vmem S1x1x64x896 .i8
  h5 : a5.IsWhole
  a6 : Memref sig .tc .vmem S1x1x64x896 .i8
  h6 : a6.IsWhole
  a7 : Memref sig .tc .vmem S1x1x1x896 .i32
  h7 : a7.IsWhole
  a8 : Memref sig .tc .vmem S896x128 .bf16
  h8 : a8.IsWhole
  a9 : Memref sig .tc .vmem S128x896 .bf16
  h9 : a9.IsWhole
  a10 : Memref sig .tc .vmem S64x896 .bf16
  h10 : a10.IsWhole
  a11 : Memref sig .tc .vmem S896x256 .f32
  h11 : a11.IsWhole
  a12 : Memref sig .tc .vmem S896x256 .f32
  h12 : a12.IsWhole
  a13 : Memref sig .tc .vmem S896x256 .bf16
  h13 : a13.IsWhole
  a14 : Memref sig .tc .vmem S896x128 .i32
  h14 : a14.IsWhole

/-- What they hold. -/
structure Cells (F : FTy → Type) where
  x1 : Vec F S16x8 .i32
  x2 : Vec F S16x5 .f32
  x3 : Vec F S1x1x64x896 .i8
  x4 : Vec F S1x1x64x896 .i8
  x5 : Vec F S1x1x64x896 .i8
  x6 : Vec F S1x1x64x896 .i8
  x7 : Vec F S1x1x1x896 .i32
  x8 : Vec F S896x128 .bf16
  x9 : Vec F S128x896 .bf16
  x10 : Vec F S64x896 .bf16
  x11 : Vec F S896x256 .f32
  x12 : Vec F S896x256 .f32
  x13 : Vec F S896x256 .bf16
  x14 : Vec F S896x128 .i32

variable (c : Dev nD) (A : Refs)

/-- The fourteen buffers held at `σ`. -/
def heap (σ : Cells F) : sProp 𝕄 :=
  iprop(owns (c : Thread nD τ) A.a1 fullShare σ.x1 ∗ owns (c : Thread nD τ) A.a2 fullShare σ.x2
    ∗ owns (c : Thread nD τ) A.a3 fullShare σ.x3 ∗ owns (c : Thread nD τ) A.a4 fullShare σ.x4
    ∗ owns (c : Thread nD τ) A.a5 fullShare σ.x5 ∗ owns (c : Thread nD τ) A.a6 fullShare σ.x6
    ∗ owns (c : Thread nD τ) A.a7 fullShare σ.x7 ∗ owns (c : Thread nD τ) A.a8 fullShare σ.x8
    ∗ owns (c : Thread nD τ) A.a9 fullShare σ.x9 ∗ owns (c : Thread nD τ) A.a10 fullShare σ.x10
    ∗ owns (c : Thread nD τ) A.a11 fullShare σ.x11 ∗ owns (c : Thread nD τ) A.a12 fullShare σ.x12
    ∗ owns (c : Thread nD τ) A.a13 fullShare σ.x13 ∗ owns (c : Thread nD τ) A.a14 fullShare σ.x14)

/-- One buffer of the heap: its contents, their replacement, and that it can be taken out and put back. -/
structure Cell {sp : CoreSpace} {s : Shape} {e : EltTy} (m : Memref sig .tc sp s e) where
  get : Cells F → (s.Idx → Elt F e)
  set : Cells F → (s.Idx → Elt F e) → Cells F
  same : ∀ σ, set σ (get σ) = σ
  focus : ∀ σ : Cells F, (heap c A σ : sProp 𝕄) ⊢ iprop(owns (c : Thread nD τ) m fullShare (get σ) ∗ ∀ X, owns (c : Thread nD τ) m fullShare X -∗ heap c A (set σ X))

/-- `p` takes the contents `σ` to `σ'` and returns `x`, whatever runs next. -/
def Runs {α : Type} (p : Prog (TpuEff nD τ sig (Elt F) Λ₀ .tc) α) (σ σ' : Cells F) (x : α) : Prop :=
  ∀ (E : Set ℕ) {β : Type} (k : α → Prog (TpuEff nD τ sig (Elt F) Λ₀ .tc) β) (Q : β → sProp 𝕄),
    (heap c A σ : sProp 𝕄) ⊢ iprop((heap c A σ' -∗ wp frame (wpE (defs₀ (F := F)) Variants.none (c : Thread nD τ) none) E (k x) Q)
      -∗ wp frame (wpE (defs₀ (F := F)) Variants.none (c : Thread nD τ) none) E (p >>= k) Q)

section rules
variable {c A}

theorem Runs.pure {α : Type} {σ : Cells F} {x : α} : Runs (F := F) c A (Pure.pure x) σ σ x := by
  intro E β k Q
  iintro H Hk
  iapply Hk; iexact H

theorem Runs.bind {α β : Type} {p : Prog (TpuEff nD τ sig (Elt F) Λ₀ .tc) α} {q : α → Prog (TpuEff nD τ sig (Elt F) Λ₀ .tc) β}
    {σ σ1 σ2 : Cells F} {x : α} {y : β} (hp : Runs c A p σ σ1 x) (hq : Runs c A (q x) σ1 σ2 y) : Runs c A (p >>= q) σ σ2 y := by
  intro E γ k Q
  rw [bind_assoc]
  iintro H Hk
  iapply (hp E _ Q) $$ [H]
  · iexact H
  · iintro H
    iapply (hq E k Q) $$ [H]
    · iexact H
    · iexact Hk

theorem Runs.load {sp : CoreSpace} {s : Shape} {e : EltTy} {m : Memref sig .tc sp s e} (C : Cell (F := F) c A m) {off size : Fin s.rank → ℕ}
    {inb : ∀ a, off a + size a ≤ s.size a} {hl : m.view.LoadsAt (Rect.unit off size inb).toLoadRect} {σ : Cells F} :
    Runs c A (Prog.lift (.load m (Rect.unit off size inb).toLoadRect hl)) σ σ (VecWindow.window (C.get σ) off size inb) := by
  intro E β k Q
  refine (C.focus σ).trans ?_
  have hS : m.view.setOn (Rect.unit off size inb).toLoadRect.set ⊆ m.view.set := m.view.setOn_subset_set _
  change _ ⊢ iprop((_ -∗ _) -∗ wp frame (wpE (defs₀ (F := F)) Variants.none (c : Thread nD τ) none) E (.op (.load m (Rect.unit off size inb).toLoadRect hl) k) Q)
  iintro ⟨H, Hb⟩ Hk
  ihave H' := (show owns (c : Thread nD τ) m fullShare (C.get σ) ⊢ iprop(∃ f, ⌜m.view.read (Elt F) f = C.get σ⌝ ∗ (m.view.loc (c : Thread nD τ) ↦[m.view.set]{fullShare} f : sProp 𝕄)) from .rfl) $$ H
  icases H' with ⟨%f, %hf, H⟩
  iapply (wp_load (Val := Elt F) (defs := defs₀ (F := F)) (c := (c : Thread nD τ)) Variants.none none E (q := fullShare) (f := f) hS) $$ [H]
  · iexact H
  · iintro H
    rw [View.readAt_unit m.view f inb rfl inb, hf]
    iapply Hk
    ihave H2 := (owns_intro (c : Thread nD τ) m fullShare f) $$ H
    rw [hf]
    ihave H3 := Hb $$ H2
    rw [C.same σ]
    iexact H3

theorem Runs.store {sp : CoreSpace} {s : Shape} {e : EltTy} {m : Memref sig .tc sp s e} (C : Cell (F := F) c A m) {off size : Fin s.rank → ℕ}
    {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1} {σ : Cells F} :
    Runs c A (Prog.lift (.store m (Rect.unit off size inb) w Finset.univ hx hm)) σ (C.set σ (VecWindow.put (C.get σ) off size w)) ⟨⟩ := by
  intro E β k Q
  refine (C.focus σ).trans ?_
  have hS : (m.access (Rect.unit off size inb)).setOn Finset.univ ⊆ m.view.set := by
    rw [View.setOn_univ, View.set_slice]; exact m.view.setOn_subset_set _
  change _ ⊢ iprop((_ -∗ _) -∗ wp frame (wpE (defs₀ (F := F)) Variants.none (c : Thread nD τ) none) E (.op (.store m (Rect.unit off size inb) w Finset.univ hx hm) k) Q)
  iintro ⟨H, Hb⟩ Hk
  ihave H' := (show owns (c : Thread nD τ) m fullShare (C.get σ) ⊢ iprop(∃ f, ⌜m.view.read (Elt F) f = C.get σ⌝ ∗ (m.view.loc (c : Thread nD τ) ↦[m.view.set]{fullShare} f : sProp 𝕄)) from .rfl) $$ H
  icases H' with ⟨%f, %hf, H⟩
  iapply (wp_store (Val := Elt F) (defs := defs₀ (F := F)) (c := (c : Thread nD τ)) Variants.none none E (f := f) hS) $$ [H]
  · iexact H
  · iintro H
    iapply Hk
    iapply Hb
    have e : m.view.read (Elt F) ((m.access (Rect.unit off size inb)).write (Elt F) f w Finset.univ) = VecWindow.put (C.get σ) off size w := by
      have := View.read_writes_cons_put m.view f inb w [] rfl
      rw [View.writes_nil, hf] at this
      exact this
    rw [← e]
    iapply (owns_intro (c : Thread nD τ) m fullShare _)
    iexact H

theorem Runs.word {s : Shape} {e : EltTy} {m : Memref sig .tc .smem s e} (C : Cell (F := F) c A m) {off size : Fin s.rank → ℕ}
    {inb : ∀ a, off a + size a ≤ s.size a} {h1 : (Rect.unit off size inb).shape.numel = 1} {hp : e.packing = 1} {σ : Cells F} :
    Runs c A (smemLoad m (Rect.unit off size inb) h1 hp) σ σ
      (VecWindow.window (C.get σ) off size inb (Shape.Idx.first (h1.symm ▸ Nat.one_pos))) := by
  intro E β k Q
  exact (Runs.load (c := c) (A := A) C (σ := σ)) E (fun f => k (f (Shape.Idx.first (h1.symm ▸ Nat.one_pos)))) Q

/-- A loop whose trip `k` takes `st k` to `st (k + 1)` and the carried value `acc k` to `acc (k + 1)`. -/
theorem Runs.loop {α : Type} {w : ℕ} {l : Scf.Loop w} {hok : l.OK} {init : α} {body : Fin l.trips → α → Prog (TpuEff nD τ sig (Elt F) Λ₀ .tc) α}
    (st : ℕ → Cells F) (acc : ℕ → α) (h0 : acc 0 = init)
    (hb : ∀ k : Fin l.trips, Runs c A (body k (acc k)) (st k) (st (k.val + 1)) (acc (k.val + 1))) :
    Runs c A (Scf.Loop.for l hok init body) (st 0) (st l.trips) (acc l.trips) := by
  unfold Scf.Loop.for
  rw [Scf.for_eq]
  have key : ∀ (d k : ℕ), k + d = l.trips → Runs c A (Scf.forFrom body ((List.finRange l.trips).drop k) (acc k)) (st k) (st l.trips) (acc l.trips) := by
    intro d
    induction d with
    | zero =>
      intro k hk
      obtain rfl : k = l.trips := by omega
      rw [List.drop_of_length_le (by simp)]
      exact Runs.pure
    | succ d ih =>
      intro k hk
      have hlt : k < l.trips := by omega
      rw [List.drop_eq_getElem_cons (by simpa using hlt), List.getElem_finRange, Fin.cast_mk, Scf.forFrom_cons]
      exact (hb ⟨k, hlt⟩).bind (ih (k + 1) (by omega))
  have := key l.trips 0 (by omega)
  rw [h0] at this
  exact this

end rules

section cells
variable (c : Dev nD) (A : Refs)

def cell1 : Cell (F := F) c A A.a1 where
  get σ := σ.x1
  set σ X := { σ with x1 := X }
  same _ := rfl
  focus σ := by
    unfold heap
    iintro ⟨H1, H2, H3, H4, H5, H6, H7, H8, H9, H10, H11, H12, H13, H14⟩
    isplitl [H1]; · iexact H1
    iintro %X H1
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell2 : Cell (F := F) c A A.a2 where
  get σ := σ.x2
  set σ X := { σ with x2 := X }
  same _ := rfl
  focus σ := by
    unfold heap
    iintro ⟨H1, H2, H3, H4, H5, H6, H7, H8, H9, H10, H11, H12, H13, H14⟩
    isplitl [H2]; · iexact H2
    iintro %X H2
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell3 : Cell (F := F) c A A.a3 where
  get σ := σ.x3
  set σ X := { σ with x3 := X }
  same _ := rfl
  focus σ := by
    unfold heap
    iintro ⟨H1, H2, H3, H4, H5, H6, H7, H8, H9, H10, H11, H12, H13, H14⟩
    isplitl [H3]; · iexact H3
    iintro %X H3
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell4 : Cell (F := F) c A A.a4 where
  get σ := σ.x4
  set σ X := { σ with x4 := X }
  same _ := rfl
  focus σ := by
    unfold heap
    iintro ⟨H1, H2, H3, H4, H5, H6, H7, H8, H9, H10, H11, H12, H13, H14⟩
    isplitl [H4]; · iexact H4
    iintro %X H4
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell5 : Cell (F := F) c A A.a5 where
  get σ := σ.x5
  set σ X := { σ with x5 := X }
  same _ := rfl
  focus σ := by
    unfold heap
    iintro ⟨H1, H2, H3, H4, H5, H6, H7, H8, H9, H10, H11, H12, H13, H14⟩
    isplitl [H5]; · iexact H5
    iintro %X H5
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell6 : Cell (F := F) c A A.a6 where
  get σ := σ.x6
  set σ X := { σ with x6 := X }
  same _ := rfl
  focus σ := by
    unfold heap
    iintro ⟨H1, H2, H3, H4, H5, H6, H7, H8, H9, H10, H11, H12, H13, H14⟩
    isplitl [H6]; · iexact H6
    iintro %X H6
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell7 : Cell (F := F) c A A.a7 where
  get σ := σ.x7
  set σ X := { σ with x7 := X }
  same _ := rfl
  focus σ := by
    unfold heap
    iintro ⟨H1, H2, H3, H4, H5, H6, H7, H8, H9, H10, H11, H12, H13, H14⟩
    isplitl [H7]; · iexact H7
    iintro %X H7
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell8 : Cell (F := F) c A A.a8 where
  get σ := σ.x8
  set σ X := { σ with x8 := X }
  same _ := rfl
  focus σ := by
    unfold heap
    iintro ⟨H1, H2, H3, H4, H5, H6, H7, H8, H9, H10, H11, H12, H13, H14⟩
    isplitl [H8]; · iexact H8
    iintro %X H8
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell9 : Cell (F := F) c A A.a9 where
  get σ := σ.x9
  set σ X := { σ with x9 := X }
  same _ := rfl
  focus σ := by
    unfold heap
    iintro ⟨H1, H2, H3, H4, H5, H6, H7, H8, H9, H10, H11, H12, H13, H14⟩
    isplitl [H9]; · iexact H9
    iintro %X H9
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell10 : Cell (F := F) c A A.a10 where
  get σ := σ.x10
  set σ X := { σ with x10 := X }
  same _ := rfl
  focus σ := by
    unfold heap
    iintro ⟨H1, H2, H3, H4, H5, H6, H7, H8, H9, H10, H11, H12, H13, H14⟩
    isplitl [H10]; · iexact H10
    iintro %X H10
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell11 : Cell (F := F) c A A.a11 where
  get σ := σ.x11
  set σ X := { σ with x11 := X }
  same _ := rfl
  focus σ := by
    unfold heap
    iintro ⟨H1, H2, H3, H4, H5, H6, H7, H8, H9, H10, H11, H12, H13, H14⟩
    isplitl [H11]; · iexact H11
    iintro %X H11
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell12 : Cell (F := F) c A A.a12 where
  get σ := σ.x12
  set σ X := { σ with x12 := X }
  same _ := rfl
  focus σ := by
    unfold heap
    iintro ⟨H1, H2, H3, H4, H5, H6, H7, H8, H9, H10, H11, H12, H13, H14⟩
    isplitl [H12]; · iexact H12
    iintro %X H12
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell13 : Cell (F := F) c A A.a13 where
  get σ := σ.x13
  set σ X := { σ with x13 := X }
  same _ := rfl
  focus σ := by
    unfold heap
    iintro ⟨H1, H2, H3, H4, H5, H6, H7, H8, H9, H10, H11, H12, H13, H14⟩
    isplitl [H13]; · iexact H13
    iintro %X H13
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell14 : Cell (F := F) c A A.a14 where
  get σ := σ.x14
  set σ X := { σ with x14 := X }
  same _ := rfl
  focus σ := by
    unfold heap
    iintro ⟨H1, H2, H3, H4, H5, H6, H7, H8, H9, H10, H11, H12, H13, H14⟩
    isplitl [H14]; · iexact H14
    iintro %X H14
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

end cells

end Cert.Proof.KernelIdeal

end
-- ==== Proof.Slow.lean ====
/-
  The kernel's body with its general branch and its prelude written as pure terms between the memory operations.
-/
module

public import proofs.«01_k».proof.Proof.Rolled
public import proofs.«01_k».proof.Proof.Cells

@[expose] public section

noncomputable section

namespace Cert.Proof.KernelIdeal

open Cert.KernelIdeal Cert.KernelIdeal.Gen
open Idealize.ShloMosaic Idealize.ShloMosaic.TcCoe
open Idealize.SL.Sem

variable {F : FTy → Type} [FloatOps F]

/-- The keys with three rows of ones below them, transposed. -/
def kaugV (k : Vec F S1x1x64x896 .i8) : FVec F S896x128 .bf16 :=
  truncf .bf16 (transpose S896x128 [1, 0] (concatenate S128x896 0 [⟨S64x896, sitofp .f32 (shapeCast S64x896 k shapeCasts_S1x1x64x896_S64x896)⟩,
    ⟨S64x896, select (cmpi .slt (iota .tc S64x896 32 [0] iota_S64x896_d0_w32) (broadcast S64x896 3#32))
      (broadcast S64x896 (Scalar.ofBits .f32 0x3F800000#32)) (broadcast S64x896 (Scalar.ofBits .f32 0x00000000#32))⟩]
    concatenates_S64x896_S64x896_S128x896_d0) transposes_S128x896_p1_0_S896x128) bitsLt_bf16_f32

/-- Eight-bit codes as floats. -/
def codesV (q : Vec F S1x1x64x896 .i8) : FVec F S64x896 .bf16 :=
  sitofp .bf16 (shapeCast S64x896 q shapeCasts_S1x1x64x896_S64x896)

/-- The scores of a tile of the general branch. -/
def slowScores (ka : Vec F S896x64 .bf16) (qa : Vec F S64x128 .bf16) : FVec F S896x128 .f32 :=
  matmul dot_S896x64_S64x128_S896x128_1_0_0_1_n_n none ka qa (constant S896x128 .f32 0x00000000#32)

/-- The largest score of each query. -/
def slowMax (s : FVec F S896x128 .f32) : FVec F S1x128 .f32 :=
  shapeCast S1x128 (multiReduction .maximumf [0] S128 s 0xFF800000#32 reduces_S896x128_S128 (.inl rfl) rfl) shapeCasts_S128_S1x128

/-- What a division by zero gives: the sign's extreme. -/
def slowSat (n : IVec S16x128 32) : IVec S16x128 32 :=
  select (cmpi .sgt n (broadcast S16x128 0#32)) (broadcast S16x128 2147483647#32)
    (select (cmpi .slt n (broadcast S16x128 0#32)) (broadcast S16x128 2147483648#32) (broadcast S16x128 0#32))

/-- The quotient `z` of the distance to the maximum by `ln2`, rounded down. -/
def slowZ (mx : FVec F S1x128 .f32) (u : Vec F S16x128 .f32) (ln2 : Elt F .i32) (lf : Elt F .f32) : IVec S16x128 32 :=
  let n : IVec S16x128 32 := fptosi 32 (subf (broadcastTo S16x128 mx broadcasts_S1x128_S16x128) u)
  let q0 : IVec S16x128 32 := fptosi 32 (floor (divf (subf (broadcastTo S16x128 mx broadcasts_S1x128_S16x128) u)
    (broadcast S16x128 (Scalar.select (Scalar.cmpf .oeq lf (Scalar.ofBits .f32 0x00000000#32)) (Scalar.ofBits .f32 0x3F800000#32) lf))))
  let q : IVec S16x128 32 := Scalar.select (Scalar.cmpi .eq ln2 0#32) (slowSat n) q0
  let r : IVec S16x128 32 := subi n (muli q (broadcast S16x128 ln2))
  subi (addi q (extui 32 (cmpi .sge r (broadcast S16x128 ln2)) natLt_1_32)) (extui 32 (cmpi .slt r (broadcast S16x128 0#32)) natLt_1_32)

/-- The exponentials of sixteen keys. -/
def slowE (mx : FVec F S1x128 .f32) (u : Vec F S16x128 .f32) (ln2 qb qc r : Elt F .i32) (lf : Elt F .f32) : IVec S16x128 32 :=
  let z : IVec S16x128 32 := slowZ mx u ln2 lf
  let p : IVec S16x128 32 := addi (fptosi 32 (subf u (broadcastTo S16x128 mx broadcasts_S1x128_S16x128))) (muli z (broadcast S16x128 ln2))
  let l : IVec S16x128 32 := addi (muli (addi p (broadcast S16x128 qb)) (addi p (broadcast S16x128 qb))) (broadcast S16x128 qc)
  let sh : IVec S16x128 32 := minsi (addi z (broadcast S16x128 r)) (broadcast S16x128 31#32)
  shrsi l (select (cmpi .slt sh (broadcast S16x128 0#32)) (broadcast S16x128 31#32) sh)

/-- The row sums of a tile. -/
def slowTotal (acc : IVec S16x128 32) : IVec S1x128 32 :=
  shapeCast S1x128 (multiReductionI .add [0] S128 acc 0#32 reduces_S16x128_S128 rfl) shapeCasts_S128_S1x128

/-- The probabilities of sixteen keys. -/
def slowP (e : Vec F S16x128 .i32) (t : IVec S1x128 32) : FVec F S16x128 .bf16 :=
  let n : IVec S16x128 32 := muli e (broadcast S16x128 255#32)
  let tf : FVec F S1x128 .f32 := sitofp .f32 t
  let q0 : IVec S16x128 32 := fptosi 32 (floor (divf (sitofp .f32 n : FVec F S16x128 .f32)
    (broadcastTo S16x128 (select (cmpf .oeq tf (broadcast S1x128 (Scalar.ofBits .f32 0x00000000#32))) (broadcast S1x128 (Scalar.ofBits .f32 0x3F800000#32)) tf) broadcasts_S1x128_S16x128)))
  let q : IVec S16x128 32 := select (broadcastTo S16x128 (shapeCast S1x128 (cmpi .eq t (broadcast S1x128 0#32)) shapeCasts_S1x128_S1x128) broadcasts_S1x128_S16x128) (slowSat n) q0
  let r : IVec S16x128 32 := subi n (muli q (broadcastTo S16x128 t broadcasts_S1x128_S16x128))
  let z : IVec S16x128 32 := subi (addi q (extui 32 (cmpi .sge r (broadcastTo S16x128 t broadcasts_S1x128_S16x128)) natLt_1_32)) (extui 32 (cmpi .slt r (broadcast S16x128 0#32)) natLt_1_32)
  truncf .bf16 (sitofp .f32 (andi z (broadcast S16x128 255#32)) : FVec F S16x128 .f32) bitsLt_bf16_f32

/-- The requantised outputs. -/
def slowOut (v : Vec F S64x896 .bf16) (p : Vec F S896x128 .bf16) (mult half shift : Elt F .i32) : IVec S64x128 8 :=
  trunci 8 (minsi (broadcast S64x128 127#32) (maxsi (broadcast S64x128 4294967169#32)
    (shrsi (addi (muli (fptosi 32 (matmul dot_S64x896_S896x128_S64x128_1_0_0_1_n_n none v p (constant S64x128 .f32 0x00000000#32)))
      (broadcast S64x128 mult)) (broadcast S64x128 half)) (broadcast S64x128 shift)))) natLt_8_32

section
variable (i : grid0.Coords) (A : Refs)

/-- What comes before the two branches. -/
def prelude : Prog (TpuEff nD τ sig (Elt F) Λ₀ .tc) PUnit := do
  let k : Vec F S1x1x64x896 .i8 ← Prog.lift (.load A.a4 (Rect.unit (s := S1x1x64x896) ![0, 0, 0, 0] S1x1x64x896.size inb_S1x1x64x896_S1x1x64x896_0_0_0_0).toLoadRect (View.loadsAt_vmem h_S1x1x64x896))
  let _d : Vec F S896x128 .bf16 ← Prog.lift (.load A.a8 (Rect.unit (s := S896x128) ![0, 0] S896x128.size inb_S896x128_S896x128_0_0).toLoadRect (View.loadsAt_vmem h_S896x128))
  Prog.lift (.store A.a8 (Rect.unit (s := S896x128) ![0, 0] S896x128.size inb_S896x128_S896x128_0_0) (shapeCast S896x128 (kaugV k) shapeCasts_S896x128_S896x128) Finset.univ (View.stores_vmem h_S896x128 (A.h8.storeExact_slice rfl _ packedbf16_S896x128_S896x128_0_0) (fun _ => rfl)) (.inl rfl))
  let q : Vec F S1x1x64x896 .i8 ← Prog.lift (.load A.a3 (Rect.unit (s := S1x1x64x896) ![0, 0, 0, 0] S1x1x64x896.size inb_S1x1x64x896_S1x1x64x896_0_0_0_0).toLoadRect (View.loadsAt_vmem h_S1x1x64x896))
  let _d : Vec F S64x896 .bf16 ← Prog.lift (.load A.a9 (Rect.unit (s := S128x896) ![0, 0] S64x896.size inb_S128x896_S64x896_0_0).toLoadRect (View.loadsAt_vmem h_S64x896))
  Prog.lift (.store A.a9 (Rect.unit (s := S128x896) ![0, 0] S64x896.size inb_S128x896_S64x896_0_0) (shapeCast S64x896 (codesV q) shapeCasts_S64x896_S64x896) Finset.univ (View.stores_vmem h_S64x896 (A.h9.storeExact_slice rfl _ packedbf16_S128x896_S64x896_0_0) (fun _ => rfl)) (.inl rfl))
  let _d : Vec F S64x896 .bf16 ← Prog.lift (.load A.a9 (Rect.unit (s := S128x896) ![64, 0] S64x896.size inb_S128x896_S64x896_64_0).toLoadRect (View.loadsAt_vmem h_S64x896))
  Prog.lift (.store A.a9 (Rect.unit (s := S128x896) ![64, 0] S64x896.size inb_S128x896_S64x896_64_0) (shapeCast S64x896 (broadcast S64x896 (Scalar.ofBits .bf16 0x0000#16 : F .bf16)) shapeCasts_S64x896_S64x896) Finset.univ (View.stores_vmem h_S64x896 (A.h9.storeExact_slice rfl _ packedbf16_S128x896_S64x896_64_0) (fun _ => rfl)) (.inl rfl))
  let v : Vec F S1x1x64x896 .i8 ← Prog.lift (.load A.a5 (Rect.unit (s := S1x1x64x896) ![0, 0, 0, 0] S1x1x64x896.size inb_S1x1x64x896_S1x1x64x896_0_0_0_0).toLoadRect (View.loadsAt_vmem h_S1x1x64x896))
  let _d : Vec F S64x896 .bf16 ← Prog.lift (.load A.a10 (Rect.unit (s := S64x896) ![0, 0] S64x896.size inb_S64x896_S64x896_0_0).toLoadRect (View.loadsAt_vmem h_S64x896))
  Prog.lift (.store A.a10 (Rect.unit (s := S64x896) ![0, 0] S64x896.size inb_S64x896_S64x896_0_0) (shapeCast S64x896 (codesV v) shapeCasts_S64x896_S64x896) Finset.univ (View.stores_vmem h_S64x896 (A.h10.storeExact_slice rfl _ packedbf16_S64x896_S64x896_0_0) (fun _ => rfl)) (.inl rfl))

/-- Sixteen keys of the exponential pass. -/
def slowExpStep (mx : FVec F S1x128 .f32) (ln2 qb qc r : Elt F .i32) (lf : Elt F .f32) (t : Fin k0_t2_loop.trips) (acc : IVec S16x128 32) :
    Prog (TpuEff nD τ sig (Elt F) Λ₀ .tc) (IVec S16x128 32) := do
  let u : Vec F S16x128 .f32 ← Prog.lift (.load A.a11 (Rect.unit (s := S896x256) (k0_off17 t) S16x128.size (k0_off17_inb t)).toLoadRect (View.loadsAt_vmem h_S16x128))
  let _d : Vec F S16x128 .i32 ← Prog.lift (.load A.a14 (Rect.unit (s := S896x128) (k0_off18 t) S16x128.size (k0_off18_inb t)).toLoadRect (View.loadsAt_vmem h_S16x128))
  Prog.lift (.store A.a14 (Rect.unit (s := S896x128) (k0_off18 t) S16x128.size (k0_off18_inb t)) (shapeCast S16x128 (slowE mx u ln2 qb qc r lf) shapeCasts_S16x128_S16x128) Finset.univ (View.stores_vmem_bits_univ h_S16x128 rfl) (.inl rfl))
  pure (addi acc (slowE mx u ln2 qb qc r lf))

/-- Sixteen keys of the probability pass. -/
def slowProbStep (tot : IVec S1x128 32) (t : Fin k0_t3_loop.trips) : Prog (TpuEff nD τ sig (Elt F) Λ₀ .tc) PUnit := do
  let e : Vec F S16x128 .i32 ← Prog.lift (.load A.a14 (Rect.unit (s := S896x128) (k0_off20 t) S16x128.size (k0_off20_inb t)).toLoadRect (View.loadsAt_vmem h_S16x128))
  let _d : Vec F S16x128 .bf16 ← Prog.lift (.load A.a13 (Rect.unit (s := S896x256) (k0_off21 t) S16x128.size (k0_off21_inb t)).toLoadRect (View.loadsAt_vmem h_S16x128))
  Prog.lift (.store A.a13 (Rect.unit (s := S896x256) (k0_off21 t) S16x128.size (k0_off21_inb t)) (shapeCast S16x128 (slowP (F := F) e tot) shapeCasts_S16x128_S16x128) Finset.univ (View.stores_vmem h_S16x128 (A.h13.storeExact_slice rfl _ (k0_off21_packedbf16 t)) (fun _ => rfl)) (.inl rfl))
  pure ⟨⟩

/-- One tile of the general branch. -/
def slowTile (ln2 qb qc r : Elt F .i32) (lf : Elt F .f32) (t : Fin k0_t1_loop.trips) : Prog (TpuEff nD τ sig (Elt F) Λ₀ .tc) PUnit := do
  let ka : Vec F S896x64 .bf16 ← Prog.lift (.load A.a8 (Rect.unit (s := S896x128) ![0, 0] S896x64.size inb_S896x128_S896x64_0_0).toLoadRect (View.loadsAt_vmem h_S896x64))
  let qa : Vec F S64x128 .bf16 ← Prog.lift (.load A.a9 (Rect.unit (s := S128x896) (k0_off16 t) S64x128.size (k0_off16_inb t)).toLoadRect (View.loadsAt_vmem h_S64x128))
  let _d : Vec F S896x128 .f32 ← Prog.lift (.load A.a11 (Rect.unit (s := S896x256) ![0, 0] S896x128.size inb_S896x256_S896x128_0_0).toLoadRect (View.loadsAt_vmem h_S896x128))
  Prog.lift (.store A.a11 (Rect.unit (s := S896x256) ![0, 0] S896x128.size inb_S896x256_S896x128_0_0) (shapeCast S896x128 (slowScores ka qa) shapeCasts_S896x128_S896x128) Finset.univ (View.stores_vmem_bits_univ h_S896x128 rfl) (.inl rfl))
  let acc : IVec S16x128 32 ← Scf.Loop.for k0_t2_loop k0_t2_ok (broadcast S16x128 0#32) fun t2 acc => slowExpStep A (slowMax (slowScores ka qa)) ln2 qb qc r lf t2 acc
  let _d : Vec F S1x1x1x128 .i32 ← Prog.lift (.load A.a7 (Rect.unit (s := S1x1x1x896) (k0_off19 t) S1x1x1x128.size (k0_off19_inb t)).toLoadRect (View.loadsAt_vmem h_S1x1x1x128))
  Prog.lift (.store A.a7 (Rect.unit (s := S1x1x1x896) (k0_off19 t) S1x1x1x128.size (k0_off19_inb t)) (shapeCast S1x1x1x128 (slowTotal acc) shapeCasts_S1x128_S1x1x1x128) Finset.univ (View.stores_vmem_bits_univ h_S1x1x1x128 rfl) (.inl rfl))
  Scf.Loop.for k0_t3_loop k0_t3_ok ⟨⟩ fun t3 _ => slowProbStep A (slowTotal acc) t3
  let vb : Vec F S64x896 .bf16 ← Prog.lift (.load A.a10 (Rect.unit (s := S64x896) ![0, 0] S64x896.size inb_S64x896_S64x896_0_0).toLoadRect (View.loadsAt_vmem h_S64x896))
  let pb : Vec F S896x128 .bf16 ← Prog.lift (.load A.a13 (Rect.unit (s := S896x256) ![0, 0] S896x128.size inb_S896x256_S896x128_0_0).toLoadRect (View.loadsAt_vmem h_S896x128))
  let mult : Elt F .i32 ← smemLoad A.a1 (Rect.unit (s := S16x8) (k0_off22 i) S1x1.size (k0_off22_inb i)) numel1_S1x1 rfl
  let half : Elt F .i32 ← smemLoad A.a1 (Rect.unit (s := S16x8) (k0_off23 i) S1x1.size (k0_off23_inb i)) numel1_S1x1 rfl
  let shift : Elt F .i32 ← smemLoad A.a1 (Rect.unit (s := S16x8) (k0_off24 i) S1x1.size (k0_off24_inb i)) numel1_S1x1 rfl
  let _d : Vec F S1x1x64x128 .i8 ← Prog.lift (.load A.a6 (Rect.unit (s := S1x1x64x896) (k0_off25 t) S1x1x64x128.size (k0_off25_inb t)).toLoadRect (View.loadsAt_vmem h_S1x1x64x128))
  Prog.lift (.store A.a6 (Rect.unit (s := S1x1x64x896) (k0_off25 t) S1x1x64x128.size (k0_off25_inb t)) (shapeCast S1x1x64x128 (slowOut vb pb mult half shift) shapeCasts_S64x128_S1x1x64x128) Finset.univ (View.stores_vmem h_S1x1x64x128 (A.h6.storeExact_slice rfl _ (k0_off25_packedi8 t)) (fun _ => rfl)) (.inl rfl))
  pure ⟨⟩

/-- The general branch. -/
def slow : Prog (TpuEff nD τ sig (Elt F) Λ₀ .tc) PUnit := do
  let ln2 : Elt F .i32 ← smemLoad A.a1 (Rect.unit (s := S16x8) (k0_off11 i) S1x1.size (k0_off11_inb i)) numel1_S1x1 rfl
  let qb : Elt F .i32 ← smemLoad A.a1 (Rect.unit (s := S16x8) (k0_off12 i) S1x1.size (k0_off12_inb i)) numel1_S1x1 rfl
  let qc : Elt F .i32 ← smemLoad A.a1 (Rect.unit (s := S16x8) (k0_off13 i) S1x1.size (k0_off13_inb i)) numel1_S1x1 rfl
  let r : Elt F .i32 ← smemLoad A.a1 (Rect.unit (s := S16x8) (k0_off14 i) S1x1.size (k0_off14_inb i)) numel1_S1x1 rfl
  let lf : Elt F .f32 ← smemLoad A.a2 (Rect.unit (s := S16x5) (k0_off15 i) S1x1.size (k0_off15_inb i)) numel1_S1x1 rfl
  Scf.Loop.for k0_t1_loop k0_t1_ok ⟨⟩ fun t _ => slowTile i A ln2 qb qc r lf t
  pure ⟨⟩

/-- Whether a word is not zero, as the branches test it. -/
def isOn (v : Elt F .i32) : BitVec 1 := Scalar.cmpi .ne (Scalar.extui (Scalar.cmpi .ne v 0#32) : BitVec 32) 0#32
def isOff (v : Elt F .i32) : BitVec 1 := Scalar.cmpi .ne (Scalar.extui (Scalar.cmpi .eq v 0#32) : BitVec 32) 0#32

/-- The body, the fast branch given. -/
def bodyWith (fastP : Prog (TpuEff nD τ sig (Elt F) Λ₀ .tc) PUnit) : Prog (TpuEff nD τ sig (Elt F) Λ₀ .tc) PUnit := do
  prelude A
  let f : Elt F .i32 ← smemLoad A.a1 (Rect.unit (s := S16x8) (k0_off1 i) S1x1.size (k0_off1_inb i)) numel1_S1x1 rfl
  if isOn (F := F) f = 1#1 then fastP else pure ⟨⟩
  let g : Elt F .i32 ← smemLoad A.a1 (Rect.unit (s := S16x8) (k0_off10 i) S1x1.size (k0_off10_inb i)) numel1_S1x1 rfl
  if isOff (F := F) g = 1#1 then slow i A else pure ⟨⟩

/-- The body. -/
def body : Prog (TpuEff nD τ sig (Elt F) Λ₀ .tc) PUnit :=
  bodyWith i A (fast i A.a1 A.a2 A.a6 A.h6 A.a7 A.a8 A.a9 A.h9 A.a10 A.a11 A.a12 A.a13 A.h13)

end

end Cert.Proof.KernelIdeal

end
-- ==== Proof.BodyRun.lean ====
/-
  What one grid point leaves in memory, as a function of what it finds: the body's steps on contents alone, and that the
  program does exactly that.
-/
module

public import proofs.«01_k».proof.Proof.Slow

@[expose] public section

noncomputable section

namespace Cert.Proof.KernelIdeal

open Cert.KernelIdeal Cert.KernelIdeal.Gen
open Idealize.ShloMosaic Idealize.ShloMosaic.TcCoe
open Idealize.SL.Sem
open VecWindow (window put)

variable {F : FTy → Type} [FloatOps F]

/-- The one index of a one-element rectangle. -/
abbrev one11 : S1x1.Idx := Shape.Idx.first (numel1_S1x1.symm ▸ Nat.one_pos)

section tile
variable {w st : ℕ} (T : TileOk w st)

/-- The eight rows of exponentials of group `i`. -/
def expAt (x11 : Vec F S896x256 .f32) (ln2 inv cb cc : F .f32) (i : ℕ) (h : i < 112) : FVec F (S8 w) .f32 :=
  expV (window x11 ![8 * i, 0] (S8 w).size (T.inb8 i h)) ln2 inv cb cc

/-- The exponential pass on contents. -/
def expGo (ln2 inv cb cc : F .f32) : (n i : ℕ) → (h : i + n = 112) → Cells F × FVec F (S8 w) .f32 → Cells F × FVec F (S8 w) .f32
  | 0, _, _, p => p
  | n + 1, i, h, p => expGo ln2 inv cb cc n (i + 1) (by omega)
      ({ p.1 with x12 := put p.1.x12 ![8 * i, 0] (S8 w).size (shapeCast (S8 w) (expAt T p.1.x11 ln2 inv cb cc i (by omega)) T.cast8) },
        addf p.2 (expAt T p.1.x11 ln2 inv cb cc i (by omega)))

/-- The probability pass on contents. -/
def probGo (hi lo : FVec F (S8 w) .f32) : (n i : ℕ) → (h : i + n = 56) → Cells F → Cells F
  | 0, _, _, σ => σ
  | n + 1, i, h, σ => probGo hi lo n (i + 1) (by omega)
      { σ with x13 := put σ.x13 ![16 * i, 0] (SR w).size (shapeCast (SR w) (probV T hi lo
          (window σ.x12 ![8 * (2 * i), 0] (S8 w).size (T.inb8 (2 * i) (by omega)))
          (window σ.x12 ![8 * (2 * i + 1), 0] (S8 w).size (T.inb8 (2 * i + 1) (by omega)))) T.castR) }

/-- The scores the tile works on: with the maximum and the bias put in. -/
def tileBias (σ : Cells F) (bias : F .f32) : Cells F :=
  { σ with x9 := put σ.x9 ![64, st] (SR w).size (shapeCast (SR w) (biasRows T (betaV T (scores T
      (window σ.x8 ![0, 0] S896x128.size inb_S896x128_S896x128_0_0) (window σ.x9 ![0, st] (SQ w).size T.inbQ)) bias)) T.castR) }

def tileScore (σ : Cells F) : Cells F :=
  { σ with x11 := put σ.x11 ![0, 0] (SA w).size (shapeCast (SA w) (scores T
      (window σ.x8 ![0, 0] S896x128.size inb_S896x128_S896x128_0_0) (window σ.x9 ![0, st] (SQ w).size T.inbQ)) T.castA) }

def tileSum (p : Cells F × FVec F (S8 w) .f32) : Cells F :=
  { p.1 with x7 := put p.1.x7 ![0, 0, 0, st] (SS4 w).size (shapeCast (SS4 w) (totalV T p.2) T.castS) }

def tileStore (i : grid0.Coords) (σ : Cells F) : Cells F :=
  { σ with x6 := put σ.x6 ![0, 0, 0, st] (SO4 w).size (shapeCast (SO4 w) (quantV (outs T
      (window σ.x10 ![0, 0] S64x896.size inb_S64x896_S64x896_0_0) (window σ.x13 ![0, 0] (SA w).size T.inbA))
      (window σ.x1 (k0_off7 i) S1x1.size (k0_off7_inb i) one11) (window σ.x1 (k0_off8 i) S1x1.size (k0_off8_inb i) one11)
      (window σ.x1 (k0_off9 i) S1x1.size (k0_off9_inb i) one11)) T.castO) }

/-- The exponentials of a tile and their running sum. -/
def tileExp (ln2 inv cb cc bias : F .f32) (σ : Cells F) : Cells F × FVec F (S8 w) .f32 :=
  expGo T ln2 inv cb cc 112 0 rfl (tileScore T (tileBias T σ bias), broadcast (S8 w) (Scalar.ofBits .f32 0x00000000#32))

/-- One tile on contents. -/
def tileOut (i : grid0.Coords) (ln2 inv cb cc bias : F .f32) (σ : Cells F) : Cells F :=
  tileStore T i (probGo T (hiV (total8 T (totalV T (tileExp T ln2 inv cb cc bias σ).2))) (loV (total8 T (totalV T (tileExp T ln2 inv cb cc bias σ).2))) 56 0 rfl
    (tileSum T (tileExp T ln2 inv cb cc bias σ)))

end tile

/-- The prelude on contents. -/
def preludeOut (σ : Cells F) : Cells F :=
  { σ with
    x8 := put σ.x8 ![0, 0] S896x128.size (shapeCast S896x128 (kaugV (window σ.x4 ![0, 0, 0, 0] S1x1x64x896.size inb_S1x1x64x896_S1x1x64x896_0_0_0_0)) shapeCasts_S896x128_S896x128)
    x9 := put (put σ.x9 ![0, 0] S64x896.size (shapeCast S64x896 (codesV (window σ.x3 ![0, 0, 0, 0] S1x1x64x896.size inb_S1x1x64x896_S1x1x64x896_0_0_0_0)) shapeCasts_S64x896_S64x896))
      ![64, 0] S64x896.size (shapeCast S64x896 (broadcast S64x896 (Scalar.ofBits .bf16 0x0000#16 : F .bf16)) shapeCasts_S64x896_S64x896)
    x10 := put σ.x10 ![0, 0] S64x896.size (shapeCast S64x896 (codesV (window σ.x5 ![0, 0, 0, 0] S1x1x64x896.size inb_S1x1x64x896_S1x1x64x896_0_0_0_0)) shapeCasts_S64x896_S64x896) }

/-- A word of the head's row of the integer table, and of the float table. -/
abbrev word1 (σ : Cells F) (off : Fin 2 → ℕ) (inb : ∀ a, off a + S1x1.size a ≤ S16x8.size a) : Elt F .i32 := window (s := S16x8) σ.x1 off S1x1.size inb one11
abbrev word2 (σ : Cells F) (off : Fin 2 → ℕ) (inb : ∀ a, off a + S1x1.size a ≤ S16x5.size a) : Elt F .f32 := window (s := S16x5) σ.x2 off S1x1.size inb one11

/-- The fast branch on contents. -/
def fastOut (i : grid0.Coords) (σ : Cells F) : Cells F :=
  let ln2 := word2 σ (k0_off2 i) (k0_off2_inb i)
  let inv := word2 σ (k0_off3 i) (k0_off3_inb i)
  let cb := word2 σ (k0_off4 i) (k0_off4_inb i)
  let cc := word2 σ (k0_off5 i) (k0_off5_inb i)
  let bias := word2 σ (k0_off6 i) (k0_off6_inb i)
  tileOut ok3 i ln2 inv cb cc bias (tileOut ok2 i ln2 inv cb cc bias (tileOut ok1 i ln2 inv cb cc bias (tileOut ok0 i ln2 inv cb cc bias σ)))

/-- Sixteen exponentials of the general branch on contents. -/
def slowEAt (mx : FVec F S1x128 .f32) (ln2 qb qc r : Elt F .i32) (lf : Elt F .f32) (x11 : Vec F S896x256 .f32) (t : Fin k0_t2_loop.trips) : IVec S16x128 32 :=
  slowE mx (window (s := S896x256) x11 (k0_off17 t) S16x128.size (k0_off17_inb t)) ln2 qb qc r lf

/-- The exponential pass of the general branch on contents. -/
def slowExpGo (mx : FVec F S1x128 .f32) (ln2 qb qc r : Elt F .i32) (lf : Elt F .f32) (σ : Cells F) : ℕ → Cells F × IVec S16x128 32
  | 0 => (σ, broadcast S16x128 0#32)
  | k + 1 => if h : k < k0_t2_loop.trips then
      ({ (slowExpGo mx ln2 qb qc r lf σ k).1 with x14 := put (slowExpGo mx ln2 qb qc r lf σ k).1.x14 (k0_off18 ⟨k, h⟩) S16x128.size (shapeCast S16x128 (slowEAt mx ln2 qb qc r lf (slowExpGo mx ln2 qb qc r lf σ k).1.x11 ⟨k, h⟩) shapeCasts_S16x128_S16x128) },
        addi (slowExpGo mx ln2 qb qc r lf σ k).2 (slowEAt mx ln2 qb qc r lf (slowExpGo mx ln2 qb qc r lf σ k).1.x11 ⟨k, h⟩))
    else slowExpGo mx ln2 qb qc r lf σ k

/-- The probability pass of the general branch on contents. -/
def slowProbGo (tot : IVec S1x128 32) (σ : Cells F) : ℕ → Cells F
  | 0 => σ
  | k + 1 => if h : k < k0_t3_loop.trips then
      { slowProbGo tot σ k with x13 := put (slowProbGo tot σ k).x13 (k0_off21 ⟨k, h⟩) S16x128.size (shapeCast S16x128 (slowP (F := F) (window (s := S896x128) (slowProbGo tot σ k).x14 (k0_off20 ⟨k, h⟩) S16x128.size (k0_off20_inb ⟨k, h⟩)) tot) shapeCasts_S16x128_S16x128) }
    else slowProbGo tot σ k

/-- The scores of the general branch's tile `t`. -/
def slowScoresAt (σ : Cells F) (t : Fin k0_t1_loop.trips) : FVec F S896x128 .f32 :=
  slowScores (window (s := S896x128) σ.x8 ![0, 0] S896x64.size inb_S896x128_S896x64_0_0) (window (s := S128x896) σ.x9 (k0_off16 t) S64x128.size (k0_off16_inb t))

/-- The exponential pass of tile `t`. -/
def slowTileExp (ln2 qb qc r : Elt F .i32) (lf : Elt F .f32) (t : Fin k0_t1_loop.trips) (σ : Cells F) : Cells F × IVec S16x128 32 :=
  slowExpGo (slowMax (slowScoresAt σ t)) ln2 qb qc r lf
    { σ with x11 := put σ.x11 ![0, 0] S896x128.size (shapeCast S896x128 (slowScoresAt σ t) shapeCasts_S896x128_S896x128) } k0_t2_loop.trips

/-- The row sums of tile `t` stored. -/
def slowTileSum (t : Fin k0_t1_loop.trips) (p : Cells F × IVec S16x128 32) : Cells F :=
  { p.1 with x7 := put p.1.x7 (k0_off19 t) S1x1x1x128.size (shapeCast S1x1x1x128 (slowTotal p.2) shapeCasts_S1x128_S1x1x1x128) }

/-- The outputs of tile `t` stored. -/
def slowTileStore (i : grid0.Coords) (t : Fin k0_t1_loop.trips) (σ : Cells F) : Cells F :=
  { σ with x6 := put σ.x6 (k0_off25 t) S1x1x64x128.size (shapeCast S1x1x64x128 (slowOut (window σ.x10 ![0, 0] S64x896.size inb_S64x896_S64x896_0_0)
      (window (s := S896x256) σ.x13 ![0, 0] S896x128.size inb_S896x256_S896x128_0_0)
      (word1 σ (k0_off22 i) (k0_off22_inb i)) (word1 σ (k0_off23 i) (k0_off23_inb i)) (word1 σ (k0_off24 i) (k0_off24_inb i))) shapeCasts_S64x128_S1x1x64x128) }

/-- One tile of the general branch on contents. -/
def slowTileOut (i : grid0.Coords) (ln2 qb qc r : Elt F .i32) (lf : Elt F .f32) (t : Fin k0_t1_loop.trips) (σ : Cells F) : Cells F :=
  slowTileStore i t (slowProbGo (slowTotal (slowTileExp ln2 qb qc r lf t σ).2) (slowTileSum t (slowTileExp ln2 qb qc r lf t σ)) k0_t3_loop.trips)

/-- The tiles of the general branch on contents. -/
def slowGo (i : grid0.Coords) (ln2 qb qc r : Elt F .i32) (lf : Elt F .f32) (σ : Cells F) : ℕ → Cells F
  | 0 => σ
  | k + 1 => if h : k < k0_t1_loop.trips then slowTileOut i ln2 qb qc r lf ⟨k, h⟩ (slowGo i ln2 qb qc r lf σ k) else slowGo i ln2 qb qc r lf σ k

/-- The general branch on contents. -/
def slowAll (i : grid0.Coords) (σ : Cells F) : Cells F :=
  slowGo i (word1 σ (k0_off11 i) (k0_off11_inb i)) (word1 σ (k0_off12 i) (k0_off12_inb i)) (word1 σ (k0_off13 i) (k0_off13_inb i))
    (word1 σ (k0_off14 i) (k0_off14_inb i)) (word2 σ (k0_off15 i) (k0_off15_inb i)) σ k0_t1_loop.trips

/-- What comes after the prelude, on contents. -/
def afterFast (i : grid0.Coords) (σ : Cells F) : Cells F :=
  if isOn (F := F) (word1 σ (k0_off1 i) (k0_off1_inb i)) = 1#1 then fastOut i σ else σ

def afterSlow (i : grid0.Coords) (σ : Cells F) : Cells F :=
  if isOff (F := F) (word1 σ (k0_off10 i) (k0_off10_inb i)) = 1#1 then slowAll i σ else σ

/-- The body on contents. -/
def bodyOut (i : grid0.Coords) (σ : Cells F) : Cells F := afterSlow i (afterFast i (preludeOut σ))

section runs
variable (c : Dev nD) (A : Refs)

theorem runs_exp {w st : ℕ} (T : TileOk w st) (ln2 inv cb cc : F .f32) : ∀ (n i : ℕ) (h : i + n = 112) (σ : Cells F) (acc : FVec F (S8 w) .f32),
    Runs c A (expFrom T A.a11 A.a12 ln2 inv cb cc n i h acc) σ (expGo T ln2 inv cb cc n i h (σ, acc)).1 (expGo T ln2 inv cb cc n i h (σ, acc)).2
  | 0, _, _, _, _ => Runs.pure
  | n + 1, i, h, σ, acc => by
    refine Runs.bind (x := addf acc (expAt T σ.x11 ln2 inv cb cc i (by omega))) ?_ (runs_exp T ln2 inv cb cc n (i + 1) (by omega) _ _)
    exact (Runs.load (cell11 c A)).bind ((Runs.load (cell12 c A)).bind ((Runs.store (cell12 c A)).bind Runs.pure))

theorem runs_prob {w st : ℕ} (T : TileOk w st) (hi lo : FVec F (S8 w) .f32) : ∀ (n i : ℕ) (h : i + n = 56) (σ : Cells F),
    Runs c A (probFrom T A.a12 A.a13 A.h13 hi lo n i h) σ (probGo T hi lo n i h σ) ⟨⟩
  | 0, _, _, _ => Runs.pure
  | n + 1, i, h, σ => by
    refine Runs.bind (x := PUnit.unit) ?_ (runs_prob T hi lo n (i + 1) (by omega) _)
    exact (Runs.load (cell12 c A)).bind ((Runs.load (cell12 c A)).bind ((Runs.load (cell13 c A)).bind (Runs.store (cell13 c A))))

theorem runs_tile {w st : ℕ} (T : TileOk w st) (i : grid0.Coords) (ln2 inv cb cc bias : F .f32) (σ : Cells F) :
    Runs c A (tile T i A.a1 A.a6 A.h6 A.a7 A.a8 A.a9 A.h9 A.a10 A.a11 A.a12 A.a13 A.h13 ln2 inv cb cc bias) σ (tileOut T i ln2 inv cb cc bias σ) ⟨⟩ := by
  refine (Runs.load (cell8 c A)).bind ((Runs.load (cell9 c A)).bind ((Runs.load (cell9 c A)).bind ((Runs.store (cell9 c A)).bind ?_)))
  refine (Runs.load (cell8 c A)).bind ((Runs.load (cell9 c A)).bind ((Runs.load (cell11 c A)).bind ((Runs.store (cell11 c A)).bind ?_)))
  refine (runs_exp c A T ln2 inv cb cc 112 0 rfl _ _).bind ?_
  refine (Runs.load (cell7 c A)).bind ((Runs.store (cell7 c A)).bind ((runs_prob c A T _ _ 56 0 rfl _).bind ?_))
  exact (Runs.load (cell10 c A)).bind ((Runs.load (cell13 c A)).bind ((Runs.word (cell1 c A)).bind ((Runs.word (cell1 c A)).bind ((Runs.word (cell1 c A)).bind
    ((Runs.load (cell6 c A)).bind (Runs.store (cell6 c A)))))))

theorem runs_fast (i : grid0.Coords) (σ : Cells F) :
    Runs c A (fast i A.a1 A.a2 A.a6 A.h6 A.a7 A.a8 A.a9 A.h9 A.a10 A.a11 A.a12 A.a13 A.h13) σ (fastOut i σ) ⟨⟩ := by
  refine (Runs.word (cell2 c A)).bind ((Runs.word (cell2 c A)).bind ((Runs.word (cell2 c A)).bind ((Runs.word (cell2 c A)).bind ((Runs.word (cell2 c A)).bind ?_))))
  exact (runs_tile c A ok0 i _ _ _ _ _ _).bind ((runs_tile c A ok1 i _ _ _ _ _ _).bind ((runs_tile c A ok2 i _ _ _ _ _ _).bind ((runs_tile c A ok3 i _ _ _ _ _ _).bind Runs.pure)))

theorem runs_prelude (σ : Cells F) : Runs c A (prelude A) σ (preludeOut σ) ⟨⟩ :=
  (Runs.load (cell4 c A)).bind ((Runs.load (cell8 c A)).bind ((Runs.store (cell8 c A)).bind ((Runs.load (cell3 c A)).bind ((Runs.load (cell9 c A)).bind
    ((Runs.store (cell9 c A)).bind ((Runs.load (cell9 c A)).bind ((Runs.store (cell9 c A)).bind ((Runs.load (cell5 c A)).bind ((Runs.load (cell10 c A)).bind
    (Runs.store (cell10 c A)))))))))))

theorem runs_slowExp (mx : FVec F S1x128 .f32) (ln2 qb qc r : Elt F .i32) (lf : Elt F .f32) (σ : Cells F) :
    Runs c A (Scf.Loop.for k0_t2_loop k0_t2_ok (broadcast S16x128 0#32) fun t2 acc => slowExpStep A mx ln2 qb qc r lf t2 acc) σ
      (slowExpGo mx ln2 qb qc r lf σ k0_t2_loop.trips).1 (slowExpGo mx ln2 qb qc r lf σ k0_t2_loop.trips).2 := by
  refine Runs.loop (fun k => (slowExpGo mx ln2 qb qc r lf σ k).1) (fun k => (slowExpGo mx ln2 qb qc r lf σ k).2) rfl fun k => ?_
  have e : slowExpGo mx ln2 qb qc r lf σ (k.val + 1) = _ := dif_pos k.isLt
  rw [e]
  exact (Runs.load (cell11 c A)).bind ((Runs.load (cell14 c A)).bind ((Runs.store (cell14 c A)).bind Runs.pure))

theorem runs_slowProb (tot : IVec S1x128 32) (σ : Cells F) :
    Runs c A (Scf.Loop.for k0_t3_loop k0_t3_ok ⟨⟩ fun t3 _ => slowProbStep A tot t3) σ (slowProbGo tot σ k0_t3_loop.trips) ⟨⟩ := by
  refine Runs.loop (slowProbGo tot σ) (fun _ => PUnit.unit) rfl fun k => ?_
  have e : slowProbGo tot σ (k.val + 1) = _ := dif_pos k.isLt
  rw [e]
  exact (Runs.load (cell14 c A)).bind ((Runs.load (cell13 c A)).bind ((Runs.store (cell13 c A)).bind Runs.pure))

theorem runs_slowTile_of (i : grid0.Coords) (ln2 qb qc r : Elt F .i32) (lf : Elt F .f32) (t : Fin k0_t1_loop.trips) (σ : Cells F)
    (σ2 : Cells F) (acc : IVec S16x128 32) (P : Cells F → Cells F)
    (hexp : Runs c A (Scf.Loop.for k0_t2_loop k0_t2_ok (broadcast S16x128 0#32) fun t2 acc => slowExpStep A (slowMax (slowScoresAt σ t)) ln2 qb qc r lf t2 acc)
      { σ with x11 := put σ.x11 ![0, 0] S896x128.size (shapeCast S896x128 (slowScoresAt σ t) shapeCasts_S896x128_S896x128) } σ2 acc)
    (hprob : ∀ σ', Runs c A (Scf.Loop.for k0_t3_loop k0_t3_ok ⟨⟩ fun t3 _ => slowProbStep A (slowTotal acc) t3) σ' (P σ') ⟨⟩) :
    Runs c A (slowTile i A ln2 qb qc r lf t) σ (slowTileStore i t (P (slowTileSum t (σ2, acc)))) ⟨⟩ := by
  refine (Runs.load (cell8 c A)).bind ((Runs.load (cell9 c A)).bind ((Runs.load (cell11 c A)).bind ((Runs.store (cell11 c A)).bind ?_)))
  refine hexp.bind ?_
  refine (Runs.load (cell7 c A)).bind ((Runs.store (cell7 c A)).bind ((hprob _).bind ?_))
  exact (Runs.load (cell10 c A)).bind ((Runs.load (cell13 c A)).bind ((Runs.word (cell1 c A)).bind ((Runs.word (cell1 c A)).bind ((Runs.word (cell1 c A)).bind
    ((Runs.load (cell6 c A)).bind ((Runs.store (cell6 c A)).bind Runs.pure))))))

theorem runs_slowTile (i : grid0.Coords) (ln2 qb qc r : Elt F .i32) (lf : Elt F .f32) (t : Fin k0_t1_loop.trips) (σ : Cells F) :
    Runs c A (slowTile i A ln2 qb qc r lf t) σ (slowTileOut i ln2 qb qc r lf t σ) ⟨⟩ := by
  unfold slowTileOut
  have h := runs_slowTile_of c A i ln2 qb qc r lf t σ (slowTileExp ln2 qb qc r lf t σ).1 (slowTileExp ln2 qb qc r lf t σ).2
    (fun σ' => slowProbGo (slowTotal (slowTileExp ln2 qb qc r lf t σ).2) σ' k0_t3_loop.trips)
    (by unfold slowTileExp; exact runs_slowExp c A _ ln2 qb qc r lf _) (fun σ' => runs_slowProb c A _ σ')
  rw [Prod.mk.eta] at h
  exact h

theorem runs_slowLoop (i : grid0.Coords) (ln2 qb qc r : Elt F .i32) (lf : Elt F .f32) (σ : Cells F) :
    Runs c A (Scf.Loop.for k0_t1_loop k0_t1_ok PUnit.unit fun t _ => slowTile i A ln2 qb qc r lf t) σ (slowGo i ln2 qb qc r lf σ k0_t1_loop.trips) PUnit.unit := by
  refine Runs.loop (slowGo i ln2 qb qc r lf σ) (fun _ => PUnit.unit) rfl fun k => ?_
  have e : slowGo i ln2 qb qc r lf σ (k.val + 1) = _ := dif_pos k.isLt
  rw [e]
  exact runs_slowTile c A i ln2 qb qc r lf k _

theorem runs_slow_of (i : grid0.Coords) (σ σ2 : Cells F)
    (h : Runs c A (Scf.Loop.for k0_t1_loop k0_t1_ok PUnit.unit fun t _ => slowTile i A (word1 σ (k0_off11 i) (k0_off11_inb i)) (word1 σ (k0_off12 i) (k0_off12_inb i)) (word1 σ (k0_off13 i) (k0_off13_inb i))
    (word1 σ (k0_off14 i) (k0_off14_inb i)) (word2 σ (k0_off15 i) (k0_off15_inb i)) t) σ σ2 PUnit.unit) : Runs c A (slow i A) σ σ2 PUnit.unit := by
  refine (Runs.word (cell1 c A)).bind ((Runs.word (cell1 c A)).bind ((Runs.word (cell1 c A)).bind ((Runs.word (cell1 c A)).bind ((Runs.word (cell2 c A)).bind ?_))))
  exact Runs.bind (x := PUnit.unit) h Runs.pure

theorem runs_slow (i : grid0.Coords) (σ : Cells F) : Runs c A (slow i A) σ (slowAll i σ) PUnit.unit :=
  runs_slow_of c A i σ _ (runs_slowLoop c A i _ _ _ _ _ σ)

theorem runs_body_of (i : grid0.Coords) (σ σ0 : Cells F) (fast : Prog (TpuEff nD τ sig (Elt F) Λ₀ .tc) PUnit) (f g : Cells F → Cells F)
    (hpre : Runs c A (prelude A) σ σ0 ⟨⟩) (hf : ∀ σ', Runs c A fast σ' (f σ') ⟨⟩) (hg : ∀ σ', Runs c A (slow i A) σ' (g σ') ⟨⟩) (σ1 σ2 : Cells F)
    (h1 : σ1 = if isOn (F := F) (word1 σ0 (k0_off1 i) (k0_off1_inb i)) = 1#1 then f σ0 else σ0)
    (h2 : σ2 = if isOff (F := F) (word1 σ1 (k0_off10 i) (k0_off10_inb i)) = 1#1 then g σ1 else σ1) :
    Runs c A (bodyWith i A fast) σ σ2 ⟨⟩ := by
  have hrest : Runs c A (do
      let g : Elt F .i32 ← smemLoad A.a1 (Rect.unit (s := S16x8) (k0_off10 i) S1x1.size (k0_off10_inb i)) numel1_S1x1 rfl
      if isOff (F := F) g = 1#1 then slow i A else pure ⟨⟩) σ1 σ2 PUnit.unit := by
    refine (Runs.word (cell1 c A)).bind ?_
    rw [h2]
    by_cases h : isOff (F := F) (word1 σ1 (k0_off10 i) (k0_off10_inb i)) = 1#1
    · refine (show Runs c A (if isOff (F := F) (word1 σ1 (k0_off10 i) (k0_off10_inb i)) = 1#1 then slow i A else pure ⟨⟩) _ _ _ from ?_)
      rw [if_pos h, if_pos h]; exact hg _
    · refine (show Runs c A (if isOff (F := F) (word1 σ1 (k0_off10 i) (k0_off10_inb i)) = 1#1 then slow i A else pure ⟨⟩) _ _ _ from ?_)
      rw [if_neg h, if_neg h]; exact Runs.pure
  refine hpre.bind ((Runs.word (cell1 c A)).bind ?_)
  dsimp only
  by_cases h : isOn (F := F) (word1 σ0 (k0_off1 i) (k0_off1_inb i)) = 1#1
  · have h' : isOn (F := F) (window ((cell1 (F := F) c A).get σ0) (k0_off1 i) S1x1.size (k0_off1_inb i) one11) = 1#1 := h
    rw [if_pos h']
    rw [if_pos h] at h1
    refine Runs.bind (x := PUnit.unit) (hf σ0) ?_
    rw [← h1]; exact hrest
  · have h' : ¬ isOn (F := F) (window ((cell1 (F := F) c A).get σ0) (k0_off1 i) S1x1.size (k0_off1_inb i) one11) = 1#1 := h
    rw [if_neg h']
    rw [if_neg h] at h1
    rw [← h1]
    first | exact hrest | (refine Runs.bind (x := PUnit.unit) (Runs.pure (σ := σ1)) ?_; exact hrest)

/-- The body takes the contents `σ` to `bodyOut i σ`. -/
theorem runs_body (i : grid0.Coords) (σ : Cells F) : Runs c A (body i A) σ (bodyOut i σ) ⟨⟩ :=
  runs_body_of c A i σ (preludeOut σ) _ (fastOut i) (slowAll i) (runs_prelude c A σ) (runs_fast c A i) (runs_slow c A i)
    (afterFast i (preludeOut σ)) (bodyOut i σ) rfl rfl

end runs

end Cert.Proof.KernelIdeal

end
-- ==== Proof.FastForm.lean ====
/-
  What the tiles of the fast branch leave in the two output blocks, from the inputs alone: the scratch contents that a
  tile finds play no part.
-/
module

public import proofs.«01_k».proof.Proof.BodyRun
public import Idealize.ShloMosaic.Lib.Pointwise.Reshape

@[expose] public section

noncomputable section

namespace Cert.Proof.KernelIdeal

open Cert.KernelIdeal Cert.KernelIdeal.Gen
open Idealize.ShloMosaic Idealize.ShloMosaic.TcCoe
open Idealize.SL.Sem
open VecWindow (window put window_put_same window_put_of_disjoint)

/-! ## Windows -/

section windows
variable {α : Type} {s : Shape}

/-- A window of the whole array. -/
theorem window_full (x : s.Idx → α) (off : Fin s.rank → ℕ) (inb : ∀ a, off a + s.size a ≤ s.size a) : window x off s.size inb = x := by
  funext y
  exact congrArg x (funext fun a => Fin.ext (by
    show off a + 1 * (y a).val = (y a).val
    have := inb a; omega))

/-- A put over the whole array. -/
theorem put_full (x : s.Idx → α) (off : Fin s.rank → ℕ) (inb : ∀ a, off a + s.size a ≤ s.size a) (w : s.Idx → α) : put x off s.size w = w := by
  have h := window_put_same x off s.size inb w
  rwa [window_full] at h

/-- A window inside the put, at the offsets `off''` within it. -/
theorem window_put_inside (x : s.Idx → α) (off size off' size' off'' : Fin s.rank → ℕ) (inb' : ∀ a, off' a + size' a ≤ s.size a)
    (w : ((a : Fin s.rank) → Fin (size a)) → α) (e : ∀ a, off' a = off a + off'' a) (h : ∀ a, off'' a + size' a ≤ size a) :
    window (put x off size w) off' size' inb' = window (s := ⟨s.rank, size⟩) w off'' size' h := by
  rw [VecWindow.window_put_of_inside x off size off' size' inb' w (fun a => by have := h a; have := e a; omega)]
  have e' : (fun a => off' a - off a) = off'' := funext fun a => by have := e a; omega
  subst e'
  rfl

/-- A put inside a window is a put in what the window shows. -/
theorem window_put_within (x : s.Idx → α) (off size off' size' off'' : Fin s.rank → ℕ) (inb' : ∀ a, off' a + size' a ≤ s.size a)
    (w : ((a : Fin s.rank) → Fin (size a)) → α) (e : ∀ a, off a = off' a + off'' a) :
    window (put x off size w) off' size' inb' = put (s := ⟨s.rank, size'⟩) (window x off' size' inb') off'' size w := by
  funext y
  have v : ∀ a, ((Rect.unit off' size' inb').emb y a).val = off' a + 1 * (y a).val := fun a => rfl
  show put x off size w ((Rect.unit off' size' inb').emb y) = _
  unfold put
  by_cases h : ∀ a, off a ≤ ((Rect.unit off' size' inb').emb y a).val ∧ ((Rect.unit off' size' inb').emb y a).val < off a + size a
  · have h' : ∀ a, off'' a ≤ (y a).val ∧ (y a).val < off'' a + size a := fun a => by have := h a; have := e a; have := v a; omega
    rw [dif_pos h, dif_pos h']
    exact congrArg w (funext fun a => Fin.ext (by
      show ((Rect.unit off' size' inb').emb y a).val - off a = (y a).val - off'' a
      have := h' a; have := e a; have := v a; omega))
  · have h' : ¬ ∀ a, off'' a ≤ (y a).val ∧ (y a).val < off'' a + size a := fun hh => h fun a => by have := hh a; have := e a; have := v a; omega
    rw [dif_neg h, dif_neg h']
    rfl

/-- Arrays that agree on a window agree at its entries. -/
theorem window_at (x : s.Idx → α) (off size : Fin s.rank → ℕ) (inb : ∀ a, off a + size a ≤ s.size a) (y : s.Idx)
    (h : ∀ a, off a ≤ (y a).val ∧ (y a).val < off a + size a) :
    x y = window x off size inb (Rect.unitLocal (s := s) (off := off) (size := size) y h) := by
  refine congrArg x (funext fun a => Fin.ext ?_)
  show (y a).val = off a + 1 * ((y a).val - off a)
  have := h a; omega

end windows

variable {F : FTy → Type} [FloatOps F]

/-! ## A tile -/

section tile
variable {w st : ℕ} (T : TileOk w st)

theorem TileOk.rows8 (i : ℕ) (h : i < 112) : ∀ a, (![8 * i, 0] : Fin 2 → Nat) a + (S8 w).size a ≤ (SA w).size a := by
  intro a; match a with
  | ⟨0, _⟩ => show 8 * i + 8 ≤ 896; omega
  | ⟨1, _⟩ => show 0 + w ≤ w; omega

include T in
theorem TileOk.rowsR : ∀ a, (![64, 0] : Fin 2 → Nat) a + (SR w).size a ≤ (SQ w).size a := by
  intro a; match a with
  | ⟨0, _⟩ => show 64 + 16 ≤ 128; omega
  | ⟨1, _⟩ => show 0 + w ≤ w; omega

/-- The tile's augmented queries with the shift put in. -/
def tQ (k : Vec F S896x128 .bf16) (q : Vec F (SQ w) .bf16) (bias : F .f32) : Vec F (SQ w) .bf16 :=
  put (s := SQ w) q ![64, 0] (SR w).size (biasRows T (betaV T (scores T k q) bias))

/-- The tile's shifted scores. -/
def tS (k : Vec F S896x128 .bf16) (q : Vec F (SQ w) .bf16) (bias : F .f32) : Vec F (SA w) .f32 := scores T k (tQ T k q bias)

/-- The exponentials of group `i`. -/
def tE (ln2 inv cb cc : F .f32) (s : Vec F (SA w) .f32) (i : ℕ) (h : i < 112) : FVec F (S8 w) .f32 :=
  expV (window (s := SA w) s ![8 * i, 0] (S8 w).size (TileOk.rows8 i h)) ln2 inv cb cc

/-- The running sum over the groups from `i` on. -/
def tAcc (ln2 inv cb cc : F .f32) (s : Vec F (SA w) .f32) : (n i : ℕ) → (h : i + n = 112) → FVec F (S8 w) .f32 → FVec F (S8 w) .f32
  | 0, _, _, a => a
  | n + 1, i, h, a => tAcc ln2 inv cb cc s n (i + 1) (by omega) (addf a (tE ln2 inv cb cc s i (by omega)))

/-- The tile's row sums. -/
def tSum (ln2 inv cb cc : F .f32) (s : Vec F (SA w) .f32) : IVec (S1 w) 32 :=
  totalV T (tAcc ln2 inv cb cc s 112 0 rfl (broadcast (S8 w) (Scalar.ofBits .f32 0x00000000#32)))

/-- Rows put together from groups of sixteen. -/
def stack16 {α : Type} (f : (i : ℕ) → i < 56 → (SR w).Idx → α) : (SA w).Idx → α := fun y =>
  f ((y 0).val / 16) (by have : (y 0).val < 896 := (y 0).isLt; omega) (ix2 (n0 := 16) (n1 := w) ⟨(y 0).val % 16, by omega⟩ (y 1))

/-- The tile's probabilities. -/
def tP (ln2 inv cb cc : F .f32) (s : Vec F (SA w) .f32) : Vec F (SA w) .bf16 :=
  stack16 fun i h => probV T (hiV (total8 T (tSum T ln2 inv cb cc s))) (loV (total8 T (tSum T ln2 inv cb cc s)))
    (tE ln2 inv cb cc s (2 * i) (by omega)) (tE ln2 inv cb cc s (2 * i + 1) (by omega))

theorem expGo_rest (ln2 inv cb cc : F .f32) : ∀ (n i : ℕ) (h : i + n = 112) (p : Cells F × FVec F (S8 w) .f32),
    (expGo T ln2 inv cb cc n i h p).1 = { p.1 with x12 := (expGo T ln2 inv cb cc n i h p).1.x12 }
  | 0, _, _, _ => rfl
  | n + 1, i, h, p => by
    unfold expGo
    exact expGo_rest ln2 inv cb cc n (i + 1) (by omega) _

theorem expAt_eq (ln2 inv cb cc : F .f32) (s : Vec F (SA w) .f32) (x11 : Vec F S896x256 .f32) (hs : window (s := S896x256) x11 ![0, 0] (SA w).size T.inbA = s) (i : ℕ) (h : i < 112) :
    expAt T x11 ln2 inv cb cc i h = tE ln2 inv cb cc s i h := by
  unfold expAt tE
  congr 1
  subst hs
  funext y
  refine congrArg x11 (funext fun a => Fin.ext ?_)
  match a with
  | ⟨0, _⟩ => show 8 * i + 1 * (y 0).val = 0 + 1 * (8 * i + 1 * (y 0).val); omega
  | ⟨1, _⟩ => show 0 + 1 * (y 1).val = 0 + 1 * (0 + 1 * (y 1).val); omega

theorem expGo_acc (ln2 inv cb cc : F .f32) (s : Vec F (SA w) .f32) : ∀ (n i : ℕ) (h : i + n = 112) (p : Cells F × FVec F (S8 w) .f32)
    (_ : window (s := S896x256) p.1.x11 ![0, 0] (SA w).size T.inbA = s),
    (expGo T ln2 inv cb cc n i h p).2 = tAcc ln2 inv cb cc s n i h p.2
  | 0, _, _, _, _ => rfl
  | n + 1, i, h, p, hs => by
    unfold expGo tAcc
    refine Eq.trans (b := tAcc ln2 inv cb cc s n (i + 1) (by omega) _) (expGo_acc ln2 inv cb cc s n (i + 1) (by omega) (_, _) ?_) ?_
    · exact hs
    · rw [expAt_eq T ln2 inv cb cc s p.1.x11 hs i (by omega)]

theorem expGo_win (ln2 inv cb cc : F .f32) (s : Vec F (SA w) .f32) : ∀ (n i : ℕ) (h : i + n = 112) (p : Cells F × FVec F (S8 w) .f32)
    (_ : window (s := S896x256) p.1.x11 ![0, 0] (SA w).size T.inbA = s) (j : ℕ) (hj : j < 112),
    window (s := S896x256) (expGo T ln2 inv cb cc n i h p).1.x12 ![8 * j, 0] (S8 w).size (T.inb8 j hj)
      = if i ≤ j then tE ln2 inv cb cc s j hj else window (s := S896x256) p.1.x12 ![8 * j, 0] (S8 w).size (T.inb8 j hj)
  | 0, i, h, p, _, j, hj => by rw [if_neg (by omega)]; rfl
  | n + 1, i, h, p, hs, j, hj => by
    unfold expGo
    refine Eq.trans (expGo_win ln2 inv cb cc s n (i + 1) (by omega) (_, _) ?_ j hj) ?_
    · exact hs
    dsimp only
    by_cases h1 : i + 1 ≤ j
    · rw [if_pos h1, if_pos (by omega)]
    · rw [if_neg h1]
      by_cases h2 : i ≤ j
      · obtain rfl : i = j := by omega
        rw [if_pos h2, shapeCast_id, expAt_eq T ln2 inv cb cc s p.1.x11 hs i hj]
        exact window_put_same (s := S896x256) p.1.x12 ![8 * i, 0] (S8 w).size (T.inb8 i hj) _
      · rw [if_neg h2]
        exact window_put_of_disjoint (s := S896x256) p.1.x12 ![8 * i, 0] (S8 w).size ![8 * j, 0] (S8 w).size (T.inb8 j hj) _ (0 : Fin 2)
          (Or.inl (by show 8 * j + 8 ≤ 8 * i; omega))

theorem probGo_rest (hi lo : FVec F (S8 w) .f32) : ∀ (n i : ℕ) (h : i + n = 56) (σ : Cells F),
    probGo T hi lo n i h σ = { σ with x13 := (probGo T hi lo n i h σ).x13 }
  | 0, _, _, _ => rfl
  | n + 1, i, h, σ => by
    unfold probGo
    exact probGo_rest hi lo n (i + 1) (by omega) _

theorem probGo_win (hi lo : FVec F (S8 w) .f32) : ∀ (n i : ℕ) (h : i + n = 56) (σ : Cells F) (j : ℕ) (hj : j < 56),
    window (s := S896x256) (probGo T hi lo n i h σ).x13 ![16 * j, 0] (SR w).size (T.inb16 j hj)
      = if i ≤ j then probV T hi lo (window (s := S896x256) σ.x12 ![8 * (2 * j), 0] (S8 w).size (T.inb8 (2 * j) (by omega)))
          (window (s := S896x256) σ.x12 ![8 * (2 * j + 1), 0] (S8 w).size (T.inb8 (2 * j + 1) (by omega)))
        else window (s := S896x256) σ.x13 ![16 * j, 0] (SR w).size (T.inb16 j hj)
  | 0, i, h, p, j, hj => by rw [if_neg (by omega)]; rfl
  | n + 1, i, h, σ, j, hj => by
    unfold probGo
    rw [probGo_win hi lo n (i + 1) (by omega) _ j hj]
    dsimp only
    by_cases h1 : i + 1 ≤ j
    · rw [if_pos h1, if_pos (by omega)]
    · rw [if_neg h1]
      by_cases h2 : i ≤ j
      · obtain rfl : i = j := by omega
        rw [if_pos h2, shapeCast_id]
        exact window_put_same (s := S896x256) σ.x13 ![16 * i, 0] (SR w).size (T.inb16 i hj) _
      · rw [if_neg h2]
        exact window_put_of_disjoint (s := S896x256) σ.x13 ![16 * i, 0] (SR w).size ![16 * j, 0] (SR w).size (T.inb16 j hj) _ (0 : Fin 2)
          (Or.inl (by show 16 * j + 16 ≤ 16 * i; omega))

/-- An array whose groups of sixteen rows are known is known on the tile. -/
theorem stack16_eq {α : Type} (x : S896x256.Idx → α) (f : (i : ℕ) → i < 56 → (SR w).Idx → α)
    (h : ∀ (i : ℕ) (hi : i < 56), window (s := S896x256) x ![16 * i, 0] (SR w).size (T.inb16 i hi) = f i hi) :
    window (s := S896x256) x ![0, 0] (SA w).size T.inbA = stack16 f := by
  funext y
  have hy : (y 0).val < 896 := (y 0).isLt
  unfold stack16
  rw [← h]
  refine congrArg x (funext fun a => Fin.ext ?_)
  match a with
  | ⟨0, _⟩ => show 0 + 1 * (y 0).val = 16 * ((y 0).val / 16) + 1 * ((y 0).val % 16); omega
  | ⟨1, _⟩ => show 0 + 1 * (y 1).val = 0 + 1 * (y 1).val; omega

/-- A tile, in terms of the keys, the queries' columns and the values it finds. -/
theorem tileOut_form (i : grid0.Coords) (ln2 inv cb cc bias : F .f32) (σ : Cells F) (q : Vec F (SQ w) .bf16)
    (hq : window (s := S128x896) σ.x9 ![0, st] (SQ w).size T.inbQ = q) :
    ∃ a b d, tileOut T i ln2 inv cb cc bias σ = { σ with
      x6 := put σ.x6 ![0, 0, 0, st] (SO4 w).size (shapeCast (SO4 w) (quantV (outs T σ.x10 (tP T ln2 inv cb cc (tS T σ.x8 q bias)))
        (window (s := S16x8) σ.x1 (k0_off7 i) S1x1.size (k0_off7_inb i) one11) (window (s := S16x8) σ.x1 (k0_off8 i) S1x1.size (k0_off8_inb i) one11)
        (window (s := S16x8) σ.x1 (k0_off9 i) S1x1.size (k0_off9_inb i) one11)) T.castO)
      x7 := put σ.x7 ![0, 0, 0, st] (SS4 w).size (shapeCast (SS4 w) (tSum T ln2 inv cb cc (tS T σ.x8 q bias)) T.castS)
      x9 := put σ.x9 ![64, st] (SR w).size (biasRows T (betaV T (scores T σ.x8 q) bias))
      x11 := a
      x12 := b
      x13 := d } := by
  have h9 : (tileBias T σ bias).x9 = put σ.x9 ![64, st] (SR w).size (biasRows T (betaV T (scores T σ.x8 q) bias)) := by
    unfold tileBias
    dsimp only
    rw [shapeCast_id, hq, window_full]
  have hq2 : window (s := S128x896) (tileBias T σ bias).x9 ![0, st] (SQ w).size T.inbQ = tQ T σ.x8 q bias := by
    rw [h9]
    unfold tQ
    rw [← hq]
    refine window_put_within (s := S128x896) σ.x9 ![64, st] (SR w).size ![0, st] (SQ w).size ![64, 0] T.inbQ _ fun a => ?_
    match a with
    | ⟨0, _⟩ => rfl
    | ⟨1, _⟩ => rfl
  have h11 : window (s := S896x256) (tileScore T (tileBias T σ bias)).x11 ![0, 0] (SA w).size T.inbA = tS T σ.x8 q bias := by
    unfold tileScore
    dsimp only
    rw [hq2, shapeCast_id, window_full]
    exact window_put_same (s := S896x256) _ ![0, 0] (SA w).size T.inbA _
  have hE : tileExp T ln2 inv cb cc bias σ
      = expGo T ln2 inv cb cc 112 0 rfl (tileScore T (tileBias T σ bias), broadcast (S8 w) (Scalar.ofBits .f32 0x00000000#32)) := rfl
  have hacc : totalV T (tileExp T ln2 inv cb cc bias σ).2 = tSum T ln2 inv cb cc (tS T σ.x8 q bias) := by
    rw [hE, expGo_acc T ln2 inv cb cc _ 112 0 rfl _ h11]; rfl
  have h12 : ∀ (j : ℕ) (hj : j < 112), window (s := S896x256) (tileExp T ln2 inv cb cc bias σ).1.x12 ![8 * j, 0] (S8 w).size (T.inb8 j hj)
      = tE ln2 inv cb cc (tS T σ.x8 q bias) j hj := fun j hj => by
    rw [hE, expGo_win T ln2 inv cb cc _ 112 0 rfl _ h11 j hj, if_pos (Nat.zero_le _)]
  have hrest : (tileExp T ln2 inv cb cc bias σ).1 = { tileScore T (tileBias T σ bias) with x12 := (tileExp T ln2 inv cb cc bias σ).1.x12 } := by
    rw [hE]; exact expGo_rest T ln2 inv cb cc 112 0 rfl _
  unfold tileOut
  rw [hacc]
  generalize hE' : tileExp T ln2 inv cb cc bias σ = E at *
  have h13 : window (s := S896x256) (probGo T (hiV (total8 T (tSum T ln2 inv cb cc (tS T σ.x8 q bias)))) (loV (total8 T (tSum T ln2 inv cb cc (tS T σ.x8 q bias)))) 56 0 rfl (tileSum T E)).x13
      ![0, 0] (SA w).size T.inbA = tP T ln2 inv cb cc (tS T σ.x8 q bias) := by
    refine stack16_eq T _ _ fun j hj => ?_
    rw [probGo_win T _ _ 56 0 rfl _ j hj, if_pos (Nat.zero_le _)]
    have e : (tileSum T E).x12 = E.1.x12 := rfl
    rw [e, h12 (2 * j) (by omega), h12 (2 * j + 1) (by omega)]
  have hr := probGo_rest T (hiV (total8 T (tSum T ln2 inv cb cc (tS T σ.x8 q bias)))) (loV (total8 T (tSum T ln2 inv cb cc (tS T σ.x8 q bias)))) 56 0 rfl (tileSum T E)
  generalize probGo T (hiV (total8 T (tSum T ln2 inv cb cc (tS T σ.x8 q bias)))) (loV (total8 T (tSum T ln2 inv cb cc (tS T σ.x8 q bias)))) 56 0 rfl (tileSum T E) = P at h13 hr ⊢
  generalize hb : E.1.x12 = b at hrest
  have hs : tileSum T E = { σ with
      x7 := put σ.x7 ![0, 0, 0, st] (SS4 w).size (shapeCast (SS4 w) (tSum T ln2 inv cb cc (tS T σ.x8 q bias)) T.castS)
      x9 := put σ.x9 ![64, st] (SR w).size (biasRows T (betaV T (scores T σ.x8 q) bias))
      x11 := (tileScore T (tileBias T σ bias)).x11
      x12 := b } := by
    unfold tileSum
    rw [hacc, hrest, ← h9]
    rfl
  rw [hs] at hr
  refine ⟨(tileScore T (tileBias T σ bias)).x11, b, P.x13, ?_⟩
  have hx10 : P.x10 = σ.x10 := by rw [hr]
  have hx1 : P.x1 = σ.x1 := by rw [hr]
  have hx6 : P.x6 = σ.x6 := by rw [hr]
  unfold tileStore
  rw [h13, hx10, hx1, hx6, window_full]
  conv_lhs => rw [hr]

end tile

end Cert.Proof.KernelIdeal

end
-- ==== Proof.SlowForm.lean ====
/-
  What the tiles of the general branch leave in the two output blocks, from the inputs alone.
-/
module

public import proofs.«01_k».proof.Proof.FastForm

@[expose] public section

set_option maxRecDepth 16384

noncomputable section

namespace Cert.Proof.KernelIdeal

open Cert.KernelIdeal Cert.KernelIdeal.Gen
open Idealize.ShloMosaic Idealize.ShloMosaic.TcCoe
open Idealize.SL.Sem
open VecWindow (window put window_put_same window_put_of_disjoint)

variable {F : FTy → Type} [FloatOps F]

/-! ## The offsets -/

theorem trips1 : k0_t1_loop.trips = 7 := by decide +kernel
theorem trips2 : k0_t2_loop.trips = 56 := by decide +kernel
theorem trips3 : k0_t3_loop.trips = 56 := by decide +kernel
theorem off16_eq : ∀ t : Fin k0_t1_loop.trips, k0_off16 t = ![0, 128 * t.val] := by decide +kernel
theorem off17_eq : ∀ t : Fin k0_t2_loop.trips, k0_off17 t = ![16 * t.val, 0] := by decide +kernel
theorem off18_eq : ∀ t : Fin k0_t2_loop.trips, k0_off18 t = ![16 * t.val, 0] := by decide +kernel
theorem off19_eq : ∀ t : Fin k0_t1_loop.trips, k0_off19 t = ![0, 0, 0, 128 * t.val] := by decide +kernel
theorem off20_eq : ∀ t : Fin k0_t3_loop.trips, k0_off20 t = ![16 * t.val, 0] := by decide +kernel
theorem off21_eq : ∀ t : Fin k0_t3_loop.trips, k0_off21 t = ![16 * t.val, 0] := by decide +kernel
theorem off25_eq : ∀ t : Fin k0_t1_loop.trips, k0_off25 t = ![0, 0, 0, 128 * t.val] := by decide +kernel

/-! ## A tile -/

theorem rows16 (j : ℕ) (h : j < 56) : ∀ a, (![16 * j, 0] : Fin 2 → Nat) a + S16x128.size a ≤ S896x128.size a := by
  intro a; match a with
  | ⟨0, _⟩ => show 16 * j + 16 ≤ 896; omega
  | ⟨1, _⟩ => show 0 + 128 ≤ 128; omega

theorem rows16' (j : ℕ) (h : j < 56) : ∀ a, (![16 * j, 0] : Fin 2 → Nat) a + S16x128.size a ≤ S896x256.size a := by
  intro a; match a with
  | ⟨0, _⟩ => show 16 * j + 16 ≤ 896; omega
  | ⟨1, _⟩ => show 0 + 128 ≤ 256; omega

theorem window_congr {α : Type} {s : Shape} (x : s.Idx → α) {off off' size : Fin s.rank → ℕ} (e : off = off') (inb : ∀ a, off a + size a ≤ s.size a)
    (inb' : ∀ a, off' a + size a ≤ s.size a) : window x off size inb = window x off' size inb' := by subst e; rfl

section tile
variable (ln2 qb qc r : Elt F .i32) (lf : Elt F .f32)

/-- The exponentials of group `j`. -/
def gE (s : FVec F S896x128 .f32) (j : ℕ) (h : j < 56) : IVec S16x128 32 :=
  slowE (slowMax s) (window (s := S896x128) s ![16 * j, 0] S16x128.size (rows16 j h)) ln2 qb qc r lf

/-- The running sum of the first `k` groups. -/
def gAcc (s : FVec F S896x128 .f32) : ℕ → IVec S16x128 32
  | 0 => broadcast S16x128 0#32
  | k + 1 => if h : k < 56 then addi (gAcc s k) (gE ln2 qb qc r lf s k h) else gAcc s k

/-- The tile's row sums. -/
def gSum (s : FVec F S896x128 .f32) : IVec S1x128 32 := slowTotal (gAcc ln2 qb qc r lf s 56)

/-- The tile's probabilities. -/
def gP (s : FVec F S896x128 .f32) : Vec F S896x128 .bf16 := fun y =>
  slowP (F := F) (gE ln2 qb qc r lf s ((y 0).val / 16) (by have : (y 0).val < 896 := (y 0).isLt; omega)) (gSum ln2 qb qc r lf s)
    (ix2 (n0 := 16) (n1 := 128) ⟨(y 0).val % 16, by omega⟩ (y 1))

theorem slowEAt_eq (s : FVec F S896x128 .f32) (x11 : Vec F S896x256 .f32) (hs : window (s := S896x256) x11 ![0, 0] S896x128.size inb_S896x256_S896x128_0_0 = s)
    (k : ℕ) (h : k < k0_t2_loop.trips) : slowEAt (slowMax s) ln2 qb qc r lf x11 ⟨k, h⟩ = gE ln2 qb qc r lf s k (trips2 ▸ h) := by
  unfold slowEAt gE
  congr 1
  rw [window_congr (s := S896x256) x11 (off17_eq ⟨k, h⟩) (k0_off17_inb ⟨k, h⟩) (rows16' k (trips2 ▸ h))]
  subst hs
  funext y
  refine congrArg x11 (funext fun a => Fin.ext ?_)
  match a with
  | ⟨0, _⟩ => show 16 * k + 1 * (y 0).val = 0 + 1 * (16 * k + 1 * (y 0).val); omega
  | ⟨1, _⟩ => show 0 + 1 * (y 1).val = 0 + 1 * (0 + 1 * (y 1).val); omega

theorem slowExpGo_rest (mx : FVec F S1x128 .f32) (σ : Cells F) : ∀ k : ℕ,
    (slowExpGo mx ln2 qb qc r lf σ k).1 = { σ with x14 := (slowExpGo mx ln2 qb qc r lf σ k).1.x14 }
  | 0 => rfl
  | k + 1 => by
    unfold slowExpGo
    by_cases h : k < k0_t2_loop.trips
    · rw [dif_pos h]; dsimp only; rw [slowExpGo_rest mx σ k]
    · rw [dif_neg h]; exact slowExpGo_rest mx σ k

theorem slowExpGo_acc (s : FVec F S896x128 .f32) (σ : Cells F) (hs : window (s := S896x256) σ.x11 ![0, 0] S896x128.size inb_S896x256_S896x128_0_0 = s) :
    ∀ k : ℕ, (slowExpGo (slowMax s) ln2 qb qc r lf σ k).2 = gAcc ln2 qb qc r lf s k
  | 0 => rfl
  | k + 1 => by
    have e11 : (slowExpGo (slowMax s) ln2 qb qc r lf σ k).1.x11 = σ.x11 := by rw [slowExpGo_rest]
    unfold slowExpGo gAcc
    by_cases h : k < k0_t2_loop.trips
    · rw [dif_pos h, dif_pos (trips2 ▸ h)]; dsimp only
      rw [e11, slowEAt_eq ln2 qb qc r lf s σ.x11 hs k h, slowExpGo_acc s σ hs k]
    · rw [dif_neg h, dif_neg (trips2 ▸ h)]; exact slowExpGo_acc s σ hs k

theorem slowExpGo_win (s : FVec F S896x128 .f32) (σ : Cells F) (hs : window (s := S896x256) σ.x11 ![0, 0] S896x128.size inb_S896x256_S896x128_0_0 = s) :
    ∀ (k : ℕ) (j : ℕ) (hj : j < 56), j < k →
    window (s := S896x128) (slowExpGo (slowMax s) ln2 qb qc r lf σ k).1.x14 ![16 * j, 0] S16x128.size (rows16 j hj) = gE ln2 qb qc r lf s j hj
  | 0, _, _, h => absurd h (Nat.not_lt_zero _)
  | k + 1, j, hj, hk => by
    have e11 : (slowExpGo (slowMax s) ln2 qb qc r lf σ k).1.x11 = σ.x11 := by rw [slowExpGo_rest]
    unfold slowExpGo
    by_cases h : k < k0_t2_loop.trips
    · rw [dif_pos h]; dsimp only
      rw [off18_eq, shapeCast_id, e11, slowEAt_eq ln2 qb qc r lf s σ.x11 hs k h]
      by_cases e : j = k
      · subst e
        exact window_put_same (s := S896x128) _ ![16 * j, 0] S16x128.size (rows16 j hj) _
      · refine (window_put_of_disjoint (s := S896x128) _ ![16 * k, 0] S16x128.size ![16 * j, 0] S16x128.size (rows16 j hj) _ (0 : Fin 2)
          (Or.inl (by show 16 * j + 16 ≤ 16 * k; omega))).trans ?_
        exact slowExpGo_win s σ hs k j hj (by omega)
    · rw [dif_neg h]; exact slowExpGo_win s σ hs k j hj (by have := trips2; omega)

theorem slowProbGo_rest (tot : IVec S1x128 32) (σ : Cells F) : ∀ k : ℕ, slowProbGo tot σ k = { σ with x13 := (slowProbGo tot σ k).x13 }
  | 0 => rfl
  | k + 1 => by
    unfold slowProbGo
    by_cases h : k < k0_t3_loop.trips
    · rw [dif_pos h]; dsimp only; rw [slowProbGo_rest tot σ k]
    · rw [dif_neg h]; exact slowProbGo_rest tot σ k

theorem slowProbGo_win (tot : IVec S1x128 32) (σ : Cells F) : ∀ (k : ℕ) (j : ℕ) (hj : j < 56), j < k →
    window (s := S896x256) (slowProbGo tot σ k).x13 ![16 * j, 0] S16x128.size (rows16' j hj)
      = slowP (F := F) (window (s := S896x128) σ.x14 ![16 * j, 0] S16x128.size (rows16 j hj)) tot
  | 0, _, _, h => absurd h (Nat.not_lt_zero _)
  | k + 1, j, hj, hk => by
    have e14 : (slowProbGo tot σ k).x14 = σ.x14 := by rw [slowProbGo_rest]
    unfold slowProbGo
    by_cases h : k < k0_t3_loop.trips
    · rw [dif_pos h]; dsimp only
      rw [off21_eq, shapeCast_id, e14, window_congr (s := S896x128) σ.x14 (off20_eq ⟨k, h⟩) (k0_off20_inb ⟨k, h⟩) (rows16 k (trips3 ▸ h))]
      by_cases e : j = k
      · subst e
        exact window_put_same (s := S896x256) _ ![16 * j, 0] S16x128.size (rows16' j hj) _
      · refine (window_put_of_disjoint (s := S896x256) _ ![16 * k, 0] S16x128.size ![16 * j, 0] S16x128.size (rows16' j hj) _ (0 : Fin 2)
          (Or.inl (by show 16 * j + 16 ≤ 16 * k; omega))).trans ?_
        exact slowProbGo_win tot σ k j hj (by omega)
    · rw [dif_neg h]; exact slowProbGo_win tot σ k j hj (by have := trips3; omega)

/-- The scores of tile `t`, from the scratch keys and queries. -/
def gScores (x8 : Vec F S896x128 .bf16) (x9 : Vec F S128x896 .bf16) (t : Fin k0_t1_loop.trips) : FVec F S896x128 .f32 :=
  slowScores (window (s := S896x128) x8 ![0, 0] S896x64.size inb_S896x128_S896x64_0_0) (window (s := S128x896) x9 (k0_off16 t) S64x128.size (k0_off16_inb t))

/-- The output and the row sums of tile `t`. -/
def gO (i : grid0.Coords) (x1 : Vec F S16x8 .i32) (x8 : Vec F S896x128 .bf16) (x9 : Vec F S128x896 .bf16) (x10 : Vec F S64x896 .bf16) (t : Fin k0_t1_loop.trips) : IVec S64x128 8 :=
  slowOut x10 (gP ln2 qb qc r lf (gScores x8 x9 t)) (window (s := S16x8) x1 (k0_off22 i) S1x1.size (k0_off22_inb i) one11)
    (window (s := S16x8) x1 (k0_off23 i) S1x1.size (k0_off23_inb i) one11) (window (s := S16x8) x1 (k0_off24 i) S1x1.size (k0_off24_inb i) one11)

theorem slowTileOut_form (i : grid0.Coords) (t : Fin k0_t1_loop.trips) (σ : Cells F) :
    ∃ a d f, slowTileOut i ln2 qb qc r lf t σ = { σ with
      x6 := put σ.x6 (k0_off25 t) S1x1x64x128.size (shapeCast S1x1x64x128 (gO ln2 qb qc r lf i σ.x1 σ.x8 σ.x9 σ.x10 t) shapeCasts_S64x128_S1x1x64x128)
      x7 := put σ.x7 (k0_off19 t) S1x1x1x128.size (shapeCast S1x1x1x128 (gSum ln2 qb qc r lf (gScores σ.x8 σ.x9 t)) shapeCasts_S1x128_S1x1x1x128)
      x11 := a
      x13 := d
      x14 := f } := by
  have hS : slowScoresAt σ t = gScores σ.x8 σ.x9 t := rfl
  generalize hg : gScores σ.x8 σ.x9 t = S at hS
  have h11 : window (s := S896x256) (put σ.x11 ![0, 0] S896x128.size (shapeCast S896x128 S shapeCasts_S896x128_S896x128)) ![0, 0] S896x128.size inb_S896x256_S896x128_0_0 = S := by
    rw [shapeCast_id]
    exact window_put_same (s := S896x256) _ ![0, 0] S896x128.size inb_S896x256_S896x128_0_0 _
  have hE : slowTileExp ln2 qb qc r lf t σ = slowExpGo (slowMax S) ln2 qb qc r lf
      { σ with x11 := put σ.x11 ![0, 0] S896x128.size (shapeCast S896x128 S shapeCasts_S896x128_S896x128) } k0_t2_loop.trips := by unfold slowTileExp; rw [hS]
  have hacc : slowTotal (slowTileExp ln2 qb qc r lf t σ).2 = gSum ln2 qb qc r lf S := by
    rw [hE, slowExpGo_acc ln2 qb qc r lf S _ h11, trips2]; rfl
  have h14 : ∀ (j : ℕ) (hj : j < 56), window (s := S896x128) (slowTileExp ln2 qb qc r lf t σ).1.x14 ![16 * j, 0] S16x128.size (rows16 j hj) = gE ln2 qb qc r lf S j hj := fun j hj => by
    rw [hE]; exact slowExpGo_win ln2 qb qc r lf S _ h11 _ j hj (by rw [trips2]; exact hj)
  have hrest : (slowTileExp ln2 qb qc r lf t σ).1 = { σ with
      x11 := put σ.x11 ![0, 0] S896x128.size (shapeCast S896x128 S shapeCasts_S896x128_S896x128)
      x14 := (slowTileExp ln2 qb qc r lf t σ).1.x14 } := by
    rw [hE]; exact slowExpGo_rest ln2 qb qc r lf _ _ _
  unfold slowTileOut
  rw [hacc]
  generalize hE' : slowTileExp ln2 qb qc r lf t σ = E at *
  have h13 : window (s := S896x256) (slowProbGo (gSum ln2 qb qc r lf S) (slowTileSum t E) k0_t3_loop.trips).x13 ![0, 0] S896x128.size inb_S896x256_S896x128_0_0 = gP ln2 qb qc r lf S := by
    funext y
    have hy : (y 0).val < 896 := (y 0).isLt
    unfold gP
    rw [← h14]
    have := slowProbGo_win (F := F) (gSum ln2 qb qc r lf S) (slowTileSum t E) k0_t3_loop.trips ((y 0).val / 16) (by omega) (by rw [trips3]; omega)
    have e : (slowTileSum t E).x14 = E.1.x14 := rfl
    rw [e] at this
    rw [← this]
    refine congrArg (slowProbGo (gSum ln2 qb qc r lf S) (slowTileSum t E) k0_t3_loop.trips).x13 (funext fun a => Fin.ext ?_)
    match a with
    | ⟨0, _⟩ => show 0 + 1 * (y 0).val = 16 * ((y 0).val / 16) + 1 * ((y 0).val % 16); omega
    | ⟨1, _⟩ => show 0 + 1 * (y 1).val = 0 + 1 * (y 1).val; omega
  have hr := slowProbGo_rest (F := F) (gSum ln2 qb qc r lf S) (slowTileSum t E) k0_t3_loop.trips
  generalize slowProbGo (gSum ln2 qb qc r lf S) (slowTileSum t E) k0_t3_loop.trips = P at h13 hr ⊢
  generalize hb : E.1.x14 = b at hrest
  have hs : slowTileSum t E = { σ with
      x7 := put σ.x7 (k0_off19 t) S1x1x1x128.size (shapeCast S1x1x1x128 (gSum ln2 qb qc r lf S) shapeCasts_S1x128_S1x1x1x128)
      x11 := put σ.x11 ![0, 0] S896x128.size (shapeCast S896x128 S shapeCasts_S896x128_S896x128)
      x14 := b } := by
    unfold slowTileSum
    rw [hacc, hrest]
  rw [hs] at hr
  refine ⟨put σ.x11 ![0, 0] S896x128.size (shapeCast S896x128 S shapeCasts_S896x128_S896x128), P.x13, b, ?_⟩
  have hx10 : P.x10 = σ.x10 := by rw [hr]
  have hx1 : P.x1 = σ.x1 := by rw [hr]
  have hx6 : P.x6 = σ.x6 := by rw [hr]
  unfold slowTileStore gO word1
  rw [h13, hx10, hx1, hx6, window_full, hg]
  conv_lhs => rw [hr]

/-- The tiles of the general branch, in terms of what they find. -/
theorem slowGo_form (i : grid0.Coords) (σ : Cells F) : ∀ k : ℕ, ∃ a6 a7 a11 a13 a14,
    slowGo i ln2 qb qc r lf σ k = { σ with x6 := a6, x7 := a7, x11 := a11, x13 := a13, x14 := a14 }
    ∧ ∀ t : Fin k0_t1_loop.trips, t.val < k →
      window (s := S1x1x64x896) a6 (k0_off25 t) S1x1x64x128.size (k0_off25_inb t) = shapeCast S1x1x64x128 (gO ln2 qb qc r lf i σ.x1 σ.x8 σ.x9 σ.x10 t) shapeCasts_S64x128_S1x1x64x128
      ∧ window (s := S1x1x1x896) a7 (k0_off19 t) S1x1x1x128.size (k0_off19_inb t) = shapeCast S1x1x1x128 (gSum ln2 qb qc r lf (gScores σ.x8 σ.x9 t)) shapeCasts_S1x128_S1x1x1x128
  | 0 => ⟨σ.x6, σ.x7, σ.x11, σ.x13, σ.x14, rfl, fun _ h => absurd h (Nat.not_lt_zero _)⟩
  | k + 1 => by
    obtain ⟨a6, a7, a11, a13, a14, e, hw⟩ := slowGo_form i σ k
    unfold slowGo
    by_cases h : k < k0_t1_loop.trips
    · rw [dif_pos h, e]
      obtain ⟨b11, b13, b14, e'⟩ := slowTileOut_form ln2 qb qc r lf i ⟨k, h⟩ { σ with x6 := a6, x7 := a7, x11 := a11, x13 := a13, x14 := a14 }
      rw [e']
      refine ⟨_, _, b11, b13, b14, rfl, fun t ht => ?_⟩
      dsimp only
      by_cases et : t.val = k
      · obtain rfl : t = ⟨k, h⟩ := Fin.ext et
        exact ⟨window_put_same (s := S1x1x64x896) _ _ S1x1x64x128.size _ _, window_put_same (s := S1x1x1x896) _ _ S1x1x1x128.size _ _⟩
      · constructor
        · refine (window_put_of_disjoint (s := S1x1x64x896) _ _ S1x1x64x128.size _ S1x1x64x128.size _ _ (3 : Fin 4) (Or.inl ?_)).trans (hw t (by omega)).1
          rw [off25_eq, off25_eq]; show 128 * t.val + 128 ≤ 128 * k; omega
        · refine (window_put_of_disjoint (s := S1x1x1x896) _ _ S1x1x1x128.size _ S1x1x1x128.size _ _ (3 : Fin 4) (Or.inl ?_)).trans (hw t (by omega)).2
          rw [off19_eq, off19_eq]; show 128 * t.val + 128 ≤ 128 * k; omega
    · rw [dif_neg h]
      exact ⟨a6, a7, a11, a13, a14, e, fun t _ => hw t (by have := t.isLt; omega)⟩

end tile

end Cert.Proof.KernelIdeal

end
-- ==== Proof.BodyForm.lean ====
/-
  What one grid point leaves in its two output blocks, from the five input blocks alone.
-/
module

public import proofs.«01_k».proof.Proof.SlowForm

@[expose] public section

set_option maxRecDepth 16384

noncomputable section

namespace Cert.Proof.KernelIdeal

open Cert.KernelIdeal Cert.KernelIdeal.Gen
open Idealize.ShloMosaic Idealize.ShloMosaic.TcCoe
open Idealize.SL.Sem
open VecWindow (window put window_put_same window_put_of_disjoint)

variable {F : FTy → Type} [FloatOps F]

/-! ## The fast branch -/

section fast
variable {w st : ℕ} (T : TileOk w st) (i : grid0.Coords) (ln2 inv cb cc bias : F .f32)
variable (x1 : Vec F S16x8 .i32) (x8 : Vec F S896x128 .bf16) (x9 : Vec F S128x896 .bf16) (x10 : Vec F S64x896 .bf16)

/-- The tile's outputs. -/
def fO : IVec (SO w) 8 :=
  quantV (outs T x10 (tP T ln2 inv cb cc (tS T x8 (window (s := S128x896) x9 ![0, st] (SQ w).size T.inbQ) bias)))
    (window (s := S16x8) x1 (k0_off7 i) S1x1.size (k0_off7_inb i) one11) (window (s := S16x8) x1 (k0_off8 i) S1x1.size (k0_off8_inb i) one11)
    (window (s := S16x8) x1 (k0_off9 i) S1x1.size (k0_off9_inb i) one11)

/-- The tile's row sums. -/
def fS : IVec (S1 w) 32 := tSum T ln2 inv cb cc (tS T x8 (window (s := S128x896) x9 ![0, st] (SQ w).size T.inbQ) bias)

/-- A tile's windows of two output blocks hold what the tile computes. -/
def FastHolds (a6 : Vec F S1x1x64x896 .i8) (a7 : Vec F S1x1x1x896 .i32) : Prop :=
  window (s := S1x1x64x896) a6 ![0, 0, 0, st] (SO4 w).size T.inbO = shapeCast (SO4 w) (fO T i ln2 inv cb cc bias x1 x8 x9 x10) T.castO
  ∧ window (s := S1x1x1x896) a7 ![0, 0, 0, st] (SS4 w).size T.inbS = shapeCast (SS4 w) (fS T ln2 inv cb cc bias x8 x9) T.castS

end fast

section fastall
variable (i : grid0.Coords) (ln2 inv cb cc bias : F .f32)

/-- One more tile: what it computes is there, and the tiles to its left stay. -/
theorem tile_step {w st : ℕ} (T : TileOk w st) (σ : Cells F) (a6 : Vec F S1x1x64x896 .i8) (a7 : Vec F S1x1x1x896 .i32) (a9 : Vec F S128x896 .bf16)
    (a11 a12 : Vec F S896x256 .f32) (a13 : Vec F S896x256 .bf16)
    (h9 : ∀ {w' st' : ℕ} (T' : TileOk w' st'), st ≤ st' → window (s := S128x896) a9 ![0, st'] (SQ w').size T'.inbQ = window (s := S128x896) σ.x9 ![0, st'] (SQ w').size T'.inbQ) :
    ∃ b6 b7 b9 b11 b12 b13,
      tileOut T i ln2 inv cb cc bias { σ with x6 := a6, x7 := a7, x9 := a9, x11 := a11, x12 := a12, x13 := a13 }
        = { σ with x6 := b6, x7 := b7, x9 := b9, x11 := b11, x12 := b12, x13 := b13 }
      ∧ FastHolds T i ln2 inv cb cc bias σ.x1 σ.x8 σ.x9 σ.x10 b6 b7
      ∧ (∀ {w' st' : ℕ} (T' : TileOk w' st'), st' + w' ≤ st → FastHolds T' i ln2 inv cb cc bias σ.x1 σ.x8 σ.x9 σ.x10 a6 a7 → FastHolds T' i ln2 inv cb cc bias σ.x1 σ.x8 σ.x9 σ.x10 b6 b7)
      ∧ (∀ {w' st' : ℕ} (T' : TileOk w' st'), st + w ≤ st' → window (s := S128x896) b9 ![0, st'] (SQ w').size T'.inbQ = window (s := S128x896) σ.x9 ![0, st'] (SQ w').size T'.inbQ) := by
  obtain ⟨a, b, d, e⟩ := tileOut_form T i ln2 inv cb cc bias { σ with x6 := a6, x7 := a7, x9 := a9, x11 := a11, x12 := a12, x13 := a13 } _ (h9 T (Nat.le_refl _))
  rw [e]
  refine ⟨_, _, _, a, b, d, rfl, ⟨?_, ?_⟩, fun {w' st'} T' hle hf => ⟨?_, ?_⟩, fun {w' st'} T' hle => ?_⟩
  · exact window_put_same (s := S1x1x64x896) _ _ (SO4 w).size _ _
  · exact window_put_same (s := S1x1x1x896) _ _ (SS4 w).size _ _
  · exact (window_put_of_disjoint (s := S1x1x64x896) _ ![0, 0, 0, st] (SO4 w).size ![0, 0, 0, st'] (SO4 w').size _ _ (3 : Fin 4) (Or.inl (by show st' + w' ≤ st; exact hle))).trans hf.1
  · exact (window_put_of_disjoint (s := S1x1x1x896) _ ![0, 0, 0, st] (SS4 w).size ![0, 0, 0, st'] (SS4 w').size _ _ (3 : Fin 4) (Or.inl (by show st' + w' ≤ st; exact hle))).trans hf.2
  · refine (window_put_of_disjoint (s := S128x896) _ ![64, st] (SR w).size ![0, st'] (SQ w').size _ _ (1 : Fin 2) (Or.inr (by show st + w ≤ st'; exact hle))).trans ?_
    exact h9 T' (by omega)

theorem fastOut_form (σ : Cells F) (e1 : word2 σ (k0_off2 i) (k0_off2_inb i) = ln2) (e2 : word2 σ (k0_off3 i) (k0_off3_inb i) = inv)
    (e3 : word2 σ (k0_off4 i) (k0_off4_inb i) = cb) (e4 : word2 σ (k0_off5 i) (k0_off5_inb i) = cc) (e5 : word2 σ (k0_off6 i) (k0_off6_inb i) = bias) :
    ∃ b6 b7 b9 b11 b12 b13, fastOut i σ = { σ with x6 := b6, x7 := b7, x9 := b9, x11 := b11, x12 := b12, x13 := b13 }
      ∧ FastHolds ok0 i ln2 inv cb cc bias σ.x1 σ.x8 σ.x9 σ.x10 b6 b7 ∧ FastHolds ok1 i ln2 inv cb cc bias σ.x1 σ.x8 σ.x9 σ.x10 b6 b7
      ∧ FastHolds ok2 i ln2 inv cb cc bias σ.x1 σ.x8 σ.x9 σ.x10 b6 b7 ∧ FastHolds ok3 i ln2 inv cb cc bias σ.x1 σ.x8 σ.x9 σ.x10 b6 b7 := by
  unfold fastOut
  rw [e1, e2, e3, e4, e5]
  dsimp only
  obtain ⟨c6, c7, c9, c11, c12, c13, h0, f0, -, n0⟩ := tile_step i ln2 inv cb cc bias ok0 σ σ.x6 σ.x7 σ.x9 σ.x11 σ.x12 σ.x13 fun _ _ => rfl
  obtain ⟨d6, d7, d9, d11, d12, d13, h1, f1, p1, n1⟩ := tile_step i ln2 inv cb cc bias ok1 σ c6 c7 c9 c11 c12 c13 n0
  obtain ⟨e6, e7, e9, e11, e12, e13, h2, f2, p2, n2⟩ := tile_step i ln2 inv cb cc bias ok2 σ d6 d7 d9 d11 d12 d13 n1
  obtain ⟨f6, f7, f9, f11, f12, f13, h3, f3, p3, n3⟩ := tile_step i ln2 inv cb cc bias ok3 σ e6 e7 e9 e11 e12 e13 n2
  have h0' : tileOut ok0 i ln2 inv cb cc bias σ = _ := h0
  refine ⟨f6, f7, f9, f11, f12, f13, ?_, p3 ok0 (by omega) (p2 ok0 (by omega) (p1 ok0 (by omega) f0)), p3 ok1 (by omega) (p2 ok1 (by omega) f1), p3 ok2 (by omega) f2, f3⟩
  rw [h0', h1, h2, h3]

end fastall

/-! ## The prelude -/

/-- The queries' codes with rows of zeros below them. -/
def qaugV (q : Vec F S1x1x64x896 .i8) : Vec F S128x896 .bf16 := fun y =>
  if h : (y 0).val < 64 then codesV (F := F) q (ix2 (n0 := 64) (n1 := 896) ⟨(y 0).val, h⟩ (y 1)) else Scalar.ofBits .bf16 0x0000#16

theorem preludeOut_eq (σ : Cells F) : preludeOut σ = { σ with x8 := kaugV σ.x4, x9 := qaugV σ.x3, x10 := codesV σ.x5 } := by
  have e9 : (preludeOut σ).x9 = qaugV σ.x3 := by
    funext y
    have hy : (y 0).val < 128 := (y 0).isLt
    have hy1 : (y 1).val < 896 := (y 1).isLt
    unfold preludeOut qaugV
    dsimp only
    rw [shapeCast_id, shapeCast_id, window_full]
    by_cases h : (y 0).val < 64
    · rw [dif_pos h]
      unfold put
      rw [dif_neg (fun hh => by have := (hh 0).1; change 64 ≤ (y 0).val at this; omega), dif_pos (fun a => by
        match a with
        | ⟨0, _⟩ => exact ⟨Nat.zero_le _, by show (y 0).val < 0 + 64; omega⟩
        | ⟨1, _⟩ => exact ⟨Nat.zero_le _, by show (y 1).val < 0 + 896; omega⟩)]
      refine congrArg (codesV (F := F) σ.x3) (funext fun a => Fin.ext ?_)
      match a with
      | ⟨0, _⟩ => show (y 0).val - 0 = (y 0).val; omega
      | ⟨1, _⟩ => show (y 1).val - 0 = (y 1).val; omega
    · rw [dif_neg h]
      unfold put
      rw [dif_pos (fun a => by
        match a with
        | ⟨0, _⟩ => exact ⟨by show 64 ≤ (y 0).val; omega, by show (y 0).val < 64 + 64; omega⟩
        | ⟨1, _⟩ => exact ⟨Nat.zero_le _, by show (y 1).val < 0 + 896; omega⟩)]
      rfl
  rw [← e9]
  unfold preludeOut
  have e4 := window_full (s := S1x1x64x896) σ.x4 _ inb_S1x1x64x896_S1x1x64x896_0_0_0_0
  have e5 := window_full (s := S1x1x64x896) σ.x5 _ inb_S1x1x64x896_S1x1x64x896_0_0_0_0
  rw [put_full (s := S896x128) _ _ inb_S896x128_S896x128_0_0, put_full (s := S64x896) σ.x10 _ inb_S64x896_S64x896_0_0, e4, e5]
  simp only [shapeCast_id]

/-! ## The body -/

section body
variable (i : grid0.Coords) (σ : Cells F)

theorem isOff_of (v : Elt F .i32) : isOff (F := F) v = 1#1 ↔ ¬ isOn (F := F) v = 1#1 := by
  have key : ∀ b : BitVec 32, (Scalar.cmpi .ne (Scalar.extui (Scalar.cmpi .eq b 0#32) : BitVec 32) 0#32 = 1#1)
      ↔ ¬ (Scalar.cmpi .ne (Scalar.extui (Scalar.cmpi .ne b 0#32) : BitVec 32) 0#32 = 1#1) := fun b => by
    by_cases h : b = 0#32
    · subst h; decide
    · have e1 : Scalar.cmpi .ne b 0#32 = 1#1 := by exact congrArg BitVec.ofBool (show (b != 0#32) = true from bne_iff_ne.2 h)
      have e2 : Scalar.cmpi .eq b 0#32 = 0#1 := by exact congrArg BitVec.ofBool (show (b == 0#32) = false from beq_eq_false_iff_ne.2 h)
      rw [e1, e2]; decide
  exact key v

/-- The word that chooses the branch. -/
def flag (x1 : Vec F S16x8 .i32) : Elt F .i32 := window (s := S16x8) x1 (k0_off1 i) S1x1.size (k0_off1_inb i) one11

/-- What the fast branch leaves in the output blocks. -/
def IsFast (x1 : Vec F S16x8 .i32) (x2 : Vec F S16x5 .f32) (x3 x4 x5 : Vec F S1x1x64x896 .i8) (a6 : Vec F S1x1x64x896 .i8) (a7 : Vec F S1x1x1x896 .i32) : Prop :=
  ∀ {w st : ℕ} (T : TileOk w st), (st = 0 ∧ w = 256 ∨ st = 256 ∧ w = 256 ∨ st = 512 ∧ w = 256 ∨ st = 768 ∧ w = 128) →
    FastHolds T i (window (s := S16x5) x2 (k0_off2 i) S1x1.size (k0_off2_inb i) one11) (window (s := S16x5) x2 (k0_off3 i) S1x1.size (k0_off3_inb i) one11)
      (window (s := S16x5) x2 (k0_off4 i) S1x1.size (k0_off4_inb i) one11) (window (s := S16x5) x2 (k0_off5 i) S1x1.size (k0_off5_inb i) one11)
      (window (s := S16x5) x2 (k0_off6 i) S1x1.size (k0_off6_inb i) one11) x1 (kaugV x4) (qaugV x3) (codesV x5) a6 a7

/-- What the general branch leaves in the output blocks. -/
def IsSlow (x1 : Vec F S16x8 .i32) (x2 : Vec F S16x5 .f32) (x3 x4 x5 : Vec F S1x1x64x896 .i8) (a6 : Vec F S1x1x64x896 .i8) (a7 : Vec F S1x1x1x896 .i32) : Prop :=
  ∀ t : Fin k0_t1_loop.trips,
    window (s := S1x1x64x896) a6 (k0_off25 t) S1x1x64x128.size (k0_off25_inb t) = shapeCast S1x1x64x128 (gO (window (s := S16x8) x1 (k0_off11 i) S1x1.size (k0_off11_inb i) one11)
        (window (s := S16x8) x1 (k0_off12 i) S1x1.size (k0_off12_inb i) one11) (window (s := S16x8) x1 (k0_off13 i) S1x1.size (k0_off13_inb i) one11)
        (window (s := S16x8) x1 (k0_off14 i) S1x1.size (k0_off14_inb i) one11) (window (s := S16x5) x2 (k0_off15 i) S1x1.size (k0_off15_inb i) one11)
        i x1 (kaugV x4) (qaugV x3) (codesV x5) t) shapeCasts_S64x128_S1x1x64x128
    ∧ window (s := S1x1x1x896) a7 (k0_off19 t) S1x1x1x128.size (k0_off19_inb t) = shapeCast S1x1x1x128 (gSum (window (s := S16x8) x1 (k0_off11 i) S1x1.size (k0_off11_inb i) one11)
        (window (s := S16x8) x1 (k0_off12 i) S1x1.size (k0_off12_inb i) one11) (window (s := S16x8) x1 (k0_off13 i) S1x1.size (k0_off13_inb i) one11)
        (window (s := S16x8) x1 (k0_off14 i) S1x1.size (k0_off14_inb i) one11) (window (s := S16x5) x2 (k0_off15 i) S1x1.size (k0_off15_inb i) one11)
        (gScores (kaugV x4) (qaugV x3) t)) shapeCasts_S1x128_S1x1x1x128

/-- What the body leaves in the output blocks. -/
def IsOut (x1 : Vec F S16x8 .i32) (x2 : Vec F S16x5 .f32) (x3 x4 x5 : Vec F S1x1x64x896 .i8) (a6 : Vec F S1x1x64x896 .i8) (a7 : Vec F S1x1x1x896 .i32) : Prop :=
  (isOn (F := F) (flag i x1) = 1#1 → IsFast i x1 x2 x3 x4 x5 a6 a7) ∧ (¬ isOn (F := F) (flag i x1) = 1#1 → IsSlow i x1 x2 x3 x4 x5 a6 a7)

theorem bodyOut_form : ∃ a6 a7 a8 a9 a10 a11 a12 a13 a14,
    bodyOut i σ = { σ with x6 := a6, x7 := a7, x8 := a8, x9 := a9, x10 := a10, x11 := a11, x12 := a12, x13 := a13, x14 := a14 }
    ∧ IsOut i σ.x1 σ.x2 σ.x3 σ.x4 σ.x5 a6 a7 := by
  unfold bodyOut
  rw [preludeOut_eq]
  by_cases h : isOn (F := F) (flag i σ.x1) = 1#1
  · obtain ⟨b6, b7, b9, b11, b12, b13, e, f0, f1, f2, f3⟩ := fastOut_form i _ _ _ _ _ { σ with x8 := kaugV σ.x4, x9 := qaugV σ.x3, x10 := codesV σ.x5 } rfl rfl rfl rfl rfl
    have e1 : afterFast i { σ with x8 := kaugV σ.x4, x9 := qaugV σ.x3, x10 := codesV σ.x5 } = _ := (if_pos h).trans e
    rw [e1]
    refine ⟨b6, b7, _, b9, _, b11, b12, b13, σ.x14, (if_neg fun hh => (isOff_of _).1 hh h), fun _ => ?_, fun hn => absurd h hn⟩
    intro w st T hc
    rcases hc with ⟨rfl, rfl⟩ | ⟨rfl, rfl⟩ | ⟨rfl, rfl⟩ | ⟨rfl, rfl⟩
    · exact f0
    · exact f1
    · exact f2
    · exact f3
  · have e1 : afterFast i { σ with x8 := kaugV σ.x4, x9 := qaugV σ.x3, x10 := codesV σ.x5 } = { σ with x8 := kaugV σ.x4, x9 := qaugV σ.x3, x10 := codesV σ.x5 } := if_neg h
    rw [e1]
    obtain ⟨a6, a7, a11, a13, a14, e, hw⟩ := slowGo_form (window (s := S16x8) σ.x1 (k0_off11 i) S1x1.size (k0_off11_inb i) one11)
        (window (s := S16x8) σ.x1 (k0_off12 i) S1x1.size (k0_off12_inb i) one11) (window (s := S16x8) σ.x1 (k0_off13 i) S1x1.size (k0_off13_inb i) one11)
        (window (s := S16x8) σ.x1 (k0_off14 i) S1x1.size (k0_off14_inb i) one11) (window (s := S16x5) σ.x2 (k0_off15 i) S1x1.size (k0_off15_inb i) one11)
        i { σ with x8 := kaugV σ.x4, x9 := qaugV σ.x3, x10 := codesV σ.x5 } k0_t1_loop.trips
    refine ⟨a6, a7, _, _, _, a11, σ.x12, a13, a14, (if_pos ((isOff_of _).2 h)).trans e, fun hn => absurd hn h, fun _ t => hw t t.isLt⟩

theorem bodyOut_keeps : (bodyOut i σ).x1 = σ.x1 ∧ (bodyOut i σ).x2 = σ.x2 ∧ (bodyOut i σ).x3 = σ.x3 ∧ (bodyOut i σ).x4 = σ.x4 ∧ (bodyOut i σ).x5 = σ.x5 := by
  obtain ⟨_, _, _, _, _, _, _, _, _, e, -⟩ := bodyOut_form i σ
  rw [e]
  exact ⟨rfl, rfl, rfl, rfl, rfl⟩

theorem bodyOut_isOut : IsOut i σ.x1 σ.x2 σ.x3 σ.x4 σ.x5 (bodyOut i σ).x6 (bodyOut i σ).x7 := by
  obtain ⟨_, _, _, _, _, _, _, _, _, e, h⟩ := bodyOut_form i σ
  rw [e]
  exact h

end body

/-! ## The output blocks are determined -/

/-- A query's tile of the fast branch. -/
theorem fast_tile (n : ℕ) (h : n < 896) : ∃ w st, TileOk w st ∧ (st = 0 ∧ w = 256 ∨ st = 256 ∧ w = 256 ∨ st = 512 ∧ w = 256 ∨ st = 768 ∧ w = 128) ∧ st ≤ n ∧ n < st + w := by
  by_cases h0 : n < 256
  · exact ⟨256, 0, ok0, by omega, by omega, by omega⟩
  by_cases h1 : n < 512
  · exact ⟨256, 256, ok1, by omega, by omega, by omega⟩
  by_cases h2 : n < 768
  · exact ⟨256, 512, ok2, by omega, by omega, by omega⟩
  · exact ⟨128, 768, ok3, by omega, by omega, by omega⟩

theorem isOut_unique (i : grid0.Coords) (x1 : Vec F S16x8 .i32) (x2 : Vec F S16x5 .f32) (x3 x4 x5 : Vec F S1x1x64x896 .i8) (a6 b6 : Vec F S1x1x64x896 .i8) (a7 b7 : Vec F S1x1x1x896 .i32)
    (ha : IsOut i x1 x2 x3 x4 x5 a6 a7) (hb : IsOut i x1 x2 x3 x4 x5 b6 b7) : a6 = b6 ∧ a7 = b7 := by
  by_cases h : isOn (F := F) (flag i x1) = 1#1
  · have ha : IsFast i x1 x2 x3 x4 x5 a6 a7 := ha.1 h
    have hb : IsFast i x1 x2 x3 x4 x5 b6 b7 := hb.1 h
    constructor
    · funext y
      have y0 : (y 0).val < 1 := (y 0).isLt
      have y1 : (y 1).val < 1 := (y 1).isLt
      have y2 : (y 2).val < 64 := (y 2).isLt
      obtain ⟨w, st, T, hc, hl, hu⟩ := fast_tile (y 3).val (y 3).isLt
      have hy : ∀ a, (![0, 0, 0, st] : Fin 4 → ℕ) a ≤ (y a).val ∧ (y a).val < (![0, 0, 0, st] : Fin 4 → ℕ) a + (SO4 w).size a := fun a => by
        match a with
        | ⟨0, _⟩ => exact ⟨Nat.zero_le _, by show (y 0).val < 0 + 1; omega⟩
        | ⟨1, _⟩ => exact ⟨Nat.zero_le _, by show (y 1).val < 0 + 1; omega⟩
        | ⟨2, _⟩ => exact ⟨Nat.zero_le _, by show (y 2).val < 0 + 64; omega⟩
        | ⟨3, _⟩ => exact ⟨hl, hu⟩
      rw [window_at (s := S1x1x64x896) a6 _ (SO4 w).size T.inbO y hy, window_at (s := S1x1x64x896) b6 _ (SO4 w).size T.inbO y hy, (ha T hc).1, (hb T hc).1]
    · funext y
      have y0 : (y 0).val < 1 := (y 0).isLt
      have y1 : (y 1).val < 1 := (y 1).isLt
      have y2 : (y 2).val < 1 := (y 2).isLt
      obtain ⟨w, st, T, hc, hl, hu⟩ := fast_tile (y 3).val (y 3).isLt
      have hy : ∀ a, (![0, 0, 0, st] : Fin 4 → ℕ) a ≤ (y a).val ∧ (y a).val < (![0, 0, 0, st] : Fin 4 → ℕ) a + (SS4 w).size a := fun a => by
        match a with
        | ⟨0, _⟩ => exact ⟨Nat.zero_le _, by show (y 0).val < 0 + 1; omega⟩
        | ⟨1, _⟩ => exact ⟨Nat.zero_le _, by show (y 1).val < 0 + 1; omega⟩
        | ⟨2, _⟩ => exact ⟨Nat.zero_le _, by show (y 2).val < 0 + 1; omega⟩
        | ⟨3, _⟩ => exact ⟨hl, hu⟩
      rw [window_at (s := S1x1x1x896) a7 _ (SS4 w).size T.inbS y hy, window_at (s := S1x1x1x896) b7 _ (SS4 w).size T.inbS y hy, (ha T hc).2, (hb T hc).2]
  · have ha := ha.2 h
    have hb := hb.2 h
    constructor
    · funext y
      have y0 : (y 0).val < 1 := (y 0).isLt
      have y1 : (y 1).val < 1 := (y 1).isLt
      have y2 : (y 2).val < 64 := (y 2).isLt
      have y3 : (y 3).val < 896 := (y 3).isLt
      have ht : (y 3).val / 128 < k0_t1_loop.trips := by rw [trips1]; omega
      have hy : ∀ a, k0_off25 ⟨_, ht⟩ a ≤ (y a).val ∧ (y a).val < k0_off25 ⟨_, ht⟩ a + S1x1x64x128.size a := by
        rw [off25_eq]
        intro a
        match a with
        | ⟨0, _⟩ => exact ⟨Nat.zero_le _, by show (y 0).val < 0 + 1; omega⟩
        | ⟨1, _⟩ => exact ⟨Nat.zero_le _, by show (y 1).val < 0 + 1; omega⟩
        | ⟨2, _⟩ => exact ⟨Nat.zero_le _, by show (y 2).val < 0 + 64; omega⟩
        | ⟨3, _⟩ => exact ⟨by show 128 * ((y 3).val / 128) ≤ (y 3).val; omega, by show (y 3).val < 128 * ((y 3).val / 128) + 128; omega⟩
      rw [window_at (s := S1x1x64x896) a6 _ S1x1x64x128.size (k0_off25_inb _) y hy, window_at (s := S1x1x64x896) b6 _ S1x1x64x128.size (k0_off25_inb _) y hy, (ha _).1, (hb _).1]
    · funext y
      have y0 : (y 0).val < 1 := (y 0).isLt
      have y1 : (y 1).val < 1 := (y 1).isLt
      have y2 : (y 2).val < 1 := (y 2).isLt
      have y3 : (y 3).val < 896 := (y 3).isLt
      have ht : (y 3).val / 128 < k0_t1_loop.trips := by rw [trips1]; omega
      have hy : ∀ a, k0_off19 ⟨_, ht⟩ a ≤ (y a).val ∧ (y a).val < k0_off19 ⟨_, ht⟩ a + S1x1x1x128.size a := by
        rw [off19_eq]
        intro a
        match a with
        | ⟨0, _⟩ => exact ⟨Nat.zero_le _, by show (y 0).val < 0 + 1; omega⟩
        | ⟨1, _⟩ => exact ⟨Nat.zero_le _, by show (y 1).val < 0 + 1; omega⟩
        | ⟨2, _⟩ => exact ⟨Nat.zero_le _, by show (y 2).val < 0 + 1; omega⟩
        | ⟨3, _⟩ => exact ⟨by show 128 * ((y 3).val / 128) ≤ (y 3).val; omega, by show (y 3).val < 128 * ((y 3).val / 128) + 128; omega⟩
      rw [window_at (s := S1x1x1x896) a7 _ S1x1x1x128.size (k0_off19_inb _) y hy, window_at (s := S1x1x1x896) b7 _ S1x1x1x128.size (k0_off19_inb _) y hy, (ha _).2, (hb _).2]

/-- Contents with the given input blocks, and anything else. -/
def fresh (x1 : Vec F S16x8 .i32) (x2 : Vec F S16x5 .f32) (x3 x4 x5 : Vec F S1x1x64x896 .i8) : Cells F where
  x1 := x1
  x2 := x2
  x3 := x3
  x4 := x4
  x5 := x5
  x6 := fun _ => 0#8
  x7 := fun _ => 0#32
  x8 := fun _ => Scalar.ofBits .bf16 0x0000#16
  x9 := fun _ => Scalar.ofBits .bf16 0x0000#16
  x10 := fun _ => Scalar.ofBits .bf16 0x0000#16
  x11 := fun _ => Scalar.ofBits .f32 0x00000000#32
  x12 := fun _ => Scalar.ofBits .f32 0x00000000#32
  x13 := fun _ => Scalar.ofBits .bf16 0x0000#16
  x14 := fun _ => 0#32

/-- The output block, and the block of row sums, of a grid point. -/
def block6 (i : grid0.Coords) (x1 : Vec F S16x8 .i32) (x2 : Vec F S16x5 .f32) (x3 x4 x5 : Vec F S1x1x64x896 .i8) : Vec F S1x1x64x896 .i8 := (bodyOut i (fresh x1 x2 x3 x4 x5)).x6
def block7 (i : grid0.Coords) (x1 : Vec F S16x8 .i32) (x2 : Vec F S16x5 .f32) (x3 x4 x5 : Vec F S1x1x64x896 .i8) : Vec F S1x1x1x896 .i32 := (bodyOut i (fresh x1 x2 x3 x4 x5)).x7

theorem blocks_isOut (i : grid0.Coords) (x1 : Vec F S16x8 .i32) (x2 : Vec F S16x5 .f32) (x3 x4 x5 : Vec F S1x1x64x896 .i8) :
    IsOut i x1 x2 x3 x4 x5 (block6 i x1 x2 x3 x4 x5) (block7 i x1 x2 x3 x4 x5) := bodyOut_isOut i (fresh x1 x2 x3 x4 x5)

theorem bodyOut_blocks (i : grid0.Coords) (σ : Cells F) :
    (bodyOut i σ).x6 = block6 i σ.x1 σ.x2 σ.x3 σ.x4 σ.x5 ∧ (bodyOut i σ).x7 = block7 i σ.x1 σ.x2 σ.x3 σ.x4 σ.x5 :=
  isOut_unique i _ _ _ _ _ _ _ _ _ (bodyOut_isOut i σ) (blocks_isOut i _ _ _ _ _)

end Cert.Proof.KernelIdeal

end
-- ==== Proof.FastEq.lean ====
/-
  The fast branch as it is printed is the one written with recursions: unfolding both gives the same sequence of
  memory operations over the same terms.
-/
module
public import proofs.«01_k».proof.Proof.Rolled
@[expose] public section
namespace Cert.Proof.KernelIdeal
open Cert.KernelIdeal Cert.KernelIdeal.Gen
open Idealize.ShloMosaic Idealize.ShloMosaic.TcCoe
open Idealize.SL.Sem
set_option maxRecDepth 100000
set_option maxHeartbeats 0
variable {F : FTy → Type} [FloatOps F]
/-- The printed fast branch, in its five parts and the last store, is `fast`. -/
theorem fast_eq (i : grid0.Coords) (arg1 : Memref sig .tc .smem S16x8 .i32) (harg1 : arg1.IsWhole) (arg2 : Memref sig .tc .smem S16x5 .f32) (harg2 : arg2.IsWhole) (arg3 : Memref sig .tc .vmem S1x1x64x896 .i8) (harg3 : arg3.IsWhole) (arg4 : Memref sig .tc .vmem S1x1x64x896 .i8) (harg4 : arg4.IsWhole) (arg5 : Memref sig .tc .vmem S1x1x64x896 .i8) (harg5 : arg5.IsWhole) (arg6 : Memref sig .tc .vmem S1x1x64x896 .i8) (harg6 : arg6.IsWhole) (arg7 : Memref sig .tc .vmem S1x1x1x896 .i32) (harg7 : arg7.IsWhole) (arg8 : Memref sig .tc .vmem S896x128 .bf16) (harg8 : arg8.IsWhole) (arg9 : Memref sig .tc .vmem S128x896 .bf16) (harg9 : arg9.IsWhole) (arg10 : Memref sig .tc .vmem S64x896 .bf16) (harg10 : arg10.IsWhole) (arg11 : Memref sig .tc .vmem S896x256 .f32) (harg11 : arg11.IsWhole) (arg12 : Memref sig .tc .vmem S896x256 .f32) (harg12 : arg12.IsWhole) (arg13 : Memref sig .tc .vmem S896x256 .bf16) (harg13 : arg13.IsWhole) (arg14 : Memref sig .tc .vmem S896x128 .i32) (harg14 : arg14.IsWhole) (v9 : BitVec 32) :
   (k0_part287 i arg1 harg1 arg2 harg2 arg3 harg3 arg4 harg4 arg5 harg5 arg6 harg6 arg7 harg7 arg8 harg8 arg9 harg9 arg10 harg10 arg11 harg11 arg12 harg12 arg13 harg13 arg14 harg14 v9 >>= fun ⟨v52, v54, v56, v58, v60, v2470, v2486, v2866, v2871⟩ =>
    k0_part288 i arg1 harg1 arg2 harg2 arg3 harg3 arg4 harg4 arg5 harg5 arg6 harg6 arg7 harg7 arg8 harg8 arg9 harg9 arg10 harg10 arg11 harg11 arg12 harg12 arg13 harg13 arg14 harg14 v9 v52 v54 v56 v58 v60 v2470 v2486 v2866 v2871  >>= fun ⟨v5669, v5673, v5678⟩ =>
    k0_part289 i arg1 harg1 arg2 harg2 arg3 harg3 arg4 harg4 arg5 harg5 arg6 harg6 arg7 harg7 arg8 harg8 arg9 harg9 arg10 harg10 arg11 harg11 arg12 harg12 arg13 harg13 arg14 harg14 v9 v52 v54 v56 v58 v60 v5669 v5673 v5678 >>= fun ⟨v8408, v8420, v8421⟩ =>
    k0_part290 i arg1 harg1 arg2 harg2 arg3 harg3 arg4 harg4 arg5 harg5 arg6 harg6 arg7 harg7 arg8 harg8 arg9 harg9 arg10 harg10 arg11 harg11 arg12 harg12 arg13 harg13 arg14 harg14 v9 v52 v54 v56 v58 v60 v8408 v8420 v8421 >>= fun ⟨v11147, v11162⟩ =>
    k0_part291 i arg1 harg1 arg2 harg2 arg3 harg3 arg4 harg4 arg5 harg5 arg6 harg6 arg7 harg7 arg8 harg8 arg9 harg9 arg10 harg10 arg11 harg11 arg12 harg12 arg13 harg13 arg14 harg14 v9 v52 v54 v56 v58 v11147 v11162 >>= fun v13216 => do
    have v13217 : IVec S64x128 8 := trunci 8 v13216 natLt_8_32
    let v13218 : Vec F S1x1x64x128 .i8 ← Prog.lift (.load arg6 (Rect.unit (s := S1x1x64x896) ![0, 0, 0, 768] S1x1x64x128.size inb_S1x1x64x896_S1x1x64x128_0_0_0_768).toLoadRect (View.loadsAt_vmem h_S1x1x64x128))
    have v13220 : IVec S1x1x64x128 8 := shapeCast S1x1x64x128 v13217 shapeCasts_S64x128_S1x1x64x128
    Prog.lift (.store arg6 (Rect.unit (s := S1x1x64x896) ![0, 0, 0, 768] S1x1x64x128.size inb_S1x1x64x896_S1x1x64x128_0_0_0_768) v13220 Finset.univ (View.stores_vmem h_S1x1x64x128 (harg6.storeExact_slice rfl _ packedi8_S1x1x64x896_S1x1x64x128_0_0_0_768) (fun _ => rfl)) (.inl rfl))
    pure ⟨⟩) =
  (fast (F:=F) i arg1 arg2 arg6 harg6 arg7 arg8 arg9 harg9 arg10 arg11 arg12 arg13 harg13 : Prog (TpuEff nD τ sig (Elt F) Λ₀ .tc) PUnit) := by
  with_unfolding_all rfl
end Cert.Proof.KernelIdeal
end
-- ==== Proof.BodyEq.lean ====
/-
  The printed body is the body written with its repetitions as recursions.
-/
module

public import proofs.«01_k».proof.Proof.FastEq
public import proofs.«01_k».proof.Proof.Slow

@[expose] public section

noncomputable section

namespace Cert.Proof.KernelIdeal

open Cert.KernelIdeal Cert.KernelIdeal.Gen
open Idealize.ShloMosaic Idealize.ShloMosaic.TcCoe
open Idealize.SL.Sem

variable {F : FTy → Type} [FloatOps F]

/-- The head's number as the body computes it. -/
def headWord (i : grid0.Coords) : BitVec 32 :=
  let arg0 : BitVec 32 := BitVec.ofNat 32 (i 0).val
  let v0 : BitVec 1 := Scalar.cmpi .eq 16#32 0#32
  let v1 : BitVec 32 := Scalar.select v0 1#32 16#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  Scalar.select v7 v8 v2

section congr
variable {E : Type → Type _} {α β : Type}

theorem bcongr {p p' : Prog E α} {k k' : α → Prog E β} (h : p = p') (hk : ∀ a, k a = k' a) : p >>= k = p' >>= k' := by
  subst h; exact congrArg _ (funext hk)

theorem icongr {c : Prop} [Decidable c] {a a' b b' : Prog E α} (ha : a = a') (hb : b = b') : (if c then a else b) = if c then a' else b' := by
  subst ha; subst hb; rfl

theorem lcongr {L : Scf.Loop 32} {ok : L.OK} {σ : Type} {init : σ} {b b' : Fin L.trips → σ → Prog E σ} (h : ∀ t x, b t x = b' t x) :
    Scf.Loop.for L ok init b = Scf.Loop.for L ok init b' := by
  have : b = b' := funext fun t => funext (h t)
  subst this; rfl

end congr

/-- The printed step of the exponential pass. -/
theorem slowTile_eq (i : grid0.Coords) (A : Refs) (v9 : BitVec 32) (v52 v54 v56 v58 : Elt F .i32) (v60 : Elt F .f32) (k0_t1 : Fin k0_t1_loop.trips) :
    (k0_part294 (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 v9 v52 v54 v56 v58 v60 0#32 1#32 k0_t1 >>= fun x => do
      let v93 : Elt F .i32 ← smemLoad A.a1 (Rect.unit (s := S16x8) (k0_off23 i) S1x1.size (k0_off23_inb i)) numel1_S1x1 rfl
      let v97 : Elt F .i32 ← smemLoad A.a1 (Rect.unit (s := S16x8) (k0_off24 i) S1x1.size (k0_off24_inb i)) numel1_S1x1 rfl
      let _d : Vec F S1x1x64x128 .i8 ← Prog.lift (.load A.a6 (Rect.unit (s := S1x1x64x896) (k0_off25 k0_t1) S1x1x64x128.size (k0_off25_inb k0_t1)).toLoadRect (View.loadsAt_vmem h_S1x1x64x128))
      Prog.lift (.store A.a6 (Rect.unit (s := S1x1x64x896) (k0_off25 k0_t1) S1x1x64x128.size (k0_off25_inb k0_t1))
        (shapeCast S1x1x64x128 (trunci 8 (minsi (broadcast S64x128 127#32) (maxsi (broadcast S64x128 4294967169#32)
          (shrsi (addi (muli x.2.1 x.2.2) (broadcast S64x128 v93)) (broadcast S64x128 v97)))) natLt_8_32) shapeCasts_S64x128_S1x1x64x128)
        Finset.univ (View.stores_vmem h_S1x1x64x128 (A.h6.storeExact_slice rfl _ (k0_off25_packedi8 k0_t1)) (fun _ => rfl)) (.inl rfl))
      pure ⟨⟩) = slowTile i A v52 v54 v56 v58 v60 k0_t1 := by
  unfold k0_part294 slowTile
  simp only [bind_assoc, pure_bind]
  iterate 4 refine bcongr rfl fun _ => ?_
  refine bcongr (lcongr fun t acc => ?_) fun acc => ?_
  · unfold k0_part292 slowExpStep
    simp only [bind_assoc, pure_bind]
    iterate 3 refine bcongr rfl fun _ => ?_
    rfl
  · iterate 2 refine bcongr rfl fun _ => ?_
    refine bcongr (lcongr fun t _ => ?_) fun _ => ?_
    · unfold k0_part293 slowProbStep
      simp only [bind_assoc, pure_bind]
      iterate 3 refine bcongr rfl fun _ => ?_
      rfl
    · iterate 7 refine bcongr rfl fun _ => ?_
      rfl

/-- The printed body is `body`. -/
theorem body_eq (i : grid0.Coords) (A : Refs) :
    cc0_int_attention (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14
      = body i A := by
  unfold body
  rw [← fast_eq i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 (headWord i)]
  unfold cc0_int_attention bodyWith k0_part295 prelude
  simp only [bind_assoc, pure_bind]
  iterate 12 refine bcongr rfl fun _ => ?_
  refine icongr ?_ ?_
  · iterate 7 refine bcongr rfl fun _ => ?_
    refine bcongr rfl fun _ => ?_
    refine icongr ?_ rfl
    unfold slow
    simp only [bind_assoc]
    iterate 5 refine bcongr rfl fun _ => ?_
    refine bcongr (lcongr fun t _ => ?_) fun _ => rfl
    exact slowTile_eq i A _ _ _ _ _ _ t
  · refine bcongr rfl fun _ => ?_
    refine icongr ?_ rfl
    unfold slow
    simp only [bind_assoc]
    iterate 5 refine bcongr rfl fun _ => ?_
    refine bcongr (lcongr fun t _ => ?_) fun _ => rfl
    exact slowTile_eq i A _ _ _ _ _ _ t

end Cert.Proof.KernelIdeal

end
-- ==== Proof.Run.lean ====
/-
  The launch: what every grid point leaves in its blocks, the body's triple at a point, the run of the whole program, and
  that it ends with its arguments unchanged and every counter at zero.
-/
module

public import proofs.«01_k».proof.Proof.BodyForm
public import proofs.«01_k».proof.Proof.BodyEq
public import proofs.«01_k».proof.Proof.Gen.KernelIdeal.Frame
public import Idealize.ShloMosaic.Lib.Claim

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UR ℕ

variable (m : (ℓ : Loc nD τ sig) → Buf (Elt F) ℓ) (ρ : Dev nD → PrngReg)

/-- The arrays as the region finds them; after the body each input's buffer at its block, the results' at what the body
    makes of the blocks. -/
def dats (_ : Fin 1) (c : Dev nD) : Dat τ (Elt F) Unit ℕ UR ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => block6 (F := F) (grid0.coords t) (iblk m c 0 t) (iblk m c 1 t) (iblk m c 2 t) (iblk m c 3 t) (iblk m c 4 t)
    | ⟨6, _⟩ => block7 (F := F) (grid0.coords t) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = block6 (F := F) (grid0.coords t) (iblk m c 0 t) (iblk m c 1 t) (iblk m c 2 t) (iblk m c 3 t) (iblk m c 4 t) := by dsimp only [dats]
theorem after0_6 (c : Dev nD) (t : Fin cfg0.N) : (dats m 0 c).after 6 t
    = block7 (F := F) (grid0.coords t) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body on whole buffers, the inputs' at `x1 … x5` and the rest at anything: it ends with the inputs' unchanged and the
    results' at the blocks. -/
theorem sound_kernel (c : Dev nD) (i : grid0.Coords) (A : Refs)
    (x1 : Vec F S16x8 .i32) (x2 : Vec F S16x5 .f32) (x3 x4 x5 : Vec F S1x1x64x896 .i8) (K : PUnit → sProp 𝕄) :
    iprop(owns (c : Thread nD τ) A.a1 fullShare x1 ∗ owns (c : Thread nD τ) A.a2 fullShare x2 ∗ owns (c : Thread nD τ) A.a3 fullShare x3
        ∗ owns (c : Thread nD τ) A.a4 fullShare x4 ∗ owns (c : Thread nD τ) A.a5 fullShare x5
        ∗ (∃ d, owns (c : Thread nD τ) A.a6 fullShare d) ∗ (∃ d, owns (c : Thread nD τ) A.a7 fullShare d)
        ∗ (∃ d, owns (c : Thread nD τ) A.a8 fullShare d) ∗ (∃ d, owns (c : Thread nD τ) A.a9 fullShare d)
        ∗ (∃ d, owns (c : Thread nD τ) A.a10 fullShare d) ∗ (∃ d, owns (c : Thread nD τ) A.a11 fullShare d)
        ∗ (∃ d, owns (c : Thread nD τ) A.a12 fullShare d) ∗ (∃ d, owns (c : Thread nD τ) A.a13 fullShare d)
        ∗ (∃ d, owns (c : Thread nD τ) A.a14 fullShare d)
        ∗ (iprop(owns (c : Thread nD τ) A.a1 fullShare x1 ∗ owns (c : Thread nD τ) A.a2 fullShare x2 ∗ owns (c : Thread nD τ) A.a3 fullShare x3
          ∗ owns (c : Thread nD τ) A.a4 fullShare x4 ∗ owns (c : Thread nD τ) A.a5 fullShare x5
          ∗ owns (c : Thread nD τ) A.a6 fullShare (block6 (F := F) i x1 x2 x3 x4 x5) ∗ owns (c : Thread nD τ) A.a7 fullShare (block7 (F := F) i x1 x2 x3 x4 x5)
          ∗ (∃ d, owns (c : Thread nD τ) A.a8 fullShare d) ∗ (∃ d, owns (c : Thread nD τ) A.a9 fullShare d)
          ∗ (∃ d, owns (c : Thread nD τ) A.a10 fullShare d) ∗ (∃ d, owns (c : Thread nD τ) A.a11 fullShare d)
          ∗ (∃ d, owns (c : Thread nD τ) A.a12 fullShare d) ∗ (∃ d, owns (c : Thread nD τ) A.a13 fullShare d)
          ∗ (∃ d, owns (c : Thread nD τ) A.a14 fullShare d)) -∗ K ⟨⟩))
      ⊢ wp frame (wpE (defs₀ (F := F)) Variants.none (c : Thread nD τ) none) Set.univ
          (cc0_int_attention (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14) K := by
  rw [body_eq]
  iintro ⟨H1, H2, H3, H4, H5, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, Hk⟩
  have hr := runs_body (F := F) c A i ⟨x1, x2, x3, x4, x5, d6, d7, d8, d9, d10, d11, d12, d13, d14⟩ Set.univ (β := PUnit) pure K
  rw [bind_pure] at hr
  obtain ⟨k1, k2, k3, k4, k5⟩ := bodyOut_keeps (F := F) i ⟨x1, x2, x3, x4, x5, d6, d7, d8, d9, d10, d11, d12, d13, d14⟩
  obtain ⟨k6, k7⟩ := bodyOut_blocks (F := F) i ⟨x1, x2, x3, x4, x5, d6, d7, d8, d9, d10, d11, d12, d13, d14⟩
  generalize bodyOut (F := F) i ⟨x1, x2, x3, x4, x5, d6, d7, d8, d9, d10, d11, d12, d13, d14⟩ = σ' at hr k1 k2 k3 k4 k5 k6 k7
  dsimp only at k1 k2 k3 k4 k5 k6 k7
  unfold heap at hr
  rw [k1, k2, k3, k4, k5, k6, k7] at hr
  dsimp only at hr
  iapply hr $$ [H1 H2 H3 H4 H5 H6 H7 H8 H9 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro ⟨H1, H2, H3, H4, H5, H6, H7, H8, H9, H10, H11, H12, H13, H14⟩
  rw [wp_pure]
  imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

/-- The buffers the pipeline calls the body with at point `t`. -/
def refsAt (t : Fin cfg0.N) : Refs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := Memref.whole cc0_scratch0
  h8 := Memref.isWhole_whole _
  a9 := Memref.whole cc0_scratch1
  h9 := Memref.isWhole_whole _
  a10 := Memref.whole cc0_scratch2
  h10 := Memref.isWhole_whole _
  a11 := Memref.whole cc0_scratch3
  h11 := Memref.isWhole_whole _
  a12 := Memref.whole cc0_scratch4
  h12 := Memref.isWhole_whole _
  a13 := Memref.whole cc0_scratch5
  h13 := Memref.isWhole_whole _
  a14 := Memref.whole cc0_scratch6
  h14 := Memref.isWhole_whole _

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- A whole scratch buffer held at something, as the body takes it and as the pipeline keeps it. -/
theorem scratch_eq (c : Dev nD) (b : Ref sig .tc) :
    (iprop(∃ f : Buf (Elt F) ((c : Thread nD τ).loc b), ((c : Thread nD τ).loc b) ↦{fullShare} f) : sProp 𝕄)
      = iprop(∃ d : b.ty.Contents (Elt F), owns (c : Thread nD τ) (Memref.whole b) fullShare d) := by
  refine congrArg _ (funext fun f => ?_)
  exact (owns_whole (c : Thread nD τ) b fullShare f).symm

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before0_0, before0_1, before0_2, before0_3, before0_4]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5, after0_6]
  unfold Pipeline.ΦA
  rw [scopedRest0_eq]
  simp only [scratch_eq]
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) (refsAt t) (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, S0, S1, S2, S3, S4, S5, S6⟩
  isplitl [S0 S1 S2 S3 S4 S5 S6 Hg]
  · isplitr [Hg]
    · isplitl [S0]; · iexact S0
      isplitl [S1]; · iexact S1
      isplitl [S2]; · iexact S2
      isplitl [S3]; · iexact S3
      isplitl [S4]; · iexact S4
      isplitl [S5]; · iexact S5
      iexact S6
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution terminates; every final state has the arrays the region and the lines after it leave, and every counter
    at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.KernelIdeal

end
-- ==== Proof.Kernel.Rolled.lean ====
/-
  The kernel's fast branch written with its repetitions as recursions: the same memory operations in the same
  order over the same pure terms, at a tile of any width.
-/
module

public import proofs.«01_k».proof.Proof.Gen.Kernel
public import Idealize.ShloMosaic.Init

@[expose] public section

noncomputable section

namespace Cert.Proof.Kernel

open Cert.Kernel Cert.Kernel.Gen
open Idealize.ShloMosaic Idealize.ShloMosaic.TcCoe
open Idealize.SL.Sem

variable {F : FTy → Type} [FloatOps F]

/-- The shapes of a tile of `w` queries. -/
abbrev SA (w : ℕ) : Shape := ⟨2, ![896, w]⟩
abbrev S8 (w : ℕ) : Shape := ⟨2, ![8, w]⟩
abbrev SR (w : ℕ) : Shape := ⟨2, ![16, w]⟩
abbrev S1 (w : ℕ) : Shape := ⟨2, ![1, w]⟩
abbrev SV (w : ℕ) : Shape := ⟨1, ![w]⟩
abbrev SQ (w : ℕ) : Shape := ⟨2, ![128, w]⟩
abbrev SO (w : ℕ) : Shape := ⟨2, ![64, w]⟩
abbrev SO4 (w : ℕ) : Shape := ⟨4, ![1, 1, 64, w]⟩
abbrev SS4 (w : ℕ) : Shape := ⟨4, ![1, 1, 1, w]⟩

/-- The side conditions of the operations at a tile of `w` queries from query `st` on. -/
structure TileOk (w st : ℕ) : Prop where
  inbQ : ∀ a, (![0, st] : Fin 2 → Nat) a + (SQ w).size a ≤ S128x896.size a
  inbB : ∀ a, (![64, st] : Fin 2 → Nat) a + (SR w).size a ≤ S128x896.size a
  inbA : ∀ a, (![0, 0] : Fin 2 → Nat) a + (SA w).size a ≤ S896x256.size a
  inb8 : ∀ i < 112, ∀ a, (![8 * i, 0] : Fin 2 → Nat) a + (S8 w).size a ≤ S896x256.size a
  inb16 : ∀ i < 56, ∀ a, (![16 * i, 0] : Fin 2 → Nat) a + (SR w).size a ≤ S896x256.size a
  inbS : ∀ a, (![0, 0, 0, st] : Fin 4 → Nat) a + (SS4 w).size a ≤ S1x1x1x896.size a
  inbO : ∀ a, (![0, 0, 0, st] : Fin 4 → Nat) a + (SO4 w).size a ≤ S1x1x64x896.size a
  posQ : 0 < (SQ w).numel
  posR : 0 < (SR w).numel
  posA : 0 < (SA w).numel
  pos8 : 0 < (S8 w).numel
  posS : 0 < (SS4 w).numel
  posO : 0 < (SO4 w).numel
  dotKQ : DotDims.WF S896x128 (SQ w) (SA w) [1] [0] [0] [1] [] []
  dotVP : DotDims.WF S64x896 (SA w) (SO w) [1] [0] [0] [1] [] []
  slice : ∀ i < 112, (SA w).Slices ![8 * i, 0] (S8 w)
  red : (S8 w).Reduces [0] (SV w)
  castV : (SV w).ShapeCasts (S1 w)
  cast1 : (S1 w).ShapeCasts (S1 w)
  castR : (SR w).ShapeCasts (SR w)
  castA : (SA w).ShapeCasts (SA w)
  cast8 : (S8 w).ShapeCasts (S8 w)
  castS : (S1 w).ShapeCasts (SS4 w)
  castO : (SO w).ShapeCasts (SO4 w)
  iotaR : (SR w).Iotas .tc 32 [0]
  bc16 : (S1 w).Broadcasts (SR w)
  bc8 : (S1 w).Broadcasts (S8 w)
  cat : Shape.Concatenates [S8 w, S8 w] (SR w) 0
  packB : S128x896.PackedRowsAt (EltTy.packing .bf16) ![64, st] (SR w).size (fun _ => 1)
  pack16 : ∀ i < 56, S896x256.PackedRowsAt (EltTy.packing .bf16) ![16 * i, 0] (SR w).size (fun _ => 1)
  packO : S1x1x64x896.PackedRowsAt (EltTy.packing .i8) ![0, 0, 0, st] (SO4 w).size (fun _ => 1)

section
variable {w st : ℕ} (T : TileOk w st)

def dKQ : DotDims S896x128 (SQ w) (SA w) where
  lhsContracting := [1]
  rhsContracting := [0]
  lhsNonContracting := [0]
  rhsNonContracting := [1]
  lhsBatch := []
  rhsBatch := []
  wf := T.dotKQ

def dVP : DotDims S64x896 (SA w) (SO w) where
  lhsContracting := [1]
  rhsContracting := [0]
  lhsNonContracting := [0]
  rhsNonContracting := [1]
  lhsBatch := []
  rhsBatch := []
  wf := T.dotVP

/-- The scores' product. -/
def scores (x : Vec F S896x128 .bf16) (y : Vec F (SQ w) .bf16) : FVec F (SA w) .f32 :=
  matmul (dKQ T) none x y (constant (SA w) .f32 0x00000000#32)

/-- The running maximum of the scores' groups of eight rows, up to group `n`. -/
def maxFold (s : FVec F (SA w) .f32) : (n : ℕ) → (h : n < 112) → FVec F (S8 w) .f32
  | 0, h => extractStridedSlice (S8 w) ![8 * 0, 0] s (T.slice 0 h)
  | n + 1, h => maximumf (maxFold s n (Nat.lt_of_succ_lt h)) (extractStridedSlice (S8 w) ![8 * (n + 1), 0] s (T.slice (n + 1) h))

/-- The negated shift of every query. -/
def betaV (s : FVec F (SA w) .f32) (bias : F .f32) : FVec F (S1 w) .f32 :=
  subf (broadcast (S1 w) (Scalar.ofBits .f32 0x00000000#32))
    (addf (shapeCast (S1 w) (multiReduction .maximumf [0] (SV w) (maxFold T s 111 (by omega)) 0xFF800000#32 T.red (.inl rfl) rfl) T.castV)
      (broadcast (S1 w) bias))

/-- The shift's three parts as the rows of the augmented queries. -/
def biasRows (beta : FVec F (S1 w) .f32) : FVec F (SR w) .bf16 :=
  let b1 : FVec F (S1 w) .f32 := extf .f32 (truncf .bf16 beta bitsLt_bf16_f32) bitsLt_bf16_f32
  let b2 : FVec F (S1 w) .f32 := extf .f32 (truncf .bf16 (subf beta b1) bitsLt_bf16_f32) bitsLt_bf16_f32
  let b3 : FVec F (S1 w) .f32 := subf (subf beta b1) b2
  let io : IVec (SR w) 32 := iota .tc (SR w) 32 [0] T.iotaR
  let e0 : IVec (SR w) 1 := cmpi .eq io (broadcast (SR w) 0#32)
  let e1 : IVec (SR w) 1 := cmpi .eq io (broadcast (SR w) 1#32)
  let e2 : IVec (SR w) 1 := cmpi .eq io (broadcast (SR w) 2#32)
  let z : F .f32 := Scalar.ofBits .f32 0x00000000#32
  let r3 : FVec F (SR w) .f32 := select e2 (broadcastTo (SR w) (shapeCast (S1 w) b3 T.cast1) T.bc16) (broadcast (SR w) z)
  let r2 : FVec F (SR w) .f32 := select e1 (broadcastTo (SR w) (shapeCast (S1 w) b2 T.cast1) T.bc16) r3
  let r1 : FVec F (SR w) .f32 := select e0 (broadcastTo (SR w) (shapeCast (S1 w) b1 T.cast1) T.bc16) r2
  truncf .bf16 r1 bitsLt_bf16_f32

/-- One group's exponentials. -/
def expV (u : Vec F (S8 w) .f32) (ln2 inv cb cc : F .f32) : FVec F (S8 w) .f32 :=
  let zc : FVec F (S8 w) .f32 := ceil (mulf u (broadcast (S8 w) inv))
  let x : FVec F (S8 w) .f32 := addf (subf u (mulf zc (broadcast (S8 w) ln2))) (broadcast (S8 w) cb)
  floor (mulf (addf (mulf x x) (broadcast (S8 w) cc)) (exp2 zc))

/-- The row sums of a tile from the running sum of its groups. -/
def totalV (acc : FVec F (S8 w) .f32) : IVec (S1 w) 32 :=
  shapeCast (S1 w) (multiReductionI .add [0] (SV w) (fptosi 32 acc) 0#32 T.red rfl) T.castV

/-- The row sums on eight rows. -/
def total8 (t : IVec (S1 w) 32) : IVec (S8 w) 32 := broadcastTo (S8 w) (shapeCast (S1 w) t T.cast1) T.bc8

/-- The reciprocal of the row sums. -/
def invV (t8 : IVec (S8 w) 32) : FVec F (S8 w) .f32 :=
  divf (broadcast (S8 w) (Scalar.ofBits .f32 0x3F800000#32)) (sitofp .f32 t8)

/-- The leading part of 255 over the row sum. -/
def hiV (t8 : IVec (S8 w) 32) : FVec F (S8 w) .f32 :=
  extf .f32 (truncf .bf16 (mulf (broadcast (S8 w) (Scalar.ofBits .f32 0x437F0000#32)) (invV t8)) bitsLt_bf16_f32) bitsLt_bf16_f32

/-- The remaining part. -/
def loV (t8 : IVec (S8 w) 32) : FVec F (S8 w) .f32 :=
  let hi : FVec F (S8 w) .f32 := hiV t8
  let rhi : IVec (S8 w) 32 := shli (shrsi t8 (broadcast (S8 w) 12#32)) (broadcast (S8 w) 12#32)
  let rlo : IVec (S8 w) 32 := subi t8 rhi
  let rest : FVec F (S8 w) .f32 := subf (subf (broadcast (S8 w) (Scalar.ofBits .f32 0x437F0000#32)) (mulf (sitofp .f32 rhi) hi)) (mulf (sitofp .f32 rlo) hi)
  subf (mulf rest (invV t8)) (mulf hi (broadcast (S8 w) (Scalar.ofBits .f32 0x32000000#32)))

/-- Two groups' probabilities. -/
def probV (hi lo : FVec F (S8 w) .f32) (ea eb : Vec F (S8 w) .f32) : FVec F (SR w) .bf16 :=
  truncf .bf16 (concatenate (SR w) 0 [⟨S8 w, floor (addf (mulf ea hi) (mulf ea lo))⟩, ⟨S8 w, floor (addf (mulf eb hi) (mulf eb lo))⟩] T.cat) bitsLt_bf16_f32

/-- The product with the values. -/
def outs (v : Vec F S64x896 .bf16) (p : Vec F (SA w) .bf16) : FVec F (SO w) .f32 :=
  matmul (dVP T) none v p (constant (SO w) .f32 0x00000000#32)

/-- The requantised outputs of a tile. -/
def quantV (o : FVec F (SO w) .f32) (mult half shift : Elt F .i32) : IVec (SO w) 8 :=
  trunci 8 (minsi (broadcast (SO w) 127#32) (maxsi (broadcast (SO w) (-127#32))
    (shrsi (addi (muli (fptosi 32 o) (broadcast (SO w) mult)) (broadcast (SO w) half)) (broadcast (SO w) shift)))) natLt_8_32

end

section
variable {w st : ℕ} (T : TileOk w st)

/-- One group of the exponential pass. -/
def expStep (arg11 arg12 : Memref sig .tc .vmem S896x256 .f32) (ln2 inv cb cc : F .f32) (i : ℕ) (h : i < 112) (acc : FVec F (S8 w) .f32) :
    Prog (TpuEff nD τ sig (Elt F) Λ₀ .tc) (FVec F (S8 w) .f32) := do
  let u : Vec F (S8 w) .f32 ← Prog.lift (.load arg11 (Rect.unit (s := S896x256) ![8 * i, 0] (S8 w).size (T.inb8 i h)).toLoadRect (View.loadsAt_vmem T.pos8))
  let _d : Vec F (S8 w) .f32 ← Prog.lift (.load arg12 (Rect.unit (s := S896x256) ![8 * i, 0] (S8 w).size (T.inb8 i h)).toLoadRect (View.loadsAt_vmem T.pos8))
  Prog.lift (.store arg12 (Rect.unit (s := S896x256) ![8 * i, 0] (S8 w).size (T.inb8 i h)) (shapeCast (S8 w) (expV u ln2 inv cb cc) T.cast8) Finset.univ (View.stores_vmem_bits_univ T.pos8 rfl) (.inl rfl))
  pure (addf acc (expV u ln2 inv cb cc))

/-- The exponential pass from group `i` on, `n` groups. -/
def expFrom (arg11 arg12 : Memref sig .tc .vmem S896x256 .f32) (ln2 inv cb cc : F .f32) : (n i : ℕ) → (h : i + n = 112) → FVec F (S8 w) .f32 →
    Prog (TpuEff nD τ sig (Elt F) Λ₀ .tc) (FVec F (S8 w) .f32)
  | 0, _, _, acc => pure acc
  | n + 1, i, h, acc => do
    let acc' ← expStep T arg11 arg12 ln2 inv cb cc i (by omega) acc
    expFrom arg11 arg12 ln2 inv cb cc n (i + 1) (by omega) acc'

/-- One pair of groups of the probability pass. -/
def probStep (arg12 : Memref sig .tc .vmem S896x256 .f32) (arg13 : Memref sig .tc .vmem S896x256 .bf16) (harg13 : arg13.IsWhole)
    (hi lo : FVec F (S8 w) .f32) (i : ℕ) (h : i < 56) : Prog (TpuEff nD τ sig (Elt F) Λ₀ .tc) PUnit := do
  let a : Vec F (S8 w) .f32 ← Prog.lift (.load arg12 (Rect.unit (s := S896x256) ![8 * (2 * i), 0] (S8 w).size (T.inb8 (2 * i) (by omega))).toLoadRect (View.loadsAt_vmem T.pos8))
  let b : Vec F (S8 w) .f32 ← Prog.lift (.load arg12 (Rect.unit (s := S896x256) ![8 * (2 * i + 1), 0] (S8 w).size (T.inb8 (2 * i + 1) (by omega))).toLoadRect (View.loadsAt_vmem T.pos8))
  let _d : Vec F (SR w) .bf16 ← Prog.lift (.load arg13 (Rect.unit (s := S896x256) ![16 * i, 0] (SR w).size (T.inb16 i h)).toLoadRect (View.loadsAt_vmem T.posR))
  Prog.lift (.store arg13 (Rect.unit (s := S896x256) ![16 * i, 0] (SR w).size (T.inb16 i h)) (shapeCast (SR w) (probV T hi lo a b) T.castR) Finset.univ (View.stores_vmem T.posR (harg13.storeExact_slice rfl _ (T.pack16 i h)) (fun _ => rfl)) (.inl rfl))

/-- The probability pass from pair `i` on, `n` pairs. -/
def probFrom (arg12 : Memref sig .tc .vmem S896x256 .f32) (arg13 : Memref sig .tc .vmem S896x256 .bf16) (harg13 : arg13.IsWhole)
    (hi lo : FVec F (S8 w) .f32) : (n i : ℕ) → (h : i + n = 56) → Prog (TpuEff nD τ sig (Elt F) Λ₀ .tc) PUnit
  | 0, _, _ => pure ⟨⟩
  | n + 1, i, h => do
    probStep T arg12 arg13 harg13 hi lo i (by omega)
    probFrom arg12 arg13 harg13 hi lo n (i + 1) (by omega)

/-- One tile of queries. -/
def tile (i : grid0.Coords) (arg1 : Memref sig .tc .smem S16x8 .i32) (arg6 : Memref sig .tc .vmem S1x1x64x896 .i8) (harg6 : arg6.IsWhole)
    (arg7 : Memref sig .tc .vmem S1x1x1x896 .i32) (arg8 : Memref sig .tc .vmem S896x128 .bf16)
    (arg9 : Memref sig .tc .vmem S128x896 .bf16) (harg9 : arg9.IsWhole) (arg10 : Memref sig .tc .vmem S64x896 .bf16)
    (arg11 arg12 : Memref sig .tc .vmem S896x256 .f32) (arg13 : Memref sig .tc .vmem S896x256 .bf16) (harg13 : arg13.IsWhole)
    (ln2 inv cb cc bias : F .f32) : Prog (TpuEff nD τ sig (Elt F) Λ₀ .tc) PUnit := do
  let ka : Vec F S896x128 .bf16 ← Prog.lift (.load arg8 (Rect.unit (s := S896x128) ![0, 0] S896x128.size inb_S896x128_S896x128_0_0).toLoadRect (View.loadsAt_vmem h_S896x128))
  let qa : Vec F (SQ w) .bf16 ← Prog.lift (.load arg9 (Rect.unit (s := S128x896) ![0, st] (SQ w).size T.inbQ).toLoadRect (View.loadsAt_vmem T.posQ))
  let _d : Vec F (SR w) .bf16 ← Prog.lift (.load arg9 (Rect.unit (s := S128x896) ![64, st] (SR w).size T.inbB).toLoadRect (View.loadsAt_vmem T.posR))
  Prog.lift (.store arg9 (Rect.unit (s := S128x896) ![64, st] (SR w).size T.inbB) (shapeCast (SR w) (biasRows T (betaV T (scores T ka qa) bias)) T.castR) Finset.univ (View.stores_vmem T.posR (harg9.storeExact_slice rfl _ T.packB) (fun _ => rfl)) (.inl rfl))
  let kb : Vec F S896x128 .bf16 ← Prog.lift (.load arg8 (Rect.unit (s := S896x128) ![0, 0] S896x128.size inb_S896x128_S896x128_0_0).toLoadRect (View.loadsAt_vmem h_S896x128))
  let qb : Vec F (SQ w) .bf16 ← Prog.lift (.load arg9 (Rect.unit (s := S128x896) ![0, st] (SQ w).size T.inbQ).toLoadRect (View.loadsAt_vmem T.posQ))
  let _d : Vec F (SA w) .f32 ← Prog.lift (.load arg11 (Rect.unit (s := S896x256) ![0, 0] (SA w).size T.inbA).toLoadRect (View.loadsAt_vmem T.posA))
  Prog.lift (.store arg11 (Rect.unit (s := S896x256) ![0, 0] (SA w).size T.inbA) (shapeCast (SA w) (scores T kb qb) T.castA) Finset.univ (View.stores_vmem_bits_univ T.posA rfl) (.inl rfl))
  let acc ← expFrom T arg11 arg12 ln2 inv cb cc 112 0 rfl (broadcast (S8 w) (Scalar.ofBits .f32 0x00000000#32))
  let _d : Vec F (SS4 w) .i32 ← Prog.lift (.load arg7 (Rect.unit (s := S1x1x1x896) ![0, 0, 0, st] (SS4 w).size T.inbS).toLoadRect (View.loadsAt_vmem T.posS))
  Prog.lift (.store arg7 (Rect.unit (s := S1x1x1x896) ![0, 0, 0, st] (SS4 w).size T.inbS) (shapeCast (SS4 w) (totalV T acc) T.castS) Finset.univ (View.stores_vmem_bits_univ T.posS rfl) (.inl rfl))
  probFrom T arg12 arg13 harg13 (hiV (total8 T (totalV T acc))) (loV (total8 T (totalV T acc))) 56 0 rfl
  let vb : Vec F S64x896 .bf16 ← Prog.lift (.load arg10 (Rect.unit (s := S64x896) ![0, 0] S64x896.size inb_S64x896_S64x896_0_0).toLoadRect (View.loadsAt_vmem h_S64x896))
  let pb : Vec F (SA w) .bf16 ← Prog.lift (.load arg13 (Rect.unit (s := S896x256) ![0, 0] (SA w).size T.inbA).toLoadRect (View.loadsAt_vmem T.posA))
  let mult : Elt F .i32 ← smemLoad arg1 (Rect.unit (s := S16x8) (k0_off7 i) S1x1.size (k0_off7_inb i)) numel1_S1x1 rfl
  let half : Elt F .i32 ← smemLoad arg1 (Rect.unit (s := S16x8) (k0_off8 i) S1x1.size (k0_off8_inb i)) numel1_S1x1 rfl
  let shift : Elt F .i32 ← smemLoad arg1 (Rect.unit (s := S16x8) (k0_off9 i) S1x1.size (k0_off9_inb i)) numel1_S1x1 rfl
  let _d : Vec F (SO4 w) .i8 ← Prog.lift (.load arg6 (Rect.unit (s := S1x1x64x896) ![0, 0, 0, st] (SO4 w).size T.inbO).toLoadRect (View.loadsAt_vmem T.posO))
  Prog.lift (.store arg6 (Rect.unit (s := S1x1x64x896) ![0, 0, 0, st] (SO4 w).size T.inbO) (shapeCast (SO4 w) (quantV (outs T vb pb) mult half shift) T.castO) Finset.univ (View.stores_vmem T.posO (harg6.storeExact_slice rfl _ T.packO) (fun _ => rfl)) (.inl rfl))

end

/-- The side conditions hold at the four tiles. -/
theorem ok0 : TileOk 256 0 := by constructor <;> decide +kernel
theorem ok1 : TileOk 256 256 := by constructor <;> decide +kernel
theorem ok2 : TileOk 256 512 := by constructor <;> decide +kernel
theorem ok3 : TileOk 128 768 := by constructor <;> decide +kernel

/-- The fast branch: its scalars, then the four tiles. -/
def fast (i : grid0.Coords) (arg1 : Memref sig .tc .smem S16x8 .i32) (arg2 : Memref sig .tc .smem S16x5 .f32) (arg6 : Memref sig .tc .vmem S1x1x64x896 .i8) (harg6 : arg6.IsWhole)
    (arg7 : Memref sig .tc .vmem S1x1x1x896 .i32) (arg8 : Memref sig .tc .vmem S896x128 .bf16)
    (arg9 : Memref sig .tc .vmem S128x896 .bf16) (harg9 : arg9.IsWhole) (arg10 : Memref sig .tc .vmem S64x896 .bf16)
    (arg11 arg12 : Memref sig .tc .vmem S896x256 .f32) (arg13 : Memref sig .tc .vmem S896x256 .bf16) (harg13 : arg13.IsWhole) :
    Prog (TpuEff nD τ sig (Elt F) Λ₀ .tc) PUnit := do
  let ln2 : Elt F .f32 ← smemLoad arg2 (Rect.unit (s := S16x5) (k0_off2 i) S1x1.size (k0_off2_inb i)) numel1_S1x1 rfl
  let inv : Elt F .f32 ← smemLoad arg2 (Rect.unit (s := S16x5) (k0_off3 i) S1x1.size (k0_off3_inb i)) numel1_S1x1 rfl
  let cb : Elt F .f32 ← smemLoad arg2 (Rect.unit (s := S16x5) (k0_off4 i) S1x1.size (k0_off4_inb i)) numel1_S1x1 rfl
  let cc : Elt F .f32 ← smemLoad arg2 (Rect.unit (s := S16x5) (k0_off5 i) S1x1.size (k0_off5_inb i)) numel1_S1x1 rfl
  let bias : Elt F .f32 ← smemLoad arg2 (Rect.unit (s := S16x5) (k0_off6 i) S1x1.size (k0_off6_inb i)) numel1_S1x1 rfl
  tile ok0 i arg1 arg6 harg6 arg7 arg8 arg9 harg9 arg10 arg11 arg12 arg13 harg13 ln2 inv cb cc bias
  tile ok1 i arg1 arg6 harg6 arg7 arg8 arg9 harg9 arg10 arg11 arg12 arg13 harg13 ln2 inv cb cc bias
  tile ok2 i arg1 arg6 harg6 arg7 arg8 arg9 harg9 arg10 arg11 arg12 arg13 harg13 ln2 inv cb cc bias
  tile ok3 i arg1 arg6 harg6 arg7 arg8 arg9 harg9 arg10 arg11 arg12 arg13 harg13 ln2 inv cb cc bias
  pure ⟨⟩

end Cert.Proof.Kernel

end
-- ==== Proof.Kernel.Cells.lean ====
/-
  The memory one grid point works on, as values. `Refs` names the fourteen buffers, `Cells` what they hold, `heap` says
  that they are held at those contents, and `Runs p σ σ' x` that the program `p` takes the contents `σ` to `σ'` and
  returns `x`. A load reads a window of a buffer's contents, a store puts its payload over one.
-/
module

public import proofs.«01_k».proof.Proof.Gen.Kernel
public import Idealize.ShloMosaic.Lib.Tactic
public import Idealize.ShloMosaic.Lib.VecWindow

@[expose] public section

noncomputable section

namespace Cert.Proof.Kernel

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the rounds library's, for the pipeline's cells. -/
abbrev UR : Type := URounds (GSem nD τ sig) Unit

local notation "𝕄" => MT nD τ sig Unit (Elt F) ℕ UR ℕ

/-- The buffers of one grid point. -/
structure Refs where
  a1 : Memref sig .tc .smem S16x8 .i32
  h1 : a1.IsWhole
  a2 : Memref sig .tc .smem S16x5 .f32
  h2 : a2.IsWhole
  a3 : Memref sig .tc .vmem S1x1x64x896 .i8
  h3 : a3.IsWhole
  a4 : Memref sig .tc .vmem S1x1x64x896 .i8
  h4 : a4.IsWhole
  a5 : Memref sig .tc .vmem S1x1x64x896 .i8
  h5 : a5.IsWhole
  a6 : Memref sig .tc .vmem S1x1x64x896 .i8
  h6 : a6.IsWhole
  a7 : Memref sig .tc .vmem S1x1x1x896 .i32
  h7 : a7.IsWhole
  a8 : Memref sig .tc .vmem S896x128 .bf16
  h8 : a8.IsWhole
  a9 : Memref sig .tc .vmem S128x896 .bf16
  h9 : a9.IsWhole
  a10 : Memref sig .tc .vmem S64x896 .bf16
  h10 : a10.IsWhole
  a11 : Memref sig .tc .vmem S896x256 .f32
  h11 : a11.IsWhole
  a12 : Memref sig .tc .vmem S896x256 .f32
  h12 : a12.IsWhole
  a13 : Memref sig .tc .vmem S896x256 .bf16
  h13 : a13.IsWhole
  a14 : Memref sig .tc .vmem S896x128 .i32
  h14 : a14.IsWhole

/-- What they hold. -/
structure Cells (F : FTy → Type) where
  x1 : Vec F S16x8 .i32
  x2 : Vec F S16x5 .f32
  x3 : Vec F S1x1x64x896 .i8
  x4 : Vec F S1x1x64x896 .i8
  x5 : Vec F S1x1x64x896 .i8
  x6 : Vec F S1x1x64x896 .i8
  x7 : Vec F S1x1x1x896 .i32
  x8 : Vec F S896x128 .bf16
  x9 : Vec F S128x896 .bf16
  x10 : Vec F S64x896 .bf16
  x11 : Vec F S896x256 .f32
  x12 : Vec F S896x256 .f32
  x13 : Vec F S896x256 .bf16
  x14 : Vec F S896x128 .i32

variable (c : Dev nD) (A : Refs)

/-- The fourteen buffers held at `σ`. -/
def heap (σ : Cells F) : sProp 𝕄 :=
  iprop(owns (c : Thread nD τ) A.a1 fullShare σ.x1 ∗ owns (c : Thread nD τ) A.a2 fullShare σ.x2
    ∗ owns (c : Thread nD τ) A.a3 fullShare σ.x3 ∗ owns (c : Thread nD τ) A.a4 fullShare σ.x4
    ∗ owns (c : Thread nD τ) A.a5 fullShare σ.x5 ∗ owns (c : Thread nD τ) A.a6 fullShare σ.x6
    ∗ owns (c : Thread nD τ) A.a7 fullShare σ.x7 ∗ owns (c : Thread nD τ) A.a8 fullShare σ.x8
    ∗ owns (c : Thread nD τ) A.a9 fullShare σ.x9 ∗ owns (c : Thread nD τ) A.a10 fullShare σ.x10
    ∗ owns (c : Thread nD τ) A.a11 fullShare σ.x11 ∗ owns (c : Thread nD τ) A.a12 fullShare σ.x12
    ∗ owns (c : Thread nD τ) A.a13 fullShare σ.x13 ∗ owns (c : Thread nD τ) A.a14 fullShare σ.x14)

/-- One buffer of the heap: its contents, their replacement, and that it can be taken out and put back. -/
structure Cell {sp : CoreSpace} {s : Shape} {e : EltTy} (m : Memref sig .tc sp s e) where
  get : Cells F → (s.Idx → Elt F e)
  set : Cells F → (s.Idx → Elt F e) → Cells F
  same : ∀ σ, set σ (get σ) = σ
  focus : ∀ σ : Cells F, (heap c A σ : sProp 𝕄) ⊢ iprop(owns (c : Thread nD τ) m fullShare (get σ) ∗ ∀ X, owns (c : Thread nD τ) m fullShare X -∗ heap c A (set σ X))

/-- `p` takes the contents `σ` to `σ'` and returns `x`, whatever runs next. -/
def Runs {α : Type} (p : Prog (TpuEff nD τ sig (Elt F) Λ₀ .tc) α) (σ σ' : Cells F) (x : α) : Prop :=
  ∀ (E : Set ℕ) {β : Type} (k : α → Prog (TpuEff nD τ sig (Elt F) Λ₀ .tc) β) (Q : β → sProp 𝕄),
    (heap c A σ : sProp 𝕄) ⊢ iprop((heap c A σ' -∗ wp frame (wpE (defs₀ (F := F)) Variants.none (c : Thread nD τ) none) E (k x) Q)
      -∗ wp frame (wpE (defs₀ (F := F)) Variants.none (c : Thread nD τ) none) E (p >>= k) Q)

section rules
variable {c A}

theorem Runs.pure {α : Type} {σ : Cells F} {x : α} : Runs (F := F) c A (Pure.pure x) σ σ x := by
  intro E β k Q
  iintro H Hk
  iapply Hk; iexact H

theorem Runs.bind {α β : Type} {p : Prog (TpuEff nD τ sig (Elt F) Λ₀ .tc) α} {q : α → Prog (TpuEff nD τ sig (Elt F) Λ₀ .tc) β}
    {σ σ1 σ2 : Cells F} {x : α} {y : β} (hp : Runs c A p σ σ1 x) (hq : Runs c A (q x) σ1 σ2 y) : Runs c A (p >>= q) σ σ2 y := by
  intro E γ k Q
  rw [bind_assoc]
  iintro H Hk
  iapply (hp E _ Q) $$ [H]
  · iexact H
  · iintro H
    iapply (hq E k Q) $$ [H]
    · iexact H
    · iexact Hk

theorem Runs.load {sp : CoreSpace} {s : Shape} {e : EltTy} {m : Memref sig .tc sp s e} (C : Cell (F := F) c A m) {off size : Fin s.rank → ℕ}
    {inb : ∀ a, off a + size a ≤ s.size a} {hl : m.view.LoadsAt (Rect.unit off size inb).toLoadRect} {σ : Cells F} :
    Runs c A (Prog.lift (.load m (Rect.unit off size inb).toLoadRect hl)) σ σ (VecWindow.window (C.get σ) off size inb) := by
  intro E β k Q
  refine (C.focus σ).trans ?_
  have hS : m.view.setOn (Rect.unit off size inb).toLoadRect.set ⊆ m.view.set := m.view.setOn_subset_set _
  change _ ⊢ iprop((_ -∗ _) -∗ wp frame (wpE (defs₀ (F := F)) Variants.none (c : Thread nD τ) none) E (.op (.load m (Rect.unit off size inb).toLoadRect hl) k) Q)
  iintro ⟨H, Hb⟩ Hk
  ihave H' := (show owns (c : Thread nD τ) m fullShare (C.get σ) ⊢ iprop(∃ f, ⌜m.view.read (Elt F) f = C.get σ⌝ ∗ (m.view.loc (c : Thread nD τ) ↦[m.view.set]{fullShare} f : sProp 𝕄)) from .rfl) $$ H
  icases H' with ⟨%f, %hf, H⟩
  iapply (wp_load (Val := Elt F) (defs := defs₀ (F := F)) (c := (c : Thread nD τ)) Variants.none none E (q := fullShare) (f := f) hS) $$ [H]
  · iexact H
  · iintro H
    rw [View.readAt_unit m.view f inb rfl inb, hf]
    iapply Hk
    ihave H2 := (owns_intro (c : Thread nD τ) m fullShare f) $$ H
    rw [hf]
    ihave H3 := Hb $$ H2
    rw [C.same σ]
    iexact H3

theorem Runs.store {sp : CoreSpace} {s : Shape} {e : EltTy} {m : Memref sig .tc sp s e} (C : Cell (F := F) c A m) {off size : Fin s.rank → ℕ}
    {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1} {σ : Cells F} :
    Runs c A (Prog.lift (.store m (Rect.unit off size inb) w Finset.univ hx hm)) σ (C.set σ (VecWindow.put (C.get σ) off size w)) ⟨⟩ := by
  intro E β k Q
  refine (C.focus σ).trans ?_
  have hS : (m.access (Rect.unit off size inb)).setOn Finset.univ ⊆ m.view.set := by
    rw [View.setOn_univ, View.set_slice]; exact m.view.setOn_subset_set _
  change _ ⊢ iprop((_ -∗ _) -∗ wp frame (wpE (defs₀ (F := F)) Variants.none (c : Thread nD τ) none) E (.op (.store m (Rect.unit off size inb) w Finset.univ hx hm) k) Q)
  iintro ⟨H, Hb⟩ Hk
  ihave H' := (show owns (c : Thread nD τ) m fullShare (C.get σ) ⊢ iprop(∃ f, ⌜m.view.read (Elt F) f = C.get σ⌝ ∗ (m.view.loc (c : Thread nD τ) ↦[m.view.set]{fullShare} f : sProp 𝕄)) from .rfl) $$ H
  icases H' with ⟨%f, %hf, H⟩
  iapply (wp_store (Val := Elt F) (defs := defs₀ (F := F)) (c := (c : Thread nD τ)) Variants.none none E (f := f) hS) $$ [H]
  · iexact H
  · iintro H
    iapply Hk
    iapply Hb
    have e : m.view.read (Elt F) ((m.access (Rect.unit off size inb)).write (Elt F) f w Finset.univ) = VecWindow.put (C.get σ) off size w := by
      have := View.read_writes_cons_put m.view f inb w [] rfl
      rw [View.writes_nil, hf] at this
      exact this
    rw [← e]
    iapply (owns_intro (c : Thread nD τ) m fullShare _)
    iexact H

theorem Runs.word {s : Shape} {e : EltTy} {m : Memref sig .tc .smem s e} (C : Cell (F := F) c A m) {off size : Fin s.rank → ℕ}
    {inb : ∀ a, off a + size a ≤ s.size a} {h1 : (Rect.unit off size inb).shape.numel = 1} {hp : e.packing = 1} {σ : Cells F} :
    Runs c A (smemLoad m (Rect.unit off size inb) h1 hp) σ σ
      (VecWindow.window (C.get σ) off size inb (Shape.Idx.first (h1.symm ▸ Nat.one_pos))) := by
  intro E β k Q
  exact (Runs.load (c := c) (A := A) C (σ := σ)) E (fun f => k (f (Shape.Idx.first (h1.symm ▸ Nat.one_pos)))) Q

/-- A loop whose trip `k` takes `st k` to `st (k + 1)` and the carried value `acc k` to `acc (k + 1)`. -/
theorem Runs.loop {α : Type} {w : ℕ} {l : Scf.Loop w} {hok : l.OK} {init : α} {body : Fin l.trips → α → Prog (TpuEff nD τ sig (Elt F) Λ₀ .tc) α}
    (st : ℕ → Cells F) (acc : ℕ → α) (h0 : acc 0 = init)
    (hb : ∀ k : Fin l.trips, Runs c A (body k (acc k)) (st k) (st (k.val + 1)) (acc (k.val + 1))) :
    Runs c A (Scf.Loop.for l hok init body) (st 0) (st l.trips) (acc l.trips) := by
  unfold Scf.Loop.for
  rw [Scf.for_eq]
  have key : ∀ (d k : ℕ), k + d = l.trips → Runs c A (Scf.forFrom body ((List.finRange l.trips).drop k) (acc k)) (st k) (st l.trips) (acc l.trips) := by
    intro d
    induction d with
    | zero =>
      intro k hk
      obtain rfl : k = l.trips := by omega
      rw [List.drop_of_length_le (by simp)]
      exact Runs.pure
    | succ d ih =>
      intro k hk
      have hlt : k < l.trips := by omega
      rw [List.drop_eq_getElem_cons (by simpa using hlt), List.getElem_finRange, Fin.cast_mk, Scf.forFrom_cons]
      exact (hb ⟨k, hlt⟩).bind (ih (k + 1) (by omega))
  have := key l.trips 0 (by omega)
  rw [h0] at this
  exact this

end rules

section cells
variable (c : Dev nD) (A : Refs)

def cell1 : Cell (F := F) c A A.a1 where
  get σ := σ.x1
  set σ X := { σ with x1 := X }
  same _ := rfl
  focus σ := by
    unfold heap
    iintro ⟨H1, H2, H3, H4, H5, H6, H7, H8, H9, H10, H11, H12, H13, H14⟩
    isplitl [H1]; · iexact H1
    iintro %X H1
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell2 : Cell (F := F) c A A.a2 where
  get σ := σ.x2
  set σ X := { σ with x2 := X }
  same _ := rfl
  focus σ := by
    unfold heap
    iintro ⟨H1, H2, H3, H4, H5, H6, H7, H8, H9, H10, H11, H12, H13, H14⟩
    isplitl [H2]; · iexact H2
    iintro %X H2
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell3 : Cell (F := F) c A A.a3 where
  get σ := σ.x3
  set σ X := { σ with x3 := X }
  same _ := rfl
  focus σ := by
    unfold heap
    iintro ⟨H1, H2, H3, H4, H5, H6, H7, H8, H9, H10, H11, H12, H13, H14⟩
    isplitl [H3]; · iexact H3
    iintro %X H3
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell4 : Cell (F := F) c A A.a4 where
  get σ := σ.x4
  set σ X := { σ with x4 := X }
  same _ := rfl
  focus σ := by
    unfold heap
    iintro ⟨H1, H2, H3, H4, H5, H6, H7, H8, H9, H10, H11, H12, H13, H14⟩
    isplitl [H4]; · iexact H4
    iintro %X H4
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell5 : Cell (F := F) c A A.a5 where
  get σ := σ.x5
  set σ X := { σ with x5 := X }
  same _ := rfl
  focus σ := by
    unfold heap
    iintro ⟨H1, H2, H3, H4, H5, H6, H7, H8, H9, H10, H11, H12, H13, H14⟩
    isplitl [H5]; · iexact H5
    iintro %X H5
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell6 : Cell (F := F) c A A.a6 where
  get σ := σ.x6
  set σ X := { σ with x6 := X }
  same _ := rfl
  focus σ := by
    unfold heap
    iintro ⟨H1, H2, H3, H4, H5, H6, H7, H8, H9, H10, H11, H12, H13, H14⟩
    isplitl [H6]; · iexact H6
    iintro %X H6
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell7 : Cell (F := F) c A A.a7 where
  get σ := σ.x7
  set σ X := { σ with x7 := X }
  same _ := rfl
  focus σ := by
    unfold heap
    iintro ⟨H1, H2, H3, H4, H5, H6, H7, H8, H9, H10, H11, H12, H13, H14⟩
    isplitl [H7]; · iexact H7
    iintro %X H7
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell8 : Cell (F := F) c A A.a8 where
  get σ := σ.x8
  set σ X := { σ with x8 := X }
  same _ := rfl
  focus σ := by
    unfold heap
    iintro ⟨H1, H2, H3, H4, H5, H6, H7, H8, H9, H10, H11, H12, H13, H14⟩
    isplitl [H8]; · iexact H8
    iintro %X H8
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell9 : Cell (F := F) c A A.a9 where
  get σ := σ.x9
  set σ X := { σ with x9 := X }
  same _ := rfl
  focus σ := by
    unfold heap
    iintro ⟨H1, H2, H3, H4, H5, H6, H7, H8, H9, H10, H11, H12, H13, H14⟩
    isplitl [H9]; · iexact H9
    iintro %X H9
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell10 : Cell (F := F) c A A.a10 where
  get σ := σ.x10
  set σ X := { σ with x10 := X }
  same _ := rfl
  focus σ := by
    unfold heap
    iintro ⟨H1, H2, H3, H4, H5, H6, H7, H8, H9, H10, H11, H12, H13, H14⟩
    isplitl [H10]; · iexact H10
    iintro %X H10
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell11 : Cell (F := F) c A A.a11 where
  get σ := σ.x11
  set σ X := { σ with x11 := X }
  same _ := rfl
  focus σ := by
    unfold heap
    iintro ⟨H1, H2, H3, H4, H5, H6, H7, H8, H9, H10, H11, H12, H13, H14⟩
    isplitl [H11]; · iexact H11
    iintro %X H11
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell12 : Cell (F := F) c A A.a12 where
  get σ := σ.x12
  set σ X := { σ with x12 := X }
  same _ := rfl
  focus σ := by
    unfold heap
    iintro ⟨H1, H2, H3, H4, H5, H6, H7, H8, H9, H10, H11, H12, H13, H14⟩
    isplitl [H12]; · iexact H12
    iintro %X H12
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell13 : Cell (F := F) c A A.a13 where
  get σ := σ.x13
  set σ X := { σ with x13 := X }
  same _ := rfl
  focus σ := by
    unfold heap
    iintro ⟨H1, H2, H3, H4, H5, H6, H7, H8, H9, H10, H11, H12, H13, H14⟩
    isplitl [H13]; · iexact H13
    iintro %X H13
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

def cell14 : Cell (F := F) c A A.a14 where
  get σ := σ.x14
  set σ X := { σ with x14 := X }
  same _ := rfl
  focus σ := by
    unfold heap
    iintro ⟨H1, H2, H3, H4, H5, H6, H7, H8, H9, H10, H11, H12, H13, H14⟩
    isplitl [H14]; · iexact H14
    iintro %X H14
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

end cells

end Cert.Proof.Kernel

end
-- ==== Proof.Kernel.Slow.lean ====
/-
  The kernel's body with its general branch and its prelude written as pure terms between the memory operations.
-/
module

public import proofs.«01_k».proof.Proof.Kernel.Rolled
public import proofs.«01_k».proof.Proof.Kernel.Cells

@[expose] public section

noncomputable section

namespace Cert.Proof.Kernel

open Cert.Kernel Cert.Kernel.Gen
open Idealize.ShloMosaic Idealize.ShloMosaic.TcCoe
open Idealize.SL.Sem

variable {F : FTy → Type} [FloatOps F]

/-- The keys with three rows of ones below them, transposed. -/
def kaugV (k : Vec F S1x1x64x896 .i8) : FVec F S896x128 .bf16 :=
  truncf .bf16 (transpose S896x128 [1, 0] (concatenate S128x896 0 [⟨S64x896, sitofp .f32 (shapeCast S64x896 k shapeCasts_S1x1x64x896_S64x896)⟩,
    ⟨S64x896, select (cmpi .slt (iota .tc S64x896 32 [0] iota_S64x896_d0_w32) (broadcast S64x896 3#32))
      (broadcast S64x896 (Scalar.ofBits .f32 0x3F800000#32)) (broadcast S64x896 (Scalar.ofBits .f32 0x00000000#32))⟩]
    concatenates_S64x896_S64x896_S128x896_d0) transposes_S128x896_p1_0_S896x128) bitsLt_bf16_f32

/-- Eight-bit codes as floats. -/
def codesV (q : Vec F S1x1x64x896 .i8) : FVec F S64x896 .bf16 :=
  sitofp .bf16 (shapeCast S64x896 q shapeCasts_S1x1x64x896_S64x896)

/-- The scores of a tile of the general branch. -/
def slowScores (ka : Vec F S896x64 .bf16) (qa : Vec F S64x128 .bf16) : FVec F S896x128 .f32 :=
  matmul dot_S896x64_S64x128_S896x128_1_0_0_1_n_n none ka qa (constant S896x128 .f32 0x00000000#32)

/-- The largest score of each query. -/
def slowMax (s : FVec F S896x128 .f32) : FVec F S1x128 .f32 :=
  shapeCast S1x128 (multiReduction .maximumf [0] S128 s 0xFF800000#32 reduces_S896x128_S128 (.inl rfl) rfl) shapeCasts_S128_S1x128

/-- What a division by zero gives: the sign's extreme. -/
def slowSat (n : IVec S16x128 32) : IVec S16x128 32 :=
  select (cmpi .sgt n (broadcast S16x128 0#32)) (broadcast S16x128 2147483647#32)
    (select (cmpi .slt n (broadcast S16x128 0#32)) (broadcast S16x128 2147483648#32) (broadcast S16x128 0#32))

/-- The quotient `z` of the distance to the maximum by `ln2`, rounded down. -/
def slowZ (mx : FVec F S1x128 .f32) (u : Vec F S16x128 .f32) (ln2 : Elt F .i32) (lf : Elt F .f32) : IVec S16x128 32 :=
  let n : IVec S16x128 32 := fptosi 32 (subf (broadcastTo S16x128 mx broadcasts_S1x128_S16x128) u)
  let q0 : IVec S16x128 32 := fptosi 32 (floor (divf (subf (broadcastTo S16x128 mx broadcasts_S1x128_S16x128) u)
    (broadcast S16x128 (Scalar.select (Scalar.cmpf .oeq lf (Scalar.ofBits .f32 0x00000000#32)) (Scalar.ofBits .f32 0x3F800000#32) lf))))
  let q : IVec S16x128 32 := Scalar.select (Scalar.cmpi .eq ln2 0#32) (slowSat n) q0
  let r : IVec S16x128 32 := subi n (muli q (broadcast S16x128 ln2))
  subi (addi q (extui 32 (cmpi .sge r (broadcast S16x128 ln2)) natLt_1_32)) (extui 32 (cmpi .slt r (broadcast S16x128 0#32)) natLt_1_32)

/-- The exponentials of sixteen keys. -/
def slowE (mx : FVec F S1x128 .f32) (u : Vec F S16x128 .f32) (ln2 qb qc r : Elt F .i32) (lf : Elt F .f32) : IVec S16x128 32 :=
  let z : IVec S16x128 32 := slowZ mx u ln2 lf
  let p : IVec S16x128 32 := addi (fptosi 32 (subf u (broadcastTo S16x128 mx broadcasts_S1x128_S16x128))) (muli z (broadcast S16x128 ln2))
  let l : IVec S16x128 32 := addi (muli (addi p (broadcast S16x128 qb)) (addi p (broadcast S16x128 qb))) (broadcast S16x128 qc)
  let sh : IVec S16x128 32 := minsi (addi z (broadcast S16x128 r)) (broadcast S16x128 31#32)
  shrsi l (select (cmpi .slt sh (broadcast S16x128 0#32)) (broadcast S16x128 31#32) sh)

/-- The row sums of a tile. -/
def slowTotal (acc : IVec S16x128 32) : IVec S1x128 32 :=
  shapeCast S1x128 (multiReductionI .add [0] S128 acc 0#32 reduces_S16x128_S128 rfl) shapeCasts_S128_S1x128

/-- The probabilities of sixteen keys. -/
def slowP (e : Vec F S16x128 .i32) (t : IVec S1x128 32) : FVec F S16x128 .bf16 :=
  let n : IVec S16x128 32 := muli e (broadcast S16x128 255#32)
  let tf : FVec F S1x128 .f32 := sitofp .f32 t
  let q0 : IVec S16x128 32 := fptosi 32 (floor (divf (sitofp .f32 n : FVec F S16x128 .f32)
    (broadcastTo S16x128 (select (cmpf .oeq tf (broadcast S1x128 (Scalar.ofBits .f32 0x00000000#32))) (broadcast S1x128 (Scalar.ofBits .f32 0x3F800000#32)) tf) broadcasts_S1x128_S16x128)))
  let q : IVec S16x128 32 := select (broadcastTo S16x128 (shapeCast S1x128 (cmpi .eq t (broadcast S1x128 0#32)) shapeCasts_S1x128_S1x128) broadcasts_S1x128_S16x128) (slowSat n) q0
  let r : IVec S16x128 32 := subi n (muli q (broadcastTo S16x128 t broadcasts_S1x128_S16x128))
  let z : IVec S16x128 32 := subi (addi q (extui 32 (cmpi .sge r (broadcastTo S16x128 t broadcasts_S1x128_S16x128)) natLt_1_32)) (extui 32 (cmpi .slt r (broadcast S16x128 0#32)) natLt_1_32)
  truncf .bf16 (sitofp .f32 (andi z (broadcast S16x128 255#32)) : FVec F S16x128 .f32) bitsLt_bf16_f32

/-- The requantised outputs. -/
def slowOut (v : Vec F S64x896 .bf16) (p : Vec F S896x128 .bf16) (mult half shift : Elt F .i32) : IVec S64x128 8 :=
  trunci 8 (minsi (broadcast S64x128 127#32) (maxsi (broadcast S64x128 4294967169#32)
    (shrsi (addi (muli (fptosi 32 (matmul dot_S64x896_S896x128_S64x128_1_0_0_1_n_n none v p (constant S64x128 .f32 0x00000000#32)))
      (broadcast S64x128 mult)) (broadcast S64x128 half)) (broadcast S64x128 shift)))) natLt_8_32

section
variable (i : grid0.Coords) (A : Refs)

/-- What comes before the two branches. -/
def prelude : Prog (TpuEff nD τ sig (Elt F) Λ₀ .tc) PUnit := do
  let k : Vec F S1x1x64x896 .i8 ← Prog.lift (.load A.a4 (Rect.unit (s := S1x1x64x896) ![0, 0, 0, 0] S1x1x64x896.size inb_S1x1x64x896_S1x1x64x896_0_0_0_0).toLoadRect (View.loadsAt_vmem h_S1x1x64x896))
  let _d : Vec F S896x128 .bf16 ← Prog.lift (.load A.a8 (Rect.unit (s := S896x128) ![0, 0] S896x128.size inb_S896x128_S896x128_0_0).toLoadRect (View.loadsAt_vmem h_S896x128))
  Prog.lift (.store A.a8 (Rect.unit (s := S896x128) ![0, 0] S896x128.size inb_S896x128_S896x128_0_0) (shapeCast S896x128 (kaugV k) shapeCasts_S896x128_S896x128) Finset.univ (View.stores_vmem h_S896x128 (A.h8.storeExact_slice rfl _ packedbf16_S896x128_S896x128_0_0) (fun _ => rfl)) (.inl rfl))
  let q : Vec F S1x1x64x896 .i8 ← Prog.lift (.load A.a3 (Rect.unit (s := S1x1x64x896) ![0, 0, 0, 0] S1x1x64x896.size inb_S1x1x64x896_S1x1x64x896_0_0_0_0).toLoadRect (View.loadsAt_vmem h_S1x1x64x896))
  let _d : Vec F S64x896 .bf16 ← Prog.lift (.load A.a9 (Rect.unit (s := S128x896) ![0, 0] S64x896.size inb_S128x896_S64x896_0_0).toLoadRect (View.loadsAt_vmem h_S64x896))
  Prog.lift (.store A.a9 (Rect.unit (s := S128x896) ![0, 0] S64x896.size inb_S128x896_S64x896_0_0) (shapeCast S64x896 (codesV q) shapeCasts_S64x896_S64x896) Finset.univ (View.stores_vmem h_S64x896 (A.h9.storeExact_slice rfl _ packedbf16_S128x896_S64x896_0_0) (fun _ => rfl)) (.inl rfl))
  let _d : Vec F S64x896 .bf16 ← Prog.lift (.load A.a9 (Rect.unit (s := S128x896) ![64, 0] S64x896.size inb_S128x896_S64x896_64_0).toLoadRect (View.loadsAt_vmem h_S64x896))
  Prog.lift (.store A.a9 (Rect.unit (s := S128x896) ![64, 0] S64x896.size inb_S128x896_S64x896_64_0) (shapeCast S64x896 (broadcast S64x896 (Scalar.ofBits .bf16 0x0000#16 : F .bf16)) shapeCasts_S64x896_S64x896) Finset.univ (View.stores_vmem h_S64x896 (A.h9.storeExact_slice rfl _ packedbf16_S128x896_S64x896_64_0) (fun _ => rfl)) (.inl rfl))
  let v : Vec F S1x1x64x896 .i8 ← Prog.lift (.load A.a5 (Rect.unit (s := S1x1x64x896) ![0, 0, 0, 0] S1x1x64x896.size inb_S1x1x64x896_S1x1x64x896_0_0_0_0).toLoadRect (View.loadsAt_vmem h_S1x1x64x896))
  let _d : Vec F S64x896 .bf16 ← Prog.lift (.load A.a10 (Rect.unit (s := S64x896) ![0, 0] S64x896.size inb_S64x896_S64x896_0_0).toLoadRect (View.loadsAt_vmem h_S64x896))
  Prog.lift (.store A.a10 (Rect.unit (s := S64x896) ![0, 0] S64x896.size inb_S64x896_S64x896_0_0) (shapeCast S64x896 (codesV v) shapeCasts_S64x896_S64x896) Finset.univ (View.stores_vmem h_S64x896 (A.h10.storeExact_slice rfl _ packedbf16_S64x896_S64x896_0_0) (fun _ => rfl)) (.inl rfl))

/-- Sixteen keys of the exponential pass. -/
def slowExpStep (mx : FVec F S1x128 .f32) (ln2 qb qc r : Elt F .i32) (lf : Elt F .f32) (t : Fin k0_t2_loop.trips) (acc : IVec S16x128 32) :
    Prog (TpuEff nD τ sig (Elt F) Λ₀ .tc) (IVec S16x128 32) := do
  let u : Vec F S16x128 .f32 ← Prog.lift (.load A.a11 (Rect.unit (s := S896x256) (k0_off17 t) S16x128.size (k0_off17_inb t)).toLoadRect (View.loadsAt_vmem h_S16x128))
  let _d : Vec F S16x128 .i32 ← Prog.lift (.load A.a14 (Rect.unit (s := S896x128) (k0_off18 t) S16x128.size (k0_off18_inb t)).toLoadRect (View.loadsAt_vmem h_S16x128))
  Prog.lift (.store A.a14 (Rect.unit (s := S896x128) (k0_off18 t) S16x128.size (k0_off18_inb t)) (shapeCast S16x128 (slowE mx u ln2 qb qc r lf) shapeCasts_S16x128_S16x128) Finset.univ (View.stores_vmem_bits_univ h_S16x128 rfl) (.inl rfl))
  pure (addi acc (slowE mx u ln2 qb qc r lf))

/-- Sixteen keys of the probability pass. -/
def slowProbStep (tot : IVec S1x128 32) (t : Fin k0_t3_loop.trips) : Prog (TpuEff nD τ sig (Elt F) Λ₀ .tc) PUnit := do
  let e : Vec F S16x128 .i32 ← Prog.lift (.load A.a14 (Rect.unit (s := S896x128) (k0_off20 t) S16x128.size (k0_off20_inb t)).toLoadRect (View.loadsAt_vmem h_S16x128))
  let _d : Vec F S16x128 .bf16 ← Prog.lift (.load A.a13 (Rect.unit (s := S896x256) (k0_off21 t) S16x128.size (k0_off21_inb t)).toLoadRect (View.loadsAt_vmem h_S16x128))
  Prog.lift (.store A.a13 (Rect.unit (s := S896x256) (k0_off21 t) S16x128.size (k0_off21_inb t)) (shapeCast S16x128 (slowP (F := F) e tot) shapeCasts_S16x128_S16x128) Finset.univ (View.stores_vmem h_S16x128 (A.h13.storeExact_slice rfl _ (k0_off21_packedbf16 t)) (fun _ => rfl)) (.inl rfl))
  pure ⟨⟩

/-- One tile of the general branch. -/
def slowTile (ln2 qb qc r : Elt F .i32) (lf : Elt F .f32) (t : Fin k0_t1_loop.trips) : Prog (TpuEff nD τ sig (Elt F) Λ₀ .tc) PUnit := do
  let ka : Vec F S896x64 .bf16 ← Prog.lift (.load A.a8 (Rect.unit (s := S896x128) ![0, 0] S896x64.size inb_S896x128_S896x64_0_0).toLoadRect (View.loadsAt_vmem h_S896x64))
  let qa : Vec F S64x128 .bf16 ← Prog.lift (.load A.a9 (Rect.unit (s := S128x896) (k0_off16 t) S64x128.size (k0_off16_inb t)).toLoadRect (View.loadsAt_vmem h_S64x128))
  let _d : Vec F S896x128 .f32 ← Prog.lift (.load A.a11 (Rect.unit (s := S896x256) ![0, 0] S896x128.size inb_S896x256_S896x128_0_0).toLoadRect (View.loadsAt_vmem h_S896x128))
  Prog.lift (.store A.a11 (Rect.unit (s := S896x256) ![0, 0] S896x128.size inb_S896x256_S896x128_0_0) (shapeCast S896x128 (slowScores ka qa) shapeCasts_S896x128_S896x128) Finset.univ (View.stores_vmem_bits_univ h_S896x128 rfl) (.inl rfl))
  let acc : IVec S16x128 32 ← Scf.Loop.for k0_t2_loop k0_t2_ok (broadcast S16x128 0#32) fun t2 acc => slowExpStep A (slowMax (slowScores ka qa)) ln2 qb qc r lf t2 acc
  let _d : Vec F S1x1x1x128 .i32 ← Prog.lift (.load A.a7 (Rect.unit (s := S1x1x1x896) (k0_off19 t) S1x1x1x128.size (k0_off19_inb t)).toLoadRect (View.loadsAt_vmem h_S1x1x1x128))
  Prog.lift (.store A.a7 (Rect.unit (s := S1x1x1x896) (k0_off19 t) S1x1x1x128.size (k0_off19_inb t)) (shapeCast S1x1x1x128 (slowTotal acc) shapeCasts_S1x128_S1x1x1x128) Finset.univ (View.stores_vmem_bits_univ h_S1x1x1x128 rfl) (.inl rfl))
  Scf.Loop.for k0_t3_loop k0_t3_ok ⟨⟩ fun t3 _ => slowProbStep A (slowTotal acc) t3
  let vb : Vec F S64x896 .bf16 ← Prog.lift (.load A.a10 (Rect.unit (s := S64x896) ![0, 0] S64x896.size inb_S64x896_S64x896_0_0).toLoadRect (View.loadsAt_vmem h_S64x896))
  let pb : Vec F S896x128 .bf16 ← Prog.lift (.load A.a13 (Rect.unit (s := S896x256) ![0, 0] S896x128.size inb_S896x256_S896x128_0_0).toLoadRect (View.loadsAt_vmem h_S896x128))
  let mult : Elt F .i32 ← smemLoad A.a1 (Rect.unit (s := S16x8) (k0_off22 i) S1x1.size (k0_off22_inb i)) numel1_S1x1 rfl
  let half : Elt F .i32 ← smemLoad A.a1 (Rect.unit (s := S16x8) (k0_off23 i) S1x1.size (k0_off23_inb i)) numel1_S1x1 rfl
  let shift : Elt F .i32 ← smemLoad A.a1 (Rect.unit (s := S16x8) (k0_off24 i) S1x1.size (k0_off24_inb i)) numel1_S1x1 rfl
  let _d : Vec F S1x1x64x128 .i8 ← Prog.lift (.load A.a6 (Rect.unit (s := S1x1x64x896) (k0_off25 t) S1x1x64x128.size (k0_off25_inb t)).toLoadRect (View.loadsAt_vmem h_S1x1x64x128))
  Prog.lift (.store A.a6 (Rect.unit (s := S1x1x64x896) (k0_off25 t) S1x1x64x128.size (k0_off25_inb t)) (shapeCast S1x1x64x128 (slowOut vb pb mult half shift) shapeCasts_S64x128_S1x1x64x128) Finset.univ (View.stores_vmem h_S1x1x64x128 (A.h6.storeExact_slice rfl _ (k0_off25_packedi8 t)) (fun _ => rfl)) (.inl rfl))
  pure ⟨⟩

/-- The general branch. -/
def slow : Prog (TpuEff nD τ sig (Elt F) Λ₀ .tc) PUnit := do
  let ln2 : Elt F .i32 ← smemLoad A.a1 (Rect.unit (s := S16x8) (k0_off11 i) S1x1.size (k0_off11_inb i)) numel1_S1x1 rfl
  let qb : Elt F .i32 ← smemLoad A.a1 (Rect.unit (s := S16x8) (k0_off12 i) S1x1.size (k0_off12_inb i)) numel1_S1x1 rfl
  let qc : Elt F .i32 ← smemLoad A.a1 (Rect.unit (s := S16x8) (k0_off13 i) S1x1.size (k0_off13_inb i)) numel1_S1x1 rfl
  let r : Elt F .i32 ← smemLoad A.a1 (Rect.unit (s := S16x8) (k0_off14 i) S1x1.size (k0_off14_inb i)) numel1_S1x1 rfl
  let lf : Elt F .f32 ← smemLoad A.a2 (Rect.unit (s := S16x5) (k0_off15 i) S1x1.size (k0_off15_inb i)) numel1_S1x1 rfl
  Scf.Loop.for k0_t1_loop k0_t1_ok ⟨⟩ fun t _ => slowTile i A ln2 qb qc r lf t
  pure ⟨⟩

/-- Whether a word is not zero, as the branches test it. -/
def isOn (v : Elt F .i32) : BitVec 1 := Scalar.cmpi .ne (Scalar.extui (Scalar.cmpi .ne v 0#32) : BitVec 32) 0#32
def isOff (v : Elt F .i32) : BitVec 1 := Scalar.cmpi .ne (Scalar.extui (Scalar.cmpi .eq v 0#32) : BitVec 32) 0#32

/-- The body, the fast branch given. -/
def bodyWith (fastP : Prog (TpuEff nD τ sig (Elt F) Λ₀ .tc) PUnit) : Prog (TpuEff nD τ sig (Elt F) Λ₀ .tc) PUnit := do
  prelude A
  let f : Elt F .i32 ← smemLoad A.a1 (Rect.unit (s := S16x8) (k0_off1 i) S1x1.size (k0_off1_inb i)) numel1_S1x1 rfl
  if isOn (F := F) f = 1#1 then fastP else pure ⟨⟩
  let g : Elt F .i32 ← smemLoad A.a1 (Rect.unit (s := S16x8) (k0_off10 i) S1x1.size (k0_off10_inb i)) numel1_S1x1 rfl
  if isOff (F := F) g = 1#1 then slow i A else pure ⟨⟩

/-- The body. -/
def body : Prog (TpuEff nD τ sig (Elt F) Λ₀ .tc) PUnit :=
  bodyWith i A (fast i A.a1 A.a2 A.a6 A.h6 A.a7 A.a8 A.a9 A.h9 A.a10 A.a11 A.a12 A.a13 A.h13)

end

end Cert.Proof.Kernel

end
-- ==== Proof.Kernel.BodyRun.lean ====
/-
  What one grid point leaves in memory, as a function of what it finds: the body's steps on contents alone, and that the
  program does exactly that.
-/
module

public import proofs.«01_k».proof.Proof.Kernel.Slow

@[expose] public section

noncomputable section

namespace Cert.Proof.Kernel

open Cert.Kernel Cert.Kernel.Gen
open Idealize.ShloMosaic Idealize.ShloMosaic.TcCoe
open Idealize.SL.Sem
open VecWindow (window put)

variable {F : FTy → Type} [FloatOps F]

/-- The one index of a one-element rectangle. -/
abbrev one11 : S1x1.Idx := Shape.Idx.first (numel1_S1x1.symm ▸ Nat.one_pos)

section tile
variable {w st : ℕ} (T : TileOk w st)

/-- The eight rows of exponentials of group `i`. -/
def expAt (x11 : Vec F S896x256 .f32) (ln2 inv cb cc : F .f32) (i : ℕ) (h : i < 112) : FVec F (S8 w) .f32 :=
  expV (window x11 ![8 * i, 0] (S8 w).size (T.inb8 i h)) ln2 inv cb cc

/-- The exponential pass on contents. -/
def expGo (ln2 inv cb cc : F .f32) : (n i : ℕ) → (h : i + n = 112) → Cells F × FVec F (S8 w) .f32 → Cells F × FVec F (S8 w) .f32
  | 0, _, _, p => p
  | n + 1, i, h, p => expGo ln2 inv cb cc n (i + 1) (by omega)
      ({ p.1 with x12 := put p.1.x12 ![8 * i, 0] (S8 w).size (shapeCast (S8 w) (expAt T p.1.x11 ln2 inv cb cc i (by omega)) T.cast8) },
        addf p.2 (expAt T p.1.x11 ln2 inv cb cc i (by omega)))

/-- The probability pass on contents. -/
def probGo (hi lo : FVec F (S8 w) .f32) : (n i : ℕ) → (h : i + n = 56) → Cells F → Cells F
  | 0, _, _, σ => σ
  | n + 1, i, h, σ => probGo hi lo n (i + 1) (by omega)
      { σ with x13 := put σ.x13 ![16 * i, 0] (SR w).size (shapeCast (SR w) (probV T hi lo
          (window σ.x12 ![8 * (2 * i), 0] (S8 w).size (T.inb8 (2 * i) (by omega)))
          (window σ.x12 ![8 * (2 * i + 1), 0] (S8 w).size (T.inb8 (2 * i + 1) (by omega)))) T.castR) }

/-- The scores the tile works on: with the maximum and the bias put in. -/
def tileBias (σ : Cells F) (bias : F .f32) : Cells F :=
  { σ with x9 := put σ.x9 ![64, st] (SR w).size (shapeCast (SR w) (biasRows T (betaV T (scores T
      (window σ.x8 ![0, 0] S896x128.size inb_S896x128_S896x128_0_0) (window σ.x9 ![0, st] (SQ w).size T.inbQ)) bias)) T.castR) }

def tileScore (σ : Cells F) : Cells F :=
  { σ with x11 := put σ.x11 ![0, 0] (SA w).size (shapeCast (SA w) (scores T
      (window σ.x8 ![0, 0] S896x128.size inb_S896x128_S896x128_0_0) (window σ.x9 ![0, st] (SQ w).size T.inbQ)) T.castA) }

def tileSum (p : Cells F × FVec F (S8 w) .f32) : Cells F :=
  { p.1 with x7 := put p.1.x7 ![0, 0, 0, st] (SS4 w).size (shapeCast (SS4 w) (totalV T p.2) T.castS) }

def tileStore (i : grid0.Coords) (σ : Cells F) : Cells F :=
  { σ with x6 := put σ.x6 ![0, 0, 0, st] (SO4 w).size (shapeCast (SO4 w) (quantV (outs T
      (window σ.x10 ![0, 0] S64x896.size inb_S64x896_S64x896_0_0) (window σ.x13 ![0, 0] (SA w).size T.inbA))
      (window σ.x1 (k0_off7 i) S1x1.size (k0_off7_inb i) one11) (window σ.x1 (k0_off8 i) S1x1.size (k0_off8_inb i) one11)
      (window σ.x1 (k0_off9 i) S1x1.size (k0_off9_inb i) one11)) T.castO) }

/-- The exponentials of a tile and their running sum. -/
def tileExp (ln2 inv cb cc bias : F .f32) (σ : Cells F) : Cells F × FVec F (S8 w) .f32 :=
  expGo T ln2 inv cb cc 112 0 rfl (tileScore T (tileBias T σ bias), broadcast (S8 w) (Scalar.ofBits .f32 0x00000000#32))

/-- One tile on contents. -/
def tileOut (i : grid0.Coords) (ln2 inv cb cc bias : F .f32) (σ : Cells F) : Cells F :=
  tileStore T i (probGo T (hiV (total8 T (totalV T (tileExp T ln2 inv cb cc bias σ).2))) (loV (total8 T (totalV T (tileExp T ln2 inv cb cc bias σ).2))) 56 0 rfl
    (tileSum T (tileExp T ln2 inv cb cc bias σ)))

end tile

/-- The prelude on contents. -/
def preludeOut (σ : Cells F) : Cells F :=
  { σ with
    x8 := put σ.x8 ![0, 0] S896x128.size (shapeCast S896x128 (kaugV (window σ.x4 ![0, 0, 0, 0] S1x1x64x896.size inb_S1x1x64x896_S1x1x64x896_0_0_0_0)) shapeCasts_S896x128_S896x128)
    x9 := put (put σ.x9 ![0, 0] S64x896.size (shapeCast S64x896 (codesV (window σ.x3 ![0, 0, 0, 0] S1x1x64x896.size inb_S1x1x64x896_S1x1x64x896_0_0_0_0)) shapeCasts_S64x896_S64x896))
      ![64, 0] S64x896.size (shapeCast S64x896 (broadcast S64x896 (Scalar.ofBits .bf16 0x0000#16 : F .bf16)) shapeCasts_S64x896_S64x896)
    x10 := put σ.x10 ![0, 0] S64x896.size (shapeCast S64x896 (codesV (window σ.x5 ![0, 0, 0, 0] S1x1x64x896.size inb_S1x1x64x896_S1x1x64x896_0_0_0_0)) shapeCasts_S64x896_S64x896) }

/-- A word of the head's row of the integer table, and of the float table. -/
abbrev word1 (σ : Cells F) (off : Fin 2 → ℕ) (inb : ∀ a, off a + S1x1.size a ≤ S16x8.size a) : Elt F .i32 := window (s := S16x8) σ.x1 off S1x1.size inb one11
abbrev word2 (σ : Cells F) (off : Fin 2 → ℕ) (inb : ∀ a, off a + S1x1.size a ≤ S16x5.size a) : Elt F .f32 := window (s := S16x5) σ.x2 off S1x1.size inb one11

/-- The fast branch on contents. -/
def fastOut (i : grid0.Coords) (σ : Cells F) : Cells F :=
  let ln2 := word2 σ (k0_off2 i) (k0_off2_inb i)
  let inv := word2 σ (k0_off3 i) (k0_off3_inb i)
  let cb := word2 σ (k0_off4 i) (k0_off4_inb i)
  let cc := word2 σ (k0_off5 i) (k0_off5_inb i)
  let bias := word2 σ (k0_off6 i) (k0_off6_inb i)
  tileOut ok3 i ln2 inv cb cc bias (tileOut ok2 i ln2 inv cb cc bias (tileOut ok1 i ln2 inv cb cc bias (tileOut ok0 i ln2 inv cb cc bias σ)))

/-- Sixteen exponentials of the general branch on contents. -/
def slowEAt (mx : FVec F S1x128 .f32) (ln2 qb qc r : Elt F .i32) (lf : Elt F .f32) (x11 : Vec F S896x256 .f32) (t : Fin k0_t2_loop.trips) : IVec S16x128 32 :=
  slowE mx (window (s := S896x256) x11 (k0_off17 t) S16x128.size (k0_off17_inb t)) ln2 qb qc r lf

/-- The exponential pass of the general branch on contents. -/
def slowExpGo (mx : FVec F S1x128 .f32) (ln2 qb qc r : Elt F .i32) (lf : Elt F .f32) (σ : Cells F) : ℕ → Cells F × IVec S16x128 32
  | 0 => (σ, broadcast S16x128 0#32)
  | k + 1 => if h : k < k0_t2_loop.trips then
      ({ (slowExpGo mx ln2 qb qc r lf σ k).1 with x14 := put (slowExpGo mx ln2 qb qc r lf σ k).1.x14 (k0_off18 ⟨k, h⟩) S16x128.size (shapeCast S16x128 (slowEAt mx ln2 qb qc r lf (slowExpGo mx ln2 qb qc r lf σ k).1.x11 ⟨k, h⟩) shapeCasts_S16x128_S16x128) },
        addi (slowExpGo mx ln2 qb qc r lf σ k).2 (slowEAt mx ln2 qb qc r lf (slowExpGo mx ln2 qb qc r lf σ k).1.x11 ⟨k, h⟩))
    else slowExpGo mx ln2 qb qc r lf σ k

/-- The probability pass of the general branch on contents. -/
def slowProbGo (tot : IVec S1x128 32) (σ : Cells F) : ℕ → Cells F
  | 0 => σ
  | k + 1 => if h : k < k0_t3_loop.trips then
      { slowProbGo tot σ k with x13 := put (slowProbGo tot σ k).x13 (k0_off21 ⟨k, h⟩) S16x128.size (shapeCast S16x128 (slowP (F := F) (window (s := S896x128) (slowProbGo tot σ k).x14 (k0_off20 ⟨k, h⟩) S16x128.size (k0_off20_inb ⟨k, h⟩)) tot) shapeCasts_S16x128_S16x128) }
    else slowProbGo tot σ k

/-- The scores of the general branch's tile `t`. -/
def slowScoresAt (σ : Cells F) (t : Fin k0_t1_loop.trips) : FVec F S896x128 .f32 :=
  slowScores (window (s := S896x128) σ.x8 ![0, 0] S896x64.size inb_S896x128_S896x64_0_0) (window (s := S128x896) σ.x9 (k0_off16 t) S64x128.size (k0_off16_inb t))

/-- The exponential pass of tile `t`. -/
def slowTileExp (ln2 qb qc r : Elt F .i32) (lf : Elt F .f32) (t : Fin k0_t1_loop.trips) (σ : Cells F) : Cells F × IVec S16x128 32 :=
  slowExpGo (slowMax (slowScoresAt σ t)) ln2 qb qc r lf
    { σ with x11 := put σ.x11 ![0, 0] S896x128.size (shapeCast S896x128 (slowScoresAt σ t) shapeCasts_S896x128_S896x128) } k0_t2_loop.trips

/-- The row sums of tile `t` stored. -/
def slowTileSum (t : Fin k0_t1_loop.trips) (p : Cells F × IVec S16x128 32) : Cells F :=
  { p.1 with x7 := put p.1.x7 (k0_off19 t) S1x1x1x128.size (shapeCast S1x1x1x128 (slowTotal p.2) shapeCasts_S1x128_S1x1x1x128) }

/-- The outputs of tile `t` stored. -/
def slowTileStore (i : grid0.Coords) (t : Fin k0_t1_loop.trips) (σ : Cells F) : Cells F :=
  { σ with x6 := put σ.x6 (k0_off25 t) S1x1x64x128.size (shapeCast S1x1x64x128 (slowOut (window σ.x10 ![0, 0] S64x896.size inb_S64x896_S64x896_0_0)
      (window (s := S896x256) σ.x13 ![0, 0] S896x128.size inb_S896x256_S896x128_0_0)
      (word1 σ (k0_off22 i) (k0_off22_inb i)) (word1 σ (k0_off23 i) (k0_off23_inb i)) (word1 σ (k0_off24 i) (k0_off24_inb i))) shapeCasts_S64x128_S1x1x64x128) }

/-- One tile of the general branch on contents. -/
def slowTileOut (i : grid0.Coords) (ln2 qb qc r : Elt F .i32) (lf : Elt F .f32) (t : Fin k0_t1_loop.trips) (σ : Cells F) : Cells F :=
  slowTileStore i t (slowProbGo (slowTotal (slowTileExp ln2 qb qc r lf t σ).2) (slowTileSum t (slowTileExp ln2 qb qc r lf t σ)) k0_t3_loop.trips)

/-- The tiles of the general branch on contents. -/
def slowGo (i : grid0.Coords) (ln2 qb qc r : Elt F .i32) (lf : Elt F .f32) (σ : Cells F) : ℕ → Cells F
  | 0 => σ
  | k + 1 => if h : k < k0_t1_loop.trips then slowTileOut i ln2 qb qc r lf ⟨k, h⟩ (slowGo i ln2 qb qc r lf σ k) else slowGo i ln2 qb qc r lf σ k

/-- The general branch on contents. -/
def slowAll (i : grid0.Coords) (σ : Cells F) : Cells F :=
  slowGo i (word1 σ (k0_off11 i) (k0_off11_inb i)) (word1 σ (k0_off12 i) (k0_off12_inb i)) (word1 σ (k0_off13 i) (k0_off13_inb i))
    (word1 σ (k0_off14 i) (k0_off14_inb i)) (word2 σ (k0_off15 i) (k0_off15_inb i)) σ k0_t1_loop.trips

/-- What comes after the prelude, on contents. -/
def afterFast (i : grid0.Coords) (σ : Cells F) : Cells F :=
  if isOn (F := F) (word1 σ (k0_off1 i) (k0_off1_inb i)) = 1#1 then fastOut i σ else σ

def afterSlow (i : grid0.Coords) (σ : Cells F) : Cells F :=
  if isOff (F := F) (word1 σ (k0_off10 i) (k0_off10_inb i)) = 1#1 then slowAll i σ else σ

/-- The body on contents. -/
def bodyOut (i : grid0.Coords) (σ : Cells F) : Cells F := afterSlow i (afterFast i (preludeOut σ))

section runs
variable (c : Dev nD) (A : Refs)

theorem runs_exp {w st : ℕ} (T : TileOk w st) (ln2 inv cb cc : F .f32) : ∀ (n i : ℕ) (h : i + n = 112) (σ : Cells F) (acc : FVec F (S8 w) .f32),
    Runs c A (expFrom T A.a11 A.a12 ln2 inv cb cc n i h acc) σ (expGo T ln2 inv cb cc n i h (σ, acc)).1 (expGo T ln2 inv cb cc n i h (σ, acc)).2
  | 0, _, _, _, _ => Runs.pure
  | n + 1, i, h, σ, acc => by
    refine Runs.bind (x := addf acc (expAt T σ.x11 ln2 inv cb cc i (by omega))) ?_ (runs_exp T ln2 inv cb cc n (i + 1) (by omega) _ _)
    exact (Runs.load (cell11 c A)).bind ((Runs.load (cell12 c A)).bind ((Runs.store (cell12 c A)).bind Runs.pure))

theorem runs_prob {w st : ℕ} (T : TileOk w st) (hi lo : FVec F (S8 w) .f32) : ∀ (n i : ℕ) (h : i + n = 56) (σ : Cells F),
    Runs c A (probFrom T A.a12 A.a13 A.h13 hi lo n i h) σ (probGo T hi lo n i h σ) ⟨⟩
  | 0, _, _, _ => Runs.pure
  | n + 1, i, h, σ => by
    refine Runs.bind (x := PUnit.unit) ?_ (runs_prob T hi lo n (i + 1) (by omega) _)
    exact (Runs.load (cell12 c A)).bind ((Runs.load (cell12 c A)).bind ((Runs.load (cell13 c A)).bind (Runs.store (cell13 c A))))

theorem runs_tile {w st : ℕ} (T : TileOk w st) (i : grid0.Coords) (ln2 inv cb cc bias : F .f32) (σ : Cells F) :
    Runs c A (tile T i A.a1 A.a6 A.h6 A.a7 A.a8 A.a9 A.h9 A.a10 A.a11 A.a12 A.a13 A.h13 ln2 inv cb cc bias) σ (tileOut T i ln2 inv cb cc bias σ) ⟨⟩ := by
  refine (Runs.load (cell8 c A)).bind ((Runs.load (cell9 c A)).bind ((Runs.load (cell9 c A)).bind ((Runs.store (cell9 c A)).bind ?_)))
  refine (Runs.load (cell8 c A)).bind ((Runs.load (cell9 c A)).bind ((Runs.load (cell11 c A)).bind ((Runs.store (cell11 c A)).bind ?_)))
  refine (runs_exp c A T ln2 inv cb cc 112 0 rfl _ _).bind ?_
  refine (Runs.load (cell7 c A)).bind ((Runs.store (cell7 c A)).bind ((runs_prob c A T _ _ 56 0 rfl _).bind ?_))
  exact (Runs.load (cell10 c A)).bind ((Runs.load (cell13 c A)).bind ((Runs.word (cell1 c A)).bind ((Runs.word (cell1 c A)).bind ((Runs.word (cell1 c A)).bind
    ((Runs.load (cell6 c A)).bind (Runs.store (cell6 c A)))))))

theorem runs_fast (i : grid0.Coords) (σ : Cells F) :
    Runs c A (fast i A.a1 A.a2 A.a6 A.h6 A.a7 A.a8 A.a9 A.h9 A.a10 A.a11 A.a12 A.a13 A.h13) σ (fastOut i σ) ⟨⟩ := by
  refine (Runs.word (cell2 c A)).bind ((Runs.word (cell2 c A)).bind ((Runs.word (cell2 c A)).bind ((Runs.word (cell2 c A)).bind ((Runs.word (cell2 c A)).bind ?_))))
  exact (runs_tile c A ok0 i _ _ _ _ _ _).bind ((runs_tile c A ok1 i _ _ _ _ _ _).bind ((runs_tile c A ok2 i _ _ _ _ _ _).bind ((runs_tile c A ok3 i _ _ _ _ _ _).bind Runs.pure)))

theorem runs_prelude (σ : Cells F) : Runs c A (prelude A) σ (preludeOut σ) ⟨⟩ :=
  (Runs.load (cell4 c A)).bind ((Runs.load (cell8 c A)).bind ((Runs.store (cell8 c A)).bind ((Runs.load (cell3 c A)).bind ((Runs.load (cell9 c A)).bind
    ((Runs.store (cell9 c A)).bind ((Runs.load (cell9 c A)).bind ((Runs.store (cell9 c A)).bind ((Runs.load (cell5 c A)).bind ((Runs.load (cell10 c A)).bind
    (Runs.store (cell10 c A)))))))))))

theorem runs_slowExp (mx : FVec F S1x128 .f32) (ln2 qb qc r : Elt F .i32) (lf : Elt F .f32) (σ : Cells F) :
    Runs c A (Scf.Loop.for k0_t2_loop k0_t2_ok (broadcast S16x128 0#32) fun t2 acc => slowExpStep A mx ln2 qb qc r lf t2 acc) σ
      (slowExpGo mx ln2 qb qc r lf σ k0_t2_loop.trips).1 (slowExpGo mx ln2 qb qc r lf σ k0_t2_loop.trips).2 := by
  refine Runs.loop (fun k => (slowExpGo mx ln2 qb qc r lf σ k).1) (fun k => (slowExpGo mx ln2 qb qc r lf σ k).2) rfl fun k => ?_
  have e : slowExpGo mx ln2 qb qc r lf σ (k.val + 1) = _ := dif_pos k.isLt
  rw [e]
  exact (Runs.load (cell11 c A)).bind ((Runs.load (cell14 c A)).bind ((Runs.store (cell14 c A)).bind Runs.pure))

theorem runs_slowProb (tot : IVec S1x128 32) (σ : Cells F) :
    Runs c A (Scf.Loop.for k0_t3_loop k0_t3_ok ⟨⟩ fun t3 _ => slowProbStep A tot t3) σ (slowProbGo tot σ k0_t3_loop.trips) ⟨⟩ := by
  refine Runs.loop (slowProbGo tot σ) (fun _ => PUnit.unit) rfl fun k => ?_
  have e : slowProbGo tot σ (k.val + 1) = _ := dif_pos k.isLt
  rw [e]
  exact (Runs.load (cell14 c A)).bind ((Runs.load (cell13 c A)).bind ((Runs.store (cell13 c A)).bind Runs.pure))

theorem runs_slowTile_of (i : grid0.Coords) (ln2 qb qc r : Elt F .i32) (lf : Elt F .f32) (t : Fin k0_t1_loop.trips) (σ : Cells F)
    (σ2 : Cells F) (acc : IVec S16x128 32) (P : Cells F → Cells F)
    (hexp : Runs c A (Scf.Loop.for k0_t2_loop k0_t2_ok (broadcast S16x128 0#32) fun t2 acc => slowExpStep A (slowMax (slowScoresAt σ t)) ln2 qb qc r lf t2 acc)
      { σ with x11 := put σ.x11 ![0, 0] S896x128.size (shapeCast S896x128 (slowScoresAt σ t) shapeCasts_S896x128_S896x128) } σ2 acc)
    (hprob : ∀ σ', Runs c A (Scf.Loop.for k0_t3_loop k0_t3_ok ⟨⟩ fun t3 _ => slowProbStep A (slowTotal acc) t3) σ' (P σ') ⟨⟩) :
    Runs c A (slowTile i A ln2 qb qc r lf t) σ (slowTileStore i t (P (slowTileSum t (σ2, acc)))) ⟨⟩ := by
  refine (Runs.load (cell8 c A)).bind ((Runs.load (cell9 c A)).bind ((Runs.load (cell11 c A)).bind ((Runs.store (cell11 c A)).bind ?_)))
  refine hexp.bind ?_
  refine (Runs.load (cell7 c A)).bind ((Runs.store (cell7 c A)).bind ((hprob _).bind ?_))
  exact (Runs.load (cell10 c A)).bind ((Runs.load (cell13 c A)).bind ((Runs.word (cell1 c A)).bind ((Runs.word (cell1 c A)).bind ((Runs.word (cell1 c A)).bind
    ((Runs.load (cell6 c A)).bind ((Runs.store (cell6 c A)).bind Runs.pure))))))

theorem runs_slowTile (i : grid0.Coords) (ln2 qb qc r : Elt F .i32) (lf : Elt F .f32) (t : Fin k0_t1_loop.trips) (σ : Cells F) :
    Runs c A (slowTile i A ln2 qb qc r lf t) σ (slowTileOut i ln2 qb qc r lf t σ) ⟨⟩ := by
  unfold slowTileOut
  have h := runs_slowTile_of c A i ln2 qb qc r lf t σ (slowTileExp ln2 qb qc r lf t σ).1 (slowTileExp ln2 qb qc r lf t σ).2
    (fun σ' => slowProbGo (slowTotal (slowTileExp ln2 qb qc r lf t σ).2) σ' k0_t3_loop.trips)
    (by unfold slowTileExp; exact runs_slowExp c A _ ln2 qb qc r lf _) (fun σ' => runs_slowProb c A _ σ')
  rw [Prod.mk.eta] at h
  exact h

theorem runs_slowLoop (i : grid0.Coords) (ln2 qb qc r : Elt F .i32) (lf : Elt F .f32) (σ : Cells F) :
    Runs c A (Scf.Loop.for k0_t1_loop k0_t1_ok PUnit.unit fun t _ => slowTile i A ln2 qb qc r lf t) σ (slowGo i ln2 qb qc r lf σ k0_t1_loop.trips) PUnit.unit := by
  refine Runs.loop (slowGo i ln2 qb qc r lf σ) (fun _ => PUnit.unit) rfl fun k => ?_
  have e : slowGo i ln2 qb qc r lf σ (k.val + 1) = _ := dif_pos k.isLt
  rw [e]
  exact runs_slowTile c A i ln2 qb qc r lf k _

theorem runs_slow_of (i : grid0.Coords) (σ σ2 : Cells F)
    (h : Runs c A (Scf.Loop.for k0_t1_loop k0_t1_ok PUnit.unit fun t _ => slowTile i A (word1 σ (k0_off11 i) (k0_off11_inb i)) (word1 σ (k0_off12 i) (k0_off12_inb i)) (word1 σ (k0_off13 i) (k0_off13_inb i))
    (word1 σ (k0_off14 i) (k0_off14_inb i)) (word2 σ (k0_off15 i) (k0_off15_inb i)) t) σ σ2 PUnit.unit) : Runs c A (slow i A) σ σ2 PUnit.unit := by
  refine (Runs.word (cell1 c A)).bind ((Runs.word (cell1 c A)).bind ((Runs.word (cell1 c A)).bind ((Runs.word (cell1 c A)).bind ((Runs.word (cell2 c A)).bind ?_))))
  exact Runs.bind (x := PUnit.unit) h Runs.pure

theorem runs_slow (i : grid0.Coords) (σ : Cells F) : Runs c A (slow i A) σ (slowAll i σ) PUnit.unit :=
  runs_slow_of c A i σ _ (runs_slowLoop c A i _ _ _ _ _ σ)

theorem runs_body_of (i : grid0.Coords) (σ σ0 : Cells F) (fast : Prog (TpuEff nD τ sig (Elt F) Λ₀ .tc) PUnit) (f g : Cells F → Cells F)
    (hpre : Runs c A (prelude A) σ σ0 ⟨⟩) (hf : ∀ σ', Runs c A fast σ' (f σ') ⟨⟩) (hg : ∀ σ', Runs c A (slow i A) σ' (g σ') ⟨⟩) (σ1 σ2 : Cells F)
    (h1 : σ1 = if isOn (F := F) (word1 σ0 (k0_off1 i) (k0_off1_inb i)) = 1#1 then f σ0 else σ0)
    (h2 : σ2 = if isOff (F := F) (word1 σ1 (k0_off10 i) (k0_off10_inb i)) = 1#1 then g σ1 else σ1) :
    Runs c A (bodyWith i A fast) σ σ2 ⟨⟩ := by
  have hrest : Runs c A (do
      let g : Elt F .i32 ← smemLoad A.a1 (Rect.unit (s := S16x8) (k0_off10 i) S1x1.size (k0_off10_inb i)) numel1_S1x1 rfl
      if isOff (F := F) g = 1#1 then slow i A else pure ⟨⟩) σ1 σ2 PUnit.unit := by
    refine (Runs.word (cell1 c A)).bind ?_
    rw [h2]
    by_cases h : isOff (F := F) (word1 σ1 (k0_off10 i) (k0_off10_inb i)) = 1#1
    · refine (show Runs c A (if isOff (F := F) (word1 σ1 (k0_off10 i) (k0_off10_inb i)) = 1#1 then slow i A else pure ⟨⟩) _ _ _ from ?_)
      rw [if_pos h, if_pos h]; exact hg _
    · refine (show Runs c A (if isOff (F := F) (word1 σ1 (k0_off10 i) (k0_off10_inb i)) = 1#1 then slow i A else pure ⟨⟩) _ _ _ from ?_)
      rw [if_neg h, if_neg h]; exact Runs.pure
  refine hpre.bind ((Runs.word (cell1 c A)).bind ?_)
  dsimp only
  by_cases h : isOn (F := F) (word1 σ0 (k0_off1 i) (k0_off1_inb i)) = 1#1
  · have h' : isOn (F := F) (window ((cell1 (F := F) c A).get σ0) (k0_off1 i) S1x1.size (k0_off1_inb i) one11) = 1#1 := h
    rw [if_pos h']
    rw [if_pos h] at h1
    refine Runs.bind (x := PUnit.unit) (hf σ0) ?_
    rw [← h1]; exact hrest
  · have h' : ¬ isOn (F := F) (window ((cell1 (F := F) c A).get σ0) (k0_off1 i) S1x1.size (k0_off1_inb i) one11) = 1#1 := h
    rw [if_neg h']
    rw [if_neg h] at h1
    rw [← h1]
    first | exact hrest | (refine Runs.bind (x := PUnit.unit) (Runs.pure (σ := σ1)) ?_; exact hrest)

/-- The body takes the contents `σ` to `bodyOut i σ`. -/
theorem runs_body (i : grid0.Coords) (σ : Cells F) : Runs c A (body i A) σ (bodyOut i σ) ⟨⟩ :=
  runs_body_of c A i σ (preludeOut σ) _ (fastOut i) (slowAll i) (runs_prelude c A σ) (runs_fast c A i) (runs_slow c A i)
    (afterFast i (preludeOut σ)) (bodyOut i σ) rfl rfl

end runs

end Cert.Proof.Kernel

end
-- ==== Proof.Kernel.FastForm.lean ====
/-
  What the tiles of the fast branch leave in the two output blocks, from the inputs alone: the scratch contents that a
  tile finds play no part.
-/
module

public import proofs.«01_k».proof.Proof.Kernel.BodyRun
public import Idealize.ShloMosaic.Lib.Pointwise.Reshape

@[expose] public section

noncomputable section

namespace Cert.Proof.Kernel

open Cert.Kernel Cert.Kernel.Gen
open Idealize.ShloMosaic Idealize.ShloMosaic.TcCoe
open Idealize.SL.Sem
open VecWindow (window put window_put_same window_put_of_disjoint)

/-! ## Windows -/

section windows
variable {α : Type} {s : Shape}

/-- A window of the whole array. -/
theorem window_full (x : s.Idx → α) (off : Fin s.rank → ℕ) (inb : ∀ a, off a + s.size a ≤ s.size a) : window x off s.size inb = x := by
  funext y
  exact congrArg x (funext fun a => Fin.ext (by
    show off a + 1 * (y a).val = (y a).val
    have := inb a; omega))

/-- A put over the whole array. -/
theorem put_full (x : s.Idx → α) (off : Fin s.rank → ℕ) (inb : ∀ a, off a + s.size a ≤ s.size a) (w : s.Idx → α) : put x off s.size w = w := by
  have h := window_put_same x off s.size inb w
  rwa [window_full] at h

/-- A window inside the put, at the offsets `off''` within it. -/
theorem window_put_inside (x : s.Idx → α) (off size off' size' off'' : Fin s.rank → ℕ) (inb' : ∀ a, off' a + size' a ≤ s.size a)
    (w : ((a : Fin s.rank) → Fin (size a)) → α) (e : ∀ a, off' a = off a + off'' a) (h : ∀ a, off'' a + size' a ≤ size a) :
    window (put x off size w) off' size' inb' = window (s := ⟨s.rank, size⟩) w off'' size' h := by
  rw [VecWindow.window_put_of_inside x off size off' size' inb' w (fun a => by have := h a; have := e a; omega)]
  have e' : (fun a => off' a - off a) = off'' := funext fun a => by have := e a; omega
  subst e'
  rfl

/-- A put inside a window is a put in what the window shows. -/
theorem window_put_within (x : s.Idx → α) (off size off' size' off'' : Fin s.rank → ℕ) (inb' : ∀ a, off' a + size' a ≤ s.size a)
    (w : ((a : Fin s.rank) → Fin (size a)) → α) (e : ∀ a, off a = off' a + off'' a) :
    window (put x off size w) off' size' inb' = put (s := ⟨s.rank, size'⟩) (window x off' size' inb') off'' size w := by
  funext y
  have v : ∀ a, ((Rect.unit off' size' inb').emb y a).val = off' a + 1 * (y a).val := fun a => rfl
  show put x off size w ((Rect.unit off' size' inb').emb y) = _
  unfold put
  by_cases h : ∀ a, off a ≤ ((Rect.unit off' size' inb').emb y a).val ∧ ((Rect.unit off' size' inb').emb y a).val < off a + size a
  · have h' : ∀ a, off'' a ≤ (y a).val ∧ (y a).val < off'' a + size a := fun a => by have := h a; have := e a; have := v a; omega
    rw [dif_pos h, dif_pos h']
    exact congrArg w (funext fun a => Fin.ext (by
      show ((Rect.unit off' size' inb').emb y a).val - off a = (y a).val - off'' a
      have := h' a; have := e a; have := v a; omega))
  · have h' : ¬ ∀ a, off'' a ≤ (y a).val ∧ (y a).val < off'' a + size a := fun hh => h fun a => by have := hh a; have := e a; have := v a; omega
    rw [dif_neg h, dif_neg h']
    rfl

/-- Arrays that agree on a window agree at its entries. -/
theorem window_at (x : s.Idx → α) (off size : Fin s.rank → ℕ) (inb : ∀ a, off a + size a ≤ s.size a) (y : s.Idx)
    (h : ∀ a, off a ≤ (y a).val ∧ (y a).val < off a + size a) :
    x y = window x off size inb (Rect.unitLocal (s := s) (off := off) (size := size) y h) := by
  refine congrArg x (funext fun a => Fin.ext ?_)
  show (y a).val = off a + 1 * ((y a).val - off a)
  have := h a; omega

end windows

variable {F : FTy → Type} [FloatOps F]

/-! ## A tile -/

section tile
variable {w st : ℕ} (T : TileOk w st)

theorem TileOk.rows8 (i : ℕ) (h : i < 112) : ∀ a, (![8 * i, 0] : Fin 2 → Nat) a + (S8 w).size a ≤ (SA w).size a := by
  intro a; match a with
  | ⟨0, _⟩ => show 8 * i + 8 ≤ 896; omega
  | ⟨1, _⟩ => show 0 + w ≤ w; omega

include T in
theorem TileOk.rowsR : ∀ a, (![64, 0] : Fin 2 → Nat) a + (SR w).size a ≤ (SQ w).size a := by
  intro a; match a with
  | ⟨0, _⟩ => show 64 + 16 ≤ 128; omega
  | ⟨1, _⟩ => show 0 + w ≤ w; omega

/-- The tile's augmented queries with the shift put in. -/
def tQ (k : Vec F S896x128 .bf16) (q : Vec F (SQ w) .bf16) (bias : F .f32) : Vec F (SQ w) .bf16 :=
  put (s := SQ w) q ![64, 0] (SR w).size (biasRows T (betaV T (scores T k q) bias))

/-- The tile's shifted scores. -/
def tS (k : Vec F S896x128 .bf16) (q : Vec F (SQ w) .bf16) (bias : F .f32) : Vec F (SA w) .f32 := scores T k (tQ T k q bias)

/-- The exponentials of group `i`. -/
def tE (ln2 inv cb cc : F .f32) (s : Vec F (SA w) .f32) (i : ℕ) (h : i < 112) : FVec F (S8 w) .f32 :=
  expV (window (s := SA w) s ![8 * i, 0] (S8 w).size (TileOk.rows8 i h)) ln2 inv cb cc

/-- The running sum over the groups from `i` on. -/
def tAcc (ln2 inv cb cc : F .f32) (s : Vec F (SA w) .f32) : (n i : ℕ) → (h : i + n = 112) → FVec F (S8 w) .f32 → FVec F (S8 w) .f32
  | 0, _, _, a => a
  | n + 1, i, h, a => tAcc ln2 inv cb cc s n (i + 1) (by omega) (addf a (tE ln2 inv cb cc s i (by omega)))

/-- The tile's row sums. -/
def tSum (ln2 inv cb cc : F .f32) (s : Vec F (SA w) .f32) : IVec (S1 w) 32 :=
  totalV T (tAcc ln2 inv cb cc s 112 0 rfl (broadcast (S8 w) (Scalar.ofBits .f32 0x00000000#32)))

/-- Rows put together from groups of sixteen. -/
def stack16 {α : Type} (f : (i : ℕ) → i < 56 → (SR w).Idx → α) : (SA w).Idx → α := fun y =>
  f ((y 0).val / 16) (by have : (y 0).val < 896 := (y 0).isLt; omega) (ix2 (n0 := 16) (n1 := w) ⟨(y 0).val % 16, by omega⟩ (y 1))

/-- The tile's probabilities. -/
def tP (ln2 inv cb cc : F .f32) (s : Vec F (SA w) .f32) : Vec F (SA w) .bf16 :=
  stack16 fun i h => probV T (hiV (total8 T (tSum T ln2 inv cb cc s))) (loV (total8 T (tSum T ln2 inv cb cc s)))
    (tE ln2 inv cb cc s (2 * i) (by omega)) (tE ln2 inv cb cc s (2 * i + 1) (by omega))

theorem expGo_rest (ln2 inv cb cc : F .f32) : ∀ (n i : ℕ) (h : i + n = 112) (p : Cells F × FVec F (S8 w) .f32),
    (expGo T ln2 inv cb cc n i h p).1 = { p.1 with x12 := (expGo T ln2 inv cb cc n i h p).1.x12 }
  | 0, _, _, _ => rfl
  | n + 1, i, h, p => by
    unfold expGo
    exact expGo_rest ln2 inv cb cc n (i + 1) (by omega) _

theorem expAt_eq (ln2 inv cb cc : F .f32) (s : Vec F (SA w) .f32) (x11 : Vec F S896x256 .f32) (hs : window (s := S896x256) x11 ![0, 0] (SA w).size T.inbA = s) (i : ℕ) (h : i < 112) :
    expAt T x11 ln2 inv cb cc i h = tE ln2 inv cb cc s i h := by
  unfold expAt tE
  congr 1
  subst hs
  funext y
  refine congrArg x11 (funext fun a => Fin.ext ?_)
  match a with
  | ⟨0, _⟩ => show 8 * i + 1 * (y 0).val = 0 + 1 * (8 * i + 1 * (y 0).val); omega
  | ⟨1, _⟩ => show 0 + 1 * (y 1).val = 0 + 1 * (0 + 1 * (y 1).val); omega

theorem expGo_acc (ln2 inv cb cc : F .f32) (s : Vec F (SA w) .f32) : ∀ (n i : ℕ) (h : i + n = 112) (p : Cells F × FVec F (S8 w) .f32)
    (_ : window (s := S896x256) p.1.x11 ![0, 0] (SA w).size T.inbA = s),
    (expGo T ln2 inv cb cc n i h p).2 = tAcc ln2 inv cb cc s n i h p.2
  | 0, _, _, _, _ => rfl
  | n + 1, i, h, p, hs => by
    unfold expGo tAcc
    refine Eq.trans (b := tAcc ln2 inv cb cc s n (i + 1) (by omega) _) (expGo_acc ln2 inv cb cc s n (i + 1) (by omega) (_, _) ?_) ?_
    · exact hs
    · rw [expAt_eq T ln2 inv cb cc s p.1.x11 hs i (by omega)]

theorem expGo_win (ln2 inv cb cc : F .f32) (s : Vec F (SA w) .f32) : ∀ (n i : ℕ) (h : i + n = 112) (p : Cells F × FVec F (S8 w) .f32)
    (_ : window (s := S896x256) p.1.x11 ![0, 0] (SA w).size T.inbA = s) (j : ℕ) (hj : j < 112),
    window (s := S896x256) (expGo T ln2 inv cb cc n i h p).1.x12 ![8 * j, 0] (S8 w).size (T.inb8 j hj)
      = if i ≤ j then tE ln2 inv cb cc s j hj else window (s := S896x256) p.1.x12 ![8 * j, 0] (S8 w).size (T.inb8 j hj)
  | 0, i, h, p, _, j, hj => by rw [if_neg (by omega)]; rfl
  | n + 1, i, h, p, hs, j, hj => by
    unfold expGo
    refine Eq.trans (expGo_win ln2 inv cb cc s n (i + 1) (by omega) (_, _) ?_ j hj) ?_
    · exact hs
    dsimp only
    by_cases h1 : i + 1 ≤ j
    · rw [if_pos h1, if_pos (by omega)]
    · rw [if_neg h1]
      by_cases h2 : i ≤ j
      · obtain rfl : i = j := by omega
        rw [if_pos h2, shapeCast_id, expAt_eq T ln2 inv cb cc s p.1.x11 hs i hj]
        exact window_put_same (s := S896x256) p.1.x12 ![8 * i, 0] (S8 w).size (T.inb8 i hj) _
      · rw [if_neg h2]
        exact window_put_of_disjoint (s := S896x256) p.1.x12 ![8 * i, 0] (S8 w).size ![8 * j, 0] (S8 w).size (T.inb8 j hj) _ (0 : Fin 2)
          (Or.inl (by show 8 * j + 8 ≤ 8 * i; omega))

theorem probGo_rest (hi lo : FVec F (S8 w) .f32) : ∀ (n i : ℕ) (h : i + n = 56) (σ : Cells F),
    probGo T hi lo n i h σ = { σ with x13 := (probGo T hi lo n i h σ).x13 }
  | 0, _, _, _ => rfl
  | n + 1, i, h, σ => by
    unfold probGo
    exact probGo_rest hi lo n (i + 1) (by omega) _

theorem probGo_win (hi lo : FVec F (S8 w) .f32) : ∀ (n i : ℕ) (h : i + n = 56) (σ : Cells F) (j : ℕ) (hj : j < 56),
    window (s := S896x256) (probGo T hi lo n i h σ).x13 ![16 * j, 0] (SR w).size (T.inb16 j hj)
      = if i ≤ j then probV T hi lo (window (s := S896x256) σ.x12 ![8 * (2 * j), 0] (S8 w).size (T.inb8 (2 * j) (by omega)))
          (window (s := S896x256) σ.x12 ![8 * (2 * j + 1), 0] (S8 w).size (T.inb8 (2 * j + 1) (by omega)))
        else window (s := S896x256) σ.x13 ![16 * j, 0] (SR w).size (T.inb16 j hj)
  | 0, i, h, p, j, hj => by rw [if_neg (by omega)]; rfl
  | n + 1, i, h, σ, j, hj => by
    unfold probGo
    rw [probGo_win hi lo n (i + 1) (by omega) _ j hj]
    dsimp only
    by_cases h1 : i + 1 ≤ j
    · rw [if_pos h1, if_pos (by omega)]
    · rw [if_neg h1]
      by_cases h2 : i ≤ j
      · obtain rfl : i = j := by omega
        rw [if_pos h2, shapeCast_id]
        exact window_put_same (s := S896x256) σ.x13 ![16 * i, 0] (SR w).size (T.inb16 i hj) _
      · rw [if_neg h2]
        exact window_put_of_disjoint (s := S896x256) σ.x13 ![16 * i, 0] (SR w).size ![16 * j, 0] (SR w).size (T.inb16 j hj) _ (0 : Fin 2)
          (Or.inl (by show 16 * j + 16 ≤ 16 * i; omega))

/-- An array whose groups of sixteen rows are known is known on the tile. -/
theorem stack16_eq {α : Type} (x : S896x256.Idx → α) (f : (i : ℕ) → i < 56 → (SR w).Idx → α)
    (h : ∀ (i : ℕ) (hi : i < 56), window (s := S896x256) x ![16 * i, 0] (SR w).size (T.inb16 i hi) = f i hi) :
    window (s := S896x256) x ![0, 0] (SA w).size T.inbA = stack16 f := by
  funext y
  have hy : (y 0).val < 896 := (y 0).isLt
  unfold stack16
  rw [← h]
  refine congrArg x (funext fun a => Fin.ext ?_)
  match a with
  | ⟨0, _⟩ => show 0 + 1 * (y 0).val = 16 * ((y 0).val / 16) + 1 * ((y 0).val % 16); omega
  | ⟨1, _⟩ => show 0 + 1 * (y 1).val = 0 + 1 * (y 1).val; omega

/-- A tile, in terms of the keys, the queries' columns and the values it finds. -/
theorem tileOut_form (i : grid0.Coords) (ln2 inv cb cc bias : F .f32) (σ : Cells F) (q : Vec F (SQ w) .bf16)
    (hq : window (s := S128x896) σ.x9 ![0, st] (SQ w).size T.inbQ = q) :
    ∃ a b d, tileOut T i ln2 inv cb cc bias σ = { σ with
      x6 := put σ.x6 ![0, 0, 0, st] (SO4 w).size (shapeCast (SO4 w) (quantV (outs T σ.x10 (tP T ln2 inv cb cc (tS T σ.x8 q bias)))
        (window (s := S16x8) σ.x1 (k0_off7 i) S1x1.size (k0_off7_inb i) one11) (window (s := S16x8) σ.x1 (k0_off8 i) S1x1.size (k0_off8_inb i) one11)
        (window (s := S16x8) σ.x1 (k0_off9 i) S1x1.size (k0_off9_inb i) one11)) T.castO)
      x7 := put σ.x7 ![0, 0, 0, st] (SS4 w).size (shapeCast (SS4 w) (tSum T ln2 inv cb cc (tS T σ.x8 q bias)) T.castS)
      x9 := put σ.x9 ![64, st] (SR w).size (biasRows T (betaV T (scores T σ.x8 q) bias))
      x11 := a
      x12 := b
      x13 := d } := by
  have h9 : (tileBias T σ bias).x9 = put σ.x9 ![64, st] (SR w).size (biasRows T (betaV T (scores T σ.x8 q) bias)) := by
    unfold tileBias
    dsimp only
    rw [shapeCast_id, hq, window_full]
  have hq2 : window (s := S128x896) (tileBias T σ bias).x9 ![0, st] (SQ w).size T.inbQ = tQ T σ.x8 q bias := by
    rw [h9]
    unfold tQ
    rw [← hq]
    refine window_put_within (s := S128x896) σ.x9 ![64, st] (SR w).size ![0, st] (SQ w).size ![64, 0] T.inbQ _ fun a => ?_
    match a with
    | ⟨0, _⟩ => rfl
    | ⟨1, _⟩ => rfl
  have h11 : window (s := S896x256) (tileScore T (tileBias T σ bias)).x11 ![0, 0] (SA w).size T.inbA = tS T σ.x8 q bias := by
    unfold tileScore
    dsimp only
    rw [hq2, shapeCast_id, window_full]
    exact window_put_same (s := S896x256) _ ![0, 0] (SA w).size T.inbA _
  have hE : tileExp T ln2 inv cb cc bias σ
      = expGo T ln2 inv cb cc 112 0 rfl (tileScore T (tileBias T σ bias), broadcast (S8 w) (Scalar.ofBits .f32 0x00000000#32)) := rfl
  have hacc : totalV T (tileExp T ln2 inv cb cc bias σ).2 = tSum T ln2 inv cb cc (tS T σ.x8 q bias) := by
    rw [hE, expGo_acc T ln2 inv cb cc _ 112 0 rfl _ h11]; rfl
  have h12 : ∀ (j : ℕ) (hj : j < 112), window (s := S896x256) (tileExp T ln2 inv cb cc bias σ).1.x12 ![8 * j, 0] (S8 w).size (T.inb8 j hj)
      = tE ln2 inv cb cc (tS T σ.x8 q bias) j hj := fun j hj => by
    rw [hE, expGo_win T ln2 inv cb cc _ 112 0 rfl _ h11 j hj, if_pos (Nat.zero_le _)]
  have hrest : (tileExp T ln2 inv cb cc bias σ).1 = { tileScore T (tileBias T σ bias) with x12 := (tileExp T ln2 inv cb cc bias σ).1.x12 } := by
    rw [hE]; exact expGo_rest T ln2 inv cb cc 112 0 rfl _
  unfold tileOut
  rw [hacc]
  generalize hE' : tileExp T ln2 inv cb cc bias σ = E at *
  have h13 : window (s := S896x256) (probGo T (hiV (total8 T (tSum T ln2 inv cb cc (tS T σ.x8 q bias)))) (loV (total8 T (tSum T ln2 inv cb cc (tS T σ.x8 q bias)))) 56 0 rfl (tileSum T E)).x13
      ![0, 0] (SA w).size T.inbA = tP T ln2 inv cb cc (tS T σ.x8 q bias) := by
    refine stack16_eq T _ _ fun j hj => ?_
    rw [probGo_win T _ _ 56 0 rfl _ j hj, if_pos (Nat.zero_le _)]
    have e : (tileSum T E).x12 = E.1.x12 := rfl
    rw [e, h12 (2 * j) (by omega), h12 (2 * j + 1) (by omega)]
  have hr := probGo_rest T (hiV (total8 T (tSum T ln2 inv cb cc (tS T σ.x8 q bias)))) (loV (total8 T (tSum T ln2 inv cb cc (tS T σ.x8 q bias)))) 56 0 rfl (tileSum T E)
  generalize probGo T (hiV (total8 T (tSum T ln2 inv cb cc (tS T σ.x8 q bias)))) (loV (total8 T (tSum T ln2 inv cb cc (tS T σ.x8 q bias)))) 56 0 rfl (tileSum T E) = P at h13 hr ⊢
  generalize hb : E.1.x12 = b at hrest
  have hs : tileSum T E = { σ with
      x7 := put σ.x7 ![0, 0, 0, st] (SS4 w).size (shapeCast (SS4 w) (tSum T ln2 inv cb cc (tS T σ.x8 q bias)) T.castS)
      x9 := put σ.x9 ![64, st] (SR w).size (biasRows T (betaV T (scores T σ.x8 q) bias))
      x11 := (tileScore T (tileBias T σ bias)).x11
      x12 := b } := by
    unfold tileSum
    rw [hacc, hrest, ← h9]
    rfl
  rw [hs] at hr
  refine ⟨(tileScore T (tileBias T σ bias)).x11, b, P.x13, ?_⟩
  have hx10 : P.x10 = σ.x10 := by rw [hr]
  have hx1 : P.x1 = σ.x1 := by rw [hr]
  have hx6 : P.x6 = σ.x6 := by rw [hr]
  unfold tileStore
  rw [h13, hx10, hx1, hx6, window_full]
  conv_lhs => rw [hr]

end tile

end Cert.Proof.Kernel

end
-- ==== Proof.Kernel.SlowForm.lean ====
/-
  What the tiles of the general branch leave in the two output blocks, from the inputs alone.
-/
module

public import proofs.«01_k».proof.Proof.Kernel.FastForm

@[expose] public section

set_option maxRecDepth 16384

noncomputable section

namespace Cert.Proof.Kernel

open Cert.Kernel Cert.Kernel.Gen
open Idealize.ShloMosaic Idealize.ShloMosaic.TcCoe
open Idealize.SL.Sem
open VecWindow (window put window_put_same window_put_of_disjoint)

variable {F : FTy → Type} [FloatOps F]

/-! ## The offsets -/

theorem trips1 : k0_t1_loop.trips = 7 := by decide +kernel
theorem trips2 : k0_t2_loop.trips = 56 := by decide +kernel
theorem trips3 : k0_t3_loop.trips = 56 := by decide +kernel
theorem off16_eq : ∀ t : Fin k0_t1_loop.trips, k0_off16 t = ![0, 128 * t.val] := by decide +kernel
theorem off17_eq : ∀ t : Fin k0_t2_loop.trips, k0_off17 t = ![16 * t.val, 0] := by decide +kernel
theorem off18_eq : ∀ t : Fin k0_t2_loop.trips, k0_off18 t = ![16 * t.val, 0] := by decide +kernel
theorem off19_eq : ∀ t : Fin k0_t1_loop.trips, k0_off19 t = ![0, 0, 0, 128 * t.val] := by decide +kernel
theorem off20_eq : ∀ t : Fin k0_t3_loop.trips, k0_off20 t = ![16 * t.val, 0] := by decide +kernel
theorem off21_eq : ∀ t : Fin k0_t3_loop.trips, k0_off21 t = ![16 * t.val, 0] := by decide +kernel
theorem off25_eq : ∀ t : Fin k0_t1_loop.trips, k0_off25 t = ![0, 0, 0, 128 * t.val] := by decide +kernel

/-! ## A tile -/

theorem rows16 (j : ℕ) (h : j < 56) : ∀ a, (![16 * j, 0] : Fin 2 → Nat) a + S16x128.size a ≤ S896x128.size a := by
  intro a; match a with
  | ⟨0, _⟩ => show 16 * j + 16 ≤ 896; omega
  | ⟨1, _⟩ => show 0 + 128 ≤ 128; omega

theorem rows16' (j : ℕ) (h : j < 56) : ∀ a, (![16 * j, 0] : Fin 2 → Nat) a + S16x128.size a ≤ S896x256.size a := by
  intro a; match a with
  | ⟨0, _⟩ => show 16 * j + 16 ≤ 896; omega
  | ⟨1, _⟩ => show 0 + 128 ≤ 256; omega

theorem window_congr {α : Type} {s : Shape} (x : s.Idx → α) {off off' size : Fin s.rank → ℕ} (e : off = off') (inb : ∀ a, off a + size a ≤ s.size a)
    (inb' : ∀ a, off' a + size a ≤ s.size a) : window x off size inb = window x off' size inb' := by subst e; rfl

section tile
variable (ln2 qb qc r : Elt F .i32) (lf : Elt F .f32)

/-- The exponentials of group `j`. -/
def gE (s : FVec F S896x128 .f32) (j : ℕ) (h : j < 56) : IVec S16x128 32 :=
  slowE (slowMax s) (window (s := S896x128) s ![16 * j, 0] S16x128.size (rows16 j h)) ln2 qb qc r lf

/-- The running sum of the first `k` groups. -/
def gAcc (s : FVec F S896x128 .f32) : ℕ → IVec S16x128 32
  | 0 => broadcast S16x128 0#32
  | k + 1 => if h : k < 56 then addi (gAcc s k) (gE ln2 qb qc r lf s k h) else gAcc s k

/-- The tile's row sums. -/
def gSum (s : FVec F S896x128 .f32) : IVec S1x128 32 := slowTotal (gAcc ln2 qb qc r lf s 56)

/-- The tile's probabilities. -/
def gP (s : FVec F S896x128 .f32) : Vec F S896x128 .bf16 := fun y =>
  slowP (F := F) (gE ln2 qb qc r lf s ((y 0).val / 16) (by have : (y 0).val < 896 := (y 0).isLt; omega)) (gSum ln2 qb qc r lf s)
    (ix2 (n0 := 16) (n1 := 128) ⟨(y 0).val % 16, by omega⟩ (y 1))

theorem slowEAt_eq (s : FVec F S896x128 .f32) (x11 : Vec F S896x256 .f32) (hs : window (s := S896x256) x11 ![0, 0] S896x128.size inb_S896x256_S896x128_0_0 = s)
    (k : ℕ) (h : k < k0_t2_loop.trips) : slowEAt (slowMax s) ln2 qb qc r lf x11 ⟨k, h⟩ = gE ln2 qb qc r lf s k (trips2 ▸ h) := by
  unfold slowEAt gE
  congr 1
  rw [window_congr (s := S896x256) x11 (off17_eq ⟨k, h⟩) (k0_off17_inb ⟨k, h⟩) (rows16' k (trips2 ▸ h))]
  subst hs
  funext y
  refine congrArg x11 (funext fun a => Fin.ext ?_)
  match a with
  | ⟨0, _⟩ => show 16 * k + 1 * (y 0).val = 0 + 1 * (16 * k + 1 * (y 0).val); omega
  | ⟨1, _⟩ => show 0 + 1 * (y 1).val = 0 + 1 * (0 + 1 * (y 1).val); omega

theorem slowExpGo_rest (mx : FVec F S1x128 .f32) (σ : Cells F) : ∀ k : ℕ,
    (slowExpGo mx ln2 qb qc r lf σ k).1 = { σ with x14 := (slowExpGo mx ln2 qb qc r lf σ k).1.x14 }
  | 0 => rfl
  | k + 1 => by
    unfold slowExpGo
    by_cases h : k < k0_t2_loop.trips
    · rw [dif_pos h]; dsimp only; rw [slowExpGo_rest mx σ k]
    · rw [dif_neg h]; exact slowExpGo_rest mx σ k

theorem slowExpGo_acc (s : FVec F S896x128 .f32) (σ : Cells F) (hs : window (s := S896x256) σ.x11 ![0, 0] S896x128.size inb_S896x256_S896x128_0_0 = s) :
    ∀ k : ℕ, (slowExpGo (slowMax s) ln2 qb qc r lf σ k).2 = gAcc ln2 qb qc r lf s k
  | 0 => rfl
  | k + 1 => by
    have e11 : (slowExpGo (slowMax s) ln2 qb qc r lf σ k).1.x11 = σ.x11 := by rw [slowExpGo_rest]
    unfold slowExpGo gAcc
    by_cases h : k < k0_t2_loop.trips
    · rw [dif_pos h, dif_pos (trips2 ▸ h)]; dsimp only
      rw [e11, slowEAt_eq ln2 qb qc r lf s σ.x11 hs k h, slowExpGo_acc s σ hs k]
    · rw [dif_neg h, dif_neg (trips2 ▸ h)]; exact slowExpGo_acc s σ hs k

theorem slowExpGo_win (s : FVec F S896x128 .f32) (σ : Cells F) (hs : window (s := S896x256) σ.x11 ![0, 0] S896x128.size inb_S896x256_S896x128_0_0 = s) :
    ∀ (k : ℕ) (j : ℕ) (hj : j < 56), j < k →
    window (s := S896x128) (slowExpGo (slowMax s) ln2 qb qc r lf σ k).1.x14 ![16 * j, 0] S16x128.size (rows16 j hj) = gE ln2 qb qc r lf s j hj
  | 0, _, _, h => absurd h (Nat.not_lt_zero _)
  | k + 1, j, hj, hk => by
    have e11 : (slowExpGo (slowMax s) ln2 qb qc r lf σ k).1.x11 = σ.x11 := by rw [slowExpGo_rest]
    unfold slowExpGo
    by_cases h : k < k0_t2_loop.trips
    · rw [dif_pos h]; dsimp only
      rw [off18_eq, shapeCast_id, e11, slowEAt_eq ln2 qb qc r lf s σ.x11 hs k h]
      by_cases e : j = k
      · subst e
        exact window_put_same (s := S896x128) _ ![16 * j, 0] S16x128.size (rows16 j hj) _
      · refine (window_put_of_disjoint (s := S896x128) _ ![16 * k, 0] S16x128.size ![16 * j, 0] S16x128.size (rows16 j hj) _ (0 : Fin 2)
          (Or.inl (by show 16 * j + 16 ≤ 16 * k; omega))).trans ?_
        exact slowExpGo_win s σ hs k j hj (by omega)
    · rw [dif_neg h]; exact slowExpGo_win s σ hs k j hj (by have := trips2; omega)

theorem slowProbGo_rest (tot : IVec S1x128 32) (σ : Cells F) : ∀ k : ℕ, slowProbGo tot σ k = { σ with x13 := (slowProbGo tot σ k).x13 }
  | 0 => rfl
  | k + 1 => by
    unfold slowProbGo
    by_cases h : k < k0_t3_loop.trips
    · rw [dif_pos h]; dsimp only; rw [slowProbGo_rest tot σ k]
    · rw [dif_neg h]; exact slowProbGo_rest tot σ k

theorem slowProbGo_win (tot : IVec S1x128 32) (σ : Cells F) : ∀ (k : ℕ) (j : ℕ) (hj : j < 56), j < k →
    window (s := S896x256) (slowProbGo tot σ k).x13 ![16 * j, 0] S16x128.size (rows16' j hj)
      = slowP (F := F) (window (s := S896x128) σ.x14 ![16 * j, 0] S16x128.size (rows16 j hj)) tot
  | 0, _, _, h => absurd h (Nat.not_lt_zero _)
  | k + 1, j, hj, hk => by
    have e14 : (slowProbGo tot σ k).x14 = σ.x14 := by rw [slowProbGo_rest]
    unfold slowProbGo
    by_cases h : k < k0_t3_loop.trips
    · rw [dif_pos h]; dsimp only
      rw [off21_eq, shapeCast_id, e14, window_congr (s := S896x128) σ.x14 (off20_eq ⟨k, h⟩) (k0_off20_inb ⟨k, h⟩) (rows16 k (trips3 ▸ h))]
      by_cases e : j = k
      · subst e
        exact window_put_same (s := S896x256) _ ![16 * j, 0] S16x128.size (rows16' j hj) _
      · refine (window_put_of_disjoint (s := S896x256) _ ![16 * k, 0] S16x128.size ![16 * j, 0] S16x128.size (rows16' j hj) _ (0 : Fin 2)
          (Or.inl (by show 16 * j + 16 ≤ 16 * k; omega))).trans ?_
        exact slowProbGo_win tot σ k j hj (by omega)
    · rw [dif_neg h]; exact slowProbGo_win tot σ k j hj (by have := trips3; omega)

/-- The scores of tile `t`, from the scratch keys and queries. -/
def gScores (x8 : Vec F S896x128 .bf16) (x9 : Vec F S128x896 .bf16) (t : Fin k0_t1_loop.trips) : FVec F S896x128 .f32 :=
  slowScores (window (s := S896x128) x8 ![0, 0] S896x64.size inb_S896x128_S896x64_0_0) (window (s := S128x896) x9 (k0_off16 t) S64x128.size (k0_off16_inb t))

/-- The output and the row sums of tile `t`. -/
def gO (i : grid0.Coords) (x1 : Vec F S16x8 .i32) (x8 : Vec F S896x128 .bf16) (x9 : Vec F S128x896 .bf16) (x10 : Vec F S64x896 .bf16) (t : Fin k0_t1_loop.trips) : IVec S64x128 8 :=
  slowOut x10 (gP ln2 qb qc r lf (gScores x8 x9 t)) (window (s := S16x8) x1 (k0_off22 i) S1x1.size (k0_off22_inb i) one11)
    (window (s := S16x8) x1 (k0_off23 i) S1x1.size (k0_off23_inb i) one11) (window (s := S16x8) x1 (k0_off24 i) S1x1.size (k0_off24_inb i) one11)

theorem slowTileOut_form (i : grid0.Coords) (t : Fin k0_t1_loop.trips) (σ : Cells F) :
    ∃ a d f, slowTileOut i ln2 qb qc r lf t σ = { σ with
      x6 := put σ.x6 (k0_off25 t) S1x1x64x128.size (shapeCast S1x1x64x128 (gO ln2 qb qc r lf i σ.x1 σ.x8 σ.x9 σ.x10 t) shapeCasts_S64x128_S1x1x64x128)
      x7 := put σ.x7 (k0_off19 t) S1x1x1x128.size (shapeCast S1x1x1x128 (gSum ln2 qb qc r lf (gScores σ.x8 σ.x9 t)) shapeCasts_S1x128_S1x1x1x128)
      x11 := a
      x13 := d
      x14 := f } := by
  have hS : slowScoresAt σ t = gScores σ.x8 σ.x9 t := rfl
  generalize hg : gScores σ.x8 σ.x9 t = S at hS
  have h11 : window (s := S896x256) (put σ.x11 ![0, 0] S896x128.size (shapeCast S896x128 S shapeCasts_S896x128_S896x128)) ![0, 0] S896x128.size inb_S896x256_S896x128_0_0 = S := by
    rw [shapeCast_id]
    exact window_put_same (s := S896x256) _ ![0, 0] S896x128.size inb_S896x256_S896x128_0_0 _
  have hE : slowTileExp ln2 qb qc r lf t σ = slowExpGo (slowMax S) ln2 qb qc r lf
      { σ with x11 := put σ.x11 ![0, 0] S896x128.size (shapeCast S896x128 S shapeCasts_S896x128_S896x128) } k0_t2_loop.trips := by unfold slowTileExp; rw [hS]
  have hacc : slowTotal (slowTileExp ln2 qb qc r lf t σ).2 = gSum ln2 qb qc r lf S := by
    rw [hE, slowExpGo_acc ln2 qb qc r lf S _ h11, trips2]; rfl
  have h14 : ∀ (j : ℕ) (hj : j < 56), window (s := S896x128) (slowTileExp ln2 qb qc r lf t σ).1.x14 ![16 * j, 0] S16x128.size (rows16 j hj) = gE ln2 qb qc r lf S j hj := fun j hj => by
    rw [hE]; exact slowExpGo_win ln2 qb qc r lf S _ h11 _ j hj (by rw [trips2]; exact hj)
  have hrest : (slowTileExp ln2 qb qc r lf t σ).1 = { σ with
      x11 := put σ.x11 ![0, 0] S896x128.size (shapeCast S896x128 S shapeCasts_S896x128_S896x128)
      x14 := (slowTileExp ln2 qb qc r lf t σ).1.x14 } := by
    rw [hE]; exact slowExpGo_rest ln2 qb qc r lf _ _ _
  unfold slowTileOut
  rw [hacc]
  generalize hE' : slowTileExp ln2 qb qc r lf t σ = E at *
  have h13 : window (s := S896x256) (slowProbGo (gSum ln2 qb qc r lf S) (slowTileSum t E) k0_t3_loop.trips).x13 ![0, 0] S896x128.size inb_S896x256_S896x128_0_0 = gP ln2 qb qc r lf S := by
    funext y
    have hy : (y 0).val < 896 := (y 0).isLt
    unfold gP
    rw [← h14]
    have := slowProbGo_win (F := F) (gSum ln2 qb qc r lf S) (slowTileSum t E) k0_t3_loop.trips ((y 0).val / 16) (by omega) (by rw [trips3]; omega)
    have e : (slowTileSum t E).x14 = E.1.x14 := rfl
    rw [e] at this
    rw [← this]
    refine congrArg (slowProbGo (gSum ln2 qb qc r lf S) (slowTileSum t E) k0_t3_loop.trips).x13 (funext fun a => Fin.ext ?_)
    match a with
    | ⟨0, _⟩ => show 0 + 1 * (y 0).val = 16 * ((y 0).val / 16) + 1 * ((y 0).val % 16); omega
    | ⟨1, _⟩ => show 0 + 1 * (y 1).val = 0 + 1 * (y 1).val; omega
  have hr := slowProbGo_rest (F := F) (gSum ln2 qb qc r lf S) (slowTileSum t E) k0_t3_loop.trips
  generalize slowProbGo (gSum ln2 qb qc r lf S) (slowTileSum t E) k0_t3_loop.trips = P at h13 hr ⊢
  generalize hb : E.1.x14 = b at hrest
  have hs : slowTileSum t E = { σ with
      x7 := put σ.x7 (k0_off19 t) S1x1x1x128.size (shapeCast S1x1x1x128 (gSum ln2 qb qc r lf S) shapeCasts_S1x128_S1x1x1x128)
      x11 := put σ.x11 ![0, 0] S896x128.size (shapeCast S896x128 S shapeCasts_S896x128_S896x128)
      x14 := b } := by
    unfold slowTileSum
    rw [hacc, hrest]
  rw [hs] at hr
  refine ⟨put σ.x11 ![0, 0] S896x128.size (shapeCast S896x128 S shapeCasts_S896x128_S896x128), P.x13, b, ?_⟩
  have hx10 : P.x10 = σ.x10 := by rw [hr]
  have hx1 : P.x1 = σ.x1 := by rw [hr]
  have hx6 : P.x6 = σ.x6 := by rw [hr]
  unfold slowTileStore gO word1
  rw [h13, hx10, hx1, hx6, window_full, hg]
  conv_lhs => rw [hr]

/-- The tiles of the general branch, in terms of what they find. -/
theorem slowGo_form (i : grid0.Coords) (σ : Cells F) : ∀ k : ℕ, ∃ a6 a7 a11 a13 a14,
    slowGo i ln2 qb qc r lf σ k = { σ with x6 := a6, x7 := a7, x11 := a11, x13 := a13, x14 := a14 }
    ∧ ∀ t : Fin k0_t1_loop.trips, t.val < k →
      window (s := S1x1x64x896) a6 (k0_off25 t) S1x1x64x128.size (k0_off25_inb t) = shapeCast S1x1x64x128 (gO ln2 qb qc r lf i σ.x1 σ.x8 σ.x9 σ.x10 t) shapeCasts_S64x128_S1x1x64x128
      ∧ window (s := S1x1x1x896) a7 (k0_off19 t) S1x1x1x128.size (k0_off19_inb t) = shapeCast S1x1x1x128 (gSum ln2 qb qc r lf (gScores σ.x8 σ.x9 t)) shapeCasts_S1x128_S1x1x1x128
  | 0 => ⟨σ.x6, σ.x7, σ.x11, σ.x13, σ.x14, rfl, fun _ h => absurd h (Nat.not_lt_zero _)⟩
  | k + 1 => by
    obtain ⟨a6, a7, a11, a13, a14, e, hw⟩ := slowGo_form i σ k
    unfold slowGo
    by_cases h : k < k0_t1_loop.trips
    · rw [dif_pos h, e]
      obtain ⟨b11, b13, b14, e'⟩ := slowTileOut_form ln2 qb qc r lf i ⟨k, h⟩ { σ with x6 := a6, x7 := a7, x11 := a11, x13 := a13, x14 := a14 }
      rw [e']
      refine ⟨_, _, b11, b13, b14, rfl, fun t ht => ?_⟩
      dsimp only
      by_cases et : t.val = k
      · obtain rfl : t = ⟨k, h⟩ := Fin.ext et
        exact ⟨window_put_same (s := S1x1x64x896) _ _ S1x1x64x128.size _ _, window_put_same (s := S1x1x1x896) _ _ S1x1x1x128.size _ _⟩
      · constructor
        · refine (window_put_of_disjoint (s := S1x1x64x896) _ _ S1x1x64x128.size _ S1x1x64x128.size _ _ (3 : Fin 4) (Or.inl ?_)).trans (hw t (by omega)).1
          rw [off25_eq, off25_eq]; show 128 * t.val + 128 ≤ 128 * k; omega
        · refine (window_put_of_disjoint (s := S1x1x1x896) _ _ S1x1x1x128.size _ S1x1x1x128.size _ _ (3 : Fin 4) (Or.inl ?_)).trans (hw t (by omega)).2
          rw [off19_eq, off19_eq]; show 128 * t.val + 128 ≤ 128 * k; omega
    · rw [dif_neg h]
      exact ⟨a6, a7, a11, a13, a14, e, fun t _ => hw t (by have := t.isLt; omega)⟩

end tile

end Cert.Proof.Kernel

end
-- ==== Proof.Kernel.BodyForm.lean ====
/-
  What one grid point leaves in its two output blocks, from the five input blocks alone.
-/
module

public import proofs.«01_k».proof.Proof.Kernel.SlowForm

@[expose] public section

set_option maxRecDepth 16384

noncomputable section

namespace Cert.Proof.Kernel

open Cert.Kernel Cert.Kernel.Gen
open Idealize.ShloMosaic Idealize.ShloMosaic.TcCoe
open Idealize.SL.Sem
open VecWindow (window put window_put_same window_put_of_disjoint)

variable {F : FTy → Type} [FloatOps F]

/-! ## The fast branch -/

section fast
variable {w st : ℕ} (T : TileOk w st) (i : grid0.Coords) (ln2 inv cb cc bias : F .f32)
variable (x1 : Vec F S16x8 .i32) (x8 : Vec F S896x128 .bf16) (x9 : Vec F S128x896 .bf16) (x10 : Vec F S64x896 .bf16)

/-- The tile's outputs. -/
def fO : IVec (SO w) 8 :=
  quantV (outs T x10 (tP T ln2 inv cb cc (tS T x8 (window (s := S128x896) x9 ![0, st] (SQ w).size T.inbQ) bias)))
    (window (s := S16x8) x1 (k0_off7 i) S1x1.size (k0_off7_inb i) one11) (window (s := S16x8) x1 (k0_off8 i) S1x1.size (k0_off8_inb i) one11)
    (window (s := S16x8) x1 (k0_off9 i) S1x1.size (k0_off9_inb i) one11)

/-- The tile's row sums. -/
def fS : IVec (S1 w) 32 := tSum T ln2 inv cb cc (tS T x8 (window (s := S128x896) x9 ![0, st] (SQ w).size T.inbQ) bias)

/-- A tile's windows of two output blocks hold what the tile computes. -/
def FastHolds (a6 : Vec F S1x1x64x896 .i8) (a7 : Vec F S1x1x1x896 .i32) : Prop :=
  window (s := S1x1x64x896) a6 ![0, 0, 0, st] (SO4 w).size T.inbO = shapeCast (SO4 w) (fO T i ln2 inv cb cc bias x1 x8 x9 x10) T.castO
  ∧ window (s := S1x1x1x896) a7 ![0, 0, 0, st] (SS4 w).size T.inbS = shapeCast (SS4 w) (fS T ln2 inv cb cc bias x8 x9) T.castS

end fast

section fastall
variable (i : grid0.Coords) (ln2 inv cb cc bias : F .f32)

/-- One more tile: what it computes is there, and the tiles to its left stay. -/
theorem tile_step {w st : ℕ} (T : TileOk w st) (σ : Cells F) (a6 : Vec F S1x1x64x896 .i8) (a7 : Vec F S1x1x1x896 .i32) (a9 : Vec F S128x896 .bf16)
    (a11 a12 : Vec F S896x256 .f32) (a13 : Vec F S896x256 .bf16)
    (h9 : ∀ {w' st' : ℕ} (T' : TileOk w' st'), st ≤ st' → window (s := S128x896) a9 ![0, st'] (SQ w').size T'.inbQ = window (s := S128x896) σ.x9 ![0, st'] (SQ w').size T'.inbQ) :
    ∃ b6 b7 b9 b11 b12 b13,
      tileOut T i ln2 inv cb cc bias { σ with x6 := a6, x7 := a7, x9 := a9, x11 := a11, x12 := a12, x13 := a13 }
        = { σ with x6 := b6, x7 := b7, x9 := b9, x11 := b11, x12 := b12, x13 := b13 }
      ∧ FastHolds T i ln2 inv cb cc bias σ.x1 σ.x8 σ.x9 σ.x10 b6 b7
      ∧ (∀ {w' st' : ℕ} (T' : TileOk w' st'), st' + w' ≤ st → FastHolds T' i ln2 inv cb cc bias σ.x1 σ.x8 σ.x9 σ.x10 a6 a7 → FastHolds T' i ln2 inv cb cc bias σ.x1 σ.x8 σ.x9 σ.x10 b6 b7)
      ∧ (∀ {w' st' : ℕ} (T' : TileOk w' st'), st + w ≤ st' → window (s := S128x896) b9 ![0, st'] (SQ w').size T'.inbQ = window (s := S128x896) σ.x9 ![0, st'] (SQ w').size T'.inbQ) := by
  obtain ⟨a, b, d, e⟩ := tileOut_form T i ln2 inv cb cc bias { σ with x6 := a6, x7 := a7, x9 := a9, x11 := a11, x12 := a12, x13 := a13 } _ (h9 T (Nat.le_refl _))
  rw [e]
  refine ⟨_, _, _, a, b, d, rfl, ⟨?_, ?_⟩, fun {w' st'} T' hle hf => ⟨?_, ?_⟩, fun {w' st'} T' hle => ?_⟩
  · exact window_put_same (s := S1x1x64x896) _ _ (SO4 w).size _ _
  · exact window_put_same (s := S1x1x1x896) _ _ (SS4 w).size _ _
  · exact (window_put_of_disjoint (s := S1x1x64x896) _ ![0, 0, 0, st] (SO4 w).size ![0, 0, 0, st'] (SO4 w').size _ _ (3 : Fin 4) (Or.inl (by show st' + w' ≤ st; exact hle))).trans hf.1
  · exact (window_put_of_disjoint (s := S1x1x1x896) _ ![0, 0, 0, st] (SS4 w).size ![0, 0, 0, st'] (SS4 w').size _ _ (3 : Fin 4) (Or.inl (by show st' + w' ≤ st; exact hle))).trans hf.2
  · refine (window_put_of_disjoint (s := S128x896) _ ![64, st] (SR w).size ![0, st'] (SQ w').size _ _ (1 : Fin 2) (Or.inr (by show st + w ≤ st'; exact hle))).trans ?_
    exact h9 T' (by omega)

theorem fastOut_form (σ : Cells F) (e1 : word2 σ (k0_off2 i) (k0_off2_inb i) = ln2) (e2 : word2 σ (k0_off3 i) (k0_off3_inb i) = inv)
    (e3 : word2 σ (k0_off4 i) (k0_off4_inb i) = cb) (e4 : word2 σ (k0_off5 i) (k0_off5_inb i) = cc) (e5 : word2 σ (k0_off6 i) (k0_off6_inb i) = bias) :
    ∃ b6 b7 b9 b11 b12 b13, fastOut i σ = { σ with x6 := b6, x7 := b7, x9 := b9, x11 := b11, x12 := b12, x13 := b13 }
      ∧ FastHolds ok0 i ln2 inv cb cc bias σ.x1 σ.x8 σ.x9 σ.x10 b6 b7 ∧ FastHolds ok1 i ln2 inv cb cc bias σ.x1 σ.x8 σ.x9 σ.x10 b6 b7
      ∧ FastHolds ok2 i ln2 inv cb cc bias σ.x1 σ.x8 σ.x9 σ.x10 b6 b7 ∧ FastHolds ok3 i ln2 inv cb cc bias σ.x1 σ.x8 σ.x9 σ.x10 b6 b7 := by
  unfold fastOut
  rw [e1, e2, e3, e4, e5]
  dsimp only
  obtain ⟨c6, c7, c9, c11, c12, c13, h0, f0, -, n0⟩ := tile_step i ln2 inv cb cc bias ok0 σ σ.x6 σ.x7 σ.x9 σ.x11 σ.x12 σ.x13 fun _ _ => rfl
  obtain ⟨d6, d7, d9, d11, d12, d13, h1, f1, p1, n1⟩ := tile_step i ln2 inv cb cc bias ok1 σ c6 c7 c9 c11 c12 c13 n0
  obtain ⟨e6, e7, e9, e11, e12, e13, h2, f2, p2, n2⟩ := tile_step i ln2 inv cb cc bias ok2 σ d6 d7 d9 d11 d12 d13 n1
  obtain ⟨f6, f7, f9, f11, f12, f13, h3, f3, p3, n3⟩ := tile_step i ln2 inv cb cc bias ok3 σ e6 e7 e9 e11 e12 e13 n2
  have h0' : tileOut ok0 i ln2 inv cb cc bias σ = _ := h0
  refine ⟨f6, f7, f9, f11, f12, f13, ?_, p3 ok0 (by omega) (p2 ok0 (by omega) (p1 ok0 (by omega) f0)), p3 ok1 (by omega) (p2 ok1 (by omega) f1), p3 ok2 (by omega) f2, f3⟩
  rw [h0', h1, h2, h3]

end fastall

/-! ## The prelude -/

/-- The queries' codes with rows of zeros below them. -/
def qaugV (q : Vec F S1x1x64x896 .i8) : Vec F S128x896 .bf16 := fun y =>
  if h : (y 0).val < 64 then codesV (F := F) q (ix2 (n0 := 64) (n1 := 896) ⟨(y 0).val, h⟩ (y 1)) else Scalar.ofBits .bf16 0x0000#16

theorem preludeOut_eq (σ : Cells F) : preludeOut σ = { σ with x8 := kaugV σ.x4, x9 := qaugV σ.x3, x10 := codesV σ.x5 } := by
  have e9 : (preludeOut σ).x9 = qaugV σ.x3 := by
    funext y
    have hy : (y 0).val < 128 := (y 0).isLt
    have hy1 : (y 1).val < 896 := (y 1).isLt
    unfold preludeOut qaugV
    dsimp only
    rw [shapeCast_id, shapeCast_id, window_full]
    by_cases h : (y 0).val < 64
    · rw [dif_pos h]
      unfold put
      rw [dif_neg (fun hh => by have := (hh 0).1; change 64 ≤ (y 0).val at this; omega), dif_pos (fun a => by
        match a with
        | ⟨0, _⟩ => exact ⟨Nat.zero_le _, by show (y 0).val < 0 + 64; omega⟩
        | ⟨1, _⟩ => exact ⟨Nat.zero_le _, by show (y 1).val < 0 + 896; omega⟩)]
      refine congrArg (codesV (F := F) σ.x3) (funext fun a => Fin.ext ?_)
      match a with
      | ⟨0, _⟩ => show (y 0).val - 0 = (y 0).val; omega
      | ⟨1, _⟩ => show (y 1).val - 0 = (y 1).val; omega
    · rw [dif_neg h]
      unfold put
      rw [dif_pos (fun a => by
        match a with
        | ⟨0, _⟩ => exact ⟨by show 64 ≤ (y 0).val; omega, by show (y 0).val < 64 + 64; omega⟩
        | ⟨1, _⟩ => exact ⟨Nat.zero_le _, by show (y 1).val < 0 + 896; omega⟩)]
      rfl
  rw [← e9]
  unfold preludeOut
  have e4 := window_full (s := S1x1x64x896) σ.x4 _ inb_S1x1x64x896_S1x1x64x896_0_0_0_0
  have e5 := window_full (s := S1x1x64x896) σ.x5 _ inb_S1x1x64x896_S1x1x64x896_0_0_0_0
  rw [put_full (s := S896x128) _ _ inb_S896x128_S896x128_0_0, put_full (s := S64x896) σ.x10 _ inb_S64x896_S64x896_0_0, e4, e5]
  simp only [shapeCast_id]

/-! ## The body -/

section body
variable (i : grid0.Coords) (σ : Cells F)

theorem isOff_of (v : Elt F .i32) : isOff (F := F) v = 1#1 ↔ ¬ isOn (F := F) v = 1#1 := by
  have key : ∀ b : BitVec 32, (Scalar.cmpi .ne (Scalar.extui (Scalar.cmpi .eq b 0#32) : BitVec 32) 0#32 = 1#1)
      ↔ ¬ (Scalar.cmpi .ne (Scalar.extui (Scalar.cmpi .ne b 0#32) : BitVec 32) 0#32 = 1#1) := fun b => by
    by_cases h : b = 0#32
    · subst h; decide
    · have e1 : Scalar.cmpi .ne b 0#32 = 1#1 := by exact congrArg BitVec.ofBool (show (b != 0#32) = true from bne_iff_ne.2 h)
      have e2 : Scalar.cmpi .eq b 0#32 = 0#1 := by exact congrArg BitVec.ofBool (show (b == 0#32) = false from beq_eq_false_iff_ne.2 h)
      rw [e1, e2]; decide
  exact key v

/-- The word that chooses the branch. -/
def flag (x1 : Vec F S16x8 .i32) : Elt F .i32 := window (s := S16x8) x1 (k0_off1 i) S1x1.size (k0_off1_inb i) one11

/-- What the fast branch leaves in the output blocks. -/
def IsFast (x1 : Vec F S16x8 .i32) (x2 : Vec F S16x5 .f32) (x3 x4 x5 : Vec F S1x1x64x896 .i8) (a6 : Vec F S1x1x64x896 .i8) (a7 : Vec F S1x1x1x896 .i32) : Prop :=
  ∀ {w st : ℕ} (T : TileOk w st), (st = 0 ∧ w = 256 ∨ st = 256 ∧ w = 256 ∨ st = 512 ∧ w = 256 ∨ st = 768 ∧ w = 128) →
    FastHolds T i (window (s := S16x5) x2 (k0_off2 i) S1x1.size (k0_off2_inb i) one11) (window (s := S16x5) x2 (k0_off3 i) S1x1.size (k0_off3_inb i) one11)
      (window (s := S16x5) x2 (k0_off4 i) S1x1.size (k0_off4_inb i) one11) (window (s := S16x5) x2 (k0_off5 i) S1x1.size (k0_off5_inb i) one11)
      (window (s := S16x5) x2 (k0_off6 i) S1x1.size (k0_off6_inb i) one11) x1 (kaugV x4) (qaugV x3) (codesV x5) a6 a7

/-- What the general branch leaves in the output blocks. -/
def IsSlow (x1 : Vec F S16x8 .i32) (x2 : Vec F S16x5 .f32) (x3 x4 x5 : Vec F S1x1x64x896 .i8) (a6 : Vec F S1x1x64x896 .i8) (a7 : Vec F S1x1x1x896 .i32) : Prop :=
  ∀ t : Fin k0_t1_loop.trips,
    window (s := S1x1x64x896) a6 (k0_off25 t) S1x1x64x128.size (k0_off25_inb t) = shapeCast S1x1x64x128 (gO (window (s := S16x8) x1 (k0_off11 i) S1x1.size (k0_off11_inb i) one11)
        (window (s := S16x8) x1 (k0_off12 i) S1x1.size (k0_off12_inb i) one11) (window (s := S16x8) x1 (k0_off13 i) S1x1.size (k0_off13_inb i) one11)
        (window (s := S16x8) x1 (k0_off14 i) S1x1.size (k0_off14_inb i) one11) (window (s := S16x5) x2 (k0_off15 i) S1x1.size (k0_off15_inb i) one11)
        i x1 (kaugV x4) (qaugV x3) (codesV x5) t) shapeCasts_S64x128_S1x1x64x128
    ∧ window (s := S1x1x1x896) a7 (k0_off19 t) S1x1x1x128.size (k0_off19_inb t) = shapeCast S1x1x1x128 (gSum (window (s := S16x8) x1 (k0_off11 i) S1x1.size (k0_off11_inb i) one11)
        (window (s := S16x8) x1 (k0_off12 i) S1x1.size (k0_off12_inb i) one11) (window (s := S16x8) x1 (k0_off13 i) S1x1.size (k0_off13_inb i) one11)
        (window (s := S16x8) x1 (k0_off14 i) S1x1.size (k0_off14_inb i) one11) (window (s := S16x5) x2 (k0_off15 i) S1x1.size (k0_off15_inb i) one11)
        (gScores (kaugV x4) (qaugV x3) t)) shapeCasts_S1x128_S1x1x1x128

/-- What the body leaves in the output blocks. -/
def IsOut (x1 : Vec F S16x8 .i32) (x2 : Vec F S16x5 .f32) (x3 x4 x5 : Vec F S1x1x64x896 .i8) (a6 : Vec F S1x1x64x896 .i8) (a7 : Vec F S1x1x1x896 .i32) : Prop :=
  (isOn (F := F) (flag i x1) = 1#1 → IsFast i x1 x2 x3 x4 x5 a6 a7) ∧ (¬ isOn (F := F) (flag i x1) = 1#1 → IsSlow i x1 x2 x3 x4 x5 a6 a7)

theorem bodyOut_form : ∃ a6 a7 a8 a9 a10 a11 a12 a13 a14,
    bodyOut i σ = { σ with x6 := a6, x7 := a7, x8 := a8, x9 := a9, x10 := a10, x11 := a11, x12 := a12, x13 := a13, x14 := a14 }
    ∧ IsOut i σ.x1 σ.x2 σ.x3 σ.x4 σ.x5 a6 a7 := by
  unfold bodyOut
  rw [preludeOut_eq]
  by_cases h : isOn (F := F) (flag i σ.x1) = 1#1
  · obtain ⟨b6, b7, b9, b11, b12, b13, e, f0, f1, f2, f3⟩ := fastOut_form i _ _ _ _ _ { σ with x8 := kaugV σ.x4, x9 := qaugV σ.x3, x10 := codesV σ.x5 } rfl rfl rfl rfl rfl
    have e1 : afterFast i { σ with x8 := kaugV σ.x4, x9 := qaugV σ.x3, x10 := codesV σ.x5 } = _ := (if_pos h).trans e
    rw [e1]
    refine ⟨b6, b7, _, b9, _, b11, b12, b13, σ.x14, (if_neg fun hh => (isOff_of _).1 hh h), fun _ => ?_, fun hn => absurd h hn⟩
    intro w st T hc
    rcases hc with ⟨rfl, rfl⟩ | ⟨rfl, rfl⟩ | ⟨rfl, rfl⟩ | ⟨rfl, rfl⟩
    · exact f0
    · exact f1
    · exact f2
    · exact f3
  · have e1 : afterFast i { σ with x8 := kaugV σ.x4, x9 := qaugV σ.x3, x10 := codesV σ.x5 } = { σ with x8 := kaugV σ.x4, x9 := qaugV σ.x3, x10 := codesV σ.x5 } := if_neg h
    rw [e1]
    obtain ⟨a6, a7, a11, a13, a14, e, hw⟩ := slowGo_form (window (s := S16x8) σ.x1 (k0_off11 i) S1x1.size (k0_off11_inb i) one11)
        (window (s := S16x8) σ.x1 (k0_off12 i) S1x1.size (k0_off12_inb i) one11) (window (s := S16x8) σ.x1 (k0_off13 i) S1x1.size (k0_off13_inb i) one11)
        (window (s := S16x8) σ.x1 (k0_off14 i) S1x1.size (k0_off14_inb i) one11) (window (s := S16x5) σ.x2 (k0_off15 i) S1x1.size (k0_off15_inb i) one11)
        i { σ with x8 := kaugV σ.x4, x9 := qaugV σ.x3, x10 := codesV σ.x5 } k0_t1_loop.trips
    refine ⟨a6, a7, _, _, _, a11, σ.x12, a13, a14, (if_pos ((isOff_of _).2 h)).trans e, fun hn => absurd hn h, fun _ t => hw t t.isLt⟩

theorem bodyOut_keeps : (bodyOut i σ).x1 = σ.x1 ∧ (bodyOut i σ).x2 = σ.x2 ∧ (bodyOut i σ).x3 = σ.x3 ∧ (bodyOut i σ).x4 = σ.x4 ∧ (bodyOut i σ).x5 = σ.x5 := by
  obtain ⟨_, _, _, _, _, _, _, _, _, e, -⟩ := bodyOut_form i σ
  rw [e]
  exact ⟨rfl, rfl, rfl, rfl, rfl⟩

theorem bodyOut_isOut : IsOut i σ.x1 σ.x2 σ.x3 σ.x4 σ.x5 (bodyOut i σ).x6 (bodyOut i σ).x7 := by
  obtain ⟨_, _, _, _, _, _, _, _, _, e, h⟩ := bodyOut_form i σ
  rw [e]
  exact h

end body

/-! ## The output blocks are determined -/

/-- A query's tile of the fast branch. -/
theorem fast_tile (n : ℕ) (h : n < 896) : ∃ w st, TileOk w st ∧ (st = 0 ∧ w = 256 ∨ st = 256 ∧ w = 256 ∨ st = 512 ∧ w = 256 ∨ st = 768 ∧ w = 128) ∧ st ≤ n ∧ n < st + w := by
  by_cases h0 : n < 256
  · exact ⟨256, 0, ok0, by omega, by omega, by omega⟩
  by_cases h1 : n < 512
  · exact ⟨256, 256, ok1, by omega, by omega, by omega⟩
  by_cases h2 : n < 768
  · exact ⟨256, 512, ok2, by omega, by omega, by omega⟩
  · exact ⟨128, 768, ok3, by omega, by omega, by omega⟩

theorem isOut_unique (i : grid0.Coords) (x1 : Vec F S16x8 .i32) (x2 : Vec F S16x5 .f32) (x3 x4 x5 : Vec F S1x1x64x896 .i8) (a6 b6 : Vec F S1x1x64x896 .i8) (a7 b7 : Vec F S1x1x1x896 .i32)
    (ha : IsOut i x1 x2 x3 x4 x5 a6 a7) (hb : IsOut i x1 x2 x3 x4 x5 b6 b7) : a6 = b6 ∧ a7 = b7 := by
  by_cases h : isOn (F := F) (flag i x1) = 1#1
  · have ha : IsFast i x1 x2 x3 x4 x5 a6 a7 := ha.1 h
    have hb : IsFast i x1 x2 x3 x4 x5 b6 b7 := hb.1 h
    constructor
    · funext y
      have y0 : (y 0).val < 1 := (y 0).isLt
      have y1 : (y 1).val < 1 := (y 1).isLt
      have y2 : (y 2).val < 64 := (y 2).isLt
      obtain ⟨w, st, T, hc, hl, hu⟩ := fast_tile (y 3).val (y 3).isLt
      have hy : ∀ a, (![0, 0, 0, st] : Fin 4 → ℕ) a ≤ (y a).val ∧ (y a).val < (![0, 0, 0, st] : Fin 4 → ℕ) a + (SO4 w).size a := fun a => by
        match a with
        | ⟨0, _⟩ => exact ⟨Nat.zero_le _, by show (y 0).val < 0 + 1; omega⟩
        | ⟨1, _⟩ => exact ⟨Nat.zero_le _, by show (y 1).val < 0 + 1; omega⟩
        | ⟨2, _⟩ => exact ⟨Nat.zero_le _, by show (y 2).val < 0 + 64; omega⟩
        | ⟨3, _⟩ => exact ⟨hl, hu⟩
      rw [window_at (s := S1x1x64x896) a6 _ (SO4 w).size T.inbO y hy, window_at (s := S1x1x64x896) b6 _ (SO4 w).size T.inbO y hy, (ha T hc).1, (hb T hc).1]
    · funext y
      have y0 : (y 0).val < 1 := (y 0).isLt
      have y1 : (y 1).val < 1 := (y 1).isLt
      have y2 : (y 2).val < 1 := (y 2).isLt
      obtain ⟨w, st, T, hc, hl, hu⟩ := fast_tile (y 3).val (y 3).isLt
      have hy : ∀ a, (![0, 0, 0, st] : Fin 4 → ℕ) a ≤ (y a).val ∧ (y a).val < (![0, 0, 0, st] : Fin 4 → ℕ) a + (SS4 w).size a := fun a => by
        match a with
        | ⟨0, _⟩ => exact ⟨Nat.zero_le _, by show (y 0).val < 0 + 1; omega⟩
        | ⟨1, _⟩ => exact ⟨Nat.zero_le _, by show (y 1).val < 0 + 1; omega⟩
        | ⟨2, _⟩ => exact ⟨Nat.zero_le _, by show (y 2).val < 0 + 1; omega⟩
        | ⟨3, _⟩ => exact ⟨hl, hu⟩
      rw [window_at (s := S1x1x1x896) a7 _ (SS4 w).size T.inbS y hy, window_at (s := S1x1x1x896) b7 _ (SS4 w).size T.inbS y hy, (ha T hc).2, (hb T hc).2]
  · have ha := ha.2 h
    have hb := hb.2 h
    constructor
    · funext y
      have y0 : (y 0).val < 1 := (y 0).isLt
      have y1 : (y 1).val < 1 := (y 1).isLt
      have y2 : (y 2).val < 64 := (y 2).isLt
      have y3 : (y 3).val < 896 := (y 3).isLt
      have ht : (y 3).val / 128 < k0_t1_loop.trips := by rw [trips1]; omega
      have hy : ∀ a, k0_off25 ⟨_, ht⟩ a ≤ (y a).val ∧ (y a).val < k0_off25 ⟨_, ht⟩ a + S1x1x64x128.size a := by
        rw [off25_eq]
        intro a
        match a with
        | ⟨0, _⟩ => exact ⟨Nat.zero_le _, by show (y 0).val < 0 + 1; omega⟩
        | ⟨1, _⟩ => exact ⟨Nat.zero_le _, by show (y 1).val < 0 + 1; omega⟩
        | ⟨2, _⟩ => exact ⟨Nat.zero_le _, by show (y 2).val < 0 + 64; omega⟩
        | ⟨3, _⟩ => exact ⟨by show 128 * ((y 3).val / 128) ≤ (y 3).val; omega, by show (y 3).val < 128 * ((y 3).val / 128) + 128; omega⟩
      rw [window_at (s := S1x1x64x896) a6 _ S1x1x64x128.size (k0_off25_inb _) y hy, window_at (s := S1x1x64x896) b6 _ S1x1x64x128.size (k0_off25_inb _) y hy, (ha _).1, (hb _).1]
    · funext y
      have y0 : (y 0).val < 1 := (y 0).isLt
      have y1 : (y 1).val < 1 := (y 1).isLt
      have y2 : (y 2).val < 1 := (y 2).isLt
      have y3 : (y 3).val < 896 := (y 3).isLt
      have ht : (y 3).val / 128 < k0_t1_loop.trips := by rw [trips1]; omega
      have hy : ∀ a, k0_off19 ⟨_, ht⟩ a ≤ (y a).val ∧ (y a).val < k0_off19 ⟨_, ht⟩ a + S1x1x1x128.size a := by
        rw [off19_eq]
        intro a
        match a with
        | ⟨0, _⟩ => exact ⟨Nat.zero_le _, by show (y 0).val < 0 + 1; omega⟩
        | ⟨1, _⟩ => exact ⟨Nat.zero_le _, by show (y 1).val < 0 + 1; omega⟩
        | ⟨2, _⟩ => exact ⟨Nat.zero_le _, by show (y 2).val < 0 + 1; omega⟩
        | ⟨3, _⟩ => exact ⟨by show 128 * ((y 3).val / 128) ≤ (y 3).val; omega, by show (y 3).val < 128 * ((y 3).val / 128) + 128; omega⟩
      rw [window_at (s := S1x1x1x896) a7 _ S1x1x1x128.size (k0_off19_inb _) y hy, window_at (s := S1x1x1x896) b7 _ S1x1x1x128.size (k0_off19_inb _) y hy, (ha _).2, (hb _).2]

/-- Contents with the given input blocks, and anything else. -/
def fresh (x1 : Vec F S16x8 .i32) (x2 : Vec F S16x5 .f32) (x3 x4 x5 : Vec F S1x1x64x896 .i8) : Cells F where
  x1 := x1
  x2 := x2
  x3 := x3
  x4 := x4
  x5 := x5
  x6 := fun _ => 0#8
  x7 := fun _ => 0#32
  x8 := fun _ => Scalar.ofBits .bf16 0x0000#16
  x9 := fun _ => Scalar.ofBits .bf16 0x0000#16
  x10 := fun _ => Scalar.ofBits .bf16 0x0000#16
  x11 := fun _ => Scalar.ofBits .f32 0x00000000#32
  x12 := fun _ => Scalar.ofBits .f32 0x00000000#32
  x13 := fun _ => Scalar.ofBits .bf16 0x0000#16
  x14 := fun _ => 0#32

/-- The output block, and the block of row sums, of a grid point. -/
def block6 (i : grid0.Coords) (x1 : Vec F S16x8 .i32) (x2 : Vec F S16x5 .f32) (x3 x4 x5 : Vec F S1x1x64x896 .i8) : Vec F S1x1x64x896 .i8 := (bodyOut i (fresh x1 x2 x3 x4 x5)).x6
def block7 (i : grid0.Coords) (x1 : Vec F S16x8 .i32) (x2 : Vec F S16x5 .f32) (x3 x4 x5 : Vec F S1x1x64x896 .i8) : Vec F S1x1x1x896 .i32 := (bodyOut i (fresh x1 x2 x3 x4 x5)).x7

theorem blocks_isOut (i : grid0.Coords) (x1 : Vec F S16x8 .i32) (x2 : Vec F S16x5 .f32) (x3 x4 x5 : Vec F S1x1x64x896 .i8) :
    IsOut i x1 x2 x3 x4 x5 (block6 i x1 x2 x3 x4 x5) (block7 i x1 x2 x3 x4 x5) := bodyOut_isOut i (fresh x1 x2 x3 x4 x5)

theorem bodyOut_blocks (i : grid0.Coords) (σ : Cells F) :
    (bodyOut i σ).x6 = block6 i σ.x1 σ.x2 σ.x3 σ.x4 σ.x5 ∧ (bodyOut i σ).x7 = block7 i σ.x1 σ.x2 σ.x3 σ.x4 σ.x5 :=
  isOut_unique i _ _ _ _ _ _ _ _ _ (bodyOut_isOut i σ) (blocks_isOut i _ _ _ _ _)

end Cert.Proof.Kernel

end
-- ==== Proof.Kernel.FastEq.lean ====
/-
  The fast branch as it is printed is the one written with recursions: unfolding both gives the same sequence of
  memory operations over the same terms.
-/
module
public import proofs.«01_k».proof.Proof.Kernel.Rolled
@[expose] public section
namespace Cert.Proof.Kernel
open Cert.Kernel Cert.Kernel.Gen
open Idealize.ShloMosaic Idealize.ShloMosaic.TcCoe
open Idealize.SL.Sem
set_option maxRecDepth 100000
set_option maxHeartbeats 0
variable {F : FTy → Type} [FloatOps F]
/-- The printed fast branch, in its five parts and the last store, is `fast`. -/
theorem fast_eq (i : grid0.Coords) (arg1 : Memref sig .tc .smem S16x8 .i32) (harg1 : arg1.IsWhole) (arg2 : Memref sig .tc .smem S16x5 .f32) (harg2 : arg2.IsWhole) (arg3 : Memref sig .tc .vmem S1x1x64x896 .i8) (harg3 : arg3.IsWhole) (arg4 : Memref sig .tc .vmem S1x1x64x896 .i8) (harg4 : arg4.IsWhole) (arg5 : Memref sig .tc .vmem S1x1x64x896 .i8) (harg5 : arg5.IsWhole) (arg6 : Memref sig .tc .vmem S1x1x64x896 .i8) (harg6 : arg6.IsWhole) (arg7 : Memref sig .tc .vmem S1x1x1x896 .i32) (harg7 : arg7.IsWhole) (arg8 : Memref sig .tc .vmem S896x128 .bf16) (harg8 : arg8.IsWhole) (arg9 : Memref sig .tc .vmem S128x896 .bf16) (harg9 : arg9.IsWhole) (arg10 : Memref sig .tc .vmem S64x896 .bf16) (harg10 : arg10.IsWhole) (arg11 : Memref sig .tc .vmem S896x256 .f32) (harg11 : arg11.IsWhole) (arg12 : Memref sig .tc .vmem S896x256 .f32) (harg12 : arg12.IsWhole) (arg13 : Memref sig .tc .vmem S896x256 .bf16) (harg13 : arg13.IsWhole) (arg14 : Memref sig .tc .vmem S896x128 .i32) (harg14 : arg14.IsWhole) (v9 : BitVec 32) :
   (k0_part287 i arg1 harg1 arg2 harg2 arg3 harg3 arg4 harg4 arg5 harg5 arg6 harg6 arg7 harg7 arg8 harg8 arg9 harg9 arg10 harg10 arg11 harg11 arg12 harg12 arg13 harg13 arg14 harg14 v9 >>= fun ⟨v52, v54, v56, v58, v60, v2470, v2486, v2866, v2871⟩ =>
    k0_part288 i arg1 harg1 arg2 harg2 arg3 harg3 arg4 harg4 arg5 harg5 arg6 harg6 arg7 harg7 arg8 harg8 arg9 harg9 arg10 harg10 arg11 harg11 arg12 harg12 arg13 harg13 arg14 harg14 v9 v52 v54 v56 v58 v60 v2470 v2486 v2866 v2871  >>= fun ⟨v5669, v5673, v5678⟩ =>
    k0_part289 i arg1 harg1 arg2 harg2 arg3 harg3 arg4 harg4 arg5 harg5 arg6 harg6 arg7 harg7 arg8 harg8 arg9 harg9 arg10 harg10 arg11 harg11 arg12 harg12 arg13 harg13 arg14 harg14 v9 v52 v54 v56 v58 v60 v5669 v5673 v5678 >>= fun ⟨v8408, v8420, v8421⟩ =>
    k0_part290 i arg1 harg1 arg2 harg2 arg3 harg3 arg4 harg4 arg5 harg5 arg6 harg6 arg7 harg7 arg8 harg8 arg9 harg9 arg10 harg10 arg11 harg11 arg12 harg12 arg13 harg13 arg14 harg14 v9 v52 v54 v56 v58 v60 v8408 v8420 v8421 >>= fun ⟨v11147, v11162⟩ =>
    k0_part291 i arg1 harg1 arg2 harg2 arg3 harg3 arg4 harg4 arg5 harg5 arg6 harg6 arg7 harg7 arg8 harg8 arg9 harg9 arg10 harg10 arg11 harg11 arg12 harg12 arg13 harg13 arg14 harg14 v9 v52 v54 v56 v58 v11147 v11162 >>= fun v13216 => do
    have v13217 : IVec S64x128 8 := trunci 8 v13216 natLt_8_32
    let v13218 : Vec F S1x1x64x128 .i8 ← Prog.lift (.load arg6 (Rect.unit (s := S1x1x64x896) ![0, 0, 0, 768] S1x1x64x128.size inb_S1x1x64x896_S1x1x64x128_0_0_0_768).toLoadRect (View.loadsAt_vmem h_S1x1x64x128))
    have v13220 : IVec S1x1x64x128 8 := shapeCast S1x1x64x128 v13217 shapeCasts_S64x128_S1x1x64x128
    Prog.lift (.store arg6 (Rect.unit (s := S1x1x64x896) ![0, 0, 0, 768] S1x1x64x128.size inb_S1x1x64x896_S1x1x64x128_0_0_0_768) v13220 Finset.univ (View.stores_vmem h_S1x1x64x128 (harg6.storeExact_slice rfl _ packedi8_S1x1x64x896_S1x1x64x128_0_0_0_768) (fun _ => rfl)) (.inl rfl))
    pure ⟨⟩) =
  (fast (F:=F) i arg1 arg2 arg6 harg6 arg7 arg8 arg9 harg9 arg10 arg11 arg12 arg13 harg13 : Prog (TpuEff nD τ sig (Elt F) Λ₀ .tc) PUnit) := by
  with_unfolding_all rfl
end Cert.Proof.Kernel
end
-- ==== Proof.Kernel.BodyEq.lean ====
/-
  The printed body is the body written with its repetitions as recursions.
-/
module

public import proofs.«01_k».proof.Proof.Kernel.FastEq
public import proofs.«01_k».proof.Proof.Kernel.Slow

@[expose] public section

noncomputable section

namespace Cert.Proof.Kernel

open Cert.Kernel Cert.Kernel.Gen
open Idealize.ShloMosaic Idealize.ShloMosaic.TcCoe
open Idealize.SL.Sem

variable {F : FTy → Type} [FloatOps F]

/-- The head's number as the body computes it. -/
def headWord (i : grid0.Coords) : BitVec 32 :=
  let arg0 : BitVec 32 := BitVec.ofNat 32 (i 0).val
  let v0 : BitVec 1 := Scalar.cmpi .eq 16#32 0#32
  let v1 : BitVec 32 := Scalar.select v0 1#32 16#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  Scalar.select v7 v8 v2

section congr
variable {E : Type → Type _} {α β : Type}

theorem bcongr {p p' : Prog E α} {k k' : α → Prog E β} (h : p = p') (hk : ∀ a, k a = k' a) : p >>= k = p' >>= k' := by
  subst h; exact congrArg _ (funext hk)

theorem icongr {c : Prop} [Decidable c] {a a' b b' : Prog E α} (ha : a = a') (hb : b = b') : (if c then a else b) = if c then a' else b' := by
  subst ha; subst hb; rfl

theorem lcongr {L : Scf.Loop 32} {ok : L.OK} {σ : Type} {init : σ} {b b' : Fin L.trips → σ → Prog E σ} (h : ∀ t x, b t x = b' t x) :
    Scf.Loop.for L ok init b = Scf.Loop.for L ok init b' := by
  have : b = b' := funext fun t => funext (h t)
  subst this; rfl

end congr

/-- The printed step of the exponential pass. -/
theorem slowTile_eq (i : grid0.Coords) (A : Refs) (v9 : BitVec 32) (v52 v54 v56 v58 : Elt F .i32) (v60 : Elt F .f32) (k0_t1 : Fin k0_t1_loop.trips) :
    (k0_part294 (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 v9 v52 v54 v56 v58 v60 0#32 1#32 k0_t1 >>= fun x => do
      let v93 : Elt F .i32 ← smemLoad A.a1 (Rect.unit (s := S16x8) (k0_off23 i) S1x1.size (k0_off23_inb i)) numel1_S1x1 rfl
      let v97 : Elt F .i32 ← smemLoad A.a1 (Rect.unit (s := S16x8) (k0_off24 i) S1x1.size (k0_off24_inb i)) numel1_S1x1 rfl
      let _d : Vec F S1x1x64x128 .i8 ← Prog.lift (.load A.a6 (Rect.unit (s := S1x1x64x896) (k0_off25 k0_t1) S1x1x64x128.size (k0_off25_inb k0_t1)).toLoadRect (View.loadsAt_vmem h_S1x1x64x128))
      Prog.lift (.store A.a6 (Rect.unit (s := S1x1x64x896) (k0_off25 k0_t1) S1x1x64x128.size (k0_off25_inb k0_t1))
        (shapeCast S1x1x64x128 (trunci 8 (minsi (broadcast S64x128 127#32) (maxsi (broadcast S64x128 4294967169#32)
          (shrsi (addi (muli x.2.1 x.2.2) (broadcast S64x128 v93)) (broadcast S64x128 v97)))) natLt_8_32) shapeCasts_S64x128_S1x1x64x128)
        Finset.univ (View.stores_vmem h_S1x1x64x128 (A.h6.storeExact_slice rfl _ (k0_off25_packedi8 k0_t1)) (fun _ => rfl)) (.inl rfl))
      pure ⟨⟩) = slowTile i A v52 v54 v56 v58 v60 k0_t1 := by
  unfold k0_part294 slowTile
  simp only [bind_assoc, pure_bind]
  iterate 4 refine bcongr rfl fun _ => ?_
  refine bcongr (lcongr fun t acc => ?_) fun acc => ?_
  · unfold k0_part292 slowExpStep
    simp only [bind_assoc, pure_bind]
    iterate 3 refine bcongr rfl fun _ => ?_
    rfl
  · iterate 2 refine bcongr rfl fun _ => ?_
    refine bcongr (lcongr fun t _ => ?_) fun _ => ?_
    · unfold k0_part293 slowProbStep
      simp only [bind_assoc, pure_bind]
      iterate 3 refine bcongr rfl fun _ => ?_
      rfl
    · iterate 7 refine bcongr rfl fun _ => ?_
      rfl

/-- The printed body is `body`. -/
theorem body_eq (i : grid0.Coords) (A : Refs) :
    cc0_int_attention (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14
      = body i A := by
  unfold body
  rw [← fast_eq i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 (headWord i)]
  unfold cc0_int_attention bodyWith k0_part295 prelude
  simp only [bind_assoc, pure_bind]
  iterate 12 refine bcongr rfl fun _ => ?_
  refine icongr ?_ ?_
  · iterate 7 refine bcongr rfl fun _ => ?_
    refine bcongr rfl fun _ => ?_
    refine icongr ?_ rfl
    unfold slow
    simp only [bind_assoc]
    iterate 5 refine bcongr rfl fun _ => ?_
    refine bcongr (lcongr fun t _ => ?_) fun _ => rfl
    exact slowTile_eq i A _ _ _ _ _ _ t
  · refine bcongr rfl fun _ => ?_
    refine icongr ?_ rfl
    unfold slow
    simp only [bind_assoc]
    iterate 5 refine bcongr rfl fun _ => ?_
    refine bcongr (lcongr fun t _ => ?_) fun _ => rfl
    exact slowTile_eq i A _ _ _ _ _ _ t

end Cert.Proof.Kernel

end
-- ==== Proof.Kernel.Run.lean ====
/-
  The launch: what every grid point leaves in its blocks, the body's triple at a point, the run of the whole program, and
  that it ends with its arguments unchanged and every counter at zero.
-/
module

public import proofs.«01_k».proof.Proof.Kernel.BodyForm
public import proofs.«01_k».proof.Proof.Kernel.BodyEq
public import proofs.«01_k».proof.Proof.Gen.Kernel.Frame
public import Idealize.ShloMosaic.Lib.Claim

@[expose] public section

noncomputable section

namespace Cert.Proof.Kernel

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UR ℕ

variable (m : (ℓ : Loc nD τ sig) → Buf (Elt F) ℓ) (ρ : Dev nD → PrngReg)

/-- The arrays as the region finds them; after the body each input's buffer at its block, the results' at what the body
    makes of the blocks. -/
def dats (_ : Fin 1) (c : Dev nD) : Dat τ (Elt F) Unit ℕ UR ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => block6 (F := F) (grid0.coords t) (iblk m c 0 t) (iblk m c 1 t) (iblk m c 2 t) (iblk m c 3 t) (iblk m c 4 t)
    | ⟨6, _⟩ => block7 (F := F) (grid0.coords t) (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = block6 (F := F) (grid0.coords t) (iblk m c 0 t) (iblk m c 1 t) (iblk m c 2 t) (iblk m c 3 t) (iblk m c 4 t) := by dsimp only [dats]
theorem after0_6 (c : Dev nD) (t : Fin cfg0.N) : (dats m 0 c).after 6 t
    = block7 (F := F) (grid0.coords t) (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The body on whole buffers, the inputs' at `x1 … x5` and the rest at anything: it ends with the inputs' unchanged and the
    results' at the blocks. -/
theorem sound_kernel (c : Dev nD) (i : grid0.Coords) (A : Refs)
    (x1 : Vec F S16x8 .i32) (x2 : Vec F S16x5 .f32) (x3 x4 x5 : Vec F S1x1x64x896 .i8) (K : PUnit → sProp 𝕄) :
    iprop(owns (c : Thread nD τ) A.a1 fullShare x1 ∗ owns (c : Thread nD τ) A.a2 fullShare x2 ∗ owns (c : Thread nD τ) A.a3 fullShare x3
        ∗ owns (c : Thread nD τ) A.a4 fullShare x4 ∗ owns (c : Thread nD τ) A.a5 fullShare x5
        ∗ (∃ d, owns (c : Thread nD τ) A.a6 fullShare d) ∗ (∃ d, owns (c : Thread nD τ) A.a7 fullShare d)
        ∗ (∃ d, owns (c : Thread nD τ) A.a8 fullShare d) ∗ (∃ d, owns (c : Thread nD τ) A.a9 fullShare d)
        ∗ (∃ d, owns (c : Thread nD τ) A.a10 fullShare d) ∗ (∃ d, owns (c : Thread nD τ) A.a11 fullShare d)
        ∗ (∃ d, owns (c : Thread nD τ) A.a12 fullShare d) ∗ (∃ d, owns (c : Thread nD τ) A.a13 fullShare d)
        ∗ (∃ d, owns (c : Thread nD τ) A.a14 fullShare d)
        ∗ (iprop(owns (c : Thread nD τ) A.a1 fullShare x1 ∗ owns (c : Thread nD τ) A.a2 fullShare x2 ∗ owns (c : Thread nD τ) A.a3 fullShare x3
          ∗ owns (c : Thread nD τ) A.a4 fullShare x4 ∗ owns (c : Thread nD τ) A.a5 fullShare x5
          ∗ owns (c : Thread nD τ) A.a6 fullShare (block6 (F := F) i x1 x2 x3 x4 x5) ∗ owns (c : Thread nD τ) A.a7 fullShare (block7 (F := F) i x1 x2 x3 x4 x5)
          ∗ (∃ d, owns (c : Thread nD τ) A.a8 fullShare d) ∗ (∃ d, owns (c : Thread nD τ) A.a9 fullShare d)
          ∗ (∃ d, owns (c : Thread nD τ) A.a10 fullShare d) ∗ (∃ d, owns (c : Thread nD τ) A.a11 fullShare d)
          ∗ (∃ d, owns (c : Thread nD τ) A.a12 fullShare d) ∗ (∃ d, owns (c : Thread nD τ) A.a13 fullShare d)
          ∗ (∃ d, owns (c : Thread nD τ) A.a14 fullShare d)) -∗ K ⟨⟩))
      ⊢ wp frame (wpE (defs₀ (F := F)) Variants.none (c : Thread nD τ) none) Set.univ
          (cc0_int_attention (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14) K := by
  rw [body_eq]
  iintro ⟨H1, H2, H3, H4, H5, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, Hk⟩
  have hr := runs_body (F := F) c A i ⟨x1, x2, x3, x4, x5, d6, d7, d8, d9, d10, d11, d12, d13, d14⟩ Set.univ (β := PUnit) pure K
  rw [bind_pure] at hr
  obtain ⟨k1, k2, k3, k4, k5⟩ := bodyOut_keeps (F := F) i ⟨x1, x2, x3, x4, x5, d6, d7, d8, d9, d10, d11, d12, d13, d14⟩
  obtain ⟨k6, k7⟩ := bodyOut_blocks (F := F) i ⟨x1, x2, x3, x4, x5, d6, d7, d8, d9, d10, d11, d12, d13, d14⟩
  generalize bodyOut (F := F) i ⟨x1, x2, x3, x4, x5, d6, d7, d8, d9, d10, d11, d12, d13, d14⟩ = σ' at hr k1 k2 k3 k4 k5 k6 k7
  dsimp only at k1 k2 k3 k4 k5 k6 k7
  unfold heap at hr
  rw [k1, k2, k3, k4, k5, k6, k7] at hr
  dsimp only at hr
  iapply hr $$ [H1 H2 H3 H4 H5 H6 H7 H8 H9 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro ⟨H1, H2, H3, H4, H5, H6, H7, H8, H9, H10, H11, H12, H13, H14⟩
  rw [wp_pure]
  imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

/-- The buffers the pipeline calls the body with at point `t`. -/
def refsAt (t : Fin cfg0.N) : Refs where
  a1 := win0_0.stage (cfg0.slots t 0)
  h1 := hstage0_0 ((cfg0.slots t 0).cast nbuf0_0)
  a2 := win0_1.stage (cfg0.slots t 1)
  h2 := hstage0_1 ((cfg0.slots t 1).cast nbuf0_1)
  a3 := win0_2.stage (cfg0.slots t 2)
  h3 := hstage0_2 ((cfg0.slots t 2).cast nbuf0_2)
  a4 := win0_3.stage (cfg0.slots t 3)
  h4 := hstage0_3 ((cfg0.slots t 3).cast nbuf0_3)
  a5 := win0_4.stage (cfg0.slots t 4)
  h5 := hstage0_4 ((cfg0.slots t 4).cast nbuf0_4)
  a6 := win0_5.stage (cfg0.slots t 5)
  h6 := hstage0_5 ((cfg0.slots t 5).cast nbuf0_5)
  a7 := win0_6.stage (cfg0.slots t 6)
  h7 := hstage0_6 ((cfg0.slots t 6).cast nbuf0_6)
  a8 := Memref.whole cc0_scratch0
  h8 := Memref.isWhole_whole _
  a9 := Memref.whole cc0_scratch1
  h9 := Memref.isWhole_whole _
  a10 := Memref.whole cc0_scratch2
  h10 := Memref.isWhole_whole _
  a11 := Memref.whole cc0_scratch3
  h11 := Memref.isWhole_whole _
  a12 := Memref.whole cc0_scratch4
  h12 := Memref.isWhole_whole _
  a13 := Memref.whole cc0_scratch5
  h13 := Memref.isWhole_whole _
  a14 := Memref.whole cc0_scratch6
  h14 := Memref.isWhole_whole _

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- A whole scratch buffer held at something, as the body takes it and as the pipeline keeps it. -/
theorem scratch_eq (c : Dev nD) (b : Ref sig .tc) :
    (iprop(∃ f : Buf (Elt F) ((c : Thread nD τ).loc b), ((c : Thread nD τ).loc b) ↦{fullShare} f) : sProp 𝕄)
      = iprop(∃ d : b.ty.Contents (Elt F), owns (c : Thread nD τ) (Memref.whole b) fullShare d) := by
  refine congrArg _ (funext fun f => ?_)
  exact (owns_whole (c : Thread nD τ) b fullShare f).symm

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before0_0, before0_1, before0_2, before0_3, before0_4]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after0_0, after0_1, after0_2, after0_3, after0_4, after0_5, after0_6]
  unfold Pipeline.ΦA
  rw [scopedRest0_eq]
  simp only [scratch_eq]
  iintro ⟨⟨⟨S0, S1, S2, S3, S4, S5, S6⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) (refsAt t) (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, H5, H6, S0, S1, S2, S3, S4, S5, S6⟩
  isplitl [S0 S1 S2 S3 S4 S5 S6 Hg]
  · isplitr [Hg]
    · isplitl [S0]; · iexact S0
      isplitl [S1]; · iexact S1
      isplitl [S2]; · iexact S2
      isplitl [S3]; · iexact S3
      isplitl [S4]; · iexact S4
      isplitl [S5]; · iexact S5
      iexact S6
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution terminates; every final state has the arrays the region and the lines after it leave, and every counter
    at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The arguments end unchanged and every counter at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Proof.Kernel

end
-- ==== Proof.Spec.lean ====
/-
  What one row of the reference computes, as functions of words.
-/
module

public import Idealize.ShloMosaic.PureOps.Ideal
public import Idealize.ShloMosaic.PureOps.Reduce

@[expose] public section

noncomputable section

namespace Cert.Proof.Spec

open Idealize.ShloMosaic

/-- A word as a real number. -/
def sf {w : ℕ} (a : BitVec w) : EReal := FloatOps.sitofp (F := Ideal) .f32 a

/-- The score of a query and a key. -/
def score (q k : Fin 64 → BitVec 8) : BitVec 32 :=
  Ideal.fptosi 32 (∑ x, sf (BitVec.signExtend 32 (q x)) * sf (BitVec.signExtend 32 (k x)))

/-- The floor of a real quotient, as a word. -/
def quo (a b : BitVec 32) : BitVec 32 := Ideal.fptosi 32 (Ideal.liftRound Int.floor (Ideal.div (sf a) (sf b)))

/-- A quotient's word set right by its remainder. -/
def fix (q a b : BitVec 32) : BitVec 32 :=
  IntOp.subi (IntOp.addi q ((IntOp.cmpi .sge (IntOp.subi a (IntOp.muli q b)) b).setWidth 32)) ((IntOp.cmpi .slt (IntOp.subi a (IntOp.muli q b)) 0#32).setWidth 32)

/-- The division rounded down. -/
def fdiv (a b : BitVec 32) : BitVec 32 := fix (quo a b) a b

/-- The largest of a row's scores. -/
def top (S : Fin 896 → BitVec 32) : BitVec 32 := (Finset.univ : Finset (Fin 896)).fold IntOp.maxsi 2147483648#32 S

/-- The polynomial's value shifted. -/
def poly (p qb qc sh : BitVec 32) : BitVec 32 :=
  IntOp.shrsi .host (IntOp.addi (IntOp.muli (IntOp.addi p qb) (IntOp.addi p qb)) qc) sh

/-- The exponential of a score. -/
def ex (ln2 qb qc r m s : BitVec 32) : BitVec 32 :=
  poly (IntOp.addi (IntOp.subi s m) (IntOp.muli (fdiv (IntOp.subi m s) ln2) ln2)) qb qc (IntOp.minsi (IntOp.addi (fdiv (IntOp.subi m s) ln2) r) 31#32)

/-- A row's sum. -/
def tot (E : Fin 896 → BitVec 32) : BitVec 32 := (Finset.univ : Finset (Fin 896)).fold IntOp.addi 0#32 E

/-- A probability's eight bits. -/
def prob (e t : BitVec 32) : BitVec 32 := ((fdiv (IntOp.muli e 255#32) t).setWidth 8).setWidth 32

/-- The requantised sum. -/
def requant (acc mult half shift : BitVec 32) : BitVec 8 :=
  (IntOp.minsi 127#32 (IntOp.maxsi 4294967169#32 (IntOp.shrsi .host (IntOp.addi (IntOp.muli acc mult) half) shift))).setWidth 8

/-- The sum of a row's probabilities times a value column. -/
def acc (P : Fin 896 → BitVec 32) (v : Fin 896 → BitVec 8) : BitVec 32 :=
  Ideal.fptosi 32 (∑ j, sf (P j) * sf (BitVec.signExtend 32 (v j)))

/-- A row's exponentials. -/
def exRow (ln2 qb qc r : BitVec 32) (S : Fin 896 → BitVec 32) (j : Fin 896) : BitVec 32 := ex ln2 qb qc r (top S) (S j)

/-- A row's sum, from its scores. -/
def sumRow (ln2 qb qc r : BitVec 32) (S : Fin 896 → BitVec 32) : BitVec 32 := tot (exRow ln2 qb qc r S)

/-- A row's output at one column of the values. -/
def outRow (ln2 qb qc r mult half shift : BitVec 32) (S : Fin 896 → BitVec 32) (v : Fin 896 → BitVec 8) : BitVec 8 :=
  requant (acc (fun j => prob (exRow ln2 qb qc r S j) (sumRow ln2 qb qc r S)) v) mult half shift

end Cert.Proof.Spec

end
-- ==== Proof.Bridge.lean ====
/-
  Words and the integers and real numbers they stand for.
-/
module

public import proofs.«01_k».proof.Proof.Spec
public import Idealize.ShloMosaic.Lib.WordArith
public import Idealize.ShloMosaic.Lib.KernelVsHost
public import Mathlib.Algebra.BigOperators.Fin
public import Mathlib.Data.EReal.Operations
public import Mathlib.Tactic.Linarith
public import Mathlib.Tactic.NormNum
public import Mathlib.Tactic.Push
public import Mathlib.Tactic.Ring
public import Mathlib.Data.EReal.Inv
public import Mathlib.Data.Fintype.BigOperators

@[expose] public section

noncomputable section

namespace Cert.Proof.Spec

open Idealize.ShloMosaic WordArith

theorem lo_toInt {w : ℕ} {x : BitVec w} : -(2 ^ w : ℤ) ≤ 2 * x.toInt := by
  have h := BitVec.toInt_eq_toNat_cond x
  have h2 : (x.toNat : ℤ) < 2 ^ w := by exact_mod_cast x.isLt
  push_cast at h
  split at h
  · omega
  · rename_i hh
    have hh' : (2 : ℤ) ^ w ≤ 2 * (x.toNat : ℤ) := by exact_mod_cast Nat.not_lt.1 hh
    omega
theorem hi_toInt {w : ℕ} {x : BitVec w} : 2 * x.toInt < (2 ^ w : ℤ) := by
  have h := BitVec.toInt_eq_toNat_cond x
  have h2 : (x.toNat : ℤ) < 2 ^ w := by exact_mod_cast x.isLt
  push_cast at h
  split at h
  · rename_i hh
    have hh' : 2 * (x.toNat : ℤ) < (2 : ℤ) ^ w := by exact_mod_cast hh
    omega
  · omega

/-- An integer as an extended real. -/
def rz (n : ℤ) : EReal := ((n : ℝ) : EReal)

theorem sf_eq {w : ℕ} (a : BitVec w) : sf a = rz a.toInt := rfl
theorem rz_add (a b : ℤ) : rz a + rz b = rz (a + b) := by unfold rz; push_cast; rfl
theorem rz_sub (a b : ℤ) : rz a - rz b = rz (a - b) := by unfold rz; push_cast; rfl
theorem rz_mul (a b : ℤ) : rz a * rz b = rz (a * b) := by unfold rz; push_cast; rfl
theorem rz_zero : rz 0 = 0 := by unfold rz; simp
theorem rz_le (a b : ℤ) : rz a ≤ rz b ↔ a ≤ b := by unfold rz; simp
theorem rz_inj {a b : ℤ} (h : rz a = rz b) : a = b := by unfold rz at h; simpa using h
theorem rz_sum {ι : Type} (s : Finset ι) (f : ι → ℤ) : ∑ x ∈ s, rz (f x) = rz (∑ x ∈ s, f x) := by
  classical
  induction s using Finset.induction_on with
  | empty => simp [rz_zero]
  | insert a s ha ih => rw [Finset.sum_insert ha, Finset.sum_insert ha, ih, rz_add]

theorem toInt_ofInt {n : ℤ} (h1 : -2 ^ 31 ≤ n) (h2 : n < 2 ^ 31) : (BitVec.ofInt 32 n).toInt = n := by
  rw [BitVec.toInt_ofInt]
  exact Int.bmod_eq_of_le (by omega) (by omega)

/-- An integer in range converts to its word. -/
theorem fptosi_rz {n : ℤ} (h1 : -2 ^ 31 ≤ n) (h2 : n < 2 ^ 31) : Ideal.fptosi 32 (rz n) = BitVec.ofInt 32 n := by
  unfold Ideal.fptosi rz
  congr 1
  show max _ (min _ (if (0 : ℝ) ≤ ((n : ℤ) : ℝ) then ⌊((n : ℤ) : ℝ)⌋ else ⌈((n : ℤ) : ℝ)⌉)) = n
  rw [Int.floor_intCast, Int.ceil_intCast, ite_self]
  norm_num
  omega

theorem fptosi_sf (a : BitVec 32) : Ideal.fptosi 32 (sf a) = a := by
  rw [sf_eq, fptosi_rz (by have := lo_toInt (x := a) (w := 32); omega) (by have := hi_toInt (x := a) (w := 32); omega)]
  exact BitVec.ofInt_toInt

/-- The difference of two words in range. -/
theorem fptosi_sub (a b : BitVec 32) (h1 : -2 ^ 31 ≤ a.toInt - b.toInt) (h2 : a.toInt - b.toInt < 2 ^ 31) :
    Ideal.fptosi 32 (sf a - sf b) = IntOp.subi a b := by
  rw [sf_eq, sf_eq, rz_sub, ← toInt_sub_of_bounds a b h1 h2, ← sf_eq, fptosi_sf]
  rfl

theorem sf_sub (a b : BitVec 32) (h1 : -2 ^ 31 ≤ a.toInt - b.toInt) (h2 : a.toInt - b.toInt < 2 ^ 31) :
    sf a - sf b = sf (IntOp.subi a b) := by
  rw [sf_eq, sf_eq, rz_sub, ← toInt_sub_of_bounds a b h1 h2, ← sf_eq]
  rfl

theorem sf_ne_zero {a : BitVec 32} (h : a ≠ 0#32) : sf a ≠ 0 := by
  rw [sf_eq, ← rz_zero]
  intro e
  exact h (BitVec.eq_of_toInt_eq ((rz_inj e).trans (by decide)))

theorem sf_ext (a : BitVec 8) : sf (BitVec.signExtend 32 a) = sf a := by
  rw [sf_eq, sf_eq, BitVec.toInt_signExtend_of_le (by decide)]

/-! ## The scores -/

/-- The score as an integer. -/
def scoreZ (q k : Fin 64 → BitVec 8) : ℤ := ∑ x, (q x).toInt * (k x).toInt

theorem scoreZ_bound (q k : Fin 64 → BitVec 8) : -1048576 ≤ scoreZ q k ∧ scoreZ q k ≤ 1048576 := by
  have hb : ∀ a : BitVec 8, -128 ≤ a.toInt ∧ a.toInt ≤ 127 := fun a => by
    have := lo_toInt (x := a) (w := 8); have := hi_toInt (x := a) (w := 8); omega
  have h : ∀ x : Fin 64, -16384 ≤ (q x).toInt * (k x).toInt ∧ (q x).toInt * (k x).toInt ≤ 16384 := fun x => by
    obtain ⟨a1, a2⟩ := hb (q x); obtain ⟨b1, b2⟩ := hb (k x)
    constructor <;> nlinarith
  constructor
  · calc (-1048576 : ℤ) = ∑ _x : Fin 64, (-16384 : ℤ) := by simp
      _ ≤ _ := Finset.sum_le_sum fun x _ => (h x).1
  · calc scoreZ q k ≤ ∑ _x : Fin 64, (16384 : ℤ) := Finset.sum_le_sum fun x _ => (h x).2
      _ = 1048576 := by simp

theorem score_sum (q k : Fin 64 → BitVec 8) : ∑ x, sf (BitVec.signExtend 32 (q x)) * sf (BitVec.signExtend 32 (k x)) = rz (scoreZ q k) := by
  unfold scoreZ
  rw [← rz_sum]
  refine Finset.sum_congr rfl fun x _ => ?_
  rw [sf_ext, sf_ext, sf_eq, sf_eq, rz_mul]

theorem score_toInt (q k : Fin 64 → BitVec 8) : (score q k).toInt = scoreZ q k := by
  have := scoreZ_bound q k
  unfold score
  rw [score_sum, fptosi_rz (by omega) (by omega), toInt_ofInt (by omega) (by omega)]

/-- The kernel's score: the product the other way round. -/
theorem sf_score (q k : Fin 64 → BitVec 8) : sf (score q k) = ∑ x, sf (k x) * sf (q x) := by
  rw [sf_eq, score_toInt, ← score_sum]
  refine Finset.sum_congr rfl fun x _ => ?_
  rw [sf_ext, sf_ext, mul_comm]

/-! ## The largest score -/

/-- Rows whose words are all a score's. -/
def Small (S : Fin 896 → BitVec 32) : Prop := ∀ j, -1048576 ≤ (S j).toInt ∧ (S j).toInt ≤ 1048576

theorem maxsi_toInt (a b : BitVec 32) : (IntOp.maxsi a b).toInt = max a.toInt b.toInt := by
  unfold IntOp.maxsi
  have : b.slt a = decide (b.toInt < a.toInt) := rfl
  have h2 : a.slt b = decide (a.toInt < b.toInt) := rfl
  simp only [this, h2]
  split <;> simp_all <;> omega

theorem top_spec (S : Fin 896 → BitVec 32) : (∀ j, (S j).toInt ≤ (top S).toInt) ∧ ∃ j, top S = S j := by
  have key : ∀ s : Finset (Fin 896), (∀ j ∈ s, (S j).toInt ≤ (s.fold IntOp.maxsi 2147483648#32 S).toInt)
      ∧ (s.fold IntOp.maxsi 2147483648#32 S = 2147483648#32 ∨ ∃ j ∈ s, s.fold IntOp.maxsi 2147483648#32 S = S j) := by
    intro s
    classical
    induction s using Finset.induction_on with
    | empty => exact ⟨fun j hj => absurd hj (Finset.notMem_empty j), Or.inl rfl⟩
    | insert a s ha ih =>
      rw [Finset.fold_insert ha]
      have hm := maxsi_toInt (S a) (s.fold IntOp.maxsi 2147483648#32 S)
      refine ⟨fun j hj => ?_, ?_⟩
      · rw [hm]
        rcases Finset.mem_insert.1 hj with rfl | hj
        · exact le_max_left _ _
        · exact (ih.1 j hj).trans (le_max_right _ _)
      · rcases le_total (s.fold IntOp.maxsi 2147483648#32 S).toInt (S a).toInt with h | h
        · right
          exact ⟨a, Finset.mem_insert_self a s, BitVec.eq_of_toInt_eq (hm.trans (max_eq_left h))⟩
        · have e : IntOp.maxsi (S a) (s.fold IntOp.maxsi 2147483648#32 S) = s.fold IntOp.maxsi 2147483648#32 S := BitVec.eq_of_toInt_eq (hm.trans (max_eq_right h))
          rw [e]
          rcases ih.2 with h' | ⟨j, hj, e'⟩
          · exact Or.inl h'
          · exact Or.inr ⟨j, Finset.mem_insert_of_mem hj, e'⟩
  obtain ⟨h1, h2⟩ := key Finset.univ
  refine ⟨fun j => h1 j (Finset.mem_univ j), ?_⟩
  rcases h2 with h2 | ⟨j, _, h2⟩
  · refine ⟨0, BitVec.eq_of_toInt_eq (le_antisymm ?_ (h1 0 (Finset.mem_univ 0)))⟩
    have e : (top S).toInt = -2147483648 := by
      show ((Finset.univ : Finset (Fin 896)).fold IntOp.maxsi 2147483648#32 S).toInt = _
      rw [h2]; decide
    have := lo_toInt (x := S 0) (w := 32)
    rw [e]; omega
  · exact ⟨j, h2⟩

/-- A real number that bounds the row and is one of its entries is the largest score. -/
theorem top_unique (S : Fin 896 → BitVec 32) (M : EReal) (h1 : ∀ j, sf (S j) ≤ M) (h2 : ∃ j, M = sf (S j)) : M = sf (top S) := by
  obtain ⟨t1, jt, t2⟩ := top_spec S
  obtain ⟨j, e⟩ := h2
  refine le_antisymm ?_ ?_
  · rw [e]; exact (rz_le _ _).2 (t1 j)
  · rw [t2]; exact h1 jt

/-! ## Sums of words -/

theorem tot_eq (E : Fin 896 → BitVec 32) : tot E = ∑ j, E j := by
  unfold tot
  have : ∀ s : Finset (Fin 896), s.fold IntOp.addi 0#32 E = ∑ j ∈ s, E j := fun s => by
    classical
    induction s using Finset.induction_on with
    | empty => rfl
    | insert a s ha ih => rw [Finset.fold_insert ha, Finset.sum_insert ha, ih]; rfl
  exact this _

/-- A sum by groups of `n`. -/
theorem sum_groups {M : Type} [AddCommMonoid M] (G n : ℕ) (f : Fin (G * n) → M) :
    ∑ j, f j = ∑ a : Fin n, ∑ k : Fin G, f ⟨n * k.val + a.val, by
      have := k.isLt; have := a.isLt
      calc n * k.val + a.val < n * k.val + n := by omega
        _ = n * (k.val + 1) := by ring
        _ ≤ n * G := Nat.mul_le_mul_left n (by omega)
        _ = G * n := by ring⟩ := by
  rw [Finset.sum_comm, ← Fintype.sum_prod_type', ← finProdFinEquiv.sum_comp]
  refine Finset.sum_congr rfl fun x _ => congrArg f (Fin.ext ?_)
  show x.2.val + n * x.1.val = n * x.1.val + x.2.val
  omega

/-! ## Shifts -/

/-- A shift right, as a division: amounts of 31 or more (read unsigned) all leave the sign. -/
theorem shr_toInt (u : ArithUnit) (x y : BitVec 32) : (IntOp.shrsi u x y).toInt = x.toInt / 2 ^ (min y.toNat 31) := by
  have b1 := lo_toInt (x := x) (w := 32)
  have b2 := hi_toInt (x := x) (w := 32)
  unfold IntOp.shrsi
  split
  · rename_i h
    show (x.sshiftRight y.toNat).toInt = _
    rw [BitVec.toInt_sshiftRight, Int.shiftRight_eq_div_pow, min_eq_left (by omega)]
    rfl
  · rename_i h
    have hm : min y.toNat 31 = 31 := by omega
    rw [hm]
    have hc : IntOp.cornerWord u .shrsi x y = if x.msb then BitVec.allOnes 32 else 0 := by
      unfold IntOp.cornerWord; simp
    rw [hc, BitVec.msb_eq_toInt]
    by_cases hx : x.toInt < 0
    · rw [decide_eq_true hx]
      have : (if true = true then BitVec.allOnes 32 else (0 : BitVec 32)).toInt = -1 := by decide
      rw [this]; omega
    · rw [decide_eq_false hx]
      have : (if false = true then BitVec.allOnes 32 else (0 : BitVec 32)).toInt = 0 := by decide
      rw [this]; omega

theorem shr_congr (u u' : ArithUnit) (x y z : BitVec 32) (h : min y.toNat 31 = min z.toNat 31) : IntOp.shrsi u x y = IntOp.shrsi u' x z :=
  BitVec.eq_of_toInt_eq (by rw [shr_toInt, shr_toInt, h])

theorem slt_iff (a b : BitVec 32) : IntOp.cmpi .slt a b = 1#1 ↔ a.toInt < b.toInt :=
  (ofBool_eq_one_iff _).trans (by show decide (a.toInt < b.toInt) = true ↔ _; simp)
theorem sle_iff (a b : BitVec 32) : IntOp.cmpi .sle a b = 1#1 ↔ a.toInt ≤ b.toInt :=
  (ofBool_eq_one_iff _).trans (by show decide (a.toInt ≤ b.toInt) = true ↔ _; simp)
theorem sge_iff (a b : BitVec 32) : IntOp.cmpi .sge a b = 1#1 ↔ b.toInt ≤ a.toInt :=
  (ofBool_eq_one_iff _).trans (by show decide (b.toInt ≤ a.toInt) = true ↔ _; simp)
theorem eq_iff (a b : BitVec 32) : IntOp.cmpi .eq a b = 1#1 ↔ a = b :=
  (ofBool_eq_one_iff _).trans (by show (a == b) = true ↔ _; simp)
theorem ne_iff (a b : BitVec 32) : IntOp.cmpi .ne a b = 1#1 ↔ a ≠ b :=
  (ofBool_eq_one_iff _).trans (by show (a != b) = true ↔ _; simp)
theorem bit_zero {b : BitVec 1} (h : ¬ b = 1#1) : b = 0#1 := by
  revert h; revert b; decide
theorem and_iff (a b : BitVec 1) : IntOp.andi a b = 1#1 ↔ a = 1#1 ∧ b = 1#1 := by
  revert a b; decide
theorem or_iff (a b : BitVec 1) : IntOp.ori a b = 1#1 ↔ a = 1#1 ∨ b = 1#1 := by
  revert a b; decide

theorem toNat_of_toInt {a : BitVec 32} (h : 0 ≤ a.toInt) : (a.toNat : ℤ) = a.toInt := by
  have h1 := a.isLt; have h2 := BitVec.toInt_eq_toNat_cond a; split at h2 <;> omega
theorem toNat_of_neg {a : BitVec 32} (h : a.toInt < 0) : (a.toNat : ℤ) = a.toInt + 4294967296 := by
  have h1 := a.isLt; have h2 := BitVec.toInt_eq_toNat_cond a; split at h2 <;> omega

/-- A negative amount, which shifts like 31. -/
theorem shr_neg (u u' : ArithUnit) (x sh : BitVec 32) :
    IntOp.shrsi u x (Scalar.select (IntOp.cmpi .slt sh 0#32) 31#32 sh) = IntOp.shrsi u' x sh := by
  refine shr_congr _ _ _ _ _ ?_
  by_cases h : IntOp.cmpi .slt sh 0#32 = 1#1
  · have h' := (slt_iff _ _).1 h
    have e : (0#32 : BitVec 32).toInt = 0 := by decide
    rw [e] at h'
    rw [h]
    have := toNat_of_neg h'
    have := lo_toInt (x := sh) (w := 32)
    show min (31#32 : BitVec 32).toNat 31 = _
    have e31 : (31#32 : BitVec 32).toNat = 31 := by decide
    rw [e31]; omega
  · rw [bit_zero h]; rfl

theorem minsi_toInt (a b : BitVec 32) : (IntOp.minsi a b).toInt = min a.toInt b.toInt := by
  unfold IntOp.minsi
  have h2 : a.slt b = decide (a.toInt < b.toInt) := rfl
  simp only [h2]
  split <;> simp_all <;> omega

theorem negInf : Ideal.ofBits .f32 0xFF800000#32 = ⊥ := by
  simp [Ideal.ofBits, Ideal.ieee]

/-- A maximum from minus infinity over a nonempty family. -/
theorem fold_max_spec {n : ℕ} (f : Fin (n + 1) → EReal) : (∀ x, f x ≤ Finset.fold max (Ideal.ofBits .f32 0xFF800000#32) f Finset.univ)
    ∧ ∃ x, Finset.fold max (Ideal.ofBits .f32 0xFF800000#32) f Finset.univ = f x := by
  rw [negInf]
  have key : ∀ s : Finset (Fin (n + 1)), (∀ j ∈ s, f j ≤ s.fold max ⊥ f) ∧ (s.fold max ⊥ f = ⊥ ∨ ∃ j ∈ s, s.fold max ⊥ f = f j) := by
    intro s
    classical
    induction s using Finset.induction_on with
    | empty => exact ⟨fun j hj => absurd hj (Finset.notMem_empty j), Or.inl rfl⟩
    | insert a s ha ih =>
      rw [Finset.fold_insert ha]
      refine ⟨fun j hj => ?_, ?_⟩
      · rcases Finset.mem_insert.1 hj with rfl | hj
        · exact le_max_left _ _
        · exact (ih.1 j hj).trans (le_max_right _ _)
      · rcases le_total (s.fold max ⊥ f) (f a) with h | h
        · exact Or.inr ⟨a, Finset.mem_insert_self a s, max_eq_left h⟩
        · rw [max_eq_right h]
          rcases ih.2 with h' | ⟨j, hj, e'⟩
          · exact Or.inl h'
          · exact Or.inr ⟨j, Finset.mem_insert_of_mem hj, e'⟩
  obtain ⟨h1, h2⟩ := key Finset.univ
  refine ⟨fun j => h1 j (Finset.mem_univ j), ?_⟩
  rcases h2 with h2 | ⟨j, _, h2⟩
  · refine ⟨0, ?_⟩
    have := h1 0 (Finset.mem_univ 0)
    rw [h2] at this ⊢
    exact (le_bot_iff.1 this).symm
  · exact ⟨j, h2⟩

theorem score_small (q : Fin 64 → BitVec 8) (k : Fin 896 → Fin 64 → BitVec 8) : Small fun j => score q (k j) := fun j => by
  rw [score_toInt]; exact scoreZ_bound _ _

theorem top_small {S : Fin 896 → BitVec 32} (h : Small S) : -1048576 ≤ (top S).toInt ∧ (top S).toInt ≤ 1048576 := by
  obtain ⟨-, j, e⟩ := top_spec S
  rw [e]; exact h j

theorem fold_addi {n : ℕ} (E : Fin n → BitVec 32) : Finset.fold IntOp.addi 0#32 E Finset.univ = ∑ j, E j := by
  have : ∀ s : Finset (Fin n), s.fold IntOp.addi 0#32 E = ∑ j ∈ s, E j := fun s => by
    classical
    induction s using Finset.induction_on with
    | empty => rfl
    | insert a s ha ih => rw [Finset.fold_insert ha, Finset.sum_insert ha, ih]; rfl
  exact this _

/-- A row of words continued by zeros. -/
def ext (E : Fin 896 → BitVec 32) (n : ℕ) : BitVec 32 := if h : n < 896 then E ⟨n, h⟩ else 0#32

theorem ext_of (E : Fin 896 → BitVec 32) (n : ℕ) (h : n < 896) : ext E n = E ⟨n, h⟩ := dif_pos h

/-- The low eight bits. -/
theorem and255 (z : BitVec 32) : IntOp.andi z 255#32 = (z.setWidth 8).setWidth 32 := by
  refine BitVec.eq_of_toNat_eq ?_
  unfold IntOp.andi
  rw [BitVec.toNat_and, BitVec.toNat_setWidth, BitVec.toNat_setWidth]
  have h := Nat.and_two_pow_sub_one_eq_mod z.toNat 8
  have e : (255#32 : BitVec 32).toNat = 2 ^ 8 - 1 := by decide
  rw [e, h]
  omega

end Cert.Proof.Spec

end
-- ==== Proof.RefRead.lean ====
/-
  The reference's results, read at one place.
-/
module

public import proofs.«01_k».proof.Proof.Gen.ReferenceIdeal.Run
public import proofs.«01_k».proof.Proof.Spec
public import Idealize.ShloMosaic.Lib.Pointwise

@[expose] public section

set_option maxRecDepth 16384
noncomputable section

namespace Cert.Proof.ReferenceIdeal

open Cert.ReferenceIdeal Cert.ReferenceIdeal.Gen Cert.ReferenceIdeal.Value
open Idealize.ShloMosaic Idealize.ShloMosaic.TcCoe
open Idealize.SL.Sem
open Cert.Proof.Spec

variable (V0 : Valuation τ sig (Elt Ideal))

/-- The host's reduction of the last of four axes, at one place. -/
theorem reduce_at (op : BitVec 32 → BitVec 32 → BitVec 32) [Std.Commutative op] [Std.Associative op] (x : IVec S2x16x896x896 32) (init : IVec S_ 32) (b : Fin 2) (h : Fin 16) (i : Fin 896) :
    Host.reduce op x init reducesTo_S2x16x896x896_S2x16x896_d3 h_S_ (ix3 b h i) = (Finset.univ : Finset (Fin 896)).fold op (init (Shape.Idx.first h_S_)) (fun k => x (ix4 b h i k)) :=
  (Host.reduce_eq_fold op x init _ _ _).trans (Shape.ReducesTo.fold_fiber_r4_a3 (n0 := 2) (n1 := 16) (n2 := 896) (n3 := 896) reducesTo_S2x16x896x896_S2x16x896_d3 (ix3 b h i) op _ x)

/-- The row's scores. -/
def rS (b : Fin 2) (h : Fin 16) (i : Fin 896) (j : Fin 896) : BitVec 32 :=
  score (fun x => V0 (Proc.devRef .tc main_arg0) (ix4 b i h x)) (fun x => V0 (Proc.devRef .tc main_arg1) (ix4 b j h x))

theorem v81_at (b : Fin 2) (h : Fin 16) (i j : Fin 896) : (res_main_v81 (F := Ideal) V0 (ix4 b h i j) : BitVec 32) = rS V0 b h i j := by
  pointwise [res_main_v81]
  rfl

theorem v83_at (b : Fin 2) (h : Fin 16) (i : Fin 896) : (res_main_v83 (F := Ideal) V0 (ix4 b h i 0) : BitVec 32) = top (rS V0 b h i) := by
  pointwise [res_main_v83]
  refine (reduce_at IntOp.maxsi _ _ b h i).trans ?_
  exact congrArg (Finset.fold _ _ · _) (funext fun k => v81_at V0 b h i k)

/-- The table of the reference's shift. -/
def tR : IVec S16 32 :=
  maxsi (subi (Host.reduce IntOp.addi (select (res_main_v35 V0) (broadcastInDim S16x254 ![0, 1] bcast_S1x254_S16x254_0_1 (broadcastInDim S1x254 ![1] bcast_S254_S1x254_1 ((fun i => lit1 (S254.rowMajor i))))) (broadcastInDim S16x254 ![] bcast_S_S16x254 (id (constantI S_ 32 0#32)))) (constantI S_ 32 0#32) reducesTo_S16x254_S16_d1 h_S_) (broadcastInDim S16 ![] bcast_S_S16 (constantI S_ 32 16#32))) (broadcastInDim S16 ![] bcast_S_S16 (constantI S_ 32 0#32))

/-- The table of the multipliers. -/
def tMult : IVec S16 32 := fptosi 32 (Host.roundeven (mulf (mulf (broadcastInDim S16 ![] bcast_S_S16 (constant S_ .f32 0x3F000000#32)) (Host.reduceAdd (select (res_main_v59 V0) (res_main_v52 V0) (broadcastInDim S16x254 ![] bcast_S_S16x254 (id (constant S_ .f32 0x00000000#32)))) (constant S_ .f32 0x00000000#32) reducesTo_S16x254_S16_d1 h_S_)) (broadcastInDim S16 ![] bcast_S_S16 (constant S_ .f32 0x47000000#32))))

/-- The table of the output shifts. -/
def tShift : IVec S16 32 := subi (broadcastInDim S16 ![] bcast_S_S16 (constantI S_ 32 15#32)) (Host.reduce IntOp.addi (select (res_main_v59 V0) (broadcastInDim S16x254 ![0, 1] bcast_S1x254_S16x254_0_1 (broadcastInDim S1x254 ![1] bcast_S254_S1x254_1 ((fun i => lit3 (S254.rowMajor i))))) (broadcastInDim S16x254 ![] bcast_S_S16x254 (id (constantI S_ 32 0#32)))) (constantI S_ 32 0#32) reducesTo_S16x254_S16_d1 h_S_)

/-- The probabilities. -/
def vP : IVec S2x16x896x896 32 := extui 32 (trunci 8 (subi (addi (res_main_v135 V0) (extui 32 (cmpi .sge (res_main_v138 V0) (broadcastInDim S2x16x896x896 ![0, 1, 2, 3] bcast_S2x16x896x1_S2x16x896x896_0_1_2_3 (res_main_v129 V0))) natLt_1_32)) (extui 32 (cmpi .slt (res_main_v138 V0) (broadcastInDim S2x16x896x896 ![] bcast_S_S2x16x896x896 (constantI S_ 32 0#32))) natLt_1_32)) natLt_8_32) natLt_8_32

/-- The reference's first result. -/
def refOut : IVec S2x896x16x64 8 := transpose S2x896x16x64 [0, 2, 1, 3] (trunci 8 (minsi (broadcastInDim S2x16x896x64 ![] bcast_S_S2x16x896x64 (id (constantI S_ 32 127#32))) (maxsi (broadcastInDim S2x16x896x64 ![] bcast_S_S2x16x896x64 (id (constantI S_ 32 4294967169#32))) (Host.shrsi (addi (muli (fptosi 32 (Host.dotGeneral dot_S2x16x896x896_S2x16x896x64_S2x16x896x64_3_2_2_3_01_01 none (truncf .bf16 (sitofp .f32 (vP V0)) bitsLt_bf16_f32) (truncf .bf16 (sitofp .f32 (extsi 32 (transpose S2x16x896x64 [0, 2, 1, 3] (V0 (Proc.devRef .tc main_arg2)) transposes_S2x896x16x64_S2x16x896x64_0_2_1_3) natLt_8_32)) bitsLt_bf16_f32) : FVec Ideal S2x16x896x64 .f32)) (broadcastInDim S2x16x896x64 ![0, 1, 2, 3] bcast_S1x16x1x1_S2x16x896x64_0_1_2_3 (broadcastInDim S1x16x1x1 ![1] bcast_S16_S1x16x1x1_1 (tMult V0)))) (broadcastInDim S2x16x896x64 ![0, 1, 2, 3] bcast_S1x16x1x1_S2x16x896x64_0_1_2_3 (Host.shli (broadcastInDim S1x16x1x1 ![] bcast_S_S1x16x1x1 (constantI S_ 32 1#32)) (subi (broadcastInDim S1x16x1x1 ![1] bcast_S16_S1x16x1x1_1 (tShift V0)) (broadcastInDim S1x16x1x1 ![] bcast_S_S1x16x1x1 (constantI S_ 32 1#32)))))) (broadcastInDim S2x16x896x64 ![0, 1, 2, 3] bcast_S1x16x1x1_S2x16x896x64_0_1_2_3 (broadcastInDim S1x16x1x1 ![1] bcast_S16_S1x16x1x1_1 (tShift V0)))))) natLt_8_32) transposes_S2x16x896x64_S2x896x16x64_0_2_1_3

theorem v103_at (b : Fin 2) (h : Fin 16) (i j : Fin 896) : (res_main_v103 (F := Ideal) V0 (ix4 b h i j) : BitVec 32)
    = fdiv (IntOp.subi (top (rS V0 b h i)) (rS V0 b h i j)) (res_main_v10 V0 (ix1 h)) := by
  pointwise [res_main_v103, res_main_v95, res_main_v92, res_main_v85, res_main_v86]
  simp only [v81_at, v83_at]
  rfl

theorem v109_at (b : Fin 2) (h : Fin 16) (i j : Fin 896) : (res_main_v109 (F := Ideal) V0 (ix4 b h i j) : BitVec 32)
    = IntOp.addi (IntOp.subi (rS V0 b h i j) (top (rS V0 b h i))) (IntOp.muli (fdiv (IntOp.subi (top (rS V0 b h i)) (rS V0 b h i j)) (res_main_v10 V0 (ix1 h))) (res_main_v10 V0 (ix1 h))) := by
  pointwise [res_main_v109]
  simp only [v81_at, v83_at, v103_at]

theorem v125_at (b : Fin 2) (h : Fin 16) (i j : Fin 896) : (res_main_v125 (F := Ideal) V0 (ix4 b h i j) : BitVec 32)
    = exRow (res_main_v10 V0 (ix1 h)) (res_main_v14 V0 (ix1 h)) (res_main_v21 V0 (ix1 h)) (tR V0 (ix1 h)) (rS V0 b h i) j := by
  unfold exRow ex poly
  rw [← v109_at, ← v103_at]
  unfold tR
  pointwise [res_main_v125]

theorem v126_at (b : Fin 2) (h : Fin 16) (i : Fin 896) : (res_main_v126 (F := Ideal) V0 (ix3 b h i) : BitVec 32)
    = sumRow (res_main_v10 V0 (ix1 h)) (res_main_v14 V0 (ix1 h)) (res_main_v21 V0 (ix1 h)) (tR V0 (ix1 h)) (rS V0 b h i) := by
  refine (reduce_at IntOp.addi _ _ b h i).trans ?_
  exact congrArg (Finset.fold _ _ · _) (funext fun k => v125_at V0 b h i k)

theorem vP_at (b : Fin 2) (h : Fin 16) (i j : Fin 896) : vP V0 (ix4 b h i j)
    = prob (exRow (res_main_v10 V0 (ix1 h)) (res_main_v14 V0 (ix1 h)) (res_main_v21 V0 (ix1 h)) (tR V0 (ix1 h)) (rS V0 b h i) j)
      (sumRow (res_main_v10 V0 (ix1 h)) (res_main_v14 V0 (ix1 h)) (res_main_v21 V0 (ix1 h)) (tR V0 (ix1 h)) (rS V0 b h i)) := by
  rw [← v125_at, ← v126_at]
  unfold vP prob fdiv fix quo sf
  pointwise [res_main_v128, res_main_v129, res_main_v135, res_main_v138]
  rfl

/-- The reference's first result at one place. -/
theorem out_at (b : Fin 2) (h : Fin 16) (i : Fin 896) (d : Fin 64) : (refOut V0 (ix4 b i h d) : BitVec 8)
    = outRow (res_main_v10 V0 (ix1 h)) (res_main_v14 V0 (ix1 h)) (res_main_v21 V0 (ix1 h)) (tR V0 (ix1 h)) (tMult V0 (ix1 h)) (IntOp.shli .host 1#32 (IntOp.subi (tShift V0 (ix1 h)) 1#32)) (tShift V0 (ix1 h))
      (rS V0 b h i) (fun j => V0 (Proc.devRef .tc main_arg2) (ix4 b j h d)) := by
  unfold refOut outRow requant acc
  simp only [← vP_at]
  pointwise []
  rfl
end Cert.Proof.ReferenceIdeal
end
-- ==== Proof.KerForms.lean ====
/-
  The tables the kernel's host code builds with its mantissas and exponents, as terms of the arguments.
-/
module

public import proofs.«01_k».proof.Proof.RefRead

@[expose] public section

set_option maxRecDepth 16384
noncomputable section

namespace Cert.Proof.ReferenceIdeal

open Cert.ReferenceIdeal Cert.ReferenceIdeal.Gen Cert.ReferenceIdeal.Value
open Idealize.ShloMosaic Idealize.ShloMosaic.TcCoe
open Idealize.SL.Sem
open Cert.Proof.Spec

variable (V0 : Valuation τ sig (Elt Ideal))

/-- The largest value of each head's polynomial. -/
def kX0 : FVec Ideal S16 .f32 := sitofp .f32 (addi (muli (res_main_v14 V0) (res_main_v14 V0)) (res_main_v21 V0))

/-- The powers of two each of them reaches. -/
def kB0 : IVec S16x254 1 := cmpf .oge (broadcastInDim S16x254 ![0, 1] bcast_S16x1_S16x254_0_1 (broadcastInDim S16x1 ![0] bcast_S16_S16x1_0 (Host.absf (kX0 V0)))) (broadcastInDim S16x254 ![0, 1] bcast_S1x254_S16x254_0_1 (broadcastInDim S1x254 ![1] bcast_S254_S1x254_1 ((fun i => FloatOps.ofBits .f32 (lit0 (S254.rowMajor i))))))

/-- Whether it is zero. -/
def kZ0 : IVec S16 1 := cmpf .oeq (kX0 V0) (broadcastInDim S16 ![] bcast_S_S16 (constant S_ .f32 0x00000000#32))

/-- Each head's output scale. -/
def kX : FVec Ideal S16 .f32 := Host.divf (V0 (Proc.devRef .tc main_arg5)) (mulf (V0 (Proc.devRef .tc main_arg6)) (broadcastInDim S16 ![] bcast_S_S16 (constant S_ .f32 0x437F0000#32)))

/-- The powers of two each of them reaches. -/
def kB : IVec S16x254 1 := cmpf .oge (broadcastInDim S16x254 ![0, 1] bcast_S16x1_S16x254_0_1 (broadcastInDim S16x1 ![0] bcast_S16_S16x1_0 (Host.absf (kX V0)))) (broadcastInDim S16x254 ![0, 1] bcast_S1x254_S16x254_0_1 (broadcastInDim S1x254 ![1] bcast_S254_S1x254_1 ((fun i => FloatOps.ofBits .f32 (lit2 (S254.rowMajor i))))))

/-- Whether it is zero. -/
def kZ : IVec S16 1 := cmpf .oeq (kX V0) (broadcastInDim S16 ![] bcast_S_S16 (constant S_ .f32 0x00000000#32))

/-- The kernel's table of the shift. -/
def kR : IVec S16 32 :=
  maxsi (subi (select (kZ0 V0) (broadcastInDim S16 ![] bcast_S_S16 (id (constantI S_ 32 0#32))) (subi (Host.reduce IntOp.addi (extui 32 (kB0 V0) natLt_1_32) (constantI S_ 32 0#32) reducesTo_S16x254_S16_d1 h_S_) (broadcastInDim S16 ![] bcast_S_S16 (constantI S_ 32 126#32)))) (broadcastInDim S16 ![] bcast_S_S16 (constantI S_ 32 16#32))) (broadcastInDim S16 ![] bcast_S_S16 (constantI S_ 32 0#32))

/-- The kernel's table of the multipliers. -/
def kMult : IVec S16 32 := fptosi 32 (Host.roundeven (mulf (select (kZ V0) (broadcastInDim S16 ![] bcast_S_S16 (id (constant S_ .f32 0x00000000#32))) (mulf (broadcastInDim S16 ![] bcast_S_S16 (constant S_ .f32 0x3F000000#32)) (Host.divf (kX V0) (Host.reduce FloatOps.maximumf (select (kB V0) (broadcastInDim S16x254 ![0, 1] bcast_S1x254_S16x254_0_1 (broadcastInDim S1x254 ![1] bcast_S254_S1x254_1 ((fun i => FloatOps.ofBits .f32 (lit2 (S254.rowMajor i)))))) (broadcastInDim S16x254 ![] bcast_S_S16x254 (id (constant S_ .f32 0x00000000#32)))) (constant S_ .f32 0xFF800000#32) reducesTo_S16x254_S16_d1 h_S_)))) (broadcastInDim S16 ![] bcast_S_S16 (constant S_ .f32 0x47000000#32))))

/-- The kernel's table of the output shifts. -/
def kShift : IVec S16 32 := subi (broadcastInDim S16 ![] bcast_S_S16 (constantI S_ 32 15#32)) (select (kZ V0) (broadcastInDim S16 ![] bcast_S_S16 (id (constantI S_ 32 0#32))) (subi (Host.reduce IntOp.addi (extui 32 (kB V0) natLt_1_32) (constantI S_ 32 0#32) reducesTo_S16x254_S16_d1 h_S_) (broadcastInDim S16 ![] bcast_S_S16 (constantI S_ 32 126#32))))

end Cert.Proof.ReferenceIdeal
end
-- ==== Proof.KerTables.lean ====
/-
  The tables the kernel's host code builds, as terms of the reference's arguments.
-/
module

public import proofs.«01_k».proof.Proof.Gen.KernelIdeal.Frame
public import proofs.«01_k».proof.Proof.KerForms
public import Idealize.ShloMosaic.Lib.StableHlo.ReadAt
public import Idealize.ShloMosaic.Lib.Pointwise

@[expose] public section

set_option maxRecDepth 16384
noncomputable section

namespace Cert.Proof.KernelIdeal

open Cert.KernelIdeal Cert.KernelIdeal.Gen
open Idealize.ShloMosaic Idealize.ShloMosaic.TcCoe
open Idealize.SL.Sem
open Cert.Proof.ReferenceIdeal (kR kMult kShift kX0 kB0 kZ0 kX kB kZ)
open Cert.ReferenceIdeal.Value (res_main_v10 res_main_v14 res_main_v21)

variable (m : (ℓ : Loc nD τ sig) → Buf (Elt Ideal) ℓ) (c : Dev nD)

variable (W : Valuation Cert.ReferenceIdeal.τ Cert.ReferenceIdeal.sig (Elt Ideal))

/-- The reference's arguments are the kernel's. -/
structure Agree : Prop where
  h0 : W (Proc.devRef .tc Cert.ReferenceIdeal.main_arg0) = m (c, Proc.devRef .tc main_arg0)
  h1 : W (Proc.devRef .tc Cert.ReferenceIdeal.main_arg1) = m (c, Proc.devRef .tc main_arg1)
  h2 : W (Proc.devRef .tc Cert.ReferenceIdeal.main_arg2) = m (c, Proc.devRef .tc main_arg2)
  h3 : W (Proc.devRef .tc Cert.ReferenceIdeal.main_arg3) = m (c, Proc.devRef .tc main_arg3)
  h4 : W (Proc.devRef .tc Cert.ReferenceIdeal.main_arg4) = m (c, Proc.devRef .tc main_arg4)
  h5 : W (Proc.devRef .tc Cert.ReferenceIdeal.main_arg5) = m (c, Proc.devRef .tc main_arg5)
  h6 : W (Proc.devRef .tc Cert.ReferenceIdeal.main_arg6) = m (c, Proc.devRef .tc main_arg6)

variable {m c W} (A : Agree m c W)
include A

theorem v10_eq : (V0 m c (Proc.devRef .tc main_v10) : IVec S16 32) = res_main_v10 (F := Ideal) W := by
  unfold res_main_v10 Cert.ReferenceIdeal.Value.res_main_v6
  rw [A.h3, A.h4]
  after_reads_simp
theorem v14_eq : (V0 m c (Proc.devRef .tc main_v14) : IVec S16 32) = res_main_v14 (F := Ideal) W := by
  unfold res_main_v14 Cert.ReferenceIdeal.Value.res_main_v6
  rw [A.h3, A.h4]
  after_reads_simp
theorem v21_eq : (V0 m c (Proc.devRef .tc main_v21) : IVec S16 32) = res_main_v21 (F := Ideal) W := by
  unfold res_main_v21 Cert.ReferenceIdeal.Value.res_main_v6
  rw [A.h3, A.h4]
  after_reads_simp
theorem v46_eq : (V0 m c (Proc.devRef .tc main_v46) : IVec S16 32) = kR W := by
  simp only [kR, kB0, kZ0, kX0, res_main_v14, res_main_v21, Cert.ReferenceIdeal.Value.res_main_v6]
  rw [A.h3, A.h4]
  after_reads_simp
  simp -implicitDefEqProofs only [StableHlo.TRef.toBuf, StableHlo.TRef.ofBuf, cast_cast, cast_eq]
  rfl
theorem v71_eq : (V0 m c (Proc.devRef .tc main_v71) : IVec S16 32) = kMult W := by
  simp only [kMult, kX, kB, kZ]
  rw [A.h5, A.h6]
  after_reads_simp
  simp -implicitDefEqProofs only [StableHlo.TRef.toBuf, StableHlo.TRef.ofBuf, cast_cast, cast_eq]
  rfl
theorem v73_eq : (V0 m c (Proc.devRef .tc main_v73) : IVec S16 32) = kShift W := by
  simp only [kShift, kX, kB, kZ]
  rw [A.h5, A.h6]
  after_reads_simp
  simp -implicitDefEqProofs only [StableHlo.TRef.toBuf, StableHlo.TRef.ofBuf, cast_cast, cast_eq]
  rfl
omit A

/-- The host's operations before its table of words. -/
abbrev preI : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, (hostOps0_16 : List (HloOp τ sig (Elt Ideal))).take 9]
/-- The host's operations after its table of words. -/
abbrev postI : List (HloOp τ sig (Elt Ideal)) := List.flatten [(hostOps0_16 : List (HloOp τ sig (Elt Ideal))).drop 10, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42]
/-- The host's operations before its table of reals. -/
abbrev preF : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, (hostOps0_42 : List (HloOp τ sig (Elt Ideal))).take 10]
/-- The host's operations after its table of reals. -/
abbrev postF : List (HloOp τ sig (Elt Ideal)) := (hostOps0_42 : List (HloOp τ sig (Elt Ideal))).drop 11

theorem after_app (a b : List (HloOp τ sig (Elt Ideal))) (V : Valuation τ sig (Elt Ideal)) : StableHlo.after (a ++ b) V = StableHlo.after b (StableHlo.after a V) := by
  induction a generalizing V with
  | nil => rfl
  | cons op l ih => exact ih _

variable (m c) in
theorem split_I : V0 m c = StableHlo.after postI (StableHlo.after ((hostOps0_16 : List (HloOp τ sig (Elt Ideal))).drop 9 |>.take 1) (StableHlo.after preI (fun b => m (c, b)))) := by
  rw [← after_app, ← after_app]
  rfl
variable (m c) in
theorem split_F : V0 m c = StableHlo.after postF (StableHlo.after ((hostOps0_42 : List (HloOp τ sig (Elt Ideal))).drop 10 |>.take 1) (StableHlo.after preF (fun b => m (c, b)))) := by
  rw [← after_app, ← after_app]
  rfl

theorem postI_keep (X : Valuation τ sig (Elt Ideal)) : StableHlo.after postI X (Proc.devRef .tc main_v106) = X (Proc.devRef .tc main_v106) := by
  after_reads_simp
theorem postF_keep (X : Valuation τ sig (Elt Ideal)) : StableHlo.after postF X (Proc.devRef .tc main_v160) = X (Proc.devRef .tc main_v160) := by
  after_reads_simp
theorem catI (Y : Valuation τ sig (Elt Ideal)) : (StableHlo.after ((hostOps0_16 : List (HloOp τ sig (Elt Ideal))).drop 9 |>.take 1) Y (Proc.devRef .tc main_v106) : IVec S16x8 32)
    = concatenate S16x8 1 [⟨S16x1, (Y (Proc.devRef .tc main_v98) : IVec S16x1 32)⟩, ⟨S16x1, (Y (Proc.devRef .tc main_v99) : IVec S16x1 32)⟩, ⟨S16x1, (Y (Proc.devRef .tc main_v100) : IVec S16x1 32)⟩, ⟨S16x1, (Y (Proc.devRef .tc main_v101) : IVec S16x1 32)⟩, ⟨S16x1, (Y (Proc.devRef .tc main_v102) : IVec S16x1 32)⟩, ⟨S16x1, (Y (Proc.devRef .tc main_v103) : IVec S16x1 32)⟩, ⟨S16x1, (Y (Proc.devRef .tc main_v104) : IVec S16x1 32)⟩, ⟨S16x1, (Y (Proc.devRef .tc main_v105) : IVec S16x1 32)⟩] concatenates_S16x1_S16x1_S16x1_S16x1_S16x1_S16x1_S16x1_S16x1_S16x8_d1 := by
  simp only [hostOps0_16, List.drop_succ_cons, List.drop_zero, List.take_succ_cons, List.take_zero, StableHlo.after_cons, StableHlo.after_nil]
  rw [StableHlo.nary_result]
  rfl
theorem catF (Y : Valuation τ sig (Elt Ideal)) : (StableHlo.after ((hostOps0_42 : List (HloOp τ sig (Elt Ideal))).drop 10 |>.take 1) Y (Proc.devRef .tc main_v160) : FVec Ideal S16x5 .f32)
    = concatenate S16x5 1 [⟨S16x1, (Y (Proc.devRef .tc main_v155) : FVec Ideal S16x1 .f32)⟩, ⟨S16x1, (Y (Proc.devRef .tc main_v156) : FVec Ideal S16x1 .f32)⟩, ⟨S16x1, (Y (Proc.devRef .tc main_v157) : FVec Ideal S16x1 .f32)⟩, ⟨S16x1, (Y (Proc.devRef .tc main_v158) : FVec Ideal S16x1 .f32)⟩, ⟨S16x1, (Y (Proc.devRef .tc main_v159) : FVec Ideal S16x1 .f32)⟩] concatenates_S16x1_S16x1_S16x1_S16x1_S16x1_S16x5_d1 := by
  simp only [hostOps0_42, List.drop_succ_cons, List.drop_zero, List.take_succ_cons, List.take_zero, StableHlo.after_cons, StableHlo.after_nil]
  rw [StableHlo.nary_result]
  rfl
variable (m c) in
theorem ints0 (h : Fin 16) : (V0 m c (Proc.devRef .tc main_v106) : IVec S16x8 32) (ix2 h 0) = (V0 m c (Proc.devRef .tc main_v10) : IVec S16 32) (ix1 h) := by
  have e : (StableHlo.after preI (fun b => m (c, b)) (Proc.devRef .tc main_v98) : IVec S16x1 32) = broadcastInDim S16x1 ![0] bcast_S16_S16x1_0 (V0 m c (Proc.devRef .tc main_v10) : IVec S16 32) := by
    after_reads_simp
  rw [split_I, postI_keep, catI, e, ← split_I]
  pointwise
variable (m c) in
theorem ints1 (h : Fin 16) : (V0 m c (Proc.devRef .tc main_v106) : IVec S16x8 32) (ix2 h 1) = (V0 m c (Proc.devRef .tc main_v14) : IVec S16 32) (ix1 h) := by
  have e : (StableHlo.after preI (fun b => m (c, b)) (Proc.devRef .tc main_v99) : IVec S16x1 32) = broadcastInDim S16x1 ![0] bcast_S16_S16x1_0 (V0 m c (Proc.devRef .tc main_v14) : IVec S16 32) := by
    after_reads_simp
  rw [split_I, postI_keep, catI, e, ← split_I]
  pointwise
variable (m c) in
theorem ints2 (h : Fin 16) : (V0 m c (Proc.devRef .tc main_v106) : IVec S16x8 32) (ix2 h 2) = (V0 m c (Proc.devRef .tc main_v21) : IVec S16 32) (ix1 h) := by
  have e : (StableHlo.after preI (fun b => m (c, b)) (Proc.devRef .tc main_v100) : IVec S16x1 32) = broadcastInDim S16x1 ![0] bcast_S16_S16x1_0 (V0 m c (Proc.devRef .tc main_v21) : IVec S16 32) := by
    after_reads_simp
  rw [split_I, postI_keep, catI, e, ← split_I]
  pointwise
variable (m c) in
theorem ints3 (h : Fin 16) : (V0 m c (Proc.devRef .tc main_v106) : IVec S16x8 32) (ix2 h 3) = (V0 m c (Proc.devRef .tc main_v46) : IVec S16 32) (ix1 h) := by
  have e : (StableHlo.after preI (fun b => m (c, b)) (Proc.devRef .tc main_v101) : IVec S16x1 32) = broadcastInDim S16x1 ![0] bcast_S16_S16x1_0 (V0 m c (Proc.devRef .tc main_v46) : IVec S16 32) := by
    after_reads_simp
  rw [split_I, postI_keep, catI, e, ← split_I]
  pointwise
variable (m c) in
theorem ints4 (h : Fin 16) : (V0 m c (Proc.devRef .tc main_v106) : IVec S16x8 32) (ix2 h 4) = (V0 m c (Proc.devRef .tc main_v71) : IVec S16 32) (ix1 h) := by
  have e : (StableHlo.after preI (fun b => m (c, b)) (Proc.devRef .tc main_v102) : IVec S16x1 32) = broadcastInDim S16x1 ![0] bcast_S16_S16x1_0 (V0 m c (Proc.devRef .tc main_v71) : IVec S16 32) := by
    after_reads_simp
  rw [split_I, postI_keep, catI, e, ← split_I]
  pointwise
variable (m c) in
theorem ints5 (h : Fin 16) : (V0 m c (Proc.devRef .tc main_v106) : IVec S16x8 32) (ix2 h 5) = (V0 m c (Proc.devRef .tc main_v96) : IVec S16 32) (ix1 h) := by
  have e : (StableHlo.after preI (fun b => m (c, b)) (Proc.devRef .tc main_v103) : IVec S16x1 32) = broadcastInDim S16x1 ![0] bcast_S16_S16x1_0 (V0 m c (Proc.devRef .tc main_v96) : IVec S16 32) := by
    after_reads_simp
  rw [split_I, postI_keep, catI, e, ← split_I]
  pointwise
variable (m c) in
theorem ints6 (h : Fin 16) : (V0 m c (Proc.devRef .tc main_v106) : IVec S16x8 32) (ix2 h 6) = (V0 m c (Proc.devRef .tc main_v77) : IVec S16 32) (ix1 h) := by
  have e : (StableHlo.after preI (fun b => m (c, b)) (Proc.devRef .tc main_v104) : IVec S16x1 32) = broadcastInDim S16x1 ![0] bcast_S16_S16x1_0 (V0 m c (Proc.devRef .tc main_v77) : IVec S16 32) := by
    after_reads_simp
  rw [split_I, postI_keep, catI, e, ← split_I]
  pointwise
variable (m c) in
theorem ints7 (h : Fin 16) : (V0 m c (Proc.devRef .tc main_v106) : IVec S16x8 32) (ix2 h 7) = (V0 m c (Proc.devRef .tc main_v97) : IVec S16 32) (ix1 h) := by
  have e : (StableHlo.after preI (fun b => m (c, b)) (Proc.devRef .tc main_v105) : IVec S16x1 32) = broadcastInDim S16x1 ![0] bcast_S16_S16x1_0 (V0 m c (Proc.devRef .tc main_v97) : IVec S16 32) := by
    after_reads_simp
  rw [split_I, postI_keep, catI, e, ← split_I]
  pointwise
variable (m c) in
theorem flts0 (h : Fin 16) : (V0 m c (Proc.devRef .tc main_v160) : FVec Ideal S16x5 .f32) (ix2 h 0) = (V0 m c (Proc.devRef .tc main_v107) : FVec Ideal S16 .f32) (ix1 h) := by
  have e : (StableHlo.after preF (fun b => m (c, b)) (Proc.devRef .tc main_v155) : FVec Ideal S16x1 .f32) = broadcastInDim S16x1 ![0] bcast_S16_S16x1_0 (V0 m c (Proc.devRef .tc main_v107) : FVec Ideal S16 .f32) := by
    after_reads_simp
  rw [split_F, postF_keep, catF, e, ← split_F]
  pointwise
variable (m c) in
theorem flts1 (h : Fin 16) : (V0 m c (Proc.devRef .tc main_v160) : FVec Ideal S16x5 .f32) (ix2 h 1) = (V0 m c (Proc.devRef .tc main_v150) : FVec Ideal S16 .f32) (ix1 h) := by
  have e : (StableHlo.after preF (fun b => m (c, b)) (Proc.devRef .tc main_v156) : FVec Ideal S16x1 .f32) = broadcastInDim S16x1 ![0] bcast_S16_S16x1_0 (V0 m c (Proc.devRef .tc main_v150) : FVec Ideal S16 .f32) := by
    after_reads_simp
  rw [split_F, postF_keep, catF, e, ← split_F]
  pointwise
variable (m c) in
theorem flts2 (h : Fin 16) : (V0 m c (Proc.devRef .tc main_v160) : FVec Ideal S16x5 .f32) (ix2 h 2) = (V0 m c (Proc.devRef .tc main_v151) : FVec Ideal S16 .f32) (ix1 h) := by
  have e : (StableHlo.after preF (fun b => m (c, b)) (Proc.devRef .tc main_v157) : FVec Ideal S16x1 .f32) = broadcastInDim S16x1 ![0] bcast_S16_S16x1_0 (V0 m c (Proc.devRef .tc main_v151) : FVec Ideal S16 .f32) := by
    after_reads_simp
  rw [split_F, postF_keep, catF, e, ← split_F]
  pointwise
variable (m c) in
theorem flts3 (h : Fin 16) : (V0 m c (Proc.devRef .tc main_v160) : FVec Ideal S16x5 .f32) (ix2 h 3) = (V0 m c (Proc.devRef .tc main_v152) : FVec Ideal S16 .f32) (ix1 h) := by
  have e : (StableHlo.after preF (fun b => m (c, b)) (Proc.devRef .tc main_v158) : FVec Ideal S16x1 .f32) = broadcastInDim S16x1 ![0] bcast_S16_S16x1_0 (V0 m c (Proc.devRef .tc main_v152) : FVec Ideal S16 .f32) := by
    after_reads_simp
  rw [split_F, postF_keep, catF, e, ← split_F]
  pointwise
variable (m c) in
theorem flts4 (h : Fin 16) : (V0 m c (Proc.devRef .tc main_v160) : FVec Ideal S16x5 .f32) (ix2 h 4) = (V0 m c (Proc.devRef .tc main_v154) : FVec Ideal S16 .f32) (ix1 h) := by
  have e : (StableHlo.after preF (fun b => m (c, b)) (Proc.devRef .tc main_v159) : FVec Ideal S16x1 .f32) = broadcastInDim S16x1 ![0] bcast_S16_S16x1_0 (V0 m c (Proc.devRef .tc main_v154) : FVec Ideal S16 .f32) := by
    after_reads_simp
  rw [split_F, postF_keep, catF, e, ← split_F]
  pointwise

end Cert.Proof.KernelIdeal
end
-- ==== Proof.MaskRead.lean ====
/-
  The mask of the results, read at one place.
-/
module

public import proofs.«01_k».proof.Proof.Gen.On_reached
public import proofs.«01_k».proof.Proof.RefRead

@[expose] public section

set_option maxRecDepth 16384
noncomputable section

namespace Cert.Proof.Mask

open Cert.ReferenceIdeal Cert.ReferenceIdeal.Gen Cert.ReferenceIdeal.Value
open Idealize.ShloMosaic Idealize.ShloMosaic.TcCoe
open Idealize.SL.Sem
open Cert.Proof.Spec Cert.Proof.ReferenceIdeal

/-- Whether a head takes the fast path. -/
def fastBit (ln2 qb qc : BitVec 32) : BitVec 1 :=
  IntOp.andi (IntOp.andi (IntOp.andi (IntOp.andi (IntOp.cmpi .sge ln2 1#32) (IntOp.cmpi .sge qb ln2)) (IntOp.cmpi .slt qb 4096#32)) (IntOp.cmpi .sge qc 0#32))
    (IntOp.cmpi .slt (IntOp.addi (IntOp.muli qb qb) qc) 16777216#32)

/-- Whether a head's results are claimed. -/
def headBit (ln2 qb qc : BitVec 32) : BitVec 1 := IntOp.ori (fastBit ln2 qb qc) (IntOp.cmpi .ne ln2 0#32)

/-- Whether a probability is claimed. -/
def cellBit (e t : BitVec 32) : BitVec 1 := IntOp.ori (IntOp.cmpi .eq e 0#32) (IntOp.cmpi .ne (IntOp.muli e 255#32) (IntOp.muli (fdiv (IntOp.muli e 255#32) t) t))

/-- Whether an output scale is zero or in the range of the normal floats. -/
def normBit (x : EReal) : BitVec 1 :=
  IntOp.ori (FloatOps.cmpf (F := Ideal) (φ := .f32) .oeq x (0 : EReal))
    (IntOp.andi (FloatOps.cmpf (F := Ideal) (φ := .f32) .oge (FloatOps.absf (F := Ideal) (φ := .f32) x) (FloatOps.ofBits (F := Ideal) .f32 0x00800000#32))
      (FloatOps.cmpf (F := Ideal) (φ := .f32) .olt (FloatOps.ofBits (F := Ideal) .f32 0x3F000000#32 * (FloatOps.absf (F := Ideal) (φ := .f32) x : EReal)) (FloatOps.ofBits (F := Ideal) .f32 0x7F000000#32)))

variable (V0 : Valuation τ sig (Elt Ideal))

/-- A head's output scale. -/
def ratio (h : Fin 16) : EReal :=
  Ideal.div ((V0 (Proc.devRef .tc main_arg5) : FVec Ideal S16 .f32) (ix1 h)) (FloatOps.mulf (F := Ideal) (φ := .f32) ((V0 (Proc.devRef .tc main_arg6) : FVec Ideal S16 .f32) (ix1 h)) (FloatOps.ofBits (F := Ideal) .f32 0x437F0000#32))

/-- The mask's tables of a head. -/
def part7 (V0 : Valuation τ sig (Elt Ideal)) : IVec S2x896x16x64 1 × IVec S2x896x16 1 :=
  Cert.On_reached.fn_part7 (F := Ideal) (V0 (Proc.devRef .tc main_arg5)) (V0 (Proc.devRef .tc main_arg6)) (res_main_v10 V0) (res_main_v14 V0) (res_main_v21 V0) (res_main_v125 V0) (res_main_v126 V0)
    (addi (muli (res_main_v14 V0) (res_main_v14 V0)) (res_main_v21 V0))
    (andi (cmpi .sge (res_main_v10 V0) (broadcastInDim S16 ![] bcast_S_S16 (constantI S_ 32 1#32))) (cmpi .sge (res_main_v14 V0) (res_main_v10 V0)))
    (broadcastInDim S16 ![] bcast_S_S16 (constantI S_ 32 4096#32))

theorem fn_eq : Cert.On_reached.fn (F := Ideal) (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) = part7 V0 := by
  rfl

/-- A head's claim, read from the tables. -/
def fastT (h : Fin 16) : BitVec 1 := fastBit (res_main_v10 V0 (ix1 h)) (res_main_v14 V0 (ix1 h)) (res_main_v21 V0 (ix1 h))

theorem second_at (b : Fin 2) (i : Fin 896) (h : Fin 16) : ((part7 V0).2 (ix3 b i h) : BitVec 1)
    = headBit (res_main_v10 V0 (ix1 h)) (res_main_v14 V0 (ix1 h)) (res_main_v21 V0 (ix1 h)) := by
  pointwise [part7, Cert.On_reached.fn_part7, Cert.On_reached.fn_part8, Cert.On_reached.fn_part9, Cert.On_reached.fn_part10]
  rfl

theorem first_at (b : Fin 2) (i : Fin 896) (h : Fin 16) (d : Fin 64) : ((part7 V0).1 (ix4 b i h d) : BitVec 1)
    = IntOp.andi (if fastT V0 h = 1#1 then (Finset.univ : Finset (Fin 896)).fold IntOp.andi 1#1 (fun j => cellBit (res_main_v125 V0 (ix4 b h i j)) (res_main_v126 V0 (ix3 b h i)))
      else IntOp.andi (headBit (res_main_v10 V0 (ix1 h)) (res_main_v14 V0 (ix1 h)) (res_main_v21 V0 (ix1 h))) (IntOp.cmpi .ne (res_main_v126 V0 (ix3 b h i)) 0#32)) (normBit (ratio V0 h)) := by
  pointwise [part7, Cert.On_reached.fn_part7, Cert.On_reached.fn_part8, Cert.On_reached.fn_part9, Cert.On_reached.fn_part10, Cert.On_reached.fn_where_1]
  rfl

/-- A conjunction over a row holds at each place. -/
theorem all_of_fold (f : Fin 896 → BitVec 1) (s : Finset (Fin 896)) (h : s.fold IntOp.andi 1#1 f = 1#1) : ∀ j ∈ s, f j = 1#1 := by
  induction s using Finset.cons_induction with
  | empty => intro j hj; simp at hj
  | cons a s ha ih =>
    rw [Finset.fold_cons ha] at h
    have key : ∀ x y : BitVec 1, IntOp.andi x y = 1#1 → x = 1#1 ∧ y = 1#1 := by decide
    obtain ⟨h1, h2⟩ := key _ _ h
    intro j hj
    rcases Finset.mem_cons.1 hj with rfl | hj
    · exact h1
    · exact ih h2 j hj

/-- What the mask of the first result says. -/
theorem first_spec (b : Fin 2) (i : Fin 896) (h : Fin 16) (d : Fin 64) (hm : ((part7 V0).1 (ix4 b i h d) : BitVec 1) = 1#1) :
    (fastT V0 h = 1#1 → ∀ j, cellBit (exRow (res_main_v10 V0 (ix1 h)) (res_main_v14 V0 (ix1 h)) (res_main_v21 V0 (ix1 h)) (tR V0 (ix1 h)) (rS V0 b h i) j)
        (sumRow (res_main_v10 V0 (ix1 h)) (res_main_v14 V0 (ix1 h)) (res_main_v21 V0 (ix1 h)) (tR V0 (ix1 h)) (rS V0 b h i)) = 1#1)
      ∧ (¬ fastT V0 h = 1#1 → (res_main_v10 V0 (ix1 h) : BitVec 32) ≠ 0#32
        ∧ sumRow (res_main_v10 V0 (ix1 h)) (res_main_v14 V0 (ix1 h)) (res_main_v21 V0 (ix1 h)) (tR V0 (ix1 h)) (rS V0 b h i) ≠ 0#32)
      ∧ normBit (ratio V0 h) = 1#1 := by
  rw [first_at] at hm
  have key : ∀ x y : BitVec 1, IntOp.andi x y = 1#1 → x = 1#1 ∧ y = 1#1 := by decide
  have key2 : ∀ x y : BitVec 1, IntOp.ori x y = 1#1 → x = 1#1 ∨ y = 1#1 := by decide
  have ne : ∀ x : BitVec 32, IntOp.cmpi .ne x 0#32 = 1#1 → x ≠ 0#32 := by
    intro x hx e
    subst e
    exact absurd hx (by decide)
  obtain ⟨hm, hn⟩ := key _ _ hm
  refine ⟨?_, ?_, hn⟩
  · intro hf j
    rw [if_pos hf] at hm
    have := all_of_fold _ _ hm j (Finset.mem_univ j)
    rwa [v125_at, v126_at] at this
  · intro hf
    rw [if_neg hf, v126_at] at hm
    obtain ⟨h1, h2⟩ := key _ _ hm
    refine ⟨?_, ne _ h2⟩
    rcases key2 _ _ h1 with h3 | h3
    · exact absurd h3 hf
    · exact ne _ h3

end Cert.Proof.Mask
end
-- ==== Proof.KerCols.lean ====
/-
  The entries of the tables the kernel's host code builds.
-/
module

public import proofs.«01_k».proof.Proof.KerTables
public import proofs.«01_k».proof.Proof.MaskRead

@[expose] public section

set_option maxRecDepth 16384
noncomputable section

namespace Cert.Proof.KernelIdeal

open Cert.KernelIdeal Cert.KernelIdeal.Gen
open Idealize.ShloMosaic Idealize.ShloMosaic.TcCoe
open Idealize.SL.Sem
open Cert.Proof.Spec
open Cert.Proof.ReferenceIdeal (kR kMult kShift)
open Cert.ReferenceIdeal.Value (res_main_v10 res_main_v14 res_main_v21)

variable {m : (ℓ : Loc nD τ sig) → Buf (Elt Ideal) ℓ} {c : Dev nD} {W : Valuation Cert.ReferenceIdeal.τ Cert.ReferenceIdeal.sig (Elt Ideal)}

/-- The shift the kernel's table holds. -/
def shiftK (s : BitVec 32) : BitVec 32 := Scalar.select (IntOp.andi (IntOp.cmpi .sge s 0#32) (IntOp.cmpi .sle s 31#32)) s 31#32

/-- A step of the gap: the constant of the largest power reached. -/
def gapStep (y : EReal) (p g : BitVec 32) (z : EReal) : EReal :=
  if Ideal.ofBits .f32 p ≤ y then Ideal.ofBits .f32 g else z

/-- A reciprocal's gap. -/
def gap (y : EReal) : EReal :=
  gapStep y 0x3F800000#32 0x34800000#32 (gapStep y 0x3F000000#32 0x34000000#32 (gapStep y 0x3E800000#32 0x33800000#32 (gapStep y 0x3E000000#32 0x33000000#32 (gapStep y 0x3D800000#32 0x32800000#32 (gapStep y 0x3D000000#32 0x32000000#32 (gapStep y 0x3C800000#32 0x31800000#32 (gapStep y 0x3C000000#32 0x31000000#32 (gapStep y 0x3B800000#32 0x30800000#32 (gapStep y 0x3B000000#32 0x30000000#32 (gapStep y 0x3A800000#32 0x2F800000#32 (gapStep y 0x3A000000#32 0x2F000000#32 (gapStep y 0x39800000#32 0x2E800000#32 (FloatOps.ofBits (F := Ideal) .f32 0#32)))))))))))))

/-- The reciprocal in the kernel's table, rounded up. -/
def invK (ln2 : BitVec 32) : EReal :=
  Ideal.div (FloatOps.ofBits (F := Ideal) .f32 0x3F800000#32) (sf ln2) + gap (Ideal.div (FloatOps.ofBits (F := Ideal) .f32 0x3F800000#32) (sf ln2))

theorem gapStep_at (x z : FVec Ideal S16 .f32) (p g : BitVec 32) (h : Fin 16) :
    (select (cmpf .oge x (broadcastInDim S16 ![] bcast_S_S16 (constant S_ .f32 p))) (broadcastInDim S16 ![] bcast_S_S16 (id (constant S_ .f32 g))) z : FVec Ideal S16 .f32) (ix1 h)
      = gapStep (x (ix1 h)) p g (z (ix1 h)) := by
  pointwise
  rfl

variable (A : Agree m c W)
include A

theorem c77 (h : Fin 16) : (V0 m c (Proc.devRef .tc main_v77) : IVec S16 32) (ix1 h) = IntOp.shli .host 1#32 (IntOp.subi (kShift W (ix1 h)) 1#32) := by
  have e : (V0 m c (Proc.devRef .tc main_v77) : IVec S16 32) = Host.shli (broadcastInDim S16 ![] bcast_S_S16 (constantI S_ 32 1#32)) (subi (V0 m c (Proc.devRef .tc main_v73) : IVec S16 32) (broadcastInDim S16 ![] bcast_S_S16 (constantI S_ 32 1#32))) := by
    after_reads_simp
  rw [e, v73_eq A]
  pointwise

theorem c96 (h : Fin 16) : (V0 m c (Proc.devRef .tc main_v96) : IVec S16 32) (ix1 h) = shiftK (kShift W (ix1 h)) := by
  have e : (V0 m c (Proc.devRef .tc main_v96) : IVec S16 32) = select (andi (cmpi .sge (V0 m c (Proc.devRef .tc main_v73) : IVec S16 32) (broadcastInDim S16 ![] bcast_S_S16 (constantI S_ 32 0#32))) (cmpi .sle (V0 m c (Proc.devRef .tc main_v73) : IVec S16 32) (broadcastInDim S16 ![] bcast_S_S16 (constantI S_ 32 31#32)))) (V0 m c (Proc.devRef .tc main_v73) : IVec S16 32) (broadcastInDim S16 ![] bcast_S_S16 (id (constantI S_ 32 31#32))) := by
    after_reads_simp
    simp -implicitDefEqProofs only [StableHlo.TRef.toBuf, StableHlo.TRef.ofBuf, cast_cast, cast_eq]
  rw [e, v73_eq A]
  pointwise
  rfl

theorem c97 (h : Fin 16) : (V0 m c (Proc.devRef .tc main_v97) : IVec S16 32) (ix1 h) = (Mask.fastBit (res_main_v10 W (ix1 h)) (res_main_v14 W (ix1 h)) (res_main_v21 W (ix1 h))).setWidth 32 := by
  have e : (V0 m c (Proc.devRef .tc main_v97) : IVec S16 32) = extui 32 (andi (andi (andi (andi (cmpi .sge (V0 m c (Proc.devRef .tc main_v10) : IVec S16 32) (broadcastInDim S16 ![] bcast_S_S16 (constantI S_ 32 1#32))) (cmpi .sge (V0 m c (Proc.devRef .tc main_v14) : IVec S16 32) (V0 m c (Proc.devRef .tc main_v10) : IVec S16 32))) (cmpi .slt (V0 m c (Proc.devRef .tc main_v14) : IVec S16 32) (broadcastInDim S16 ![] bcast_S_S16 (constantI S_ 32 4096#32)))) (cmpi .sge (V0 m c (Proc.devRef .tc main_v21) : IVec S16 32) (broadcastInDim S16 ![] bcast_S_S16 (constantI S_ 32 0#32)))) (cmpi .slt (addi (muli (V0 m c (Proc.devRef .tc main_v14) : IVec S16 32) (V0 m c (Proc.devRef .tc main_v14) : IVec S16 32)) (V0 m c (Proc.devRef .tc main_v21) : IVec S16 32)) (broadcastInDim S16 ![] bcast_S_S16 (constantI S_ 32 16777216#32)))) natLt_1_32 := by
    after_reads_simp
  rw [e, v10_eq A, v14_eq A, v21_eq A]
  pointwise
  rfl

theorem c107 (h : Fin 16) : (V0 m c (Proc.devRef .tc main_v107) : FVec Ideal S16 .f32) (ix1 h) = sf (res_main_v10 W (ix1 h) : BitVec 32) := by
  have e : (V0 m c (Proc.devRef .tc main_v107) : FVec Ideal S16 .f32) = (fun x : IVec S16 32 => (sitofp .f32 x : FVec Ideal S16 .f32)) (V0 m c (Proc.devRef .tc main_v10) : IVec S16 32) := by
    after_reads_simp
  rw [e, v10_eq A]
  pointwise
  rfl

theorem c151 (h : Fin 16) : (V0 m c (Proc.devRef .tc main_v151) : FVec Ideal S16 .f32) (ix1 h) = sf (res_main_v14 W (ix1 h) : BitVec 32) := by
  have e : (V0 m c (Proc.devRef .tc main_v151) : FVec Ideal S16 .f32) = (fun x : IVec S16 32 => (sitofp .f32 x : FVec Ideal S16 .f32)) (V0 m c (Proc.devRef .tc main_v14) : IVec S16 32) := by
    after_reads_simp
  rw [e, v14_eq A]
  pointwise
  rfl

theorem c152 (h : Fin 16) : (V0 m c (Proc.devRef .tc main_v152) : FVec Ideal S16 .f32) (ix1 h) = sf (res_main_v21 W (ix1 h) : BitVec 32) := by
  have e : (V0 m c (Proc.devRef .tc main_v152) : FVec Ideal S16 .f32) = (fun x : IVec S16 32 => (sitofp .f32 x : FVec Ideal S16 .f32)) (V0 m c (Proc.devRef .tc main_v21) : IVec S16 32) := by
    after_reads_simp
  rw [e, v21_eq A]
  pointwise
  rfl

theorem c154 (h : Fin 16) : (V0 m c (Proc.devRef .tc main_v154) : FVec Ideal S16 .f32) (ix1 h) = sf (IntOp.muli (kR W (ix1 h)) (res_main_v10 W (ix1 h))) := by
  have e : (V0 m c (Proc.devRef .tc main_v154) : FVec Ideal S16 .f32) = (fun x : IVec S16 32 => (sitofp .f32 x : FVec Ideal S16 .f32)) (muli (V0 m c (Proc.devRef .tc main_v46) : IVec S16 32) (V0 m c (Proc.devRef .tc main_v10) : IVec S16 32)) := by
    after_reads_simp
  rw [e, v46_eq A, v10_eq A]
  pointwise
  rfl

omit A in
theorem g113 (h : Fin 16) : (V0 m c (Proc.devRef .tc main_v113) : FVec Ideal S16 .f32) (ix1 h) = gapStep ((V0 m c (Proc.devRef .tc main_v109) : FVec Ideal S16 .f32) (ix1 h)) 0x39800000#32 0x2E800000#32 ((V0 m c (Proc.devRef .tc main_v110) : FVec Ideal S16 .f32) (ix1 h)) := by
  have e : (V0 m c (Proc.devRef .tc main_v113) : FVec Ideal S16 .f32) = (fun x z : FVec Ideal S16 .f32 => (select (cmpf .oge x (broadcastInDim S16 ![] bcast_S_S16 (constant S_ .f32 964689920#32))) (broadcastInDim S16 ![] bcast_S_S16 (id (constant S_ .f32 780140544#32))) z : FVec Ideal S16 .f32)) (V0 m c (Proc.devRef .tc main_v109) : FVec Ideal S16 .f32) (V0 m c (Proc.devRef .tc main_v110) : FVec Ideal S16 .f32) := by
    after_reads_simp
    simp -implicitDefEqProofs only [StableHlo.TRef.toBuf, StableHlo.TRef.ofBuf, cast_cast, cast_eq]
  exact (congrFun e (ix1 h)).trans (gapStep_at _ _ _ _ h)

omit A in
theorem g116 (h : Fin 16) : (V0 m c (Proc.devRef .tc main_v116) : FVec Ideal S16 .f32) (ix1 h) = gapStep ((V0 m c (Proc.devRef .tc main_v109) : FVec Ideal S16 .f32) (ix1 h)) 0x3A000000#32 0x2F000000#32 ((V0 m c (Proc.devRef .tc main_v113) : FVec Ideal S16 .f32) (ix1 h)) := by
  have e : (V0 m c (Proc.devRef .tc main_v116) : FVec Ideal S16 .f32) = (fun x z : FVec Ideal S16 .f32 => (select (cmpf .oge x (broadcastInDim S16 ![] bcast_S_S16 (constant S_ .f32 973078528#32))) (broadcastInDim S16 ![] bcast_S_S16 (id (constant S_ .f32 788529152#32))) z : FVec Ideal S16 .f32)) (V0 m c (Proc.devRef .tc main_v109) : FVec Ideal S16 .f32) (V0 m c (Proc.devRef .tc main_v113) : FVec Ideal S16 .f32) := by
    after_reads_simp
    simp -implicitDefEqProofs only [StableHlo.TRef.toBuf, StableHlo.TRef.ofBuf, cast_cast, cast_eq]
  exact (congrFun e (ix1 h)).trans (gapStep_at _ _ _ _ h)

omit A in
theorem g119 (h : Fin 16) : (V0 m c (Proc.devRef .tc main_v119) : FVec Ideal S16 .f32) (ix1 h) = gapStep ((V0 m c (Proc.devRef .tc main_v109) : FVec Ideal S16 .f32) (ix1 h)) 0x3A800000#32 0x2F800000#32 ((V0 m c (Proc.devRef .tc main_v116) : FVec Ideal S16 .f32) (ix1 h)) := by
  have e : (V0 m c (Proc.devRef .tc main_v119) : FVec Ideal S16 .f32) = (fun x z : FVec Ideal S16 .f32 => (select (cmpf .oge x (broadcastInDim S16 ![] bcast_S_S16 (constant S_ .f32 981467136#32))) (broadcastInDim S16 ![] bcast_S_S16 (id (constant S_ .f32 796917760#32))) z : FVec Ideal S16 .f32)) (V0 m c (Proc.devRef .tc main_v109) : FVec Ideal S16 .f32) (V0 m c (Proc.devRef .tc main_v116) : FVec Ideal S16 .f32) := by
    after_reads_simp
    simp -implicitDefEqProofs only [StableHlo.TRef.toBuf, StableHlo.TRef.ofBuf, cast_cast, cast_eq]
  exact (congrFun e (ix1 h)).trans (gapStep_at _ _ _ _ h)

omit A in
theorem g122 (h : Fin 16) : (V0 m c (Proc.devRef .tc main_v122) : FVec Ideal S16 .f32) (ix1 h) = gapStep ((V0 m c (Proc.devRef .tc main_v109) : FVec Ideal S16 .f32) (ix1 h)) 0x3B000000#32 0x30000000#32 ((V0 m c (Proc.devRef .tc main_v119) : FVec Ideal S16 .f32) (ix1 h)) := by
  have e : (V0 m c (Proc.devRef .tc main_v122) : FVec Ideal S16 .f32) = (fun x z : FVec Ideal S16 .f32 => (select (cmpf .oge x (broadcastInDim S16 ![] bcast_S_S16 (constant S_ .f32 989855744#32))) (broadcastInDim S16 ![] bcast_S_S16 (id (constant S_ .f32 805306368#32))) z : FVec Ideal S16 .f32)) (V0 m c (Proc.devRef .tc main_v109) : FVec Ideal S16 .f32) (V0 m c (Proc.devRef .tc main_v119) : FVec Ideal S16 .f32) := by
    after_reads_simp
    simp -implicitDefEqProofs only [StableHlo.TRef.toBuf, StableHlo.TRef.ofBuf, cast_cast, cast_eq]
  exact (congrFun e (ix1 h)).trans (gapStep_at _ _ _ _ h)

omit A in
theorem g125 (h : Fin 16) : (V0 m c (Proc.devRef .tc main_v125) : FVec Ideal S16 .f32) (ix1 h) = gapStep ((V0 m c (Proc.devRef .tc main_v109) : FVec Ideal S16 .f32) (ix1 h)) 0x3B800000#32 0x30800000#32 ((V0 m c (Proc.devRef .tc main_v122) : FVec Ideal S16 .f32) (ix1 h)) := by
  have e : (V0 m c (Proc.devRef .tc main_v125) : FVec Ideal S16 .f32) = (fun x z : FVec Ideal S16 .f32 => (select (cmpf .oge x (broadcastInDim S16 ![] bcast_S_S16 (constant S_ .f32 998244352#32))) (broadcastInDim S16 ![] bcast_S_S16 (id (constant S_ .f32 813694976#32))) z : FVec Ideal S16 .f32)) (V0 m c (Proc.devRef .tc main_v109) : FVec Ideal S16 .f32) (V0 m c (Proc.devRef .tc main_v122) : FVec Ideal S16 .f32) := by
    after_reads_simp
    simp -implicitDefEqProofs only [StableHlo.TRef.toBuf, StableHlo.TRef.ofBuf, cast_cast, cast_eq]
  exact (congrFun e (ix1 h)).trans (gapStep_at _ _ _ _ h)

omit A in
theorem g128 (h : Fin 16) : (V0 m c (Proc.devRef .tc main_v128) : FVec Ideal S16 .f32) (ix1 h) = gapStep ((V0 m c (Proc.devRef .tc main_v109) : FVec Ideal S16 .f32) (ix1 h)) 0x3C000000#32 0x31000000#32 ((V0 m c (Proc.devRef .tc main_v125) : FVec Ideal S16 .f32) (ix1 h)) := by
  have e : (V0 m c (Proc.devRef .tc main_v128) : FVec Ideal S16 .f32) = (fun x z : FVec Ideal S16 .f32 => (select (cmpf .oge x (broadcastInDim S16 ![] bcast_S_S16 (constant S_ .f32 1006632960#32))) (broadcastInDim S16 ![] bcast_S_S16 (id (constant S_ .f32 822083584#32))) z : FVec Ideal S16 .f32)) (V0 m c (Proc.devRef .tc main_v109) : FVec Ideal S16 .f32) (V0 m c (Proc.devRef .tc main_v125) : FVec Ideal S16 .f32) := by
    after_reads_simp
    simp -implicitDefEqProofs only [StableHlo.TRef.toBuf, StableHlo.TRef.ofBuf, cast_cast, cast_eq]
  exact (congrFun e (ix1 h)).trans (gapStep_at _ _ _ _ h)

omit A in
theorem g131 (h : Fin 16) : (V0 m c (Proc.devRef .tc main_v131) : FVec Ideal S16 .f32) (ix1 h) = gapStep ((V0 m c (Proc.devRef .tc main_v109) : FVec Ideal S16 .f32) (ix1 h)) 0x3C800000#32 0x31800000#32 ((V0 m c (Proc.devRef .tc main_v128) : FVec Ideal S16 .f32) (ix1 h)) := by
  have e : (V0 m c (Proc.devRef .tc main_v131) : FVec Ideal S16 .f32) = (fun x z : FVec Ideal S16 .f32 => (select (cmpf .oge x (broadcastInDim S16 ![] bcast_S_S16 (constant S_ .f32 1015021568#32))) (broadcastInDim S16 ![] bcast_S_S16 (id (constant S_ .f32 830472192#32))) z : FVec Ideal S16 .f32)) (V0 m c (Proc.devRef .tc main_v109) : FVec Ideal S16 .f32) (V0 m c (Proc.devRef .tc main_v128) : FVec Ideal S16 .f32) := by
    after_reads_simp
    simp -implicitDefEqProofs only [StableHlo.TRef.toBuf, StableHlo.TRef.ofBuf, cast_cast, cast_eq]
  exact (congrFun e (ix1 h)).trans (gapStep_at _ _ _ _ h)

omit A in
theorem g134 (h : Fin 16) : (V0 m c (Proc.devRef .tc main_v134) : FVec Ideal S16 .f32) (ix1 h) = gapStep ((V0 m c (Proc.devRef .tc main_v109) : FVec Ideal S16 .f32) (ix1 h)) 0x3D000000#32 0x32000000#32 ((V0 m c (Proc.devRef .tc main_v131) : FVec Ideal S16 .f32) (ix1 h)) := by
  have e : (V0 m c (Proc.devRef .tc main_v134) : FVec Ideal S16 .f32) = (fun x z : FVec Ideal S16 .f32 => (select (cmpf .oge x (broadcastInDim S16 ![] bcast_S_S16 (constant S_ .f32 1023410176#32))) (broadcastInDim S16 ![] bcast_S_S16 (id (constant S_ .f32 838860800#32))) z : FVec Ideal S16 .f32)) (V0 m c (Proc.devRef .tc main_v109) : FVec Ideal S16 .f32) (V0 m c (Proc.devRef .tc main_v131) : FVec Ideal S16 .f32) := by
    after_reads_simp
    simp -implicitDefEqProofs only [StableHlo.TRef.toBuf, StableHlo.TRef.ofBuf, cast_cast, cast_eq]
  exact (congrFun e (ix1 h)).trans (gapStep_at _ _ _ _ h)

omit A in
theorem g137 (h : Fin 16) : (V0 m c (Proc.devRef .tc main_v137) : FVec Ideal S16 .f32) (ix1 h) = gapStep ((V0 m c (Proc.devRef .tc main_v109) : FVec Ideal S16 .f32) (ix1 h)) 0x3D800000#32 0x32800000#32 ((V0 m c (Proc.devRef .tc main_v134) : FVec Ideal S16 .f32) (ix1 h)) := by
  have e : (V0 m c (Proc.devRef .tc main_v137) : FVec Ideal S16 .f32) = (fun x z : FVec Ideal S16 .f32 => (select (cmpf .oge x (broadcastInDim S16 ![] bcast_S_S16 (constant S_ .f32 1031798784#32))) (broadcastInDim S16 ![] bcast_S_S16 (id (constant S_ .f32 847249408#32))) z : FVec Ideal S16 .f32)) (V0 m c (Proc.devRef .tc main_v109) : FVec Ideal S16 .f32) (V0 m c (Proc.devRef .tc main_v134) : FVec Ideal S16 .f32) := by
    after_reads_simp
    simp -implicitDefEqProofs only [StableHlo.TRef.toBuf, StableHlo.TRef.ofBuf, cast_cast, cast_eq]
  exact (congrFun e (ix1 h)).trans (gapStep_at _ _ _ _ h)

omit A in
theorem g140 (h : Fin 16) : (V0 m c (Proc.devRef .tc main_v140) : FVec Ideal S16 .f32) (ix1 h) = gapStep ((V0 m c (Proc.devRef .tc main_v109) : FVec Ideal S16 .f32) (ix1 h)) 0x3E000000#32 0x33000000#32 ((V0 m c (Proc.devRef .tc main_v137) : FVec Ideal S16 .f32) (ix1 h)) := by
  have e : (V0 m c (Proc.devRef .tc main_v140) : FVec Ideal S16 .f32) = (fun x z : FVec Ideal S16 .f32 => (select (cmpf .oge x (broadcastInDim S16 ![] bcast_S_S16 (constant S_ .f32 1040187392#32))) (broadcastInDim S16 ![] bcast_S_S16 (id (constant S_ .f32 855638016#32))) z : FVec Ideal S16 .f32)) (V0 m c (Proc.devRef .tc main_v109) : FVec Ideal S16 .f32) (V0 m c (Proc.devRef .tc main_v137) : FVec Ideal S16 .f32) := by
    after_reads_simp
    simp -implicitDefEqProofs only [StableHlo.TRef.toBuf, StableHlo.TRef.ofBuf, cast_cast, cast_eq]
  exact (congrFun e (ix1 h)).trans (gapStep_at _ _ _ _ h)

omit A in
theorem g143 (h : Fin 16) : (V0 m c (Proc.devRef .tc main_v143) : FVec Ideal S16 .f32) (ix1 h) = gapStep ((V0 m c (Proc.devRef .tc main_v109) : FVec Ideal S16 .f32) (ix1 h)) 0x3E800000#32 0x33800000#32 ((V0 m c (Proc.devRef .tc main_v140) : FVec Ideal S16 .f32) (ix1 h)) := by
  have e : (V0 m c (Proc.devRef .tc main_v143) : FVec Ideal S16 .f32) = (fun x z : FVec Ideal S16 .f32 => (select (cmpf .oge x (broadcastInDim S16 ![] bcast_S_S16 (constant S_ .f32 1048576000#32))) (broadcastInDim S16 ![] bcast_S_S16 (id (constant S_ .f32 864026624#32))) z : FVec Ideal S16 .f32)) (V0 m c (Proc.devRef .tc main_v109) : FVec Ideal S16 .f32) (V0 m c (Proc.devRef .tc main_v140) : FVec Ideal S16 .f32) := by
    after_reads_simp
    simp -implicitDefEqProofs only [StableHlo.TRef.toBuf, StableHlo.TRef.ofBuf, cast_cast, cast_eq]
  exact (congrFun e (ix1 h)).trans (gapStep_at _ _ _ _ h)

omit A in
theorem g146 (h : Fin 16) : (V0 m c (Proc.devRef .tc main_v146) : FVec Ideal S16 .f32) (ix1 h) = gapStep ((V0 m c (Proc.devRef .tc main_v109) : FVec Ideal S16 .f32) (ix1 h)) 0x3F000000#32 0x34000000#32 ((V0 m c (Proc.devRef .tc main_v143) : FVec Ideal S16 .f32) (ix1 h)) := by
  have e : (V0 m c (Proc.devRef .tc main_v146) : FVec Ideal S16 .f32) = (fun x z : FVec Ideal S16 .f32 => (select (cmpf .oge x (broadcastInDim S16 ![] bcast_S_S16 (constant S_ .f32 1056964608#32))) (broadcastInDim S16 ![] bcast_S_S16 (id (constant S_ .f32 872415232#32))) z : FVec Ideal S16 .f32)) (V0 m c (Proc.devRef .tc main_v109) : FVec Ideal S16 .f32) (V0 m c (Proc.devRef .tc main_v143) : FVec Ideal S16 .f32) := by
    after_reads_simp
    simp -implicitDefEqProofs only [StableHlo.TRef.toBuf, StableHlo.TRef.ofBuf, cast_cast, cast_eq]
  exact (congrFun e (ix1 h)).trans (gapStep_at _ _ _ _ h)

omit A in
theorem g149 (h : Fin 16) : (V0 m c (Proc.devRef .tc main_v149) : FVec Ideal S16 .f32) (ix1 h) = gapStep ((V0 m c (Proc.devRef .tc main_v109) : FVec Ideal S16 .f32) (ix1 h)) 0x3F800000#32 0x34800000#32 ((V0 m c (Proc.devRef .tc main_v146) : FVec Ideal S16 .f32) (ix1 h)) := by
  have e : (V0 m c (Proc.devRef .tc main_v149) : FVec Ideal S16 .f32) = (fun x z : FVec Ideal S16 .f32 => (select (cmpf .oge x (broadcastInDim S16 ![] bcast_S_S16 (constant S_ .f32 1065353216#32))) (broadcastInDim S16 ![] bcast_S_S16 (id (constant S_ .f32 880803840#32))) z : FVec Ideal S16 .f32)) (V0 m c (Proc.devRef .tc main_v109) : FVec Ideal S16 .f32) (V0 m c (Proc.devRef .tc main_v146) : FVec Ideal S16 .f32) := by
    after_reads_simp
    simp -implicitDefEqProofs only [StableHlo.TRef.toBuf, StableHlo.TRef.ofBuf, cast_cast, cast_eq]
  exact (congrFun e (ix1 h)).trans (gapStep_at _ _ _ _ h)

theorem c150 (h : Fin 16) : (V0 m c (Proc.devRef .tc main_v150) : FVec Ideal S16 .f32) (ix1 h) = invK (res_main_v10 W (ix1 h)) := by
  have e : (V0 m c (Proc.devRef .tc main_v150) : FVec Ideal S16 .f32) = (fun x y : FVec Ideal S16 .f32 => (addf x y : FVec Ideal S16 .f32)) (V0 m c (Proc.devRef .tc main_v109) : FVec Ideal S16 .f32) (V0 m c (Proc.devRef .tc main_v149) : FVec Ideal S16 .f32) := by
    after_reads_simp
  have e9 : (V0 m c (Proc.devRef .tc main_v109) : FVec Ideal S16 .f32) (ix1 h) = Ideal.div (FloatOps.ofBits (F := Ideal) .f32 0x3F800000#32) (sf (res_main_v10 W (ix1 h) : BitVec 32)) := by
    have e : (V0 m c (Proc.devRef .tc main_v109) : FVec Ideal S16 .f32) = (fun x : IVec S16 32 => (Host.divf (broadcastInDim S16 ![] bcast_S_S16 (constant S_ .f32 1065353216#32)) (sitofp .f32 x) : FVec Ideal S16 .f32)) (V0 m c (Proc.devRef .tc main_v10) : IVec S16 32) := by
      after_reads_simp
    rw [e, v10_eq A]
    pointwise
    rfl
  have e0 : (V0 m c (Proc.devRef .tc main_v110) : FVec Ideal S16 .f32) (ix1 h) = FloatOps.ofBits (F := Ideal) .f32 0#32 := by
    have e : (V0 m c (Proc.devRef .tc main_v110) : FVec Ideal S16 .f32) = (show FVec Ideal S16 .f32 from broadcastInDim S16 ![] bcast_S_S16 (constant S_ .f32 0#32)) := by
      after_reads_simp
    rw [e]
    pointwise
  refine (congrFun e (ix1 h)).trans ?_
  have ea : ∀ x y : FVec Ideal S16 .f32, (addf x y : FVec Ideal S16 .f32) (ix1 h) = ((x (ix1 h) : EReal) + (y (ix1 h) : EReal) : EReal) := fun x y => rfl
  refine (ea _ _).trans ?_
  rw [g149, g146, g143, g140, g137, g134, g131, g128, g125, g122, g119, g116, g113, e0, e9]
  rfl

end Cert.Proof.KernelIdeal
end
-- ==== Proof.SlowVal.lean ====
/-
  What the general branch computes, read at one place: the reference's row.
-/
module

public import proofs.«01_k».proof.Proof.Bridge
public import proofs.«01_k».proof.Proof.KerCols
public import proofs.«01_k».proof.Proof.BodyForm
public import Idealize.ShloMosaic.Lib.Pointwise

@[expose] public section

set_option maxRecDepth 16384

noncomputable section

namespace Cert.Proof.KernelIdeal

open Cert.KernelIdeal Cert.KernelIdeal.Gen
open Idealize.ShloMosaic Idealize.ShloMosaic.TcCoe
open Idealize.SL.Sem
open Cert.Proof.Spec
open VecWindow (window)

/-! ## The blocks' codes -/

/-- A column of a block of codes. -/
def colB (x : Vec Ideal S1x1x64x896 .i8) (i : Fin 896) : Fin 64 → BitVec 8 := fun d => x (ix4 0 0 d i)

theorem codesV_at (q : Vec Ideal S1x1x64x896 .i8) (d : Fin 64) (i : Fin 896) : (codesV (F := Ideal) q (ix2 d i) : EReal) = sf (colB q i d) := by
  unfold codesV
  pointwise []
  rfl

theorem kaugV_lo (k : Vec Ideal S1x1x64x896 .i8) (j : Fin 896) (d : Fin 128) (h : d.val < 64) : (kaugV (F := Ideal) k (ix2 j d) : EReal) = sf (colB k j ⟨d.val, h⟩) := by
  unfold kaugV
  pointwise []
  rw [dif_pos h]
  rfl

theorem kaugV_hi (k : Vec Ideal S1x1x64x896 .i8) (j : Fin 896) (d : Fin 128) (h : 64 ≤ d.val) : (kaugV (F := Ideal) k (ix2 j d) : EReal) = if d.val < 67 then 1 else 0 := by
  unfold kaugV
  pointwise []
  rw [dif_neg (by omega)]
  have hd := d.isLt
  by_cases h2 : d.val < 67
  · rw [if_pos h2]
    have : IntOp.cmpi CmpIPredicate.slt (BitVec.ofNat 32 (d.val - 64)) 3#32 = 1#1 := (slt_iff _ _).2 (by
      rw [WordArith.toInt_ofNat_small _ (by omega)]; have : (3#32 : BitVec 32).toInt = 3 := by decide
      omega)
    rw [this]; rfl
  · rw [if_neg h2]
    have : ¬ IntOp.cmpi CmpIPredicate.slt (BitVec.ofNat 32 (d.val - 64)) 3#32 = 1#1 := fun e => by
      have e := (slt_iff _ _).1 e
      rw [WordArith.toInt_ofNat_small _ (by omega)] at e
      have : (3#32 : BitVec 32).toInt = 3 := by decide
      omega
    rw [bit_zero this]; rfl

theorem qaugV_lo (q : Vec Ideal S1x1x64x896 .i8) (d : Fin 128) (i : Fin 896) (h : d.val < 64) : (qaugV (F := Ideal) q (ix2 d i) : EReal) = sf (colB q i ⟨d.val, h⟩) := by
  unfold qaugV
  rw [dif_pos (show ((ix2 d i : S128x896.Idx) 0).val < 64 from h)]
  exact codesV_at q ⟨d.val, h⟩ i

theorem qaugV_hi (q : Vec Ideal S1x1x64x896 .i8) (d : Fin 128) (i : Fin 896) (h : 64 ≤ d.val) : (qaugV (F := Ideal) q (ix2 d i) : EReal) = 0 := by
  unfold qaugV
  rw [dif_neg (show ¬ ((ix2 d i : S128x896.Idx) 0).val < 64 from Nat.not_lt.2 h)]
  simp [Scalar.ofBits, Ideal.ofBits, Ideal.ieee]

/-- The row of scores of a query's column. -/
def row (k q : Vec Ideal S1x1x64x896 .i8) (i : Fin 896) (j : Fin 896) : BitVec 32 := score (colB q i) (colB k j)

theorem row_small (k q : Vec Ideal S1x1x64x896 .i8) (i : Fin 896) : Small (row k q i) := score_small (colB q i) fun j => colB k j

theorem gScores_at (k q : Vec Ideal S1x1x64x896 .i8) (t : Fin k0_t1_loop.trips) (j : Fin 896) (i : Fin 128) (n : Fin 896) (hn : n.val = 128 * t.val + i.val) :
    (gScores (F := Ideal) (kaugV k) (qaugV q) t (ix2 j i) : EReal) = sf (row k q n j) := by
  unfold gScores slowScores
  pointwise []
  unfold row
  rw [sf_score]
  refine Finset.sum_congr rfl fun x _ => ?_
  have e1 : window (s := S896x128) (kaugV (F := Ideal) k) ![0, 0] ![896, 64] inb_S896x128_S896x64_0_0 (ix2 j x) = sf (colB k j x) := by
    refine Eq.trans (congrArg (kaugV (F := Ideal) k) ?_) (kaugV_lo k j ⟨x.val, by omega⟩ x.isLt)
    refine funext fun a => Fin.ext ?_
    match a with
    | ⟨0, _⟩ => show 0 + 1 * j.val = j.val; omega
    | ⟨1, _⟩ => show 0 + 1 * x.val = x.val; omega
  have e2 : window (s := S128x896) (qaugV (F := Ideal) q) (k0_off16 t) ![64, 128] (k0_off16_inb t) (ix2 x i) = sf (colB q n x) := by
    refine Eq.trans (congrArg (qaugV (F := Ideal) q) ?_) (qaugV_lo q ⟨x.val, by omega⟩ n x.isLt)
    have eo := off16_eq t
    refine funext fun a => Fin.ext ?_
    match a with
    | ⟨0, _⟩ => show k0_off16 t 0 + 1 * x.val = x.val; rw [eo]; show 0 + 1 * x.val = x.val; omega
    | ⟨1, _⟩ => show k0_off16 t 1 + 1 * i.val = n.val; rw [eo]; show 128 * t.val + 1 * i.val = n.val; omega
  exact congrArg₂ (fun a b : EReal => a * b) e1 e2

section
variable (s : FVec Ideal S896x128 .f32) (i : Fin 128) (S : Fin 896 → BitVec 32) (hS : Small S) (hs : ∀ j, (s (ix2 j i) : EReal) = sf (S j))
include hS hs

theorem slowMax_at : (slowMax (F := Ideal) s (ix2 0 i) : EReal) = sf (top S) := by
  unfold slowMax
  pointwise []
  obtain ⟨h1, j, h2⟩ := fold_max_spec (n := 895) fun x => (s (ix2 x i) : EReal)
  refine top_unique S _ (fun j => ?_) ⟨j, ?_⟩
  · rw [← hs]; exact h1 j
  · rw [← hs]; exact h2

end

theorem slowZ_at (mx : FVec Ideal S1x128 .f32) (u : Vec Ideal S16x128 .f32) (a : Fin 16) (i : Fin 128) (ln2 M s : BitVec 32) (lf : EReal)
    (hl : lf = sf ln2) (h0 : ln2 ≠ 0#32) (hM : (mx (ix2 0 i) : EReal) = sf M) (hu : (u (ix2 a i) : EReal) = sf s)
    (h1 : -2 ^ 31 ≤ M.toInt - s.toInt) (h2 : M.toInt - s.toInt < 2 ^ 31) :
    (slowZ (F := Ideal) mx u ln2 lf (ix2 a i) : BitVec 32) = fdiv (IntOp.subi M s) ln2 := by
  subst hl
  have e0 : Scalar.cmpi .eq ln2 0#32 = 0#1 := bit_zero fun h => h0 ((eq_iff _ _).1 h)
  have e1 : Scalar.cmpf (F := Ideal) (φ := .f32) .oeq (sf ln2) (Scalar.ofBits .f32 0x00000000#32) = 0#1 := by
    refine bit_zero fun h => sf_ne_zero h0 ?_
    have h := (WordArith.ofBool_eq_one_iff _).1 h
    have h := of_decide_eq_true h
    refine h.trans ?_
    simp [Scalar.ofBits, Ideal.ofBits, Ideal.ieee]
  unfold slowZ
  rw [e0, e1]
  pointwise []
  simp only [Scalar.select, hM, hu]
  unfold fdiv fix quo
  have f : FloatOps.fptosi (F := Ideal) (φ := .f32) 32 (sf (IntOp.subi M s)) = IntOp.subi M s := fptosi_sf _
  rw [sf_sub M s h1 h2, f]
  rfl

theorem slowE_at (mx : FVec Ideal S1x128 .f32) (u : Vec Ideal S16x128 .f32) (a : Fin 16) (i : Fin 128) (ln2 qb qc r M s : BitVec 32) (lf : EReal)
    (hl : lf = sf ln2) (h0 : ln2 ≠ 0#32) (hM : (mx (ix2 0 i) : EReal) = sf M) (hu : (u (ix2 a i) : EReal) = sf s)
    (h1 : -2 ^ 31 < M.toInt - s.toInt) (h2 : M.toInt - s.toInt < 2 ^ 31) :
    (slowE (F := Ideal) mx u ln2 qb qc r lf (ix2 a i) : BitVec 32) = ex ln2 qb qc r M s := by
  have hz := slowZ_at mx u a i ln2 M s lf hl h0 hM hu (le_of_lt h1) h2
  unfold slowE
  generalize slowZ (F := Ideal) mx u ln2 lf = z at *
  pointwise []
  simp only [hM, hu, hz]
  have f : FloatOps.fptosi (F := Ideal) (φ := .f32) 32 (sf s - sf M) = IntOp.subi s M := fptosi_sub s M (by omega) (by omega)
  rw [f]
  unfold ex poly
  exact shr_neg _ _ _ _

section
variable (s : FVec Ideal S896x128 .f32) (i : Fin 128) (S : Fin 896 → BitVec 32) (hS : Small S) (hs : ∀ j, (s (ix2 j i) : EReal) = sf (S j))
variable (ln2 qb qc r : BitVec 32) (lf : EReal) (hl : lf = sf ln2) (h0 : ln2 ≠ 0#32)
include hS hs hl h0

theorem gE_at (k : ℕ) (hk : k < 56) (a : Fin 16) : (gE (F := Ideal) ln2 qb qc r lf s k hk (ix2 a i) : BitVec 32) = exRow ln2 qb qc r S ⟨16 * k + a.val, by omega⟩ := by
  unfold gE exRow
  have t := top_small hS
  have b := hS ⟨16 * k + a.val, by omega⟩
  refine slowE_at _ _ a i ln2 qb qc r _ _ lf hl h0 (slowMax_at s i S hS hs) ?_ (by omega) (by omega)
  refine Eq.trans (congrArg s ?_) (hs ⟨16 * k + a.val, by omega⟩)
  refine funext fun b => Fin.ext ?_
  match b with
  | ⟨0, _⟩ => show 16 * k + 1 * a.val = 16 * k + a.val; omega
  | ⟨1, _⟩ => show 0 + 1 * i.val = i.val; omega

theorem gAcc_at : ∀ (k : ℕ) (_ : k ≤ 56) (a : Fin 16), (gAcc (F := Ideal) ln2 qb qc r lf s k (ix2 a i) : BitVec 32) = ∑ x ∈ Finset.range k, ext (exRow ln2 qb qc r S) (16 * x + a.val)
  | 0, _, _ => rfl
  | k + 1, h, a => by
    have hk : k < 56 := h
    unfold gAcc
    rw [dif_pos hk, Finset.sum_range_succ, ← gAcc_at k (by omega) a, ext_of _ _ (by have := a.isLt; omega), ← gE_at s i S hS hs ln2 qb qc r lf hl h0 k hk a]
    rfl

theorem gSum_at : (gSum (F := Ideal) ln2 qb qc r lf s (ix2 0 i) : BitVec 32) = sumRow ln2 qb qc r S := by
  unfold gSum slowTotal
  generalize hg : gAcc (F := Ideal) ln2 qb qc r lf s 56 = g
  pointwise []
  refine (fold_addi _).trans ?_
  unfold sumRow
  rw [tot_eq]
  refine Eq.trans ?_ (sum_groups 56 16 (exRow ln2 qb qc r S)).symm
  refine Finset.sum_congr rfl fun a _ => ?_
  rw [← hg, gAcc_at s i S hS hs ln2 qb qc r lf hl h0 56 le_rfl a, Finset.sum_range]
  refine Finset.sum_congr rfl fun k _ => ?_
  exact ext_of _ _ (by have := a.isLt; have := k.isLt; omega)

end

theorem slowP_at (e : Vec Ideal S16x128 .i32) (t : IVec S1x128 32) (a : Fin 16) (i : Fin 128) (E T : BitVec 32) (he : (e (ix2 a i) : BitVec 32) = E) (ht : t (ix2 0 i) = T) (h0 : T ≠ 0#32) :
    (slowP (F := Ideal) e t (ix2 a i) : EReal) = sf (prob E T) := by
  have e0 : IntOp.cmpi .eq T 0#32 = 0#1 := bit_zero fun h => h0 ((eq_iff _ _).1 h)
  have e1 : ¬ FloatOps.sitofp (F := Ideal) .f32 T = (0 : EReal) := sf_ne_zero h0
  unfold slowP slowSat
  pointwise []
  simp only [he, ht, e0, if_neg e1]
  unfold prob fdiv fix quo
  rw [← and255]
  rfl

theorem gP_at (s : FVec Ideal S896x128 .f32) (i : Fin 128) (S : Fin 896 → BitVec 32) (hS : Small S) (hs : ∀ j, (s (ix2 j i) : EReal) = sf (S j))
    (ln2 qb qc r : BitVec 32) (lf : EReal) (hl : lf = sf ln2) (h0 : ln2 ≠ 0#32) (ht : sumRow ln2 qb qc r S ≠ 0#32) (j : Fin 896) :
    (gP (F := Ideal) ln2 qb qc r lf s (ix2 j i) : EReal) = sf (prob (exRow ln2 qb qc r S j) (sumRow ln2 qb qc r S)) := by
  unfold gP
  refine slowP_at _ _ ⟨j.val % 16, by omega⟩ i _ _ ?_ (gSum_at s i S hS hs ln2 qb qc r lf hl h0) ht
  refine (gE_at s i S hS hs ln2 qb qc r lf hl h0 (j.val / 16) (by omega) ⟨j.val % 16, by omega⟩).trans ?_
  exact congrArg (exRow ln2 qb qc r S) (Fin.ext (by show 16 * (j.val / 16) + j.val % 16 = j.val; omega))

theorem slowOut_at (v : Vec Ideal S64x896 .bf16) (p : Vec Ideal S896x128 .bf16) (mult half shift shift' : BitVec 32) (d : Fin 64) (i : Fin 128) (vc : Fin 896 → BitVec 8) (P : Fin 896 → BitVec 32)
    (hv : ∀ j, (v (ix2 d j) : EReal) = sf (vc j)) (hp : ∀ j, (p (ix2 j i) : EReal) = sf (P j)) (hsh : min shift.toNat 31 = min shift'.toNat 31) :
    (slowOut (F := Ideal) v p mult half shift (ix2 d i) : BitVec 8) = requant (acc P vc) mult half shift' := by
  unfold slowOut requant acc
  pointwise []
  rw [shr_congr .host .vector _ shift' shift hsh.symm]
  have : (∑ x : Fin 896, (v (ix2 d x) : EReal) * (p (ix2 x i) : EReal)) = ∑ j, sf (P j) * sf (BitVec.signExtend 32 (vc j)) :=
    Finset.sum_congr rfl fun j _ => by rw [hv, hp, sf_ext, mul_comm]
  rw [← this]
  rfl
end Cert.Proof.KernelIdeal
end
-- ==== Proof.FastMath.lean ====
/-
  The fast branch's arithmetic against the reference's, on integers: both give the same exponential.
-/
module

public import proofs.«01_k».proof.Proof.Bridge

@[expose] public section

noncomputable section

namespace Cert.Proof.Spec

open Idealize.ShloMosaic

/-! ## Words as integers -/

theorem ofInt_toInt' (a : BitVec 32) : a = BitVec.ofInt 32 a.toInt := BitVec.ofInt_toInt.symm
theorem addi_ofInt (a b : ℤ) : IntOp.addi (BitVec.ofInt 32 a) (BitVec.ofInt 32 b) = BitVec.ofInt 32 (a + b) := (BitVec.ofInt_add a b).symm
theorem muli_ofInt (a b : ℤ) : IntOp.muli (BitVec.ofInt 32 a) (BitVec.ofInt 32 b) = BitVec.ofInt 32 (a * b) := (BitVec.ofInt_mul a b).symm
theorem subi_ofInt (a b : ℤ) : IntOp.subi (BitVec.ofInt 32 a) (BitVec.ofInt 32 b) = BitVec.ofInt 32 (a - b) := by
  show BitVec.ofInt 32 a - BitVec.ofInt 32 b = _
  rw [sub_eq_add_neg a b, BitVec.ofInt_add, BitVec.ofInt_neg]
  exact BitVec.sub_eq_add_neg _ _

/-- The floor of a quotient of integers. -/
theorem floor_div (a b : ℤ) (hb : 0 < b) : ⌊(a : ℝ) / (b : ℝ)⌋ = a / b := by
  have hb' : (0 : ℝ) < (b : ℝ) := by exact_mod_cast hb
  have e : (a : ℝ) = (b : ℝ) * ((a / b : ℤ) : ℝ) + ((a % b : ℤ) : ℝ) := by exact_mod_cast (Int.mul_ediv_add_emod a b).symm
  have h0 : (0 : ℝ) ≤ ((a % b : ℤ) : ℝ) := by exact_mod_cast Int.emod_nonneg a (ne_of_gt hb)
  have h1 : ((a % b : ℤ) : ℝ) < (b : ℝ) := by exact_mod_cast Int.emod_lt_of_pos a hb
  rw [Int.floor_eq_iff]
  constructor
  · rw [le_div_iff₀ hb']; nlinarith
  · rw [div_lt_iff₀ hb']; nlinarith

theorem rz_ne {b : ℤ} (hb : 0 < b) : rz b ≠ 0 := fun e => by
  have := rz_inj (e.trans rz_zero.symm); omega

theorem div_rz (a b : ℤ) (hb : 0 < b) : Ideal.div (rz a) (rz b) = (((a : ℝ) / (b : ℝ) : ℝ) : EReal) := by
  unfold Ideal.div
  rw [if_neg (rz_ne hb)]
  unfold rz
  rw [← EReal.coe_inv, ← EReal.coe_mul, div_eq_mul_inv]

theorem quo_eq (a b : BitVec 32) (ha : 0 ≤ a.toInt) (hb : 0 < b.toInt) : quo a b = BitVec.ofInt 32 (a.toInt / b.toInt) := by
  have h2 := hi_toInt (x := a) (w := 32)
  have h3 : a.toInt / b.toInt ≤ a.toInt := Int.ediv_le_self _ ha
  have h4 : 0 ≤ a.toInt / b.toInt := Int.ediv_nonneg ha (le_of_lt hb)
  unfold quo
  rw [sf_eq, sf_eq, div_rz _ _ hb]
  have : Ideal.liftRound Int.floor (((a.toInt : ℝ) / (b.toInt : ℝ) : ℝ) : EReal) = rz (a.toInt / b.toInt) := by
    show (((⌊(a.toInt : ℝ) / (b.toInt : ℝ)⌋ : ℤ) : ℝ) : EReal) = _
    rw [floor_div _ _ hb]; rfl
  rw [this, fptosi_rz (by omega) (by omega)]

theorem fdiv_eq (a b : BitVec 32) (ha : 0 ≤ a.toInt) (hb : 0 < b.toInt) : fdiv a b = BitVec.ofInt 32 (a.toInt / b.toInt) := by
  have h2 := hi_toInt (x := a) (w := 32)
  have h5 := hi_toInt (x := b) (w := 32)
  unfold fdiv fix
  rw [quo_eq a b ha hb]
  have e : IntOp.subi a (IntOp.muli (BitVec.ofInt 32 (a.toInt / b.toInt)) b) = BitVec.ofInt 32 (a.toInt % b.toInt) := by
    conv_lhs => rw [ofInt_toInt' a, ofInt_toInt' b]
    rw [← ofInt_toInt' a, ← ofInt_toInt' b]
    have : IntOp.muli (BitVec.ofInt 32 (a.toInt / b.toInt)) b = BitVec.ofInt 32 (a.toInt / b.toInt * b.toInt) := by
      conv_lhs => rw [ofInt_toInt' b]
      rw [BitVec.ofInt_toInt, ← muli_ofInt, BitVec.ofInt_toInt]
    rw [this]
    have : IntOp.subi a (BitVec.ofInt 32 (a.toInt / b.toInt * b.toInt)) = BitVec.ofInt 32 (a.toInt - a.toInt / b.toInt * b.toInt) := by
      rw [← subi_ofInt, BitVec.ofInt_toInt]
    rw [this]
    congr 1
    have := Int.mul_ediv_add_emod a.toInt b.toInt
    rw [mul_comm]; omega
  have m0 := Int.emod_nonneg a.toInt (ne_of_gt hb)
  have m1 := Int.emod_lt_of_pos a.toInt hb
  have t : (BitVec.ofInt 32 (a.toInt % b.toInt)).toInt = a.toInt % b.toInt := toInt_ofInt (by omega) (by omega)
  rw [e]
  have e1 : IntOp.cmpi .sge (BitVec.ofInt 32 (a.toInt % b.toInt)) b = 0#1 := bit_zero fun h => by
    have := (sge_iff _ _).1 h; omega
  have e2 : IntOp.cmpi .slt (BitVec.ofInt 32 (a.toInt % b.toInt)) 0#32 = 0#1 := bit_zero fun h => by
    have := (slt_iff _ _).1 h; have z : (0#32 : BitVec 32).toInt = 0 := by decide
    omega
  rw [e1, e2]
  show BitVec.ofInt 32 (a.toInt / b.toInt) + 0#32 - 0#32 = _
  simp

theorem fdiv_toInt (a b : BitVec 32) (ha : 0 ≤ a.toInt) (hb : 0 < b.toInt) : (fdiv a b).toInt = a.toInt / b.toInt := by
  have h2 := hi_toInt (x := a) (w := 32)
  have h3 : a.toInt / b.toInt ≤ a.toInt := Int.ediv_le_self _ ha
  have h4 : 0 ≤ a.toInt / b.toInt := Int.ediv_nonneg ha (le_of_lt hb)
  rw [fdiv_eq a b ha hb, toInt_ofInt (by omega) (by omega)]

/-! ## The exponential on integers -/

/-- What a head's words satisfy when it takes the fast branch. -/
structure Head (ln2 qb qc r : BitVec 32) : Prop where
  l1 : 1 ≤ ln2.toInt
  lb : ln2.toInt ≤ qb.toInt
  b : qb.toInt < 4096
  c : 0 ≤ qc.toInt
  l0 : qb.toInt * qb.toInt + qc.toInt < 16777216
  r0 : 0 ≤ r.toInt
  r8 : r.toInt ≤ 8
  t1 : 1 ≤ (qb.toInt * qb.toInt + qc.toInt) / 2 ^ r.toInt.toNat
  t2 : (qb.toInt * qb.toInt + qc.toInt) / 2 ^ r.toInt.toNat < 65536

/-- The polynomial before the shift, of a score `n` below the top. -/
def pZ (L B C n : ℤ) : ℤ := (B - n % L) * (B - n % L) + C

/-- The exponential of a score `n` below the top. -/
def eZ (L B C r n : ℤ) : ℤ := pZ L B C n / 2 ^ (n / L + r).toNat

theorem pow_shift (N : ℤ) (h0 : 0 ≤ N) (h1 : N < 16777216) (q : ℕ) : N / 2 ^ (min q 31) = N / 2 ^ q := by
  by_cases h : q ≤ 31
  · rw [min_eq_left h]
  · have : (2 : ℤ) ^ 31 ≤ 2 ^ q := pow_le_pow_right₀ (by norm_num) (by omega)
    rw [min_eq_right (by omega), Int.ediv_eq_zero_of_lt h0 (by omega), Int.ediv_eq_zero_of_lt h0 (by omega)]

section head
variable {ln2 qb qc r : BitVec 32} (H : Head ln2 qb qc r)
include H

theorem pZ_bounds (n : ℤ) : 1 ≤ qb.toInt - n % ln2.toInt ∧ qb.toInt - n % ln2.toInt ≤ 4095 ∧ 0 ≤ pZ ln2.toInt qb.toInt qc.toInt n
    ∧ pZ ln2.toInt qb.toInt qc.toInt n ≤ qb.toInt * qb.toInt + qc.toInt := by
  have h1 := H.l1; have h2 := H.lb; have h3 := H.b; have h4 := H.c
  have m0 := Int.emod_nonneg n (show ln2.toInt ≠ 0 by omega)
  have m1 := Int.emod_lt_of_pos n (show 0 < ln2.toInt by omega)
  unfold pZ
  refine ⟨by omega, by omega, by nlinarith, by nlinarith⟩

theorem eZ_bounds (n : ℤ) (h0 : 0 ≤ n) : 0 ≤ eZ ln2.toInt qb.toInt qc.toInt r.toInt n ∧ eZ ln2.toInt qb.toInt qc.toInt r.toInt n ≤ (qb.toInt * qb.toInt + qc.toInt) / 2 ^ r.toInt.toNat := by
  obtain ⟨-, -, p0, p1⟩ := pZ_bounds H n
  have hq : 0 ≤ n / ln2.toInt := Int.ediv_nonneg h0 (by have := H.l1; omega)
  have hr := H.r0
  unfold eZ
  refine ⟨Int.ediv_nonneg p0 (by positivity), ?_⟩
  have e : (n / ln2.toInt + r.toInt).toNat = r.toInt.toNat + (n / ln2.toInt).toNat := by omega
  rw [e, pow_add, ← Int.ediv_ediv_of_nonneg (by positivity)]
  refine le_trans (Int.ediv_le_self _ (Int.ediv_nonneg p0 (by positivity))) ?_
  exact Int.ediv_le_ediv (by positivity) p1

theorem eZ_lt (n : ℤ) (h0 : 0 ≤ n) : eZ ln2.toInt qb.toInt qc.toInt r.toInt n < 65536 := by
  have := (eZ_bounds H n h0).2; have := H.t2; omega

theorem eZ_top : 1 ≤ eZ ln2.toInt qb.toInt qc.toInt r.toInt 0 := by
  unfold eZ pZ
  rw [Int.zero_emod, Int.zero_ediv, Int.sub_zero, Int.zero_add]
  exact H.t1

/-- The reference's exponential. -/
theorem ex_toInt (M s : BitVec 32) (h0 : 0 ≤ M.toInt - s.toInt) (h1 : M.toInt - s.toInt ≤ 2097152) :
    (ex ln2 qb qc r M s).toInt = eZ ln2.toInt qb.toInt qc.toInt r.toInt (M.toInt - s.toInt) := by
  obtain ⟨x0, x1, p0, p1⟩ := pZ_bounds H (M.toInt - s.toInt)
  have g1 := H.l1; have g2 := H.lb; have g3 := H.b; have g4 := H.c; have g5 := H.l0; have g6 := H.r0; have g7 := H.r8
  have d := Int.mul_ediv_add_emod (M.toInt - s.toInt) ln2.toInt
  have q0 : 0 ≤ (M.toInt - s.toInt) / ln2.toInt := Int.ediv_nonneg h0 (by omega)
  have q1 : (M.toInt - s.toInt) / ln2.toInt ≤ M.toInt - s.toInt := Int.ediv_le_self _ h0
  have em : IntOp.subi M s = BitVec.ofInt 32 (M.toInt - s.toInt) := by rw [← subi_ofInt, BitVec.ofInt_toInt, BitVec.ofInt_toInt]
  have en : IntOp.subi s M = BitVec.ofInt 32 (s.toInt - M.toInt) := by rw [← subi_ofInt, BitVec.ofInt_toInt, BitVec.ofInt_toInt]
  have tm : (IntOp.subi M s).toInt = M.toInt - s.toInt := by rw [em, toInt_ofInt (by omega) (by omega)]
  have ef : fdiv (IntOp.subi M s) ln2 = BitVec.ofInt 32 ((M.toInt - s.toInt) / ln2.toInt) := by
    rw [fdiv_eq _ _ (by omega) (by omega), tm]
  unfold ex poly
  rw [ef, en, shr_toInt]
  have e1 : IntOp.addi (IntOp.addi (BitVec.ofInt 32 (s.toInt - M.toInt)) (IntOp.muli (BitVec.ofInt 32 ((M.toInt - s.toInt) / ln2.toInt)) ln2)) qb
      = BitVec.ofInt 32 (qb.toInt - (M.toInt - s.toInt) % ln2.toInt) := by
    have : IntOp.addi (IntOp.addi (BitVec.ofInt 32 (s.toInt - M.toInt)) (IntOp.muli (BitVec.ofInt 32 ((M.toInt - s.toInt) / ln2.toInt)) (BitVec.ofInt 32 ln2.toInt))) (BitVec.ofInt 32 qb.toInt)
      = BitVec.ofInt 32 (qb.toInt - (M.toInt - s.toInt) % ln2.toInt) := by
      rw [muli_ofInt, addi_ofInt, addi_ofInt]
      congr 1
      rw [mul_comm] at d; omega
    rwa [BitVec.ofInt_toInt, BitVec.ofInt_toInt] at this
  have e2 : IntOp.addi (IntOp.muli (BitVec.ofInt 32 (qb.toInt - (M.toInt - s.toInt) % ln2.toInt)) (BitVec.ofInt 32 (qb.toInt - (M.toInt - s.toInt) % ln2.toInt))) qc
      = BitVec.ofInt 32 (pZ ln2.toInt qb.toInt qc.toInt (M.toInt - s.toInt)) := by
    have : IntOp.addi (IntOp.muli (BitVec.ofInt 32 (qb.toInt - (M.toInt - s.toInt) % ln2.toInt)) (BitVec.ofInt 32 (qb.toInt - (M.toInt - s.toInt) % ln2.toInt))) (BitVec.ofInt 32 qc.toInt)
      = BitVec.ofInt 32 (pZ ln2.toInt qb.toInt qc.toInt (M.toInt - s.toInt)) := by
      rw [muli_ofInt, addi_ofInt]; rfl
    rwa [BitVec.ofInt_toInt] at this
  rw [e1, e2, toInt_ofInt (by omega) (by omega)]
  have e3 : IntOp.addi (BitVec.ofInt 32 ((M.toInt - s.toInt) / ln2.toInt)) r = BitVec.ofInt 32 ((M.toInt - s.toInt) / ln2.toInt + r.toInt) := by
    rw [← addi_ofInt, BitVec.ofInt_toInt]
  have t31 : (31#32 : BitVec 32).toInt = 31 := by decide
  have tz : (IntOp.minsi (IntOp.addi (BitVec.ofInt 32 ((M.toInt - s.toInt) / ln2.toInt)) r) 31#32).toInt = min ((M.toInt - s.toInt) / ln2.toInt + r.toInt) 31 := by
    rw [minsi_toInt, e3, toInt_ofInt (by omega) (by omega), t31]
  have hn := toNat_of_toInt (a := IntOp.minsi (IntOp.addi (BitVec.ofInt 32 ((M.toInt - s.toInt) / ln2.toInt)) r) 31#32) (by omega)
  have e4 : min (IntOp.minsi (IntOp.addi (BitVec.ofInt 32 ((M.toInt - s.toInt) / ln2.toInt)) r) 31#32).toNat 31 = min ((M.toInt - s.toInt) / ln2.toInt + r.toInt).toNat 31 := by
    omega
  rw [e4, pow_shift _ p0 (by omega)]
  rfl

/-- Halving an integer `q` times and rounding down. -/
theorem floor_exp2 (N q : ℤ) (hq : 0 ≤ q) : Ideal.liftRound Int.floor (rz N * Ideal.exp2 (rz (-q))) = rz (N / 2 ^ q.toNat) := by
  have e : Real.rpow 2 ((-q : ℤ) : ℝ) = ((2 ^ q.toNat : ℤ) : ℝ)⁻¹ := by
    show (2 : ℝ) ^ (((-q : ℤ) : ℝ)) = _
    have hc : ((-q : ℤ) : ℝ) = -((q.toNat : ℕ) : ℝ) := by
      have : (-q : ℤ) = -((q.toNat : ℕ) : ℤ) := by omega
      rw [this]; push_cast; rfl
    rw [hc, Real.rpow_neg (by norm_num), Real.rpow_natCast]
    push_cast; rfl
  have e2 : rz N * Ideal.exp2 (rz (-q)) = (((N : ℝ) / ((2 ^ q.toNat : ℤ) : ℝ) : ℝ) : EReal) := by
    show ((N : ℝ) : EReal) * ((Real.rpow 2 ((-q : ℤ) : ℝ) : ℝ) : EReal) = _
    rw [e, ← EReal.coe_mul, div_eq_mul_inv]
  rw [e2]
  show (((⌊(N : ℝ) / ((2 ^ q.toNat : ℤ) : ℝ)⌋ : ℤ) : ℝ) : EReal) = _
  rw [floor_div _ _ (by positivity)]
  rfl

/-- The kernel's quotient of a shifted score by its reciprocal, rounded up. -/
theorem ceil_quo (n : ℤ) (h0 : 0 ≤ n) (h1 : n ≤ 2097152) (iv : ℝ) (i1 : 1 / (ln2.toInt : ℝ) ≤ iv) (i2 : iv ≤ 1 / (ln2.toInt : ℝ) * (1 + 1 / 4194304)) :
    Ideal.liftRound Int.ceil (rz (-(n + r.toInt * ln2.toInt)) * (iv : EReal)) = rz (-(n / ln2.toInt + r.toInt)) := by
  have g1 := H.l1; have g2 := H.lb; have g3 := H.b; have g6 := H.r0; have g7 := H.r8
  have hL : (0 : ℝ) < (ln2.toInt : ℝ) := by exact_mod_cast (show (0 : ℤ) < ln2.toInt by omega)
  generalize ht : n + r.toInt * ln2.toInt = t
  have ht0 : 0 ≤ t := by rw [← ht]; nlinarith
  have ht1 : t < 4194304 := by rw [← ht]; nlinarith
  have hq : n / ln2.toInt + r.toInt = t / ln2.toInt := by rw [← ht, Int.add_mul_ediv_right _ _ (by omega)]
  rw [hq]
  have d : (t : ℝ) = (ln2.toInt : ℝ) * ((t / ln2.toInt : ℤ) : ℝ) + ((t % ln2.toInt : ℤ) : ℝ) := by exact_mod_cast (Int.mul_ediv_add_emod t ln2.toInt).symm
  have m0 : (0 : ℝ) ≤ ((t % ln2.toInt : ℤ) : ℝ) := by exact_mod_cast Int.emod_nonneg t (by omega)
  have m1 : ((t % ln2.toInt : ℤ) : ℝ) ≤ (ln2.toInt : ℝ) - 1 := by
    have := Int.emod_lt_of_pos t (show 0 < ln2.toInt by omega)
    exact_mod_cast (show t % ln2.toInt ≤ ln2.toInt - 1 by omega)
  have ht0' : (0 : ℝ) ≤ (t : ℝ) := by exact_mod_cast ht0
  have ht1' : (t : ℝ) < 4194304 := by exact_mod_cast ht1
  have e1 : rz (-t) * (iv : EReal) = ((-((t : ℝ) * iv) : ℝ) : EReal) := by
    unfold rz; rw [← EReal.coe_mul]; congr 1; push_cast; ring
  rw [e1]
  show (((⌈(-((t : ℝ) * iv) : ℝ)⌉ : ℤ) : ℝ) : EReal) = _
  have : ⌈(-((t : ℝ) * iv) : ℝ)⌉ = -(t / ln2.toInt) := by
    rw [Int.ceil_neg]
    congr 1
    rw [Int.floor_eq_iff]
    have a1 : (t : ℝ) * (1 / (ln2.toInt : ℝ)) ≤ (t : ℝ) * iv := mul_le_mul_of_nonneg_left i1 ht0'
    have a2 : (t : ℝ) * iv ≤ (t : ℝ) * (1 / (ln2.toInt : ℝ) * (1 + 1 / 4194304)) := mul_le_mul_of_nonneg_left i2 ht0'
    constructor
    · refine le_trans ?_ a1
      rw [mul_one_div, le_div_iff₀ hL]; nlinarith
    · refine lt_of_le_of_lt a2 ?_
      have : (t : ℝ) * (1 / (ln2.toInt : ℝ) * (1 + 1 / 4194304)) = ((t : ℝ) * (1 + 1 / 4194304)) / (ln2.toInt : ℝ) := by ring
      rw [this, div_lt_iff₀ hL]
      nlinarith
  rw [this]
  rfl

/-- The kernel's exponential. -/
theorem exp_fast (n : ℤ) (h0 : 0 ≤ n) (h1 : n ≤ 2097152) (iv : ℝ) (i1 : 1 / (ln2.toInt : ℝ) ≤ iv) (i2 : iv ≤ 1 / (ln2.toInt : ℝ) * (1 + 1 / 4194304))
    (u zc x : EReal) (hu : u = rz (-(n + r.toInt * ln2.toInt))) (hz : zc = Ideal.liftRound Int.ceil (u * (iv : EReal))) (hx : x = u - zc * sf ln2 + sf qb) :
    Ideal.liftRound Int.floor ((x * x + sf qc) * Ideal.exp2 zc) = rz (eZ ln2.toInt qb.toInt qc.toInt r.toInt n) := by
  have g1 := H.l1; have g6 := H.r0
  have q0 : 0 ≤ n / ln2.toInt := Int.ediv_nonneg h0 (by omega)
  have ez : zc = rz (-(n / ln2.toInt + r.toInt)) := by rw [hz, hu, ceil_quo H n h0 h1 iv i1 i2]
  have exx : x = rz (qb.toInt - n % ln2.toInt) := by
    rw [hx, ez, hu, sf_eq, sf_eq, rz_mul, rz_sub, rz_add]
    congr 1
    have := Int.mul_ediv_add_emod n ln2.toInt
    nlinarith
  rw [exx, ez, sf_eq, rz_mul, rz_add, floor_exp2 H _ _ (by omega)]
  rfl

end head

/-! ## The sums -/

/-- The row's sum, and that it holds every entry. -/
theorem sum_toInt (E : Fin 896 → BitVec 32) (hE : ∀ j, 0 ≤ (E j).toInt ∧ (E j).toInt < 65536) :
    (tot E).toInt = ∑ j, (E j).toInt ∧ (∀ j, (E j).toInt ≤ (tot E).toInt) ∧ (tot E).toInt < 67108864 := by
  rw [tot_eq]
  have hs : (∑ j, (E j).toInt) ≤ ∑ _j : Fin 896, (65535 : ℤ) := Finset.sum_le_sum fun j _ => by have := hE j; omega
  have hs' : (∑ _j : Fin 896, (65535 : ℤ)) = 58719360 := by simp
  have hn : (0 : ℤ) ≤ ∑ j, (E j).toInt := Finset.sum_nonneg fun j _ => (hE j).1
  have e : ∑ j, E j = BitVec.ofInt 32 (∑ j, (E j).toInt) := by
    have : ∀ s : Finset (Fin 896), ∑ j ∈ s, E j = BitVec.ofInt 32 (∑ j ∈ s, (E j).toInt) := fun s => by
      classical
      induction s using Finset.induction_on with
      | empty => rfl
      | insert a s ha ih => rw [Finset.sum_insert ha, Finset.sum_insert ha, BitVec.ofInt_add, ih, BitVec.ofInt_toInt]
    exact this _
  have et : (∑ j, E j).toInt = ∑ j, (E j).toInt := by rw [e, toInt_ofInt (by omega) (by omega)]
  refine ⟨et, fun j => ?_, by omega⟩
  rw [et]
  exact Finset.single_le_sum (f := fun j => (E j).toInt) (fun j _ => (hE j).1) (Finset.mem_univ j)

/-- A sum of words in range, taken on reals and converted. -/
theorem fptosi_sum {n : ℕ} (hn : n ≤ 896) (E : Fin n → BitVec 32) (hE : ∀ j, 0 ≤ (E j).toInt ∧ (E j).toInt < 65536) :
    Ideal.fptosi 32 (∑ j, sf (E j)) = ∑ j, E j := by
  have hs : (∑ j, (E j).toInt) ≤ ∑ _j : Fin n, (65535 : ℤ) := Finset.sum_le_sum fun j _ => by have := hE j; omega
  have hs' : (∑ _j : Fin n, (65535 : ℤ)) = n * 65535 := by simp
  have h0 : (0 : ℤ) ≤ ∑ j, (E j).toInt := Finset.sum_nonneg fun j _ => (hE j).1
  have e : (∑ j, sf (E j)) = rz (∑ j, (E j).toInt) := rz_sum _ _
  rw [e, fptosi_rz (by omega) (by omega)]
  have : ∀ s : Finset (Fin n), BitVec.ofInt 32 (∑ j ∈ s, (E j).toInt) = ∑ j ∈ s, E j := fun s => by
    classical
    induction s using Finset.induction_on with
    | empty => rfl
    | insert a s ha ih => rw [Finset.sum_insert ha, Finset.sum_insert ha, BitVec.ofInt_add, ih, BitVec.ofInt_toInt]
  exact this _

end Cert.Proof.Spec

end
-- ==== Proof.Recip.lean ====
/-
  The kernel's reciprocal: at most a factor 1 + 2^-22 above the exact one.
-/
module

public import proofs.«01_k».proof.Proof.FastMath
public import proofs.«01_k».proof.Proof.KerCols

@[expose] public section

noncomputable section

namespace Cert.Proof.KernelIdeal

open Idealize.ShloMosaic
open Cert.Proof.Spec

/-- A gap small against the reciprocal. -/
def Near (y : ℝ) (z : EReal) : Prop := ∃ g : ℝ, z = (g : EReal) ∧ 0 ≤ g ∧ g ≤ y * (1 / 4194304)

theorem near_step {y : ℝ} (p g : BitVec 32) (P : ℝ) (hp : Ideal.ofBits .f32 p = ((P : ℝ) : EReal)) (hg : Ideal.ofBits .f32 g = (((P * (1 / 4194304)) : ℝ) : EReal))
    (h0 : 0 ≤ P) {z : EReal} (hz : Near y z) : Near y (gapStep (y : EReal) p g z) := by
  unfold gapStep
  split
  · rename_i h
    rw [hp] at h
    have h : P ≤ y := by exact_mod_cast h
    exact ⟨P * (1 / 4194304), hg, by positivity, by nlinarith⟩
  · exact hz

/-- The value of a pattern with no sign and no fraction. -/
theorem pow_bits (b : BitVec 32) (e : ℕ) (h : b = BitVec.ofNat 32 (e * 8388608)) (h1 : 1 ≤ e) (h2 : e < 255) : Ideal.ofBits .f32 b = (((2 : ℝ) ^ ((e : ℤ) - 127) : ℝ) : EReal) := by
  subst h
  have hn : (BitVec.ofNat 32 (e * 8388608)).toNat = e * 8388608 := by
    rw [BitVec.toNat_ofNat]; exact Nat.mod_eq_of_lt (by omega)
  have x1 : ((BitVec.ofNat 32 (e * 8388608)).extractLsb' (8 + 23) 1 == 1#1) = false := by
    rw [beq_eq_false_iff_ne]
    intro h
    have := congrArg BitVec.toNat h
    rw [BitVec.extractLsb'_toNat, hn, Nat.shiftRight_eq_div_pow] at this
    rw [Nat.div_eq_of_lt (by omega)] at this
    exact absurd this (by decide)
  have x2 : ((BitVec.ofNat 32 (e * 8388608)).extractLsb' 23 8).toNat = e := by
    rw [BitVec.extractLsb'_toNat, hn, Nat.shiftRight_eq_div_pow]
    omega
  have x3 : ((BitVec.ofNat 32 (e * 8388608)).extractLsb' 0 23).toNat = 0 := by
    rw [BitVec.extractLsb'_toNat, hn, Nat.shiftRight_eq_div_pow]
    omega
  show Ideal.ieee 8 23 _ = _
  unfold Ideal.ieee
  simp only [x1, x2, x3]
  rw [if_neg (by omega), if_neg (by omega)]
  congr 1
  have : ((e : ℤ) - 127) = ((e : ℤ) - (2 ^ (8 - 1) - 1) - (23 : ℕ)) + 23 := by push_cast; ring
  rw [this, zpow_add₀ (by norm_num)]
  norm_num
  ring

theorem near_pow {y : ℝ} (p g : BitVec 32) (e : ℕ) (hp : p = BitVec.ofNat 32 (e * 8388608)) (hg : g = BitVec.ofNat 32 ((e - 22) * 8388608)) (h1 : 23 ≤ e) (h2 : e < 255)
    {z : EReal} (hz : Near y z) : Near y (gapStep (y : EReal) p g z) := by
  refine near_step p g ((2 : ℝ) ^ ((e : ℤ) - 127)) (pow_bits p e hp (by omega) h2) ?_ (by positivity) hz
  rw [pow_bits g (e - 22) hg (by omega) (by omega)]
  congr 1
  have : (((e - 22 : ℕ) : ℤ) - 127) = ((e : ℤ) - 127) + (-22) := by omega
  rw [this, zpow_add₀ (by norm_num)]
  congr 1
  norm_num

theorem gap_near (y : ℝ) (hy : 0 ≤ y) : Near y (gap (y : EReal)) := by
  unfold gap
  refine near_pow _ _ 127 (by decide) (by decide) (by omega) (by omega) ?_
  refine near_pow _ _ 126 (by decide) (by decide) (by omega) (by omega) ?_
  refine near_pow _ _ 125 (by decide) (by decide) (by omega) (by omega) ?_
  refine near_pow _ _ 124 (by decide) (by decide) (by omega) (by omega) ?_
  refine near_pow _ _ 123 (by decide) (by decide) (by omega) (by omega) ?_
  refine near_pow _ _ 122 (by decide) (by decide) (by omega) (by omega) ?_
  refine near_pow _ _ 121 (by decide) (by decide) (by omega) (by omega) ?_
  refine near_pow _ _ 120 (by decide) (by decide) (by omega) (by omega) ?_
  refine near_pow _ _ 119 (by decide) (by decide) (by omega) (by omega) ?_
  refine near_pow _ _ 118 (by decide) (by decide) (by omega) (by omega) ?_
  refine near_pow _ _ 117 (by decide) (by decide) (by omega) (by omega) ?_
  refine near_pow _ _ 116 (by decide) (by decide) (by omega) (by omega) ?_
  refine near_pow _ _ 115 (by decide) (by decide) (by omega) (by omega) ?_
  refine ⟨0, ?_, le_rfl, by positivity⟩
  show Ideal.ofBits .f32 0#32 = _
  simp [Ideal.ofBits, Ideal.ieee]

/-- The reciprocal's bounds. -/
theorem invK_spec (ln2 : BitVec 32) (h : 1 ≤ ln2.toInt) : ∃ iv : ℝ, invK ln2 = (iv : EReal) ∧ 1 / (ln2.toInt : ℝ) ≤ iv ∧ iv ≤ 1 / (ln2.toInt : ℝ) * (1 + 1 / 4194304) := by
  have hL : (0 : ℝ) < (ln2.toInt : ℝ) := by exact_mod_cast (show (0 : ℤ) < ln2.toInt by omega)
  have one : (FloatOps.ofBits (F := Ideal) .f32 0x3F800000#32 : EReal) = rz 1 := by
    refine (pow_bits 0x3F800000#32 127 (by decide) (by omega) (by omega)).trans ?_
    simp [rz]
  have e : Ideal.div (FloatOps.ofBits (F := Ideal) .f32 0x3F800000#32) (sf ln2) = ((1 / (ln2.toInt : ℝ) : ℝ) : EReal) := by
    rw [one, sf_eq, div_rz _ _ (by omega)]; norm_num
  obtain ⟨g, hg, g0, g1⟩ := gap_near (1 / (ln2.toInt : ℝ)) (by positivity)
  refine ⟨1 / (ln2.toInt : ℝ) + g, ?_, by linarith, by linarith⟩
  unfold invK
  rw [e, hg, EReal.coe_add]

end Cert.Proof.KernelIdeal

end
-- ==== Proof.FastScore.lean ====
/-
  A tile of the fast branch: the shifted scores, read at one place.
-/
module

public import proofs.«01_k».proof.Proof.SlowVal
public import proofs.«01_k».proof.Proof.Recip

@[expose] public section

set_option maxRecDepth 16384

noncomputable section

namespace Cert.Proof.KernelIdeal

open Cert.KernelIdeal Cert.KernelIdeal.Gen
open Idealize.ShloMosaic Idealize.ShloMosaic.TcCoe
open Idealize.SL.Sem
open Cert.Proof.Spec
open VecWindow (window put)

variable {w st : ℕ} (T : TileOk w st)

theorem scores_at (x : Vec Ideal S896x128 .bf16) (y : Vec Ideal (SQ w) .bf16) (j : Fin 896) (i : Fin w) :
    (scores T x y (ix2 j i) : EReal) = ∑ d : Fin 128, (x (ix2 j d) : EReal) * (y (ix2 d i) : EReal) := by
  unfold scores dKQ
  pointwise []
  refine Finset.sum_congr rfl fun d _ => congrArg (fun z => (x (ix2 j d) : EReal) * z) (congrArg y (funext fun a => Fin.ext ?_))
  match a with
  | ⟨0, _⟩ => rfl
  | ⟨1, _⟩ => rfl

theorem outs_at (x : Vec Ideal S64x896 .bf16) (y : Vec Ideal (SA w) .bf16) (d : Fin 64) (i : Fin w) :
    (outs T x y (ix2 d i) : EReal) = ∑ j : Fin 896, (x (ix2 d j) : EReal) * (y (ix2 j i) : EReal) := by
  unfold outs dVP
  pointwise []
  refine Finset.sum_congr rfl fun j _ => congrArg (fun z => (x (ix2 d j) : EReal) * z) (congrArg y (funext fun a => Fin.ext ?_))
  match a with
  | ⟨0, _⟩ => rfl
  | ⟨1, _⟩ => rfl

theorem maxFold_zero (s : FVec Ideal (SA w) .f32) (h : 0 < 112) (a : Fin 8) (i : Fin w) : (maxFold T s 0 h (ix2 a i) : EReal) = s (ix2 ⟨8 * 0 + a.val, by omega⟩ i) := by
  unfold maxFold
  refine congrArg s (funext fun b => Fin.ext ?_)
  match b with
  | ⟨0, _⟩ => show 8 * 0 + a.val = 8 * 0 + a.val; rfl
  | ⟨1, _⟩ => show 0 + i.val = i.val; omega

theorem maxFold_succ (s : FVec Ideal (SA w) .f32) (n : ℕ) (h : n + 1 < 112) (a : Fin 8) (i : Fin w) :
    (maxFold T s (n + 1) h (ix2 a i) : EReal) = max (maxFold T s n (Nat.lt_of_succ_lt h) (ix2 a i) : EReal) (s (ix2 ⟨8 * (n + 1) + a.val, by omega⟩ i)) := by
  conv_lhs => unfold maxFold
  refine congrArg (max (maxFold T s n (Nat.lt_of_succ_lt h) (ix2 a i) : EReal)) (congrArg s (funext fun b => Fin.ext ?_))
  match b with
  | ⟨0, _⟩ => show 8 * (n + 1) + a.val = 8 * (n + 1) + a.val; rfl
  | ⟨1, _⟩ => show 0 + i.val = i.val; omega

theorem maxFold_spec (s : FVec Ideal (SA w) .f32) (a : Fin 8) (i : Fin w) : ∀ (n : ℕ) (h : n < 112),
    (∀ k (hk : k ≤ n), (s (ix2 ⟨8 * k + a.val, by omega⟩ i) : EReal) ≤ maxFold T s n h (ix2 a i)) ∧ ∃ j : Fin 896, (maxFold T s n h (ix2 a i) : EReal) = s (ix2 j i)
  | 0, h => ⟨fun k hk => by
      obtain rfl : k = 0 := by omega
      exact le_of_eq (maxFold_zero T s h a i).symm, _, maxFold_zero T s h a i⟩
  | n + 1, h => by
    obtain ⟨h1, j, h2⟩ := maxFold_spec s a i n (Nat.lt_of_succ_lt h)
    rw [maxFold_succ]
    refine ⟨fun k hk => ?_, ?_⟩
    · by_cases e : k = n + 1
      · subst e; exact le_max_right _ _
      · exact (h1 k (by omega)).trans (le_max_left _ _)
    · rcases max_choice (maxFold T s n (Nat.lt_of_succ_lt h) (ix2 a i) : EReal) (s (ix2 ⟨8 * (n + 1) + a.val, by omega⟩ i)) with e | e
      · exact ⟨j, e.trans h2⟩
      · exact ⟨_, e⟩

/-- A vector as a row. -/
theorem cast_row {α : Type} (x : (SV w).Idx → α) (h : (SV w).ShapeCasts (S1 w)) (i : Fin w) : shapeCast (S1 w) x h (ix2 0 i) = x (ix1 i) := by
  refine congrArg x (Shape.reshapeEquiv_eq_of_vals _ _ _ _ _ (rowMajor_val1 _) (rowMajor_val2 _ w rfl) ?_)
  show i.val = 0 * w + i.val
  omega

theorem betaV_at (s : FVec Ideal (SA w) .f32) (bias : EReal) (i : Fin w) (S : Fin 896 → BitVec 32) (hs : ∀ j, (s (ix2 j i) : EReal) = sf (S j)) :
    (betaV T s bias (ix2 0 i) : EReal) = rz 0 - (sf (top S) + bias) := by
  have hm : ((shapeCast (S1 w) (multiReduction .maximumf [0] (SV w) (maxFold T s 111 (by omega)) 0xFF800000#32 T.red (.inl rfl) rfl) T.castV : FVec Ideal (S1 w) .f32) (ix2 0 i) : EReal) = sf (top S) := by
    have hf := fun a i => maxFold_spec T s a i 111 (by omega)
    generalize maxFold T s 111 (by omega) = f at hf ⊢
    rw [cast_row]
    pointwise []
    obtain ⟨h1, a, h2⟩ := fold_max_spec (n := 7) fun x : Fin 8 => (f (ix2 x i) : EReal)
    refine top_unique S _ (fun j => ?_) ?_
    · rw [← hs]
      refine le_trans ?_ (h1 ⟨j.val % 8, by omega⟩)
      refine le_trans (le_of_eq ?_) ((hf ⟨j.val % 8, by omega⟩ i).1 (j.val / 8) (by omega))
      exact congrArg (fun z => (s (ix2 z i) : EReal)) (Fin.ext (by show j.val = 8 * (j.val / 8) + j.val % 8; omega))
    · obtain ⟨j, hj⟩ := (hf a i).2
      rw [h2]
      exact ⟨j, hj.trans (hs j)⟩
  unfold betaV
  show (Ideal.ofBits .f32 0x00000000#32 : EReal) - (_ + bias) = _
  rw [hm]
  congr 1
  simp [Ideal.ofBits, Ideal.ieee, rz]

/-- The rows of the shift: the first holds it, the others nothing. -/
theorem biasRows_at (beta : FVec Ideal (S1 w) .f32) (a : Fin 16) (i : Fin w) (n : ℤ) (hb : (beta (ix2 0 i) : EReal) = rz n) :
    (biasRows T beta (ix2 a i) : EReal) = if a.val = 0 then rz n else rz 0 := by
  unfold biasRows
  pointwise []
  generalize hI : beta (Shape.Idx.norm _) = z
  have hz : z = rz n := by
    rw [← hI, ← hb]
    refine congrArg beta (funext fun b => Fin.ext ?_)
    match b with
    | ⟨0, _⟩ => rfl
    | ⟨1, _⟩ =>
      show (if h : w = 1 then (⟨0, _⟩ : Fin w) else ⟨i.val, _⟩).val = i.val
      split
      · have := i.isLt; show 0 = i.val; omega
      · rfl
  subst hz
  have ha := a.isLt
  have hn : ∀ k : ℕ, k < 16 → (IntOp.cmpi CmpIPredicate.eq (BitVec.ofNat 32 a.val) (BitVec.ofNat 32 k) = 1#1 ↔ a.val = k) := fun k hk => by
    rw [eq_iff]
    constructor
    · intro e
      have := congrArg BitVec.toNat e
      rw [BitVec.toNat_ofNat, BitVec.toNat_ofNat] at this
      omega
    · intro e; rw [e]
  have z1 : rz n - rz n = rz 0 := by rw [rz_sub, sub_self]
  have z2 : rz 0 - rz 0 = rz 0 := by rw [rz_sub, sub_self]
  rw [z1, z2]
  by_cases h0 : a.val = 0
  · rw [if_pos h0, (hn 0 (by omega)).2 h0]; rfl
  · rw [if_neg h0, bit_zero fun e => h0 ((hn 0 (by omega)).1 e)]
    show Scalar.select _ (rz 0) (Scalar.select _ (rz 0) 0) = rz 0
    rw [rz_zero]
    unfold Scalar.select
    rw [ite_self, ite_self]

/-- A query's shifted score: minus the distance to the top and the scaling shift. -/
theorem tS_at (k q : Vec Ideal S1x1x64x896 .i8) (bias : EReal) (B : ℤ) (hB : bias = rz B) (j : Fin 896) (i : Fin w) (n : Fin 896) (hn : n.val = st + i.val) :
    (tS (F := Ideal) T (kaugV k) (window (s := S128x896) (qaugV q) ![0, st] (SQ w).size T.inbQ) bias (ix2 j i) : EReal)
      = rz ((row k q n j).toInt - (top (row k q n)).toInt - B) := by
  have hw : ∀ d : Fin 128, (window (s := S128x896) (qaugV (F := Ideal) q) ![0, st] (SQ w).size T.inbQ (ix2 d i) : EReal) = if h : d.val < 64 then sf (colB q n ⟨d.val, h⟩) else 0 := fun d => by
    have e : window (s := S128x896) (qaugV (F := Ideal) q) ![0, st] (SQ w).size T.inbQ (ix2 d i) = qaugV (F := Ideal) q (ix2 d n) := by
      refine congrArg (qaugV (F := Ideal) q) (funext fun a => Fin.ext ?_)
      match a with
      | ⟨0, _⟩ => show 0 + 1 * d.val = d.val; omega
      | ⟨1, _⟩ => show st + 1 * i.val = n.val; omega
    rw [e]
    by_cases h : d.val < 64
    · rw [dif_pos h]; exact qaugV_lo q d n h
    · rw [dif_neg h]; exact qaugV_hi q d n (by omega)
  generalize hx : window (s := S128x896) (qaugV (F := Ideal) q) ![0, st] (SQ w).size T.inbQ = x at *
  have split128 : ∀ f : Fin 128 → EReal, ∑ d, f d = (∑ d : Fin 64, f ⟨d.val, by omega⟩) + ∑ d : Fin 64, f ⟨64 + d.val, by omega⟩ := fun f => by
    exact Fin.sum_univ_add (a := 64) (b := 64) f
  have s0 : ∀ j, (scores T (kaugV (F := Ideal) k) x (ix2 j i) : EReal) = sf (row k q n j) := fun j => by
    rw [scores_at, split128]
    have e2 : (∑ d : Fin 64, (kaugV (F := Ideal) k (ix2 j ⟨64 + d.val, by omega⟩) : EReal) * (x (ix2 ⟨64 + d.val, by omega⟩ i) : EReal)) = 0 := by
      refine Finset.sum_eq_zero fun d _ => ?_
      rw [hw, dif_neg (by show ¬ 64 + d.val < 64; omega), mul_zero]
    rw [e2, add_zero]
    unfold row
    rw [sf_score]
    refine Finset.sum_congr rfl fun d _ => ?_
    rw [hw, dif_pos (show (⟨d.val, by omega⟩ : Fin 128).val < 64 from d.isLt), kaugV_lo k j ⟨d.val, by omega⟩ d.isLt]
  have hb : (betaV T (scores T (kaugV (F := Ideal) k) x) bias (ix2 0 i) : EReal) = rz (-((top (row k q n)).toInt + B)) := by
    rw [betaV_at T _ bias i (row k q n) s0, hB, sf_eq, rz_add, rz_sub]
    congr 1; omega
  unfold tS
  rw [scores_at, split128]
  have hlo : ∀ d : Fin 64, (tQ T (kaugV (F := Ideal) k) x bias (ix2 ⟨d.val, by omega⟩ i) : EReal) = sf (colB q n d) := fun d => by
    unfold tQ put
    rw [dif_neg (fun hh => by have := (hh 0).1; have h2 : (64 : ℕ) ≤ d.val := this; have := d.isLt; omega)]
    rw [hw, dif_pos (show (⟨d.val, by omega⟩ : Fin 128).val < 64 from d.isLt)]
  have hhi : ∀ d : Fin 64, (tQ T (kaugV (F := Ideal) k) x bias (ix2 ⟨64 + d.val, by omega⟩ i) : EReal) = if d.val = 0 then rz (-((top (row k q n)).toInt + B)) else rz 0 := fun d => by
    have hbr := fun a => biasRows_at T _ a i _ hb
    unfold tQ
    generalize biasRows T (betaV T (scores T (kaugV (F := Ideal) k) x) bias) = R at hbr
    unfold put
    by_cases h : d.val < 16
    · have hh : ∀ a, (![64, 0] : Fin 2 → ℕ) a ≤ ((ix2 (⟨64 + d.val, by omega⟩ : Fin 128) i : (SQ w).Idx) a).val ∧ ((ix2 (⟨64 + d.val, by omega⟩ : Fin 128) i : (SQ w).Idx) a).val < (![64, 0] : Fin 2 → ℕ) a + (SR w).size a := fun a => by
        match a with
        | ⟨0, _⟩ => exact ⟨by show 64 ≤ 64 + d.val; omega, by show 64 + d.val < 64 + 16; omega⟩
        | ⟨1, _⟩ => exact ⟨Nat.zero_le _, by show i.val < 0 + w; have := i.isLt; omega⟩
      rw [dif_pos hh]
      refine Eq.trans (congrArg R (funext fun a => Fin.ext ?_)) (hbr ⟨d.val, h⟩)
      match a with
      | ⟨0, _⟩ => show 64 + d.val - 64 = d.val; omega
      | ⟨1, _⟩ => show i.val - 0 = i.val; omega
    · rw [dif_neg (fun hh => by have := (hh 0).2; have h2 : 64 + d.val < 64 + 16 := this; omega), hw, dif_neg (by show ¬ 64 + d.val < 64; omega), if_neg (by omega), rz_zero]
  have e1 : (∑ d : Fin 64, (kaugV (F := Ideal) k (ix2 j ⟨d.val, by omega⟩) : EReal) * (tQ T (kaugV (F := Ideal) k) x bias (ix2 ⟨d.val, by omega⟩ i) : EReal)) = sf (row k q n j) := by
    unfold row
    rw [sf_score]
    refine Finset.sum_congr rfl fun d _ => ?_
    rw [hlo, kaugV_lo k j ⟨d.val, by omega⟩ d.isLt]
  have e2 : (∑ d : Fin 64, (kaugV (F := Ideal) k (ix2 j ⟨64 + d.val, by omega⟩) : EReal) * (tQ T (kaugV (F := Ideal) k) x bias (ix2 ⟨64 + d.val, by omega⟩ i) : EReal)) = rz (-((top (row k q n)).toInt + B)) := by
    rw [Finset.sum_eq_single (0 : Fin 64)]
    · rw [hhi, if_pos (show ((0 : Fin 64) : ℕ) = 0 from rfl), kaugV_hi k j _ (by show 64 ≤ 64 + 0; omega), if_pos (by show 64 + 0 < 67; omega), one_mul]
    · intro d _ hd
      rw [hhi, if_neg (show ¬ d.val = 0 from fun e => hd (Fin.ext e)), rz_zero, mul_zero]
    · intro h; exact absurd (Finset.mem_univ _) h
  rw [e1, e2, sf_eq, rz_add]
  congr 1; omega

end Cert.Proof.KernelIdeal
end
-- ==== Proof.FastVal.lean ====
/-
  A tile of the fast branch: the row sums, the probabilities and the outputs, read at one place: the reference's row.
-/
module

public import proofs.«01_k».proof.Proof.FastScore
public import proofs.«01_k».proof.Proof.MaskRead

@[expose] public section

set_option maxRecDepth 16384

noncomputable section

namespace Cert.Proof.KernelIdeal

open Cert.KernelIdeal Cert.KernelIdeal.Gen
open Idealize.ShloMosaic Idealize.ShloMosaic.TcCoe
open Idealize.SL.Sem
open Cert.Proof.Spec
open VecWindow (window put)

/-! ## One probability -/

theorem muli_toInt (a b : BitVec 32) (h1 : -2 ^ 31 ≤ a.toInt * b.toInt) (h2 : a.toInt * b.toInt < 2 ^ 31) : (IntOp.muli a b).toInt = a.toInt * b.toInt := by
  have : IntOp.muli a b = BitVec.ofInt 32 (a.toInt * b.toInt) := by rw [← muli_ofInt, BitVec.ofInt_toInt, BitVec.ofInt_toInt]
  rw [this, toInt_ofInt h1 h2]

/-- The reference's probability, where the entry is at most the sum. -/
theorem sf_prob (e t : BitVec 32) (e0 : 0 ≤ e.toInt) (e1 : e.toInt < 65536) (t1 : 1 ≤ t.toInt) (et : e.toInt ≤ t.toInt) : sf (prob e t) = rz (e.toInt * 255 / t.toInt) := by
  have c : (255#32 : BitVec 32).toInt = 255 := by decide
  have hm : (IntOp.muli e 255#32).toInt = e.toInt * 255 := by rw [muli_toInt _ _ (by rw [c]; omega) (by rw [c]; omega), c]
  have hq := fdiv_toInt (IntOp.muli e 255#32) t (by omega) (by omega)
  rw [hm] at hq
  have q0 : 0 ≤ e.toInt * 255 / t.toInt := Int.ediv_nonneg (by omega) (by omega)
  have q1 : e.toInt * 255 / t.toInt < 256 := by
    rw [Int.ediv_lt_iff_lt_mul (by omega)]; nlinarith
  rw [sf_eq]
  congr 1
  unfold prob
  generalize fdiv (IntOp.muli e 255#32) t = q at *
  have hn := toNat_of_toInt (a := q) (by omega)
  have : (q.setWidth 8).setWidth 32 = q := by
    refine BitVec.eq_of_toNat_eq ?_
    rw [BitVec.toNat_setWidth, BitVec.toNat_setWidth]
    omega
  rw [this, hq]

/-- The floor the kernel takes is the quotient, off the multiples. -/
theorem floor_prob (x t : ℤ) (x0 : 0 ≤ x) (x1 : x < 134217728) (t1 : 1 ≤ t) (h : x = 0 ∨ x ≠ x / t * t) :
    ⌊(x : ℝ) * (1 / (t : ℝ)) * (1 - 1 / 134217728)⌋ = x / t := by
  rcases h with h | h
  · subst h; simp
  · have ht : (0 : ℝ) < (t : ℝ) := by exact_mod_cast (show (0 : ℤ) < t by omega)
    have d := Int.mul_ediv_add_emod x t
    have m1 := Int.emod_lt_of_pos x (show 0 < t by omega)
    have m0 := Int.emod_nonneg x (show t ≠ 0 by omega)
    have m2 : 1 ≤ x % t := by
      rcases eq_or_lt_of_le m0 with hz | hz
      · exfalso; apply h; rw [← hz] at d; rw [mul_comm]; omega
      · omega
    have d' : (x : ℝ) = (t : ℝ) * ((x / t : ℤ) : ℝ) + ((x % t : ℤ) : ℝ) := by exact_mod_cast d.symm
    have m1' : ((x % t : ℤ) : ℝ) < (t : ℝ) := by exact_mod_cast m1
    have m2' : (1 : ℝ) ≤ ((x % t : ℤ) : ℝ) := by exact_mod_cast m2
    have x0' : (0 : ℝ) ≤ (x : ℝ) := by exact_mod_cast x0
    have x1' : (x : ℝ) < 134217728 := by exact_mod_cast x1
    have e : (x : ℝ) * (1 / (t : ℝ)) * (1 - 1 / 134217728) = ((x : ℝ) - (x : ℝ) * (1 / 134217728)) / (t : ℝ) := by ring
    rw [e, Int.floor_eq_iff]
    constructor
    · rw [le_div_iff₀ ht]; nlinarith
    · rw [div_lt_iff₀ ht]; nlinarith

/-- The leading part. -/
def hiS (t : BitVec 32) : EReal := Ideal.ofBits .f32 0x437F0000#32 * Ideal.div (Ideal.ofBits .f32 0x3F800000#32) (sf t)
/-- The high half of the sum. -/
def rhiS (t : BitVec 32) : BitVec 32 := IntOp.shli .vector (IntOp.shrsi .vector t 12#32) 12#32
/-- The remaining part. -/
def loS (t : BitVec 32) : EReal :=
  (Ideal.ofBits .f32 0x437F0000#32 - sf (rhiS t) * hiS t - sf (IntOp.subi t (rhiS t)) * hiS t) * Ideal.div (Ideal.ofBits .f32 0x3F800000#32) (sf t)
    - hiS t * Ideal.ofBits .f32 0x32000000#32

theorem rhiS_bounds (t : BitVec 32) (h : 0 ≤ t.toInt) : 0 ≤ (rhiS t).toInt ∧ (rhiS t).toInt ≤ t.toInt := by
  have hs : (IntOp.shrsi .vector t 12#32).toInt = t.toInt / 4096 := by
    rw [shr_toInt]; rfl
  have ht := hi_toInt (x := t) (w := 32)
  have e : rhiS t = BitVec.ofInt 32 (t.toInt / 4096 * 4096) := by
    unfold rhiS IntOp.shli
    rw [if_pos (by decide)]
    show IntOp.shrsi .vector t 12#32 <<< (12#32 : BitVec 32) = _
    have h12 : ∀ z : BitVec 32, z <<< (12#32 : BitVec 32) = IntOp.muli z 4096#32 := fun z => by
      refine BitVec.eq_of_toNat_eq ?_
      show (z <<< (12 : ℕ)).toNat = (z * 4096#32).toNat
      rw [BitVec.toNat_shiftLeft, BitVec.toNat_mul, Nat.shiftLeft_eq]
      rfl
    have c : (4096#32 : BitVec 32).toInt = 4096 := by decide
    rw [h12, ← hs, ← c, ← muli_ofInt, BitVec.ofInt_toInt, BitVec.ofInt_toInt]
  have hn : (rhiS t).toInt = t.toInt / 4096 * 4096 := by rw [e, toInt_ofInt (by omega) (by omega)]
  omega

/-- The kernel's probability of an entry. -/
theorem prob_fast (e t : BitVec 32) (e0 : 0 ≤ e.toInt) (e1 : e.toInt < 65536) (t1 : 1 ≤ t.toInt) (et : e.toInt ≤ t.toInt) (hc : Mask.cellBit e t = 1#1) :
    Ideal.liftRound Int.floor (sf e * hiS t + sf e * loS t) = sf (prob e t) := by
  have c : (255#32 : BitVec 32).toInt = 255 := by decide
  have ht2 := hi_toInt (x := t) (w := 32)
  have ht : (0 : ℝ) < (t.toInt : ℝ) := by exact_mod_cast (show (0 : ℤ) < t.toInt by omega)
  have one : (Ideal.ofBits .f32 0x3F800000#32 : EReal) = rz 1 := by
    refine (pow_bits 0x3F800000#32 127 (by decide) (by omega) (by omega)).trans ?_
    simp [rz]
  have eps : (Ideal.ofBits .f32 0x32000000#32 : EReal) = ((1 / 134217728 : ℝ) : EReal) := by
    refine (pow_bits 0x32000000#32 100 (by decide) (by omega) (by omega)).trans ?_
    congr 1; norm_num
  have c255 : (Ideal.ofBits .f32 0x437F0000#32 : EReal) = rz 255 := by
    have e : (Ideal.ofBits .f32 0x437F0000#32 : EReal) = (((16711680 : ℕ) * (1 / 65536) : ℝ) : EReal) := by
      simp [Ideal.ofBits, Ideal.ieee]; norm_num
    rw [e]; unfold rz; norm_num
  have hinv : Ideal.div (Ideal.ofBits .f32 0x3F800000#32) (sf t) = ((1 / (t.toInt : ℝ) : ℝ) : EReal) := by
    rw [one, sf_eq, div_rz _ _ (by omega)]; norm_num
  have hhi : hiS t = ((255 * (1 / (t.toInt : ℝ)) : ℝ) : EReal) := by
    unfold hiS
    rw [hinv, c255]
    unfold rz
    rw [← EReal.coe_mul]; norm_num
  obtain ⟨r0, r1⟩ := rhiS_bounds t (by omega)
  have hlo : loS t = ((-(255 * (1 / (t.toInt : ℝ)) * (1 / 134217728)) : ℝ) : EReal) := by
    unfold loS
    have es : sf (IntOp.subi t (rhiS t)) = rz (t.toInt - (rhiS t).toInt) := by
      rw [← sf_sub t (rhiS t) (by omega) (by omega), sf_eq, sf_eq, rz_sub]
    rw [es, hhi, hinv, c255, eps, sf_eq]
    unfold rz
    rw [← EReal.coe_mul, ← EReal.coe_mul, ← EReal.coe_sub, ← EReal.coe_sub, ← EReal.coe_mul, ← EReal.coe_mul, ← EReal.coe_sub]
    congr 1
    push_cast
    field_simp
    ring
  have hx : sf e * hiS t + sf e * loS t = ((((e.toInt * 255 : ℤ) : ℝ) * (1 / (t.toInt : ℝ)) * (1 - 1 / 134217728) : ℝ) : EReal) := by
    rw [hhi, hlo, sf_eq]
    unfold rz
    rw [← EReal.coe_mul, ← EReal.coe_mul, ← EReal.coe_add]
    congr 1
    push_cast
    ring
  rw [hx, sf_prob e t e0 e1 t1 et]
  have hm : (IntOp.muli e 255#32).toInt = e.toInt * 255 := by rw [muli_toInt _ _ (by rw [c]; omega) (by rw [c]; omega), c]
  have hq := fdiv_toInt (IntOp.muli e 255#32) t (by omega) (by omega)
  rw [hm] at hq
  have hc' : e.toInt * 255 = 0 ∨ e.toInt * 255 ≠ e.toInt * 255 / t.toInt * t.toInt := by
    unfold Mask.cellBit at hc
    rw [or_iff, eq_iff, ne_iff] at hc
    rcases hc with hc | hc
    · left; rw [hc]; decide
    · right
      intro h
      apply hc
      refine BitVec.eq_of_toInt_eq ?_
      have hle : e.toInt * 255 / t.toInt * t.toInt ≤ e.toInt * 255 := by rw [← h]
      rw [hm, muli_toInt _ _ (by rw [hq, ← h]; omega) (by rw [hq, ← h]; omega), hq]
      exact h
  show (((⌊((e.toInt * 255 : ℤ) : ℝ) * (1 / (t.toInt : ℝ)) * (1 - 1 / 134217728)⌋ : ℤ) : ℝ) : EReal) = _
  rw [floor_prob _ _ (by omega) (by omega) t1 hc']
  rfl

/-! ## A tile -/

variable {w st : ℕ} (T : TileOk w st)

theorem bc_row {α : Type} (x : (S1 w).Idx → α) (h : (S1 w).Broadcasts (S8 w)) (a : Fin 8) (i : Fin w) : broadcastTo (S8 w) x h (ix2 a i) = x (ix2 0 i) := by
  refine congrArg x (funext fun b => Fin.ext ?_)
  match b with
  | ⟨0, _⟩ => rfl
  | ⟨1, _⟩ =>
    show (if h : w = 1 then (⟨0, _⟩ : Fin w) else ⟨i.val, _⟩).val = i.val
    split
    · have := i.isLt; show 0 = i.val; omega
    · rfl

theorem total8_at (t : IVec (S1 w) 32) (a : Fin 8) (i : Fin w) : (total8 T t (ix2 a i) : BitVec 32) = t (ix2 0 i) := by
  unfold total8
  rw [shapeCast_id, bc_row]

theorem hiV_at (t8 : IVec (S8 w) 32) (a : Fin 8) (i : Fin w) : (hiV (F := Ideal) t8 (ix2 a i) : EReal) = hiS (t8 (ix2 a i)) := rfl
theorem loV_at (t8 : IVec (S8 w) 32) (a : Fin 8) (i : Fin w) : (loV (F := Ideal) t8 (ix2 a i) : EReal) = loS (t8 (ix2 a i)) := rfl

theorem probV_at (hi lo : FVec Ideal (S8 w) .f32) (ea eb : Vec Ideal (S8 w) .f32) (a : Fin 16) (i : Fin w) (Hi Lo E : EReal)
    (h1 : ∀ a, (hi (ix2 a i) : EReal) = Hi) (h2 : ∀ a, (lo (ix2 a i) : EReal) = Lo) (ha : ∀ h : a.val < 8, (ea (ix2 ⟨a.val, h⟩ i) : EReal) = E)
    (hb : ∀ h : 8 ≤ a.val, (eb (ix2 ⟨a.val - 8, by omega⟩ i) : EReal) = E) :
    (probV T hi lo ea eb (ix2 a i) : EReal) = Ideal.liftRound Int.floor (E * Hi + E * Lo) := by
  unfold probV
  pointwise []
  split
  · next h =>
    generalize hI : Shape.Idx.norm _ = z
    have hz : z = ix2 ⟨a.val, h⟩ i := by
      rw [← hI]
      refine funext fun b => Fin.ext ?_
      match b with
      | ⟨0, _⟩ => rfl
      | ⟨1, _⟩ => rfl
    rw [hz, h1, h2, ha]
  · next h =>
    generalize hI : Shape.Idx.norm _ = z
    have hz : z = ix2 ⟨a.val - 8, by omega⟩ i := by
      rw [← hI]
      refine funext fun b => Fin.ext ?_
      match b with
      | ⟨0, _⟩ => rfl
      | ⟨1, _⟩ => rfl
    rw [hz, h1, h2, hb (by omega)]

section
variable (s : Vec Ideal (SA w) .f32) (i : Fin w) (S : Fin 896 → BitVec 32) (hS : Small S)
variable {ln2 qb qc r : BitVec 32} (H : Head ln2 qb qc r)

include hS H in
theorem exRow_bounds (j : Fin 896) : 0 ≤ (exRow ln2 qb qc r S j).toInt ∧ (exRow ln2 qb qc r S j).toInt < 65536 := by
  have t := top_small hS
  have b := hS j
  have m := (top_spec S).1 j
  unfold exRow
  rw [ex_toInt H _ _ (by omega) (by omega)]
  exact ⟨(eZ_bounds H _ (by omega)).1, eZ_lt H _ (by omega)⟩

include hS H in
theorem sumRow_bounds : 1 ≤ (sumRow ln2 qb qc r S).toInt ∧ ∀ j, (exRow ln2 qb qc r S j).toInt ≤ (sumRow ln2 qb qc r S).toInt := by
  obtain ⟨-, h2, -⟩ := sum_toInt (exRow ln2 qb qc r S) (exRow_bounds S hS H)
  refine ⟨?_, h2⟩
  obtain ⟨-, j, hj⟩ := top_spec S
  refine le_trans ?_ (h2 j)
  unfold exRow
  rw [← hj, ex_toInt H _ _ (by omega) (by omega), sub_self]
  exact eZ_top H

variable (hs : ∀ j, (s (ix2 j i) : EReal) = rz ((S j).toInt - (top S).toInt - r.toInt * ln2.toInt))
variable (inv : EReal) (hi : inv = invK ln2)
include hS H hs hi

theorem tE_at (k : ℕ) (hk : k < 112) (a : Fin 8) : (tE (F := Ideal) (sf ln2) inv (sf qb) (sf qc) s k hk (ix2 a i) : EReal) = sf (exRow ln2 qb qc r S ⟨8 * k + a.val, by omega⟩) := by
  have t := top_small hS
  have b := hS ⟨8 * k + a.val, by omega⟩
  have m := (top_spec S).1 ⟨8 * k + a.val, by omega⟩
  obtain ⟨iv, e1, e2, e3⟩ := invK_spec ln2 H.l1
  have hu : (window (s := SA w) s ![8 * k, 0] (S8 w).size (TileOk.rows8 k hk) (ix2 a i) : EReal)
      = rz (-(((top S).toInt - (S ⟨8 * k + a.val, by omega⟩).toInt) + r.toInt * ln2.toInt)) := by
    have e : (window (s := SA w) s ![8 * k, 0] (S8 w).size (TileOk.rows8 k hk) (ix2 a i) : EReal) = s (ix2 ⟨8 * k + a.val, by omega⟩ i) := by
      refine congrArg s (funext fun b => Fin.ext ?_)
      match b with
      | ⟨0, _⟩ => show 8 * k + 1 * a.val = 8 * k + a.val; omega
      | ⟨1, _⟩ => show 0 + 1 * i.val = i.val; omega
    rw [e, hs]
    congr 1; omega
  unfold tE exRow
  generalize window (s := SA w) s ![8 * k, 0] (S8 w).size (TileOk.rows8 k hk) = u at hu ⊢
  rw [sf_eq (ex ln2 qb qc r _ _), ex_toInt H _ _ (by omega) (by omega), hi, e1]
  exact exp_fast H _ (by omega) (by omega) iv e2 e3 (u (ix2 a i)) _ _ hu rfl rfl

theorem tAcc_at (a : Fin 8) : ∀ (n k : ℕ) (h : k + n = 112) (x : FVec Ideal (S8 w) .f32),
    (tAcc (F := Ideal) (sf ln2) inv (sf qb) (sf qc) s n k h x (ix2 a i) : EReal) = (x (ix2 a i) : EReal) + ∑ y ∈ Finset.range n, sf (ext (exRow ln2 qb qc r S) (8 * (k + y) + a.val))
  | 0, k, h, x => by
    show (x (ix2 a i) : EReal) = _
    simp
  | n + 1, k, h, x => by
    unfold tAcc
    rw [tAcc_at a n (k + 1) (by omega), Finset.sum_range_succ']
    have e : (addf x (tE (F := Ideal) (sf ln2) inv (sf qb) (sf qc) s k (by omega)) (ix2 a i) : EReal) = (x (ix2 a i) : EReal) + sf (exRow ln2 qb qc r S ⟨8 * k + a.val, by omega⟩) :=
      congrArg (fun z => (x (ix2 a i) : EReal) + z) (tE_at s i S hS H hs inv hi k (by omega) a)
    rw [e, ← ext_of (exRow ln2 qb qc r S) (8 * k + a.val) (by omega), add_assoc, add_comm (sf _) (∑ _ ∈ _, _)]
    congr 3
    funext y
    congr 3
    omega

theorem tSum_at : (tSum (F := Ideal) T (sf ln2) inv (sf qb) (sf qc) s (ix2 0 i) : BitVec 32) = sumRow ln2 qb qc r S := by
  have hb := exRow_bounds S hS H
  have ha : ∀ a : Fin 8, (tAcc (F := Ideal) (sf ln2) inv (sf qb) (sf qc) s 112 0 rfl (broadcast (S8 w) (Scalar.ofBits .f32 0x00000000#32)) (ix2 a i) : EReal)
      = ∑ k : Fin 112, sf (exRow ln2 qb qc r S ⟨8 * k.val + a.val, by omega⟩) := fun a => by
    rw [tAcc_at s i S hS H hs inv hi a 112 0 rfl, Finset.sum_range]
    have z : (broadcast (S8 w) (Scalar.ofBits (F := Ideal) .f32 0x00000000#32) (ix2 a i) : EReal) = 0 := by
      show Ideal.ofBits .f32 0x00000000#32 = (0 : EReal)
      simp [Ideal.ofBits, Ideal.ieee]
    rw [z, zero_add]
    refine Finset.sum_congr rfl fun k _ => ?_
    rw [Nat.zero_add, ext_of (exRow ln2 qb qc r S) (8 * k.val + a.val) (by omega)]
  unfold tSum totalV
  generalize tAcc (F := Ideal) (sf ln2) inv (sf qb) (sf qc) s 112 0 rfl (broadcast (S8 w) (Scalar.ofBits .f32 0x00000000#32)) = g at ha ⊢
  rw [cast_row]
  pointwise []
  refine (fold_addi _).trans ?_
  unfold sumRow
  rw [tot_eq]
  refine Eq.trans ?_ (sum_groups 112 8 (exRow ln2 qb qc r S)).symm
  refine Finset.sum_congr rfl fun a _ => ?_
  have f : FloatOps.fptosi (F := Ideal) (φ := .f32) 32 (g (ix2 a i)) = Ideal.fptosi 32 (g (ix2 a i)) := rfl
  refine f.trans ?_
  rw [ha]
  exact fptosi_sum (by omega) (fun k : Fin 112 => exRow ln2 qb qc r S ⟨8 * k.val + a.val, by omega⟩) fun k => hb _

theorem tP_at (hc : ∀ j, Mask.cellBit (exRow ln2 qb qc r S j) (sumRow ln2 qb qc r S) = 1#1) (j : Fin 896) :
    (tP (F := Ideal) T (sf ln2) inv (sf qb) (sf qc) s (ix2 j i) : EReal) = sf (prob (exRow ln2 qb qc r S j) (sumRow ln2 qb qc r S)) := by
  have b := exRow_bounds S hS H j
  obtain ⟨t1, t2⟩ := sumRow_bounds S hS H
  rw [← prob_fast _ _ b.1 b.2 t1 (t2 j) (hc j)]
  unfold tP stack16
  have hsum := tSum_at T s i S hS H hs inv hi
  refine probV_at T _ _ _ _ ⟨j.val % 16, by omega⟩ i _ _ _ (fun a => ?_) (fun a => ?_) (fun h => ?_) (fun h => ?_)
  · rw [hiV_at, total8_at, hsum]
  · rw [loV_at, total8_at, hsum]
  · refine (tE_at s i S hS H hs inv hi (2 * (j.val / 16)) (by omega) ⟨j.val % 16, h⟩).trans ?_
    exact congrArg (fun z => sf (exRow ln2 qb qc r S z)) (Fin.ext (by show 8 * (2 * (j.val / 16)) + j.val % 16 = j.val; omega))
  · have h : 8 ≤ j.val % 16 := h
    refine (tE_at s i S hS H hs inv hi (2 * (j.val / 16) + 1) (by omega) ⟨j.val % 16 - 8, by omega⟩).trans ?_
    exact congrArg (fun z => sf (exRow ln2 qb qc r S z)) (Fin.ext (by show 8 * (2 * (j.val / 16) + 1) + (j.val % 16 - 8) = j.val; omega))

end

theorem quantV_at (v : Vec Ideal S64x896 .bf16) (p : Vec Ideal (SA w) .bf16) (mult half shift shift' : BitVec 32) (d : Fin 64) (i : Fin w) (vc : Fin 896 → BitVec 8) (P : Fin 896 → BitVec 32)
    (hv : ∀ j, (v (ix2 d j) : EReal) = sf (vc j)) (hp : ∀ j, (p (ix2 j i) : EReal) = sf (P j)) (hsh : min shift.toNat 31 = min shift'.toNat 31) :
    (quantV (F := Ideal) (outs T v p) mult half shift (ix2 d i) : BitVec 8) = requant (acc P vc) mult half shift' := by
  have ho : (outs T v p (ix2 d i) : EReal) = ∑ j, sf (P j) * sf (BitVec.signExtend 32 (vc j)) := by
    rw [outs_at]
    exact Finset.sum_congr rfl fun j _ => by rw [hv, hp, sf_ext, mul_comm]
  unfold quantV requant acc
  rw [shr_congr .host .vector _ shift' shift hsh.symm, ← ho]
  rfl

end Cert.Proof.KernelIdeal
end
-- ==== Proof.Blk.lean ====
/-
  What a grid point's branch leaves in its two output blocks, read at one place: the reference's row.
-/
module

public import proofs.«01_k».proof.Proof.FastVal

@[expose] public section

set_option maxRecDepth 16384

noncomputable section

namespace Cert.Proof.KernelIdeal

open Cert.KernelIdeal Cert.KernelIdeal.Gen
open Idealize.ShloMosaic Idealize.ShloMosaic.TcCoe
open Idealize.SL.Sem
open Cert.Proof.Spec
open VecWindow (window put)

/-- A tile's outputs in the block's shape. -/
theorem cast_out {α : Type} {w : ℕ} (x : (SO w).Idx → α) (h : (SO w).ShapeCasts (SO4 w)) (z : (SO4 w).Idx) (d : Fin 64) (i : Fin w) (hd : (z 2).val = d.val) (hi : (z 3).val = i.val) :
    shapeCast (SO4 w) x h z = x (ix2 d i) := by
  have z0 : (z 0).val < 1 := (z 0).isLt
  have z1 : (z 1).val < 1 := (z 1).isLt
  refine congrArg x (Shape.reshapeEquiv_eq_of_vals _ _ _ _ _ (rowMajor_val2 _ w rfl) (rowMajor_val4 _ (1 * (64 * w)) (64 * w) w rfl rfl rfl) ?_)
  show d.val * w + i.val = (z 0).val * (1 * (64 * w)) + (z 1).val * (64 * w) + (z 2).val * w + (z 3).val
  rw [hd, hi, show (z 0).val = 0 by omega, show (z 1).val = 0 by omega]
  omega

/-- A tile's row sums in the block's shape. -/
theorem cast_sum {α : Type} {w : ℕ} (x : (S1 w).Idx → α) (h : (S1 w).ShapeCasts (SS4 w)) (z : (SS4 w).Idx) (i : Fin w) (hi : (z 3).val = i.val) :
    shapeCast (SS4 w) x h z = x (ix2 0 i) := by
  have z0 : (z 0).val < 1 := (z 0).isLt
  have z1 : (z 1).val < 1 := (z 1).isLt
  have z2 : (z 2).val < 1 := (z 2).isLt
  refine congrArg x (Shape.reshapeEquiv_eq_of_vals _ _ _ _ _ (rowMajor_val2 _ w rfl) (rowMajor_val4 _ (1 * (1 * w)) (1 * w) w rfl rfl rfl) ?_)
  show 0 * w + i.val = (z 0).val * (1 * (1 * w)) + (z 1).val * (1 * w) + (z 2).val * w + (z 3).val
  rw [hi, show (z 0).val = 0 by omega, show (z 1).val = 0 by omega, show (z 2).val = 0 by omega]
  omega

variable (i : grid0.Coords) (x1 : Vec Ideal S16x8 .i32) (x2 : Vec Ideal S16x5 .f32) (x3 x4 x5 : Vec Ideal S1x1x64x896 .i8)
variable (a6 : Vec Ideal S1x1x64x896 .i8) (a7 : Vec Ideal S1x1x1x896 .i32)
variable (ln2 qb qc r mult half shift : BitVec 32)

/-- The words the general branch reads. -/
structure SlowWords : Prop where
  w11 : window (s := S16x8) x1 (k0_off11 i) S1x1.size (k0_off11_inb i) one11 = ln2
  w12 : window (s := S16x8) x1 (k0_off12 i) S1x1.size (k0_off12_inb i) one11 = qb
  w13 : window (s := S16x8) x1 (k0_off13 i) S1x1.size (k0_off13_inb i) one11 = qc
  w14 : window (s := S16x8) x1 (k0_off14 i) S1x1.size (k0_off14_inb i) one11 = r
  w15 : window (s := S16x5) x2 (k0_off15 i) S1x1.size (k0_off15_inb i) one11 = sf ln2
  w22 : window (s := S16x8) x1 (k0_off22 i) S1x1.size (k0_off22_inb i) one11 = mult
  w23 : window (s := S16x8) x1 (k0_off23 i) S1x1.size (k0_off23_inb i) one11 = half
  w24 : ∀ s : BitVec 32, window (s := S16x8) x1 (k0_off24 i) S1x1.size (k0_off24_inb i) one11 = s → min s.toNat 31 = min shift.toNat 31

/-- The words the fast branch reads. -/
structure FastWords : Prop where
  w2 : window (s := S16x5) x2 (k0_off2 i) S1x1.size (k0_off2_inb i) one11 = sf ln2
  w3 : window (s := S16x5) x2 (k0_off3 i) S1x1.size (k0_off3_inb i) one11 = invK ln2
  w4 : window (s := S16x5) x2 (k0_off4 i) S1x1.size (k0_off4_inb i) one11 = sf qb
  w5 : window (s := S16x5) x2 (k0_off5 i) S1x1.size (k0_off5_inb i) one11 = sf qc
  w6 : window (s := S16x5) x2 (k0_off6 i) S1x1.size (k0_off6_inb i) one11 = rz (r.toInt * ln2.toInt)
  w7 : window (s := S16x8) x1 (k0_off7 i) S1x1.size (k0_off7_inb i) one11 = mult
  w8 : window (s := S16x8) x1 (k0_off8 i) S1x1.size (k0_off8_inb i) one11 = half
  w9 : ∀ s : BitVec 32, window (s := S16x8) x1 (k0_off9 i) S1x1.size (k0_off9_inb i) one11 = s → min s.toNat 31 = min shift.toNat 31

theorem slow_sum (hw : SlowWords i x1 x2 ln2 qb qc r mult half shift) (h : IsSlow (F := Ideal) i x1 x2 x3 x4 x5 a6 a7) (h0 : ln2 ≠ 0#32) (n : Fin 896) :
    (a7 (ix4 0 0 0 n) : BitVec 32) = sumRow ln2 qb qc r (row x4 x3 n) := by
  have hn := n.isLt
  have ht : n.val / 128 < k0_t1_loop.trips := by rw [trips1]; omega
  have hy : ∀ a, k0_off19 ⟨_, ht⟩ a ≤ ((ix4 0 0 0 n : S1x1x1x896.Idx) a).val ∧ ((ix4 0 0 0 n : S1x1x1x896.Idx) a).val < k0_off19 ⟨_, ht⟩ a + S1x1x1x128.size a := by
    rw [off19_eq]
    intro a
    match a with
    | ⟨0, _⟩ => exact ⟨Nat.zero_le _, by show 0 < 0 + 1; omega⟩
    | ⟨1, _⟩ => exact ⟨Nat.zero_le _, by show 0 < 0 + 1; omega⟩
    | ⟨2, _⟩ => exact ⟨Nat.zero_le _, by show 0 < 0 + 1; omega⟩
    | ⟨3, _⟩ => exact ⟨by show 128 * (n.val / 128) ≤ n.val; omega, by show n.val < 128 * (n.val / 128) + 128; omega⟩
  rw [window_at (s := S1x1x1x896) a7 _ S1x1x1x128.size (k0_off19_inb _) (ix4 0 0 0 n) hy, (h _).2]
  refine (cast_sum (w := 128) _ shapeCasts_S1x128_S1x1x1x128 _ ⟨n.val % 128, by omega⟩ ?_).trans ?_
  · show n.val - k0_off19 ⟨n.val / 128, ht⟩ 3 = n.val % 128
    rw [off19_eq]; show n.val - 128 * (n.val / 128) = n.val % 128; omega
  · rw [hw.w11, hw.w12, hw.w13, hw.w14, hw.w15]
    exact gSum_at _ _ _ (row_small x4 x3 n) (fun j => gScores_at x4 x3 ⟨_, ht⟩ j ⟨n.val % 128, by omega⟩ n (by show n.val = 128 * (n.val / 128) + n.val % 128; omega)) ln2 qb qc r _ rfl h0

theorem slow_out (hw : SlowWords i x1 x2 ln2 qb qc r mult half shift) (h : IsSlow (F := Ideal) i x1 x2 x3 x4 x5 a6 a7) (h0 : ln2 ≠ 0#32) (n : Fin 896) (d : Fin 64)
    (ht0 : sumRow ln2 qb qc r (row x4 x3 n) ≠ 0#32) :
    (a6 (ix4 0 0 d n) : BitVec 8) = outRow ln2 qb qc r mult half shift (row x4 x3 n) (fun j => x5 (ix4 0 0 d j)) := by
  have hn := n.isLt
  have hd := d.isLt
  have ht : n.val / 128 < k0_t1_loop.trips := by rw [trips1]; omega
  have hy : ∀ a, k0_off25 ⟨_, ht⟩ a ≤ ((ix4 0 0 d n : S1x1x64x896.Idx) a).val ∧ ((ix4 0 0 d n : S1x1x64x896.Idx) a).val < k0_off25 ⟨_, ht⟩ a + S1x1x64x128.size a := by
    rw [off25_eq]
    intro a
    match a with
    | ⟨0, _⟩ => exact ⟨Nat.zero_le _, by show 0 < 0 + 1; omega⟩
    | ⟨1, _⟩ => exact ⟨Nat.zero_le _, by show 0 < 0 + 1; omega⟩
    | ⟨2, _⟩ => exact ⟨Nat.zero_le _, by show d.val < 0 + 64; omega⟩
    | ⟨3, _⟩ => exact ⟨by show 128 * (n.val / 128) ≤ n.val; omega, by show n.val < 128 * (n.val / 128) + 128; omega⟩
  rw [window_at (s := S1x1x64x896) a6 _ S1x1x64x128.size (k0_off25_inb _) (ix4 0 0 d n) hy, (h _).1]
  refine (cast_out (w := 128) _ shapeCasts_S64x128_S1x1x64x128 _ d ⟨n.val % 128, by omega⟩ ?_ ?_).trans ?_
  · show d.val - k0_off25 ⟨n.val / 128, ht⟩ 2 = d.val
    rw [off25_eq]; show d.val - 0 = d.val; omega
  · show n.val - k0_off25 ⟨n.val / 128, ht⟩ 3 = n.val % 128
    rw [off25_eq]; show n.val - 128 * (n.val / 128) = n.val % 128; omega
  · unfold gO outRow
    rw [hw.w11, hw.w12, hw.w13, hw.w14, hw.w15, hw.w22, hw.w23]
    refine slowOut_at _ _ mult half _ shift d ⟨n.val % 128, by omega⟩ _ _ (fun j => codesV_at x5 d j) (fun j => ?_) (hw.w24 _ rfl)
    exact gP_at _ _ _ (row_small x4 x3 n) (fun j => gScores_at x4 x3 ⟨_, ht⟩ j ⟨n.val % 128, by omega⟩ n (by show n.val = 128 * (n.val / 128) + n.val % 128; omega)) ln2 qb qc r _ rfl h0 ht0 j

theorem fast_sum (hw : FastWords i x1 x2 ln2 qb qc r mult half shift) (h : IsFast (F := Ideal) i x1 x2 x3 x4 x5 a6 a7) (H : Head ln2 qb qc r) (n : Fin 896) :
    (a7 (ix4 0 0 0 n) : BitVec 32) = sumRow ln2 qb qc r (row x4 x3 n) := by
  obtain ⟨w, st, T, hc, hl, hu⟩ := fast_tile n.val n.isLt
  have hy : ∀ a, (![0, 0, 0, st] : Fin 4 → ℕ) a ≤ ((ix4 0 0 0 n : S1x1x1x896.Idx) a).val ∧ ((ix4 0 0 0 n : S1x1x1x896.Idx) a).val < (![0, 0, 0, st] : Fin 4 → ℕ) a + (SS4 w).size a := fun a => by
    match a with
    | ⟨0, _⟩ => exact ⟨Nat.zero_le _, by show 0 < 0 + 1; omega⟩
    | ⟨1, _⟩ => exact ⟨Nat.zero_le _, by show 0 < 0 + 1; omega⟩
    | ⟨2, _⟩ => exact ⟨Nat.zero_le _, by show 0 < 0 + 1; omega⟩
    | ⟨3, _⟩ => exact ⟨hl, hu⟩
  have hi : n.val - st < w := by omega
  rw [window_at (s := S1x1x1x896) a7 _ (SS4 w).size T.inbS (ix4 0 0 0 n) hy, (h T hc).2]
  refine (cast_sum _ T.castS _ ⟨n.val - st, hi⟩ rfl).trans ?_
  rw [hw.w2, hw.w3, hw.w4, hw.w5, hw.w6]
  unfold fS
  exact tSum_at T _ ⟨n.val - st, hi⟩ _ (row_small x4 x3 n) H (fun j => tS_at T x4 x3 _ _ rfl j ⟨n.val - st, hi⟩ n (by show n.val = st + (n.val - st); omega)) _ rfl

theorem fast_out (hw : FastWords i x1 x2 ln2 qb qc r mult half shift) (h : IsFast (F := Ideal) i x1 x2 x3 x4 x5 a6 a7) (H : Head ln2 qb qc r) (n : Fin 896) (d : Fin 64)
    (hc : ∀ j, Mask.cellBit (exRow ln2 qb qc r (row x4 x3 n) j) (sumRow ln2 qb qc r (row x4 x3 n)) = 1#1) :
    (a6 (ix4 0 0 d n) : BitVec 8) = outRow ln2 qb qc r mult half shift (row x4 x3 n) (fun j => x5 (ix4 0 0 d j)) := by
  obtain ⟨w, st, T, hct, hl, hu⟩ := fast_tile n.val n.isLt
  have hd := d.isLt
  have hy : ∀ a, (![0, 0, 0, st] : Fin 4 → ℕ) a ≤ ((ix4 0 0 d n : S1x1x64x896.Idx) a).val ∧ ((ix4 0 0 d n : S1x1x64x896.Idx) a).val < (![0, 0, 0, st] : Fin 4 → ℕ) a + (SO4 w).size a := fun a => by
    match a with
    | ⟨0, _⟩ => exact ⟨Nat.zero_le _, by show 0 < 0 + 1; omega⟩
    | ⟨1, _⟩ => exact ⟨Nat.zero_le _, by show 0 < 0 + 1; omega⟩
    | ⟨2, _⟩ => exact ⟨Nat.zero_le _, by show d.val < 0 + 64; omega⟩
    | ⟨3, _⟩ => exact ⟨hl, hu⟩
  have hi : n.val - st < w := by omega
  rw [window_at (s := S1x1x64x896) a6 _ (SO4 w).size T.inbO (ix4 0 0 d n) hy, (h T hct).1]
  refine (cast_out _ T.castO _ d ⟨n.val - st, hi⟩ rfl rfl).trans ?_
  rw [hw.w2, hw.w3, hw.w4, hw.w5, hw.w6]
  unfold fO outRow
  rw [hw.w7, hw.w8]
  refine quantV_at T _ _ mult half _ shift d ⟨n.val - st, hi⟩ _ _ (fun j => codesV_at x5 d j) (fun j => ?_) (hw.w9 _ rfl)
  exact tP_at T _ ⟨n.val - st, hi⟩ _ (row_small x4 x3 n) H (fun j => tS_at T x4 x3 _ _ rfl j ⟨n.val - st, hi⟩ n (by show n.val = st + (n.val - st); omega)) _ rfl hc j

end Cert.Proof.KernelIdeal
end
-- ==== Proof.KerOut.lean ====
/-
  The kernel's results, read at one place of the blocks its grid points leave.
-/
module

public import proofs.«01_k».proof.Proof.Run
public import Idealize.ShloMosaic.Lib.Pipeline.Value
public import Idealize.ShloMosaic.Lib.Pipeline.ValueKit
public import Idealize.ShloMosaic.Lib.StableHlo.ReadAt
public import Idealize.ShloMosaic.Lib.Pointwise

@[expose] public section

noncomputable section

namespace Cert.Proof.KernelIdeal

open Cert.KernelIdeal Cert.KernelIdeal.Gen
open Idealize.ShloMosaic Idealize.ShloMosaic.TcCoe
open Idealize.SL.Sem
open Idealize.ShloMosaic.Pipeline (Dat)

variable {F : FTy → Type} [FloatOps F]
variable (m : (ℓ : Loc nD τ sig) → Buf (Elt F) ℓ) (c : Dev nD)

/-- The grid point of a batch and a head. -/
def pt (b : Fin 2) (h : Fin 16) : Fin cfg0.N := ⟨16 * b.val + h.val, by have := b.isLt; have := h.isLt; have hN : cfg0.N = 32 := N_0; omega⟩

theorem pt_surj (t : Fin cfg0.N) : ∃ b h, t = pt b h := by
  have hN : t.val < 32 := by have := t.isLt; have hN : cfg0.N = 32 := N_0; omega
  exact ⟨⟨t.val / 16, by omega⟩, ⟨t.val % 16, by omega⟩, Fin.ext (by show t.val = 16 * (t.val / 16) + t.val % 16; omega)⟩

/-- A point's output block. -/
def blkO (t : Fin cfg0.N) : Vec F S1x1x64x896 .i8 := block6 (F := F) (grid0.coords t) (iblk m c 0 t) (iblk m c 1 t) (iblk m c 2 t) (iblk m c 3 t) (iblk m c 4 t)
/-- A point's block of row sums. -/
def blkS (t : Fin cfg0.N) : Vec F S1x1x1x896 .i32 := block7 (F := F) (grid0.coords t) (iblk m c 0 t) (iblk m c 1 t) (iblk m c 2 t) (iblk m c 3 t) (iblk m c 4 t)

/-- The whole output array. -/
def arrO : S2x16x64x896.Idx → Elt F .i8 := fun y => blkO m c (pt (y 0) (y 1)) (ix4 (n0 := 1) (n1 := 1) (n2 := 64) (n3 := 896) 0 0 (y 2) (y 3))
/-- The whole array of row sums. -/
def arrS : S2x16x1x896.Idx → Elt F .i32 := fun y => blkS m c (pt (y 0) (y 1)) (ix4 (n0 := 1) (n1 := 1) (n2 := 1) (n3 := 896) 0 0 0 (y 3))

theorem idx5 : ∀ t : Fin grid0.N, win0_5.index t = ![t.val / 16, t.val % 16, 0, 0] := by decide +kernel
theorem idx6 : ∀ t : Fin grid0.N, win0_6.index t = ![t.val / 16, t.val % 16, 0, 0] := by decide +kernel

theorem pt_of (t : Fin cfg0.N) (a : Fin 2) (b : Fin 16) (ha : a.val = t.val / 16) (hb : b.val = t.val % 16) : pt a b = t :=
  Fin.ext (by show 16 * a.val + b.val = t.val; omega)

theorem finalO : (dats m 0 c).arrAt 5 cfg0.N = arrO m c := by
  refine (dats m 0 c).arrAt_eq_of_covers 5 _ (by decide +kernel) fun t hf y => ?_
  have a0 : ((win0_5.blk t).view.emb y 0 : Nat) = t.val / 16 := by
    have h := (y 0).isLt; have h' : (y 0).val < 1 := h
    blk_simp [idx5]
  have a1 : ((win0_5.blk t).view.emb y 1 : Nat) = t.val % 16 := by
    have h := (y 1).isLt; have h' : (y 1).val < 1 := h
    blk_simp [idx5]
  have a2 : ((win0_5.blk t).view.emb y 2 : Nat) = (y 2).val := by
    blk_simp [idx5]
  have a3 : ((win0_5.blk t).view.emb y 3 : Nat) = (y 3).val := by
    blk_simp [idx5]
  blk_simp
  rw [after0_5]
  unfold arrO
  rw [pt_of t _ _ a0 a1]
  refine congrArg (blkO m c t) (funext fun a => Fin.ext ?_)
  match a with
  | ⟨0, _⟩ => have h' : (y 0).val < 1 := (y 0).isLt; show (y 0).val = 0; omega
  | ⟨1, _⟩ => have h' : (y 1).val < 1 := (y 1).isLt; show (y 1).val = 0; omega
  | ⟨2, _⟩ => exact a2.symm
  | ⟨3, _⟩ => exact a3.symm

theorem finalS : (dats m 0 c).arrAt 6 cfg0.N = arrS m c := by
  refine (dats m 0 c).arrAt_eq_of_covers 6 _ (by decide +kernel) fun t hf y => ?_
  have a0 : ((win0_6.blk t).view.emb y 0 : Nat) = t.val / 16 := by
    have h := (y 0).isLt; have h' : (y 0).val < 1 := h
    blk_simp [idx6]
  have a1 : ((win0_6.blk t).view.emb y 1 : Nat) = t.val % 16 := by
    have h := (y 1).isLt; have h' : (y 1).val < 1 := h
    blk_simp [idx6]
  have a3 : ((win0_6.blk t).view.emb y 3 : Nat) = (y 3).val := by
    blk_simp [idx6]
  blk_simp
  rw [after0_6]
  unfold arrS
  rw [pt_of t _ _ a0 a1]
  refine congrArg (blkS m c t) (funext fun a => Fin.ext ?_)
  match a with
  | ⟨0, _⟩ => have h' : (y 0).val < 1 := (y 0).isLt; show (y 0).val = 0; omega
  | ⟨1, _⟩ => have h' : (y 1).val < 1 := (y 1).isLt; show (y 1).val = 0; omega
  | ⟨2, _⟩ => have h' : (y 2).val < 1 := (y 2).isLt; show (y 2).val = 0; omega
  | ⟨3, _⟩ => exact a3.symm

theorem arr_inj : Function.Injective (Pipeline.arrRef spec0) := by
  have h : ∀ a b, Pipeline.arrRef spec0 a = Pipeline.arrRef spec0 b → a = b := by decide +kernel
  exact fun a b => h a b

theorem tr165_at (f : Vec F S2x16x64x896 .i8) (b : Fin 2) (i : Fin 896) (h : Fin 16) (d : Fin 64) :
    transpose S2x896x16x64 [0, 3, 1, 2] f transposes_S2x16x64x896_S2x896x16x64_0_3_1_2 (ix4 b i h d) = f (ix4 b h d i) := by
  pointwise []

theorem tr161_at (f : Vec F S2x896x16x64 .i8) (b : Fin 2) (i : Fin 896) (h : Fin 16) (d : Fin 64) :
    transpose S2x16x64x896 [0, 2, 3, 1] f transposes_S2x896x16x64_S2x16x64x896_0_2_3_1 (ix4 b h d i) = f (ix4 b i h d) := by
  pointwise []

/-- The contents of the first result after the run. -/
theorem tailO (b : Fin 2) (i : Fin 896) (h : Fin 16) (d : Fin 64) :
    (Pipeline.afterTail₀ cfgs (dats m) 0 (V0 m) [hostOps1] c main_v165 : Vec F S2x896x16x64 .i8) (ix4 b i h d) = blkO m c (pt b h) (ix4 (n0 := 1) (n1 := 1) (n2 := 64) (n3 := 896) 0 0 d i) := by
  have e : (Pipeline.afterTail₀ cfgs (dats m) 0 (V0 m) [hostOps1] c main_v165 : Vec F S2x896x16x64 .i8)
      = transpose S2x896x16x64 [0, 3, 1, 2] (arrO m c) transposes_S2x16x64x896_S2x896x16x64_0_3_1_2 := by
    rw [← finalO m c]
    have h5 := Pipeline.withArrays_arr spec0 arr_inj c (V0 m c) (fun w => (dats m 0 c).arrAt w cfg0.N) 5
    rw [← h5]
    unfold Pipeline.afterTail₀
    simp only [List.flatten_cons, List.flatten_nil, List.append_nil, hostOps1]
    after_reads_simp
  rw [e]
  exact (tr165_at _ _ _ _ _).trans (by unfold arrO; rfl)

/-- The contents of the second result after the run. -/
theorem tailS (b : Fin 2) (i : Fin 896) (h : Fin 16) :
    (Pipeline.afterTail₀ cfgs (dats m) 0 (V0 m) [hostOps1] c main_v167 : Vec F S2x896x16 .i32) (ix3 b i h) = blkS m c (pt b h) (ix4 (n0 := 1) (n1 := 1) (n2 := 1) (n3 := 896) 0 0 0 i) := by
  have e : (Pipeline.afterTail₀ cfgs (dats m) 0 (V0 m) [hostOps1] c main_v167 : Vec F S2x896x16 .i32)
      = transpose S2x896x16 [0, 2, 1] (shapeCast S2x16x896 (arrS m c) shapeCasts_S2x16x1x896_S2x16x896) transposes_S2x16x896_S2x896x16_0_2_1 := by
    rw [← finalS m c]
    have h5 := Pipeline.withArrays_arr spec0 arr_inj c (V0 m c) (fun w => (dats m 0 c).arrAt w cfg0.N) 6
    rw [← h5]
    unfold Pipeline.afterTail₀
    simp only [List.flatten_cons, List.flatten_nil, List.append_nil, hostOps1]
    after_reads_simp
    rfl
  rw [e]
  pointwise []
  rfl

theorem v161_eq : (V m c main_v161 : Vec F S2x16x64x896 .i8) = transpose S2x16x64x896 [0, 2, 3, 1] (m (c.tc.loc main_arg0) : Vec F S2x896x16x64 .i8) transposes_S2x896x16x64_S2x16x64x896_0_2_3_1 := by
  show (V0 m c (Proc.devRef .tc main_v161) : Vec F S2x16x64x896 .i8) = _
  after_reads_simp
theorem v162_eq : (V m c main_v162 : Vec F S2x16x64x896 .i8) = transpose S2x16x64x896 [0, 2, 3, 1] (m (c.tc.loc main_arg1) : Vec F S2x896x16x64 .i8) transposes_S2x896x16x64_S2x16x64x896_0_2_3_1 := by
  show (V0 m c (Proc.devRef .tc main_v162) : Vec F S2x16x64x896 .i8) = _
  after_reads_simp
theorem v163_eq : (V m c main_v163 : Vec F S2x16x64x896 .i8) = transpose S2x16x64x896 [0, 2, 3, 1] (m (c.tc.loc main_arg2) : Vec F S2x896x16x64 .i8) transposes_S2x896x16x64_S2x16x64x896_0_2_3_1 := by
  show (V0 m c (Proc.devRef .tc main_v163) : Vec F S2x16x64x896 .i8) = _
  after_reads_simp

theorem idx2 : ∀ b h, win0_2.index (pt b h) = ![b.val, h.val, 0, 0] := by decide +kernel
theorem idx3 : ∀ b h, win0_3.index (pt b h) = ![b.val, h.val, 0, 0] := by decide +kernel
theorem idx4 : ∀ b h, win0_4.index (pt b h) = ![b.val, h.val, 0, 0] := by decide +kernel

/-- A row of an input block: the argument's. -/
theorem blk2_at (b : Fin 2) (h : Fin 16) (d : Fin 64) (i : Fin 896) :
    (iblk m c 2 (pt b h) : Vec F S1x1x64x896 .i8) (ix4 0 0 d i) = (m (c.tc.loc main_arg0) : Vec F S2x896x16x64 .i8) (ix4 b i h d) := by
  blk_simp [iblk]
  refine Eq.trans (congrArg (V m c main_v161 : Vec F S2x16x64x896 .i8) ?_) ((congrFun (v161_eq m c) (ix4 b h d i)).trans (tr161_at _ _ _ _ _))
  blk_ext [idx2]

theorem blk3_at (b : Fin 2) (h : Fin 16) (d : Fin 64) (i : Fin 896) :
    (iblk m c 3 (pt b h) : Vec F S1x1x64x896 .i8) (ix4 0 0 d i) = (m (c.tc.loc main_arg1) : Vec F S2x896x16x64 .i8) (ix4 b i h d) := by
  blk_simp [iblk]
  refine Eq.trans (congrArg (V m c main_v162 : Vec F S2x16x64x896 .i8) ?_) ((congrFun (v162_eq m c) (ix4 b h d i)).trans (tr161_at _ _ _ _ _))
  blk_ext [idx3]

theorem blk4_at (b : Fin 2) (h : Fin 16) (d : Fin 64) (i : Fin 896) :
    (iblk m c 4 (pt b h) : Vec F S1x1x64x896 .i8) (ix4 0 0 d i) = (m (c.tc.loc main_arg2) : Vec F S2x896x16x64 .i8) (ix4 b i h d) := by
  blk_simp [iblk]
  refine Eq.trans (congrArg (V m c main_v163 : Vec F S2x16x64x896 .i8) ?_) ((congrFun (v163_eq m c) (ix4 b h d i)).trans (tr161_at _ _ _ _ _))
  blk_ext [idx4]

theorem idx0 : ∀ t : Fin grid0.N, win0_0.index t = ![0, 0] := by decide +kernel
theorem idx1 : ∀ t : Fin grid0.N, win0_1.index t = ![0, 0] := by decide +kernel

theorem blk0_at (t : Fin cfg0.N) (h : Fin 16) (k : Fin 8) :
    (iblk m c 0 t : Vec F S16x8 .i32) (ix2 h k) = (V m c main_v106 : Vec F S16x8 .i32) (ix2 h k) := by
  blk_simp [iblk]
  refine congrArg (V m c main_v106 : Vec F S16x8 .i32) ?_
  blk_ext [idx0]

theorem blk1_at (t : Fin cfg0.N) (h : Fin 16) (k : Fin 5) :
    (iblk m c 1 t : Vec F S16x5 .f32) (ix2 h k) = (V m c main_v160 : Vec F S16x5 .f32) (ix2 h k) := by
  blk_simp [iblk]
  refine congrArg (V m c main_v160 : Vec F S16x5 .f32) ?_
  blk_ext [idx1]

theorem coord_pt : ∀ b h, (grid0.coords (pt b h) 0).val = 16 * b.val + h.val := by decide +kernel

/-! ## The tables' words at a point -/
section words
open VecWindow (window)
theorem offs_int (b : Fin 2) (h : Fin 16) :
    k0_off1 (grid0.coords (pt b h)) = ![h.val, 7] ∧ k0_off7 (grid0.coords (pt b h)) = ![h.val, 4] ∧ k0_off8 (grid0.coords (pt b h)) = ![h.val, 6]
    ∧ k0_off9 (grid0.coords (pt b h)) = ![h.val, 5] ∧ k0_off11 (grid0.coords (pt b h)) = ![h.val, 0] ∧ k0_off12 (grid0.coords (pt b h)) = ![h.val, 1]
    ∧ k0_off13 (grid0.coords (pt b h)) = ![h.val, 2] ∧ k0_off14 (grid0.coords (pt b h)) = ![h.val, 3]
    ∧ k0_off22 (grid0.coords (pt b h)) = ![h.val, 4] ∧ k0_off23 (grid0.coords (pt b h)) = ![h.val, 6] ∧ k0_off24 (grid0.coords (pt b h)) = ![h.val, 5] := by
  revert b h; decide +kernel
theorem offs_flt (b : Fin 2) (h : Fin 16) :
    k0_off2 (grid0.coords (pt b h)) = ![h.val, 0] ∧ k0_off3 (grid0.coords (pt b h)) = ![h.val, 1] ∧ k0_off4 (grid0.coords (pt b h)) = ![h.val, 2]
    ∧ k0_off5 (grid0.coords (pt b h)) = ![h.val, 3] ∧ k0_off6 (grid0.coords (pt b h)) = ![h.val, 4] ∧ k0_off15 (grid0.coords (pt b h)) = ![h.val, 0] := by
  revert b h; decide +kernel

theorem word_int (t : Fin cfg0.N) (h : Fin 16) (k : Fin 8) (off : Fin 2 → ℕ) (inb) (e : off = ![h.val, k.val]) :
    window (s := S16x8) (iblk m c 0 t : Vec F S16x8 .i32) off S1x1.size inb one11 = (V m c main_v106 : Vec F S16x8 .i32) (ix2 h k) := by
  subst e
  rw [← blk0_at m c t h k]
  refine congrArg (iblk m c 0 t : Vec F S16x8 .i32) (funext fun a => Fin.ext ?_)
  match a with
  | ⟨0, _⟩ => show h.val + 1 * 0 = h.val; omega
  | ⟨1, _⟩ => show k.val + 1 * 0 = k.val; omega

theorem word_flt (t : Fin cfg0.N) (h : Fin 16) (k : Fin 5) (off : Fin 2 → ℕ) (inb) (e : off = ![h.val, k.val]) :
    window (s := S16x5) (iblk m c 1 t : Vec F S16x5 .f32) off S1x1.size inb one11 = (V m c main_v160 : Vec F S16x5 .f32) (ix2 h k) := by
  subst e
  rw [← blk1_at m c t h k]
  refine congrArg (iblk m c 1 t : Vec F S16x5 .f32) (funext fun a => Fin.ext ?_)
  match a with
  | ⟨0, _⟩ => show h.val + 1 * 0 = h.val; omega
  | ⟨1, _⟩ => show k.val + 1 * 0 = k.val; omega
end words
end Cert.Proof.KernelIdeal
end
-- ==== Proof.Mantissa.lean ====
/-
  The mantissa and the exponent of a number: the kernel's count of the powers of two below it finds the reference's one exponent.
-/
module

public import proofs.«01_k».proof.Proof.RefRead
public import proofs.«01_k».proof.Proof.MaskRead
public import proofs.«01_k».proof.Proof.Recip
public import Idealize.ShloMosaic.Lib.Pointwise.Reshape
public import Mathlib.Algebra.Order.Archimedean.Basic

@[expose] public section

set_option maxRecDepth 16384
noncomputable section

namespace Cert.Proof.ReferenceIdeal

open Cert.ReferenceIdeal
open Idealize.ShloMosaic
open Cert.Proof.Spec

theorem lit0_eq : ∀ k : Fin 254, lit0 k = BitVec.ofNat 32 ((k.val + 1) * 8388608) := by decide +kernel

/-- The powers of two. -/
theorem pow_at (k : Fin 254) : (FloatOps.ofBits (F := Ideal) .f32 (lit0 k) : EReal) = (((2 : ℝ) ^ ((k.val : ℤ) - 126) : ℝ) : EReal) := by
  refine (Cert.Proof.KernelIdeal.pow_bits _ (k.val + 1) (lit0_eq k) (by omega) (by have := k.isLt; omega)).trans ?_
  congr 2
  push_cast; ring

/-- A power of two from its word. -/
def pw (k : Fin 254) : EReal := FloatOps.ofBits (F := Ideal) .f32 (lit0 k)
/-- Whether a number reaches a power. -/
def geBit (x : EReal) (k : Fin 254) : BitVec 1 := FloatOps.cmpf (F := Ideal) (φ := .f32) .oge (FloatOps.absf (F := Ideal) (φ := .f32) x) (pw k)
/-- Whether a number over a power lies between one and two. -/
def chBit (x : EReal) (k : Fin 254) : BitVec 1 :=
  IntOp.andi (FloatOps.cmpf (F := Ideal) (φ := .f32) .oge (FloatOps.absf (F := Ideal) (φ := .f32) (Ideal.div x (pw k))) (FloatOps.ofBits (F := Ideal) .f32 0x3F800000#32))
    (FloatOps.cmpf (F := Ideal) (φ := .f32) .olt (FloatOps.absf (F := Ideal) (φ := .f32) (Ideal.div x (pw k))) (FloatOps.ofBits (F := Ideal) .f32 0x40000000#32))
/-- Whether a number is zero. -/
def zBit (x : EReal) : BitVec 1 := FloatOps.cmpf (F := Ideal) (φ := .f32) .oeq x (FloatOps.ofBits (F := Ideal) .f32 0x00000000#32)

/-- The kernel's exponent. -/
def kExp (x : EReal) : BitVec 32 :=
  Scalar.select (zBit x) 0#32 (IntOp.subi ((Finset.univ : Finset (Fin 254)).fold IntOp.addi 0#32 (fun k => (geBit x k).setWidth 32)) 126#32)
/-- The largest power a number reaches. -/
def kTop (x : EReal) : EReal :=
  (Finset.univ : Finset (Fin 254)).fold max (Ideal.ofBits .f32 0xFF800000#32) (fun k => Scalar.select (geBit x k) (pw k) (FloatOps.ofBits (F := Ideal) .f32 0x00000000#32))
/-- The kernel's mantissa. -/
def kMant (x : EReal) : EReal :=
  Scalar.select (zBit x) (FloatOps.ofBits (F := Ideal) .f32 0x00000000#32) (FloatOps.ofBits (F := Ideal) .f32 0x3F000000#32 * Ideal.div x (kTop x))
/-- The reference's exponent. -/
def rExp (x : EReal) : BitVec 32 := (Finset.univ : Finset (Fin 254)).fold IntOp.addi 0#32 (fun k => Scalar.select (chBit x k) (lit1 k) 0#32)
/-- The reference's mantissa. -/
def rMant (x : EReal) : EReal :=
  FloatOps.ofBits (F := Ideal) .f32 0x3F000000#32 * (FloatOps.ofBits (F := Ideal) .f32 0x00000000#32 + ∑ k : Fin 254, Scalar.select (chBit x k) (Ideal.div x (pw k)) (FloatOps.ofBits (F := Ideal) .f32 0x00000000#32))

/-- A number that is zero or lies in the range of the normal floats. -/
def Normal (x : EReal) : Prop := x = 0 ∨ ∃ (p : Fin 254) (r : ℝ), x = (r : EReal) ∧ (2 : ℝ) ^ ((p.val : ℤ) - 126) ≤ |r| ∧ |r| < (2 : ℝ) ^ ((p.val : ℤ) - 126 + 1)

theorem c_zero : (FloatOps.ofBits (F := Ideal) .f32 0x00000000#32 : EReal) = 0 := by
  simp [FloatOps.ofBits, Ideal.ofBits, Ideal.ieee]
theorem c_one : (FloatOps.ofBits (F := Ideal) .f32 0x3F800000#32 : EReal) = ((1 : ℝ) : EReal) :=
  (Cert.Proof.KernelIdeal.pow_bits 0x3F800000#32 127 (by decide) (by omega) (by omega)).trans (by norm_num)
theorem c_two : (FloatOps.ofBits (F := Ideal) .f32 0x40000000#32 : EReal) = ((2 : ℝ) : EReal) :=
  (Cert.Proof.KernelIdeal.pow_bits 0x40000000#32 128 (by decide) (by omega) (by omega)).trans (by norm_num)
theorem c_half : (FloatOps.ofBits (F := Ideal) .f32 0x3F000000#32 : EReal) = ((1 / 2 : ℝ) : EReal) :=
  (Cert.Proof.KernelIdeal.pow_bits 0x3F000000#32 126 (by decide) (by omega) (by omega)).trans (by norm_num)

theorem abs_coe (r : ℝ) : (FloatOps.absf (F := Ideal) (φ := .f32) (r : EReal) : EReal) = ((|r| : ℝ) : EReal) := by
  show max (r : EReal) (-(r : EReal)) = _
  rw [← EReal.coe_neg]
  exact (EReal.coe_strictMono.monotone.map_max (a := r) (b := -r)).symm

theorem oge_iff (x y : EReal) : FloatOps.cmpf (F := Ideal) (φ := .f32) .oge x y = 1#1 ↔ y ≤ x :=
  (WordArith.ofBool_eq_one_iff _).trans (by simp)
theorem olt_iff (x y : EReal) : FloatOps.cmpf (F := Ideal) (φ := .f32) .olt x y = 1#1 ↔ x < y :=
  (WordArith.ofBool_eq_one_iff _).trans (by simp)
theorem oeq_iff (x y : EReal) : FloatOps.cmpf (F := Ideal) (φ := .f32) .oeq x y = 1#1 ↔ x = y :=
  (WordArith.ofBool_eq_one_iff _).trans (by simp)

theorem zBit_iff (x : EReal) : zBit x = 1#1 ↔ x = 0 := by
  unfold zBit; rw [oeq_iff, c_zero]

theorem geBit_iff (r : ℝ) (k : Fin 254) : geBit (r : EReal) k = 1#1 ↔ (2 : ℝ) ^ ((k.val : ℤ) - 126) ≤ |r| := by
  unfold geBit pw
  rw [oge_iff, abs_coe, pow_at, EReal.coe_le_coe_iff]

theorem div_pw (r : ℝ) (k : Fin 254) : Ideal.div (r : EReal) (pw k) = ((r / (2 : ℝ) ^ ((k.val : ℤ) - 126) : ℝ) : EReal) := by
  have h : (2 : ℝ) ^ ((k.val : ℤ) - 126) ≠ 0 := by positivity
  unfold pw
  rw [pow_at, Ideal.div_coe h, ← EReal.coe_mul, mul_one_div]

theorem chBit_iff (r : ℝ) (k : Fin 254) : chBit (r : EReal) k = 1#1 ↔ (2 : ℝ) ^ ((k.val : ℤ) - 126) ≤ |r| ∧ |r| < (2 : ℝ) ^ ((k.val : ℤ) - 126 + 1) := by
  have h : (0 : ℝ) < (2 : ℝ) ^ ((k.val : ℤ) - 126) := by positivity
  unfold chBit
  rw [and_iff, oge_iff, olt_iff, div_pw, abs_coe, c_one, c_two, EReal.coe_le_coe_iff, EReal.coe_lt_coe_iff, abs_div, abs_of_pos h, le_div_iff₀ h, div_lt_iff₀ h, one_mul,
    zpow_add₀ (by norm_num), zpow_one, mul_comm (2 : ℝ)]

/-- One power only fits. -/
theorem fits {r : ℝ} {p k : Fin 254} (h1 : (2 : ℝ) ^ ((p.val : ℤ) - 126) ≤ |r|) (h2 : |r| < (2 : ℝ) ^ ((p.val : ℤ) - 126 + 1)) :
    ((2 : ℝ) ^ ((k.val : ℤ) - 126) ≤ |r| ↔ k.val ≤ p.val) ∧ (|r| < (2 : ℝ) ^ ((k.val : ℤ) - 126 + 1) ↔ p.val ≤ k.val) := by
  have two : (1 : ℝ) < 2 := by norm_num
  constructor
  · constructor
    · intro h
      have := (zpow_lt_zpow_iff_right₀ two).1 (lt_of_le_of_lt h h2)
      omega
    · intro h
      exact le_trans ((zpow_le_zpow_iff_right₀ two).2 (by omega)) h1
  · constructor
    · intro h
      have := (zpow_lt_zpow_iff_right₀ two).1 (lt_of_le_of_lt h1 h)
      omega
    · intro h
      exact lt_of_lt_of_le h2 ((zpow_le_zpow_iff_right₀ two).2 (by omega))

theorem count254 : ∀ p : Fin 254, IntOp.subi (∑ k : Fin 254, if k.val ≤ p.val then (1#32 : BitVec 32) else 0#32) 126#32 = lit1 p := by decide +kernel

theorem select_of {α : Type} {b : BitVec 1} (x y : α) (h : b = 1#1) : Scalar.select b x y = x := by unfold Scalar.select; exact if_pos h
theorem select_not {α : Type} {b : BitVec 1} (x y : α) (h : ¬ b = 1#1) : Scalar.select b x y = y := by unfold Scalar.select; exact if_neg h

theorem ch_zero (k : Fin 254) : ¬ chBit 0 k = 1#1 := by
  rw [← EReal.coe_zero, chBit_iff]
  intro h
  have : (0 : ℝ) < (2 : ℝ) ^ ((k.val : ℤ) - 126) := by positivity
  have := h.1
  rw [abs_zero] at this
  linarith

/-- The exponents agree. -/
theorem exp_eq {x : EReal} (hx : Normal x) : kExp x = rExp x := by
  unfold kExp rExp
  rw [fold_addi, fold_addi]
  rcases hx with h0 | ⟨p, r, rfl, h1, h2⟩
  · subst h0
    rw [select_of _ _ ((zBit_iff 0).2 rfl)]
    exact (Finset.sum_eq_zero fun k _ => select_not _ _ (ch_zero k)).symm
  · have hp : (0 : ℝ) < (2 : ℝ) ^ ((p.val : ℤ) - 126) := by positivity
    have hz : ¬ zBit (r : EReal) = 1#1 := by
      rw [zBit_iff]
      intro h
      have : r = 0 := by exact_mod_cast h
      subst this
      rw [abs_zero] at h1
      linarith
    rw [select_not _ _ hz]
    have e1 : (∑ k : Fin 254, (geBit (r : EReal) k).setWidth 32) = ∑ k : Fin 254, if k.val ≤ p.val then (1#32 : BitVec 32) else 0#32 := by
      refine Finset.sum_congr rfl fun k _ => ?_
      have hk := (geBit_iff r k).trans (fits h1 h2).1
      by_cases h : k.val ≤ p.val
      · rw [if_pos h, hk.2 h]; rfl
      · rw [if_neg h, bit_zero fun e => h (hk.1 e)]; rfl
    rw [e1, count254]
    have hc : ∀ k : Fin 254, chBit (r : EReal) k = 1#1 ↔ k = p := fun k =>
      (chBit_iff r k).trans ⟨fun h => Fin.ext (le_antisymm ((fits h1 h2).1.1 h.1) ((fits h1 h2).2.1 h.2)), fun h => by subst h; exact ⟨h1, h2⟩⟩
    refine ((Finset.sum_eq_single (f := fun k : Fin 254 => Scalar.select (chBit (r : EReal) k) (lit1 k) 0#32) p (fun k _ hk => ?_) (fun h => absurd (Finset.mem_univ p) h)).trans (select_of _ _ ((hc p).2 rfl))).symm
    exact select_not _ _ fun h => hk ((hc k).1 h)

/-- The largest power reached. -/
theorem top_pw {r : ℝ} {p : Fin 254} (h1 : (2 : ℝ) ^ ((p.val : ℤ) - 126) ≤ |r|) (h2 : |r| < (2 : ℝ) ^ ((p.val : ℤ) - 126 + 1)) : kTop (r : EReal) = pw p := by
  have pos : ∀ k : Fin 254, (0 : EReal) ≤ pw k := fun k => by
    unfold pw; rw [pow_at]; exact_mod_cast (by positivity : (0 : ℝ) ≤ (2 : ℝ) ^ ((k.val : ℤ) - 126))
  have sel : ∀ k : Fin 254, Scalar.select (geBit (r : EReal) k) (pw k) (FloatOps.ofBits (F := Ideal) .f32 0x00000000#32) ≤ pw p := fun k => by
    by_cases h : geBit (r : EReal) k = 1#1
    · rw [select_of _ _ h]
      have hk := ((geBit_iff r k).trans (fits h1 h2).1).1 h
      unfold pw
      rw [pow_at, pow_at, EReal.coe_le_coe_iff]
      exact (zpow_le_zpow_iff_right₀ (by norm_num)).2 (by omega)
    · rw [select_not _ _ h, c_zero]; exact pos p
  have spec := fold_max_spec (n := 253) (fun k => Scalar.select (geBit (r : EReal) k) (pw k) (FloatOps.ofBits (F := Ideal) .f32 0x00000000#32))
  obtain ⟨s1, k, s2⟩ := spec
  refine le_antisymm ?_ ?_
  · unfold kTop; rw [s2]; exact sel k
  · have := s1 p
    rwa [select_of _ _ ((geBit_iff r p).2 h1)] at this

/-- The mantissas agree. -/
theorem mant_eq {x : EReal} (hx : Normal x) : kMant x = rMant x := by
  unfold kMant rMant
  rw [c_zero]
  rcases hx with h0 | ⟨p, r, rfl, h1, h2⟩
  · subst h0
    rw [select_of _ _ ((zBit_iff 0).2 rfl), Finset.sum_eq_zero fun k _ => select_not _ _ (ch_zero k)]
    simp
  · have hp : (0 : ℝ) < (2 : ℝ) ^ ((p.val : ℤ) - 126) := by positivity
    have hz : ¬ zBit (r : EReal) = 1#1 := by
      rw [zBit_iff]
      intro h
      have : r = 0 := by exact_mod_cast h
      subst this
      rw [abs_zero] at h1
      linarith
    have hc : ∀ k : Fin 254, chBit (r : EReal) k = 1#1 ↔ k = p := fun k =>
      (chBit_iff r k).trans ⟨fun h => Fin.ext (le_antisymm ((fits h1 h2).1.1 h.1) ((fits h1 h2).2.1 h.2)), fun h => by subst h; exact ⟨h1, h2⟩⟩
    rw [select_not _ _ hz, top_pw h1 h2,
      Finset.sum_eq_single p (fun k _ hk => select_not _ _ fun h => hk ((hc k).1 h)) (fun h => absurd (Finset.mem_univ p) h), select_of _ _ ((hc p).2 rfl), zero_add]

/-- A number of the range of the normal floats. -/
theorem normal_of (r : ℝ) (h1 : (2 : ℝ) ^ (-126 : ℤ) ≤ |r|) (h2 : |r| < (2 : ℝ) ^ (128 : ℤ)) : Normal (r : EReal) := by
  have two : (1 : ℝ) < 2 := by norm_num
  have hr : 0 < |r| := lt_of_lt_of_le (by positivity) h1
  obtain ⟨n, n1, n2⟩ := exists_mem_Ico_zpow hr two
  have a := (zpow_lt_zpow_iff_right₀ two).1 (lt_of_le_of_lt h1 n2)
  have b := (zpow_lt_zpow_iff_right₀ two).1 (lt_of_le_of_lt n1 h2)
  refine Or.inr ⟨⟨(n + 126).toNat, by omega⟩, r, rfl, ?_, ?_⟩
  · have e : (((n + 126).toNat : ℕ) : ℤ) - 126 = n := by omega
    show (2 : ℝ) ^ ((((n + 126).toNat : ℕ) : ℤ) - 126) ≤ _
    rw [e]; exact n1
  · have e : (((n + 126).toNat : ℕ) : ℤ) - 126 + 1 = n + 1 := by omega
    show _ < (2 : ℝ) ^ ((((n + 126).toNat : ℕ) : ℤ) - 126 + 1)
    rw [e]; exact n2

/-- A word's number is in the range. -/
theorem normal_sf (a : BitVec 32) : Normal (sf a) := by
  rw [sf_eq]
  by_cases h : a.toInt = 0
  · rw [h]; exact Or.inl rz_zero
  · refine normal_of _ ?_ ?_
    · have h1 : (1 : ℤ) ≤ |a.toInt| := Int.one_le_abs h
      have h1 : (1 : ℝ) ≤ |(a.toInt : ℝ)| := by exact_mod_cast h1
      exact le_trans (zpow_le_one_of_nonpos₀ (by norm_num) (by norm_num)) h1
    · have l := lo_toInt (x := a)
      have u := hi_toInt (x := a)
      have h1 : |a.toInt| ≤ 2147483648 := abs_le.2 ⟨by omega, by omega⟩
      have h1 : |(a.toInt : ℝ)| ≤ 2147483648 := by exact_mod_cast h1
      refine lt_of_le_of_lt h1 ?_
      norm_num

/-- What the mask says of an output scale. -/
theorem normal_bit (x : EReal) (h : Mask.normBit x = 1#1) : Normal x := by
  unfold Mask.normBit at h
  have lo : (FloatOps.ofBits (F := Ideal) .f32 0x00800000#32 : EReal) = _ := Cert.Proof.KernelIdeal.pow_bits 0x00800000#32 1 (by decide) (by omega) (by omega)
  have hi : (FloatOps.ofBits (F := Ideal) .f32 0x7F000000#32 : EReal) = _ := Cert.Proof.KernelIdeal.pow_bits 0x7F000000#32 254 (by decide) (by omega) (by omega)
  rw [or_iff, oeq_iff, and_iff, oge_iff, olt_iff, c_half, lo, hi] at h
  rcases h with h | ⟨h1, h2⟩
  · exact Or.inl h
  · induction x using EReal.rec with
    | bot =>
      have e : (FloatOps.absf (F := Ideal) (φ := .f32) (⊥ : EReal) : EReal) = ⊤ := by show max (⊥ : EReal) (-⊥) = ⊤; simp
      rw [e, EReal.coe_mul_top_of_pos (by norm_num)] at h2
      exact absurd h2 (by simp)
    | top =>
      have e : (FloatOps.absf (F := Ideal) (φ := .f32) (⊤ : EReal) : EReal) = ⊤ := by show max (⊤ : EReal) (-⊤) = ⊤; simp
      rw [e, EReal.coe_mul_top_of_pos (by norm_num)] at h2
      exact absurd h2 (by simp)
    | coe r =>
      rw [abs_coe, EReal.coe_le_coe_iff] at h1
      rw [abs_coe, ← EReal.coe_mul, EReal.coe_lt_coe_iff] at h2
      refine normal_of r (by simpa using h1) ?_
      have e : (2 : ℝ) ^ (128 : ℤ) = 2 * (2 : ℝ) ^ (((254 : ℕ) : ℤ) - 127) := by norm_num
      rw [e]; linarith

end Cert.Proof.ReferenceIdeal
end
-- ==== Proof.FrexpBound.lean ====
/-
  The reference's scaling shift: it brings a head's largest polynomial value below 2^16 and leaves it at least one.
-/
module

public import proofs.«01_k».proof.Proof.KerForms
public import proofs.«01_k».proof.Proof.Mantissa
public import proofs.«01_k».proof.Proof.MaskRead
public import proofs.«01_k».proof.Proof.Recip
public import Idealize.ShloMosaic.Lib.Pointwise.Reshape

@[expose] public section

set_option maxRecDepth 16384
noncomputable section

namespace Cert.Proof.ReferenceIdeal

open Cert.ReferenceIdeal Cert.ReferenceIdeal.Gen Cert.ReferenceIdeal.Value
open Idealize.ShloMosaic Idealize.ShloMosaic.TcCoe
open Idealize.SL.Sem
open Cert.Proof.Spec

theorem row254 (k : Fin 254) : S254.rowMajor (ix1 k) = k := Fin.ext (rowMajor_val1 _)

/-- The number of powers up to a number between 2^p and 2^(p+1). -/
theorem count : ∀ p : Fin 24, (∑ k : Fin 254, if k.val ≤ 126 + p.val then (1#32 : BitVec 32) else 0#32) = BitVec.ofNat 32 (127 + p.val) := by decide +kernel

theorem shift_of : ∀ p : Fin 24, (IntOp.maxsi (IntOp.subi (IntOp.subi (BitVec.ofNat 32 (127 + p.val)) 126#32) 16#32) 0#32).toInt = ((p.val - 15 : ℕ) : ℤ) := by decide +kernel

variable (V0 : Valuation τ sig (Elt Ideal))

/-- The bit of a power. -/
def powBit (x : BitVec 32) (k : Fin 254) : BitVec 1 :=
  FloatOps.cmpf (F := Ideal) (φ := .f32) .oge (FloatOps.absf (sf x)) (FloatOps.ofBits (F := Ideal) .f32 (lit0 k))

/-- The host's reduction of a table's rows. -/
theorem red254 (x : IVec S16x254 32) (h : Fin 16) :
    Host.reduce IntOp.addi x (constantI S_ 32 0#32) reducesTo_S16x254_S16_d1 h_S_ (ix1 h) = (Finset.univ : Finset (Fin 254)).fold IntOp.addi 0#32 (fun k => x (ix2 h k)) :=
  (Host.reduce_eq_fold IntOp.addi x _ _ _ _).trans (Shape.ReducesTo.fold_fiber_r2_a1 (n0 := 16) (n1 := 254) reducesTo_S16x254_S16_d1 (ix1 h) IntOp.addi _ x)

/-- The largest value of a head's polynomial. -/
def l0w (h : Fin 16) : BitVec 32 := IntOp.addi (IntOp.muli (res_main_v14 V0 (ix1 h)) (res_main_v14 V0 (ix1 h))) (res_main_v21 V0 (ix1 h))

theorem kX0_at (h : Fin 16) : (kX0 V0 (ix1 h) : EReal) = sf (l0w V0 h) := by
  pointwise [kX0]
  rfl

theorem kB0_at (h : Fin 16) (k : Fin 254) : (kB0 V0 (ix2 h k) : BitVec 1) = powBit (l0w V0 h) k := by
  have e : (kB0 V0 (ix2 h k) : BitVec 1)
      = FloatOps.cmpf (F := Ideal) (φ := .f32) .oge (FloatOps.absf (kX0 V0 (ix1 h))) (FloatOps.ofBits (F := Ideal) .f32 (lit0 (S254.rowMajor (ix1 k)))) := by
    unfold kB0
    generalize kX0 V0 = v
    pointwise []
  rw [e, kX0_at, row254]
  rfl

theorem kZ0_at (h : Fin 16) (h0 : l0w V0 h ≠ 0#32) : (kZ0 V0 (ix1 h) : BitVec 1) = 0#1 := by
  have e : (kZ0 V0 (ix1 h) : BitVec 1) = FloatOps.cmpf (F := Ideal) (φ := .f32) .oeq (kX0 V0 (ix1 h)) (FloatOps.ofBits (F := Ideal) .f32 0x00000000#32) := rfl
  rw [e, kX0_at]
  refine bit_zero fun hb => sf_ne_zero h0 ?_
  have hb := of_decide_eq_true ((WordArith.ofBool_eq_one_iff _).1 hb)
  refine hb.trans ?_
  simp [FloatOps.ofBits, Ideal.ofBits, Ideal.ieee]

theorem kR_at (h : Fin 16) (h0 : l0w V0 h ≠ 0#32) : (kR V0 (ix1 h) : BitVec 32)
    = IntOp.maxsi (IntOp.subi (IntOp.subi ((Finset.univ : Finset (Fin 254)).fold IntOp.addi 0#32 (fun k => (powBit (l0w V0 h) k).setWidth 32)) 126#32) 16#32) 0#32 := by
  have e : (fun k => (powBit (l0w V0 h) k).setWidth 32) = fun k : Fin 254 => (extui 32 (kB0 V0) natLt_1_32 : IVec S16x254 32) (ix2 h k) := by
    funext k
    show _ = BitVec.setWidth 32 (kB0 V0 (ix2 h k))
    rw [kB0_at]
  rw [e, ← red254]
  unfold kR
  generalize Host.reduce IntOp.addi (extui 32 (kB0 V0) natLt_1_32) (constantI S_ 32 0#32) reducesTo_S16x254_S16_d1 h_S_ = R
  have hz := kZ0_at V0 h h0
  generalize kZ0 V0 = z at hz ⊢
  pointwise []
  show IntOp.maxsi (IntOp.subi (Scalar.select (z (ix1 h)) _ _) _) _ = _
  rw [hz]
  rfl

theorem powBit_eq (x : BitVec 32) (p : ℕ) (h1 : (2 : ℤ) ^ p ≤ x.toInt) (h2 : x.toInt < (2 : ℤ) ^ (p + 1)) (k : Fin 254) :
    (powBit x k).setWidth 32 = if k.val ≤ 126 + p then (1#32 : BitVec 32) else 0#32 := by
  have h0 : (0 : ℤ) ≤ x.toInt := le_trans (by positivity) h1
  have ha : (FloatOps.absf (F := Ideal) (φ := .f32) (sf x) : EReal) = rz x.toInt := by
    show max (rz x.toInt) (-(rz x.toInt)) = _
    refine max_eq_left ?_
    have e : -(rz x.toInt) = rz (-x.toInt) := by unfold rz; push_cast; rfl
    rw [e]
    exact (rz_le _ _).2 (by omega)
  have hb : powBit x k = 1#1 ↔ k.val ≤ 126 + p := by
    unfold powBit
    rw [ha, pow_at]
    have : FloatOps.cmpf (F := Ideal) (φ := .f32) .oge (rz x.toInt) (((2 : ℝ) ^ ((k.val : ℤ) - 126) : ℝ) : EReal) = 1#1 ↔ ((((2 : ℝ) ^ ((k.val : ℤ) - 126) : ℝ) : EReal) ≤ rz x.toInt) :=
      (WordArith.ofBool_eq_one_iff _).trans (by simp)
    rw [this]
    unfold rz
    rw [EReal.coe_le_coe_iff]
    have r1 : (2 : ℝ) ^ ((p : ℕ) : ℤ) ≤ (x.toInt : ℝ) := by rw [zpow_natCast]; exact_mod_cast h1
    have r2 : (x.toInt : ℝ) < (2 : ℝ) ^ ((p + 1 : ℕ) : ℤ) := by rw [zpow_natCast]; exact_mod_cast h2
    constructor
    · intro hle
      by_contra hc
      have : (2 : ℝ) ^ ((p + 1 : ℕ) : ℤ) ≤ (2 : ℝ) ^ ((k.val : ℤ) - 126) := zpow_le_zpow_right₀ (by norm_num) (by omega)
      linarith
    · intro hle
      have : (2 : ℝ) ^ ((k.val : ℤ) - 126) ≤ (2 : ℝ) ^ ((p : ℕ) : ℤ) := zpow_le_zpow_right₀ (by norm_num) (by omega)
      linarith
  by_cases h : k.val ≤ 126 + p
  · rw [if_pos h, hb.2 h]; rfl
  · rw [if_neg h, bit_zero fun e => h (hb.1 e)]; rfl

theorem kR_of (h : Fin 16) (p : Fin 24) (h1 : (2 : ℤ) ^ p.val ≤ (l0w V0 h).toInt) (h2 : (l0w V0 h).toInt < (2 : ℤ) ^ (p.val + 1)) :
    (kR V0 (ix1 h) : BitVec 32).toInt = ((p.val - 15 : ℕ) : ℤ) := by
  have h0 : l0w V0 h ≠ 0#32 := fun e => by
    rw [e] at h1
    have : (0#32 : BitVec 32).toInt = 0 := by decide
    have : (0 : ℤ) < 2 ^ p.val := by positivity
    omega
  rw [kR_at V0 h h0, fold_addi, ← shift_of p, ← count p]
  congr 5
  funext k
  exact powBit_eq _ _ h1 h2 k

/-! ## The kernel's tables are the reference's -/

theorem lit1_eq : ∀ k : Fin 254, lit3 k = lit1 k := by decide +kernel
theorem lit2_eq : ∀ k : Fin 254, lit2 k = lit0 k := by decide +kernel

theorem selS16 (z : IVec S16 1) (x y : IVec S16 32) (h : Fin 16) : (select z x y : IVec S16 32) (ix1 h) = Scalar.select (z (ix1 h)) (x (ix1 h)) (y (ix1 h)) := rfl

/-- The kernel's exponent of the largest polynomial value. -/
theorem kR_at' (h : Fin 16) : (kR V0 (ix1 h) : BitVec 32) = IntOp.maxsi (IntOp.subi (kExp (sf (l0w V0 h))) 16#32) 0#32 := by
  have e : (fun k => (geBit (sf (l0w V0 h)) k).setWidth 32) = fun k : Fin 254 => (extui 32 (kB0 V0) natLt_1_32 : IVec S16x254 32) (ix2 h k) := by
    funext k
    show _ = BitVec.setWidth 32 (kB0 V0 (ix2 h k))
    rw [kB0_at]
    rfl
  have ez : (kZ0 V0 (ix1 h) : BitVec 1) = zBit (sf (l0w V0 h)) := by
    have e : (kZ0 V0 (ix1 h) : BitVec 1) = zBit (kX0 V0 (ix1 h)) := rfl
    rw [e, kX0_at]
  unfold kExp
  rw [e, ← red254, ← ez]
  unfold kR
  generalize Host.reduce IntOp.addi (extui 32 (kB0 V0) natLt_1_32) (constantI S_ 32 0#32) reducesTo_S16x254_S16_d1 h_S_ = R
  generalize kZ0 V0 = z
  pointwise []
  rfl

/-- A power's place in the reference's first table. -/
theorem v35_at (h : Fin 16) (k : Fin 254) : (res_main_v35 (F := Ideal) V0 (ix2 h k) : BitVec 1) = chBit (sf (l0w V0 h)) k := by
  have e : (res_main_v28 (F := Ideal) V0 (ix2 h k) : EReal) = Ideal.div (sf (l0w V0 h)) (FloatOps.ofBits (F := Ideal) .f32 (lit0 (S254.rowMajor (ix1 k)))) := by
    pointwise [res_main_v28]
    rfl
  rw [row254] at e
  have e1 : (res_main_v35 (F := Ideal) V0 (ix2 h k) : BitVec 1) = IntOp.andi (FloatOps.cmpf (F := Ideal) (φ := .f32) .oge (FloatOps.absf (F := Ideal) (φ := .f32) (res_main_v28 (F := Ideal) V0 (ix2 h k))) (FloatOps.ofBits (F := Ideal) .f32 0x3F800000#32))
    (FloatOps.cmpf (F := Ideal) (φ := .f32) .olt (FloatOps.absf (F := Ideal) (φ := .f32) (res_main_v28 (F := Ideal) V0 (ix2 h k))) (FloatOps.ofBits (F := Ideal) .f32 0x40000000#32)) := rfl
  rw [e1, e]
  rfl

/-- The reference's row of exponents. -/
theorem selExp (B : IVec S16x254 1) (f : Fin 254 → BitVec 32) (h : Fin 16) (k : Fin 254) :
    (select B (broadcastInDim S16x254 ![0, 1] bcast_S1x254_S16x254_0_1 (broadcastInDim S1x254 ![1] bcast_S254_S1x254_1 ((fun i => f (S254.rowMajor i))))) (broadcastInDim S16x254 ![] bcast_S_S16x254 (id (constantI S_ 32 0#32))) : IVec S16x254 32) (ix2 h k)
      = Scalar.select (B (ix2 h k)) (f k) 0#32 := by
  have e : (broadcastInDim S16x254 ![0, 1] bcast_S1x254_S16x254_0_1 (broadcastInDim S1x254 ![1] bcast_S254_S1x254_1 ((fun i => f (S254.rowMajor i)))) : IVec S16x254 32) (ix2 h k) = f (S254.rowMajor (ix1 k)) := by
    pointwise []
  rw [row254] at e
  exact congrArg (fun z => Scalar.select (B (ix2 h k)) z 0#32) e

theorem tR_at (h : Fin 16) : (tR V0 (ix1 h) : BitVec 32) = IntOp.maxsi (IntOp.subi (rExp (sf (l0w V0 h))) 16#32) 0#32 := by
  unfold rExp
  rw [show (fun k => Scalar.select (chBit (sf (l0w V0 h)) k) (lit1 k) 0#32) = fun k => _ from funext fun k => (v35_at V0 h k ▸ selExp (res_main_v35 V0) lit1 h k).symm, ← red254]
  rfl

/-- The shifts are the same. -/
theorem kR_eq (h : Fin 16) : (kR V0 (ix1 h) : BitVec 32) = tR V0 (ix1 h) := by
  rw [kR_at', tR_at, exp_eq (normal_sf _)]

theorem kX_at (h : Fin 16) : (kX V0 (ix1 h) : EReal) = Mask.ratio V0 h := rfl

theorem kB_at (h : Fin 16) (k : Fin 254) : (kB V0 (ix2 h k) : BitVec 1) = geBit (Mask.ratio V0 h) k := by
  have e : (kB V0 (ix2 h k) : BitVec 1)
      = FloatOps.cmpf (F := Ideal) (φ := .f32) .oge (FloatOps.absf (kX V0 (ix1 h))) (FloatOps.ofBits (F := Ideal) .f32 (lit2 (S254.rowMajor (ix1 k)))) := by
    unfold kB
    generalize kX V0 = v
    pointwise []
  rw [e, kX_at, row254, lit2_eq]
  rfl

theorem kZ_at (h : Fin 16) : (kZ V0 (ix1 h) : BitVec 1) = zBit (Mask.ratio V0 h) := rfl

theorem v52_at (h : Fin 16) (k : Fin 254) : (res_main_v52 (F := Ideal) V0 (ix2 h k) : EReal) = Ideal.div (Mask.ratio V0 h) (pw k) := by
  have e : (res_main_v52 (F := Ideal) V0 (ix2 h k) : EReal) = Ideal.div (Mask.ratio V0 h) (FloatOps.ofBits (F := Ideal) .f32 (lit2 (S254.rowMajor (ix1 k)))) := by
    pointwise [res_main_v52]
    rfl
  rw [e, row254, lit2_eq]
  rfl

theorem v59_at (h : Fin 16) (k : Fin 254) : (res_main_v59 (F := Ideal) V0 (ix2 h k) : BitVec 1) = chBit (Mask.ratio V0 h) k := by
  have e1 : (res_main_v59 (F := Ideal) V0 (ix2 h k) : BitVec 1) = IntOp.andi (FloatOps.cmpf (F := Ideal) (φ := .f32) .oge (FloatOps.absf (F := Ideal) (φ := .f32) (res_main_v52 (F := Ideal) V0 (ix2 h k))) (FloatOps.ofBits (F := Ideal) .f32 0x3F800000#32))
    (FloatOps.cmpf (F := Ideal) (φ := .f32) .olt (FloatOps.absf (F := Ideal) (φ := .f32) (res_main_v52 (F := Ideal) V0 (ix2 h k))) (FloatOps.ofBits (F := Ideal) .f32 0x40000000#32)) := rfl
  rw [e1, v52_at]
  rfl

theorem kShift_at (h : Fin 16) : (kShift V0 (ix1 h) : BitVec 32) = IntOp.subi 15#32 (kExp (Mask.ratio V0 h)) := by
  have e : (fun k => (geBit (Mask.ratio V0 h) k).setWidth 32) = fun k : Fin 254 => (extui 32 (kB V0) natLt_1_32 : IVec S16x254 32) (ix2 h k) := by
    funext k
    show _ = BitVec.setWidth 32 (kB V0 (ix2 h k))
    rw [kB_at]
  unfold kExp
  rw [e, ← red254, ← kZ_at]
  unfold kShift
  generalize Host.reduce IntOp.addi (extui 32 (kB V0) natLt_1_32) (constantI S_ 32 0#32) reducesTo_S16x254_S16_d1 h_S_ = R
  generalize kZ V0 = z
  pointwise []
  rfl

theorem tShift_at (h : Fin 16) : (tShift V0 (ix1 h) : BitVec 32) = IntOp.subi 15#32 (rExp (Mask.ratio V0 h)) := by
  unfold rExp
  rw [show (fun k => Scalar.select (chBit (Mask.ratio V0 h) k) (lit1 k) 0#32) = fun k => _ from funext fun k => (lit1_eq k ▸ v59_at V0 h k ▸ selExp (res_main_v59 V0) lit3 h k).symm, ← red254]
  rfl

/-- The host's largest entry of a table's rows. -/
theorem redMax (x : FVec Ideal S16x254 .f32) (h : Fin 16) :
    (Host.reduce (FloatOps.maximumf (F := Ideal) (φ := .f32)) x (constant (F := Ideal) S_ .f32 0xFF800000#32) reducesTo_S16x254_S16_d1 h_S_ : FVec Ideal S16 .f32) (ix1 h)
      = (Finset.univ : Finset (Fin 254)).fold (max : EReal → EReal → EReal) (Ideal.ofBits .f32 0xFF800000#32) (fun k => x (ix2 h k)) :=
  (Host.reduce_eq_fold (max : EReal → EReal → EReal) x _ _ _ _).trans (Shape.ReducesTo.fold_fiber_r2_a1 (n0 := 16) (n1 := 254) reducesTo_S16x254_S16_d1 (ix1 h) (max : EReal → EReal → EReal) _ x)

/-- The host's sum of a table's rows. -/
theorem redAdd (x : FVec Ideal S16x254 .f32) (h : Fin 16) :
    (Host.reduceAdd x (constant S_ .f32 0x00000000#32) reducesTo_S16x254_S16_d1 h_S_ (ix1 h) : EReal)
      = FloatOps.ofBits (F := Ideal) .f32 0x00000000#32 + ∑ k : Fin 254, (x (ix2 h k) : EReal) :=
  congrArg (fun z : EReal => FloatOps.ofBits (F := Ideal) .f32 0x00000000#32 + z) (Shape.ReducesTo.sum_fiber_r2_a1 (n0 := 16) (n1 := 254) reducesTo_S16x254_S16_d1 (ix1 h) x)

/-- The multipliers from the mantissas. -/
def mulOf (x : FVec Ideal S16 .f32) : IVec S16 32 := fptosi 32 (Host.roundeven (mulf x (broadcastInDim S16 ![] bcast_S_S16 (constant S_ .f32 0x47000000#32))))

theorem mulOf_congr (x y : FVec Ideal S16 .f32) (h : Fin 16) (e : x (ix1 h) = y (ix1 h)) : (mulOf x (ix1 h) : BitVec 32) = mulOf y (ix1 h) := by
  let c : FVec Ideal S16 .f32 := fun _ => x (ix1 h)
  let d : FVec Ideal S16 .f32 := fun _ => y (ix1 h)
  have ec : c = d := funext fun _ => e
  have e1 : (mulOf x (ix1 h) : BitVec 32) = mulOf c (ix1 h) := rfl
  have e2 : (mulOf y (ix1 h) : BitVec 32) = mulOf d (ix1 h) := rfl
  rw [e1, e2, ec]

/-- The kernel's mantissas. -/
def mK : FVec Ideal S16 .f32 := select (kZ V0) (broadcastInDim S16 ![] bcast_S_S16 (id (constant S_ .f32 0x00000000#32))) (mulf (broadcastInDim S16 ![] bcast_S_S16 (constant S_ .f32 0x3F000000#32)) (Host.divf (kX V0) (Host.reduce FloatOps.maximumf (select (kB V0) (broadcastInDim S16x254 ![0, 1] bcast_S1x254_S16x254_0_1 (broadcastInDim S1x254 ![1] bcast_S254_S1x254_1 ((fun i => FloatOps.ofBits .f32 (lit2 (S254.rowMajor i)))))) (broadcastInDim S16x254 ![] bcast_S_S16x254 (id (constant S_ .f32 0x00000000#32)))) (constant S_ .f32 0xFF800000#32) reducesTo_S16x254_S16_d1 h_S_)))

/-- The reference's mantissas. -/
def mR : FVec Ideal S16 .f32 := mulf (broadcastInDim S16 ![] bcast_S_S16 (constant S_ .f32 0x3F000000#32)) (Host.reduceAdd (select (res_main_v59 V0) (res_main_v52 V0) (broadcastInDim S16x254 ![] bcast_S_S16x254 (id (constant S_ .f32 0x00000000#32)))) (constant S_ .f32 0x00000000#32) reducesTo_S16x254_S16_d1 h_S_)

/-- The kernel's row of powers. -/
theorem selPow (B : IVec S16x254 1) (f : Fin 254 → BitVec 32) (h : Fin 16) (k : Fin 254) :
    ((select B (broadcastInDim S16x254 ![0, 1] bcast_S1x254_S16x254_0_1 (broadcastInDim S1x254 ![1] bcast_S254_S1x254_1 ((fun i => FloatOps.ofBits (F := Ideal) .f32 (f (S254.rowMajor i)))))) (broadcastInDim S16x254 ![] bcast_S_S16x254 (id (constant S_ .f32 0x00000000#32))) : FVec Ideal S16x254 .f32) (ix2 h k) : EReal)
      = Scalar.select (B (ix2 h k)) (FloatOps.ofBits (F := Ideal) .f32 (f k)) (FloatOps.ofBits (F := Ideal) .f32 0x00000000#32) := by
  have e : (broadcastInDim S16x254 ![0, 1] bcast_S1x254_S16x254_0_1 (broadcastInDim S1x254 ![1] bcast_S254_S1x254_1 ((fun i => FloatOps.ofBits (F := Ideal) .f32 (f (S254.rowMajor i))))) : FVec Ideal S16x254 .f32) (ix2 h k) = FloatOps.ofBits (F := Ideal) .f32 (f (S254.rowMajor (ix1 k))) := by
    pointwise []
  rw [row254] at e
  exact congrArg (fun z => Scalar.select (B (ix2 h k)) z (FloatOps.ofBits (F := Ideal) .f32 0x00000000#32)) e

theorem mK_at (h : Fin 16) : (mK V0 (ix1 h) : EReal) = kMant (Mask.ratio V0 h) := by
  unfold mK kMant kTop
  rw [show (fun k => Scalar.select (geBit (Mask.ratio V0 h) k) (pw k) (FloatOps.ofBits (F := Ideal) .f32 0x00000000#32)) = fun k => _ from
    funext fun k => (lit2_eq k ▸ kB_at V0 h k ▸ selPow (kB V0) lit2 h k).symm, ← redMax, ← kZ_at]
  rfl

theorem mR_at (h : Fin 16) : (mR V0 (ix1 h) : EReal) = rMant (Mask.ratio V0 h) := by
  have e : ∀ k : Fin 254, Scalar.select (chBit (Mask.ratio V0 h) k) (Ideal.div (Mask.ratio V0 h) (pw k)) (FloatOps.ofBits (F := Ideal) .f32 0x00000000#32)
      = (select (res_main_v59 V0) (res_main_v52 V0) (broadcastInDim S16x254 ![] bcast_S_S16x254 (id (constant S_ .f32 0x00000000#32))) : FVec Ideal S16x254 .f32) (ix2 h k) := fun k => by
    rw [← v52_at, ← v59_at]
    rfl
  unfold mR rMant
  rw [Finset.sum_congr rfl fun k _ => e k, ← redAdd]
  rfl

/-- The multipliers are the same where the scale is normal. -/
theorem kMult_eq (h : Fin 16) (hn : Mask.normBit (Mask.ratio V0 h) = 1#1) : (kMult V0 (ix1 h) : BitVec 32) = tMult V0 (ix1 h) :=
  mulOf_congr (mK V0) (mR V0) h ((mK_at V0 h).trans ((mant_eq (normal_bit _ hn)).trans (mR_at V0 h).symm))

/-- The output shifts are the same where the scale is normal. -/
theorem kShift_eq (h : Fin 16) (hn : Mask.normBit (Mask.ratio V0 h) = 1#1) : (kShift V0 (ix1 h) : BitVec 32) = tShift V0 (ix1 h) := by
  rw [kShift_at, tShift_at, exp_eq (normal_bit _ hn)]

/-- What the shift does to the largest polynomial value. -/
theorem tR_bounds (h : Fin 16) (h1 : 1 ≤ (l0w V0 h).toInt) (h2 : (l0w V0 h).toInt < 16777216) :
    0 ≤ (tR V0 (ix1 h) : BitVec 32).toInt ∧ (tR V0 (ix1 h) : BitVec 32).toInt ≤ 8
      ∧ 1 ≤ (l0w V0 h).toInt / 2 ^ (tR V0 (ix1 h) : BitVec 32).toInt.toNat ∧ (l0w V0 h).toInt / 2 ^ (tR V0 (ix1 h) : BitVec 32).toInt.toNat < 65536 := by
  rw [← kR_eq]
  generalize hx : (l0w V0 h).toInt = x at *
  have hn : x.toNat ≠ 0 := by omega
  have hp : Nat.log2 x.toNat < 24 := (Nat.log2_lt hn).2 (by omega)
  have a1 : (2 : ℤ) ^ (Nat.log2 x.toNat) ≤ x := by
    have := Nat.log2_self_le hn
    have e : (x.toNat : ℤ) = x := by omega
    rw [← e]; exact_mod_cast this
  have a2 : x < (2 : ℤ) ^ (Nat.log2 x.toNat + 1) := by
    have := Nat.lt_log2_self (n := x.toNat)
    have e : (x.toNat : ℤ) = x := by omega
    rw [← e]; exact_mod_cast this
  have ht := kR_of V0 h ⟨Nat.log2 x.toNat, hp⟩ (by rw [hx]; exact a1) (by rw [hx]; exact a2)
  generalize Nat.log2 x.toNat = p at *
  rw [ht]
  show _ ∧ _ ∧ 1 ≤ x / 2 ^ ((p - 15 : ℕ) : ℤ).toNat ∧ x / 2 ^ ((p - 15 : ℕ) : ℤ).toNat < 65536
  rw [Int.toNat_natCast]
  have hpos : (0 : ℤ) < 2 ^ (p - 15) := by positivity
  refine ⟨by omega, by show ((p - 15 : ℕ) : ℤ) ≤ 8; omega, ?_, ?_⟩
  · rw [Int.le_ediv_iff_mul_le hpos, one_mul]
    exact le_trans (pow_le_pow_right₀ (by norm_num) (by omega)) a1
  · rw [Int.ediv_lt_iff_lt_mul hpos]
    refine lt_of_lt_of_le a2 ?_
    have : (65536 : ℤ) * 2 ^ (p - 15) = 2 ^ (16 + (p - 15)) := by rw [pow_add]; norm_num
    rw [this]
    exact pow_le_pow_right₀ (by norm_num) (by omega)

/-! ## The polynomial's constant -/

/-- A conversion that stays inside the range. -/
theorem fptosi_inside (z : EReal) (h0 : 1 ≤ (Ideal.fptosi 32 (Ideal.liftRound Int.floor z)).toInt) (h1 : (Ideal.fptosi 32 (Ideal.liftRound Int.floor z)).toInt < 4096) :
    ∃ x : ℝ, z = (x : EReal) ∧ 1 ≤ x ∧ x < 4096 := by
  induction z using EReal.rec with
  | bot =>
    have : Ideal.fptosi 32 (Ideal.liftRound Int.floor ⊥) = BitVec.ofInt 32 (-(2 ^ (32 - 1) : ℕ)) := rfl
    rw [this, toInt_ofInt (by norm_num) (by norm_num)] at h0
    norm_num at h0
  | top =>
    have : Ideal.fptosi 32 (Ideal.liftRound Int.floor ⊤) = BitVec.ofInt 32 ((2 ^ (32 - 1) : ℕ) - 1) := rfl
    rw [this, toInt_ofInt (by norm_num) (by norm_num)] at h1
    norm_num at h1
  | coe x =>
    have e : (Ideal.fptosi 32 (Ideal.liftRound Int.floor (x : EReal))) = BitVec.ofInt 32 (max (-2147483648) (min 2147483647 ⌊x⌋)) := by
      unfold Ideal.fptosi
      congr 1
      show max _ (min _ (if (0 : ℝ) ≤ ((⌊x⌋ : ℤ) : ℝ) then ⌊((⌊x⌋ : ℤ) : ℝ)⌋ else ⌈((⌊x⌋ : ℤ) : ℝ)⌉)) = _
      rw [Int.floor_intCast, Int.ceil_intCast, ite_self]
      norm_num
    rw [e, toInt_ofInt (by omega) (by omega)] at h0 h1
    refine ⟨x, rfl, ?_, ?_⟩
    · have : (1 : ℤ) ≤ ⌊x⌋ := by omega
      exact_mod_cast Int.le_floor.1 this
    · have : ⌊x⌋ < (4096 : ℤ) := by omega
      exact_mod_cast Int.floor_lt.1 this

/-- A conversion of a number below a bound. -/
theorem fptosi_below (x : ℝ) (n : ℤ) (hn : -2147483648 ≤ n) (hx : x < n) : (Ideal.fptosi 32 (Ideal.liftRound Int.floor (x : EReal))).toInt ≤ n := by
  have e : (Ideal.fptosi 32 (Ideal.liftRound Int.floor (x : EReal))) = BitVec.ofInt 32 (max (-2147483648) (min 2147483647 ⌊x⌋)) := by
    unfold Ideal.fptosi
    congr 1
    show max _ (min _ (if (0 : ℝ) ≤ ((⌊x⌋ : ℤ) : ℝ) then ⌊((⌊x⌋ : ℤ) : ℝ)⌋ else ⌈((⌊x⌋ : ℤ) : ℝ)⌉)) = _
    rw [Int.floor_intCast, Int.ceil_intCast, ite_self]
    norm_num
  rw [e, toInt_ofInt (by omega) (by omega)]
  have := Int.floor_lt.2 hx
  omega

theorem cA : (Ideal.ofBits .f32 0x3FAD2F1B#32 : EReal) = ((11349787 / 8388608 : ℝ) : EReal) := by
  have e : (Ideal.ofBits .f32 0x3FAD2F1B#32 : EReal) = (((11349787 : ℕ) * (1 / 8388608) : ℝ) : EReal) := by
    simp [Ideal.ofBits, Ideal.ieee]; norm_num
  rw [e]; norm_num
theorem cC : (Ideal.ofBits .f32 0x3EB020C5#32 : EReal) = ((11542725 / 33554432 : ℝ) : EReal) := by
  have e : (Ideal.ofBits .f32 0x3EB020C5#32 : EReal) = (((11542725 : ℕ) * (1 / 33554432) : ℝ) : EReal) := by
    simp [Ideal.ofBits, Ideal.ieee]; norm_num
  rw [e]; norm_num
theorem cD : (Ideal.ofBits .f32 0x3EB78D50#32 : EReal) = ((12029264 / 33554432 : ℝ) : EReal) := by
  have e : (Ideal.ofBits .f32 0x3EB78D50#32 : EReal) = (((12029264 : ℕ) * (1 / 33554432) : ℝ) : EReal) := by
    simp [Ideal.ofBits, Ideal.ieee]; norm_num
  rw [e]; norm_num
/-- Where the linear coefficient is small, so is the constant one. -/
theorem qc_small (s : EReal) (h0 : 1 ≤ (Ideal.fptosi 32 (Ideal.liftRound Int.floor (Ideal.div (Ideal.ofBits .f32 0x3FAD2F1B#32) s))).toInt)
    (h1 : (Ideal.fptosi 32 (Ideal.liftRound Int.floor (Ideal.div (Ideal.ofBits .f32 0x3FAD2F1B#32) s))).toInt < 4096) :
    (Ideal.fptosi 32 (Ideal.liftRound Int.floor (Ideal.div (Ideal.ofBits .f32 0x3EB020C5#32) (Ideal.ofBits .f32 0x3EB78D50#32 * s * s)))).toInt ≤ 16777216 := by
  obtain ⟨x, hx, x0, x1⟩ := fptosi_inside _ h0 h1
  rw [cA] at hx
  induction s using EReal.rec with
  | bot =>
    have : Ideal.div ((11349787 / 8388608 : ℝ) : EReal) ⊥ = 0 := by
      unfold Ideal.div; rw [if_neg (by simp)]; simp
    rw [this] at hx
    have : (0 : ℝ) = x := by exact_mod_cast hx
    linarith
  | top =>
    have : Ideal.div ((11349787 / 8388608 : ℝ) : EReal) ⊤ = 0 := by
      unfold Ideal.div; rw [if_neg (by simp)]; simp
    rw [this] at hx
    have : (0 : ℝ) = x := by exact_mod_cast hx
    linarith
  | coe r =>
    by_cases hr : r = 0
    · subst hr
      have : Ideal.div ((11349787 / 8388608 : ℝ) : EReal) ((0 : ℝ) : EReal) = ⊤ := by
        unfold Ideal.div; rw [if_pos (by simp), if_pos]; exact_mod_cast (by norm_num : (0 : ℝ) < 11349787 / 8388608)
      rw [this] at hx
      exact absurd hx (by simp)
    · rw [Ideal.div_coe hr, ← EReal.coe_mul] at hx
      have hx : (11349787 / 8388608 : ℝ) * (1 / r) = x := by exact_mod_cast hx
      have hxr : (11349787 / 8388608 : ℝ) = x * r := by rw [← hx]; field_simp
      have hd : (12029264 / 33554432 : ℝ) * r * r ≠ 0 := by positivity
      rw [cC, cD, ← EReal.coe_mul, ← EReal.coe_mul, Ideal.div_coe hd, ← EReal.coe_mul]
      refine fptosi_below _ 16777216 (by norm_num) ?_
      have hd' : (0 : ℝ) < (12029264 / 33554432 : ℝ) * r * r := by
        have := mul_self_pos.2 hr; nlinarith
      rw [mul_one_div, div_lt_iff₀ hd']
      push_cast
      have hrr : (11349787 / 8388608 : ℝ) * (11349787 / 8388608) = x * x * (r * r) := by rw [hxr]; ring
      have hxx : x * x < 16777216 := by nlinarith
      have : x * x * (r * r) < 16777216 * (r * r) := mul_lt_mul_of_pos_right hxx (mul_self_pos.2 hr)
      nlinarith

/-- A head on the fast branch has the words the fast arithmetic needs. -/
theorem head_of (h : Fin 16) (hf : Mask.fastT V0 h = 1#1) : Head (res_main_v10 V0 (ix1 h)) (res_main_v14 V0 (ix1 h)) (res_main_v21 V0 (ix1 h)) (tR V0 (ix1 h)) := by
  unfold Mask.fastT Mask.fastBit at hf
  have hb := tR_bounds V0 h
  have hl : l0w V0 h = IntOp.addi (IntOp.muli (res_main_v14 V0 (ix1 h)) (res_main_v14 V0 (ix1 h))) (res_main_v21 V0 (ix1 h)) := rfl
  have hq : 1 ≤ (res_main_v14 V0 (ix1 h) : BitVec 32).toInt → (res_main_v14 V0 (ix1 h) : BitVec 32).toInt < 4096 → (res_main_v21 V0 (ix1 h) : BitVec 32).toInt ≤ 16777216 := by
    have e1 : (res_main_v14 V0 (ix1 h) : BitVec 32) = Ideal.fptosi 32 (Ideal.liftRound Int.floor (Ideal.div (Ideal.ofBits .f32 0x3FAD2F1B#32) (res_main_v6 (F := Ideal) V0 (ix1 h)))) := by
      unfold res_main_v14
      generalize res_main_v6 (F := Ideal) V0 = v
      rfl
    have e2 : (res_main_v21 V0 (ix1 h) : BitVec 32) = Ideal.fptosi 32 (Ideal.liftRound Int.floor (Ideal.div (Ideal.ofBits .f32 0x3EB020C5#32) (Ideal.ofBits .f32 0x3EB78D50#32 * res_main_v6 (F := Ideal) V0 (ix1 h) * res_main_v6 (F := Ideal) V0 (ix1 h)))) := by
      unfold res_main_v21
      generalize res_main_v6 (F := Ideal) V0 = v
      rfl
    rw [e1, e2]
    exact qc_small _
  generalize l0w V0 h = l at *
  generalize (res_main_v10 V0 (ix1 h) : BitVec 32) = ln2 at *
  generalize (res_main_v14 V0 (ix1 h) : BitVec 32) = qb at *
  generalize (res_main_v21 V0 (ix1 h) : BitVec 32) = qc at *
  generalize (tR V0 (ix1 h) : BitVec 32) = r at *
  rw [and_iff, and_iff, and_iff, and_iff, sge_iff, sge_iff, slt_iff, sge_iff, slt_iff, ← hl] at hf
  have c1 : (1#32 : BitVec 32).toInt = 1 := by decide
  have c2 : (4096#32 : BitVec 32).toInt = 4096 := by decide
  have c3 : (0#32 : BitVec 32).toInt = 0 := by decide
  have c4 : (16777216#32 : BitVec 32).toInt = 16777216 := by decide
  rw [c1, c2, c3, c4] at hf
  obtain ⟨⟨⟨⟨f1, f2⟩, f3⟩, f4⟩, f5⟩ := hf
  have hc := hq (by omega) f3
  have hqq : 1 ≤ qb.toInt * qb.toInt ∧ qb.toInt * qb.toInt ≤ 16777216 := ⟨by nlinarith, by nlinarith⟩
  have el : l.toInt = qb.toInt * qb.toInt + qc.toInt := by
    have : l = BitVec.ofInt 32 (qb.toInt * qb.toInt + qc.toInt) := by
      rw [← addi_ofInt, ← muli_ofInt, BitVec.ofInt_toInt, BitVec.ofInt_toInt, hl]
    rw [this, toInt_ofInt (by omega) (by omega)]
  obtain ⟨t1, t2, t3, t4⟩ := hb (by omega) f5
  rw [el] at f5 t3 t4
  exact ⟨f1, f2, f3, f4, f5, t1, t2, t3, t4⟩

end Cert.Proof.ReferenceIdeal
end
-- ==== Proof.Point.lean ====
/-
  The kernel's results at one place, in the reference's terms.
-/
module

public import proofs.«01_k».proof.Proof.Blk
public import proofs.«01_k».proof.Proof.KerOut
public import proofs.«01_k».proof.Proof.KerCols
public import proofs.«01_k».proof.Proof.FrexpBound

@[expose] public section

set_option maxRecDepth 16384

noncomputable section

namespace Cert.Proof.KernelIdeal

open Cert.KernelIdeal Cert.KernelIdeal.Gen
open Idealize.ShloMosaic Idealize.ShloMosaic.TcCoe
open Idealize.SL.Sem
open Cert.Proof.Spec
open Cert.Proof.ReferenceIdeal (tR kR kR_eq kMult kShift rS)
open Cert.ReferenceIdeal.Value (res_main_v10 res_main_v14 res_main_v21)
open VecWindow (window put)

variable {m : (ℓ : Loc nD τ sig) → Buf (Elt Ideal) ℓ} {c : Dev nD} {W : Valuation Cert.ReferenceIdeal.τ Cert.ReferenceIdeal.sig (Elt Ideal)}

/-- A flag read from the table chooses the fast branch when it is set. -/
theorem isOn_bit : ∀ b : BitVec 1, isOn (F := Ideal) (b.setWidth 32 : BitVec 32) = 1#1 ↔ b = 1#1 := by
  have key : ∀ b : BitVec 1, (Scalar.cmpi .ne (Scalar.extui (Scalar.cmpi .ne (b.setWidth 32 : BitVec 32) 0#32) : BitVec 32) 0#32 = 1#1) ↔ b = 1#1 := by decide
  exact key

/-- Clamping the shift first changes nothing. -/
theorem shiftK_min (s : BitVec 32) : min (shiftK s).toNat 31 = min s.toNat 31 := by
  unfold shiftK Scalar.select
  by_cases h : IntOp.andi (IntOp.cmpi .sge s 0#32) (IntOp.cmpi .sle s 31#32) = 1
  · rw [if_pos h]
  · rw [if_neg h]
    by_cases hs : s.toNat ≤ 31
    · exfalso
      apply h
      have e : s.toInt = s.toNat := BitVec.toInt_eq_toNat_of_lt (by omega)
      refine (and_iff _ _).2 ?_
      rw [sge_iff, sle_iff, e]
      have c0 : (0#32 : BitVec 32).toInt = 0 := by decide
      have c31 : (31#32 : BitVec 32).toInt = 31 := by decide
      rw [c0, c31]
      omega
    · have c31 : (31#32 : BitVec 32).toNat = 31 := by decide
      rw [c31]; omega

variable (A : Agree m c W)

include A in
theorem row_eq (b : Fin 2) (h : Fin 16) (i : Fin 896) : row (iblk m c 3 (pt b h)) (iblk m c 2 (pt b h)) i = rS W b h i := by
  funext j
  have e2 : colB (iblk m c 2 (pt b h)) i = fun x => W (Proc.devRef .tc Cert.ReferenceIdeal.main_arg0) (ix4 b i h x) := by
    funext x
    rw [A.h0]
    exact blk2_at m c b h x i
  have e3 : colB (iblk m c 3 (pt b h)) j = fun x => W (Proc.devRef .tc Cert.ReferenceIdeal.main_arg1) (ix4 b j h x) := by
    funext x
    rw [A.h1]
    exact blk3_at m c b h x j
  unfold row rS
  rw [e2, e3]

include A in
theorem vcol_eq (b : Fin 2) (h : Fin 16) (d : Fin 64) : (fun j => (iblk m c 4 (pt b h) : Vec Ideal S1x1x64x896 .i8) (ix4 0 0 d j)) = fun j => W (Proc.devRef .tc Cert.ReferenceIdeal.main_arg2) (ix4 b j h d) := by
  funext j
  rw [A.h2]
  exact blk4_at m c b h d j

include A in
theorem slow_words (b : Fin 2) (h : Fin 16) : SlowWords (grid0.coords (pt b h)) (iblk m c 0 (pt b h)) (iblk m c 1 (pt b h)) (res_main_v10 W (ix1 h)) (res_main_v14 W (ix1 h)) (res_main_v21 W (ix1 h))
    (tR W (ix1 h)) (kMult W (ix1 h)) (IntOp.shli .host 1#32 (IntOp.subi (kShift W (ix1 h)) 1#32)) (kShift W (ix1 h)) := by
  obtain ⟨o1, o7, o8, o9, o11, o12, o13, o14, o22, o23, o24⟩ := offs_int b h
  obtain ⟨o2, o3, o4, o5, o6, o15⟩ := offs_flt b h
  refine ⟨?_, ?_, ?_, ?_, ?_, ?_, ?_, fun s hs => ?_⟩
  · exact (word_int m c (pt b h) h 0 _ _ o11).trans ((ints0 m c h).trans (congrFun (v10_eq A) (ix1 h)))
  · exact (word_int m c (pt b h) h 1 _ _ o12).trans ((ints1 m c h).trans (congrFun (v14_eq A) (ix1 h)))
  · exact (word_int m c (pt b h) h 2 _ _ o13).trans ((ints2 m c h).trans (congrFun (v21_eq A) (ix1 h)))
  · exact (word_int m c (pt b h) h 3 _ _ o14).trans ((ints3 m c h).trans ((congrFun (v46_eq A) (ix1 h)).trans (kR_eq W h)))
  · exact (word_flt m c (pt b h) h 0 _ _ o15).trans ((flts0 m c h).trans (c107 A h))
  · exact (word_int m c (pt b h) h 4 _ _ o22).trans ((ints4 m c h).trans (congrFun (v71_eq A) (ix1 h)))
  · exact (word_int m c (pt b h) h 6 _ _ o23).trans ((ints6 m c h).trans (c77 A h))
  · have e := (word_int m c (pt b h) h 5 _ (k0_off24_inb _) o24).trans ((ints5 m c h).trans (c96 A h))
    rw [← hs, e]
    exact shiftK_min _

include A in
theorem fast_words (b : Fin 2) (h : Fin 16) (H : Head (res_main_v10 W (ix1 h)) (res_main_v14 W (ix1 h)) (res_main_v21 W (ix1 h)) (tR W (ix1 h))) :
    FastWords (grid0.coords (pt b h)) (iblk m c 0 (pt b h)) (iblk m c 1 (pt b h)) (res_main_v10 W (ix1 h)) (res_main_v14 W (ix1 h)) (res_main_v21 W (ix1 h))
    (tR W (ix1 h)) (kMult W (ix1 h)) (IntOp.shli .host 1#32 (IntOp.subi (kShift W (ix1 h)) 1#32)) (kShift W (ix1 h)) := by
  obtain ⟨o1, o7, o8, o9, o11, o12, o13, o14, o22, o23, o24⟩ := offs_int b h
  obtain ⟨o2, o3, o4, o5, o6, o15⟩ := offs_flt b h
  refine ⟨?_, ?_, ?_, ?_, ?_, ?_, ?_, fun s hs => ?_⟩
  · exact (word_flt m c (pt b h) h 0 _ _ o2).trans ((flts0 m c h).trans (c107 A h))
  · exact (word_flt m c (pt b h) h 1 _ _ o3).trans ((flts1 m c h).trans (c150 A h))
  · exact (word_flt m c (pt b h) h 2 _ _ o4).trans ((flts2 m c h).trans (c151 A h))
  · exact (word_flt m c (pt b h) h 3 _ _ o5).trans ((flts3 m c h).trans (c152 A h))
  · refine (word_flt m c (pt b h) h 4 _ _ o6).trans ((flts4 m c h).trans ((c154 A h).trans ?_))
    rw [kR_eq, sf_eq]
    have l1 := H.l1
    have lb := H.lb
    have hb := H.b
    have r0 := H.r0
    have r8 := H.r8
    rw [muli_toInt _ _ (by nlinarith) (by nlinarith)]
  · exact (word_int m c (pt b h) h 4 _ _ o7).trans ((ints4 m c h).trans (congrFun (v71_eq A) (ix1 h)))
  · exact (word_int m c (pt b h) h 6 _ _ o8).trans ((ints6 m c h).trans (c77 A h))
  · have e := (word_int m c (pt b h) h 5 _ (k0_off9_inb _) o9).trans ((ints5 m c h).trans (c96 A h))
    rw [← hs, e]
    exact shiftK_min _

include A in
theorem flag_eq (b : Fin 2) (h : Fin 16) : isOn (F := Ideal) (flag (grid0.coords (pt b h)) (iblk m c 0 (pt b h))) = 1#1 ↔ Mask.fastT W h = 1#1 := by
  obtain ⟨o1, -⟩ := offs_int b h
  have e : flag (F := Ideal) (grid0.coords (pt b h)) (iblk m c 0 (pt b h)) = (Mask.fastT W h).setWidth 32 :=
    (word_int m c (pt b h) h 7 _ (k0_off1_inb _) o1).trans ((ints7 m c h).trans (c97 A h))
  rw [e]
  exact isOn_bit _

include A in
/-- A row sum, where it is claimed. -/
theorem point_sum (b : Fin 2) (h : Fin 16) (i : Fin 896) (hm : Mask.headBit (res_main_v10 W (ix1 h)) (res_main_v14 W (ix1 h)) (res_main_v21 W (ix1 h)) = 1#1) :
    (blkS m c (pt b h) (ix4 (n0 := 1) (n1 := 1) (n2 := 1) (n3 := 896) 0 0 0 i) : BitVec 32) = sumRow (res_main_v10 W (ix1 h)) (res_main_v14 W (ix1 h)) (res_main_v21 W (ix1 h)) (tR W (ix1 h)) (rS W b h i) := by
  have hO := blocks_isOut (F := Ideal) (grid0.coords (pt b h)) (iblk m c 0 (pt b h)) (iblk m c 1 (pt b h)) (iblk m c 2 (pt b h)) (iblk m c 3 (pt b h)) (iblk m c 4 (pt b h))
  rw [← row_eq A b h i]
  by_cases hf : Mask.fastT W h = 1#1
  · have H := Cert.Proof.ReferenceIdeal.head_of W h hf
    exact fast_sum _ _ _ _ _ _ _ _ _ _ _ _ _ _ _ (fast_words A b h H) (hO.1 ((flag_eq A b h).2 hf)) H i
  · have h0 : (res_main_v10 W (ix1 h) : BitVec 32) ≠ 0#32 := by
      unfold Mask.headBit at hm
      rw [or_iff, ne_iff] at hm
      exact hm.resolve_left hf
    exact slow_sum _ _ _ _ _ _ _ _ _ _ _ _ _ _ _ (slow_words A b h) (hO.2 (fun hh => hf ((flag_eq A b h).1 hh))) h0 i

include A in
/-- An output, where it is claimed. -/
theorem point_out (b : Fin 2) (h : Fin 16) (i : Fin 896) (d : Fin 64) (hm : ((Mask.part7 W).1 (ix4 b i h d) : BitVec 1) = 1#1) :
    (blkO m c (pt b h) (ix4 (n0 := 1) (n1 := 1) (n2 := 64) (n3 := 896) 0 0 d i) : BitVec 8) = Cert.Proof.ReferenceIdeal.refOut W (ix4 b i h d) := by
  have hO := blocks_isOut (F := Ideal) (grid0.coords (pt b h)) (iblk m c 0 (pt b h)) (iblk m c 1 (pt b h)) (iblk m c 2 (pt b h)) (iblk m c 3 (pt b h)) (iblk m c 4 (pt b h))
  obtain ⟨s1, s2, hn⟩ := Mask.first_spec W b i h d hm
  rw [Cert.Proof.ReferenceIdeal.out_at, ← Cert.Proof.ReferenceIdeal.kMult_eq W h hn, ← Cert.Proof.ReferenceIdeal.kShift_eq W h hn, ← vcol_eq A b h d]
  rw [← row_eq A b h i] at s1 s2 ⊢
  by_cases hf : Mask.fastT W h = 1#1
  · have H := Cert.Proof.ReferenceIdeal.head_of W h hf
    exact fast_out _ _ _ _ _ _ _ _ _ _ _ _ _ _ _ (fast_words A b h H) (hO.1 ((flag_eq A b h).2 hf)) H i d (s1 hf)
  · obtain ⟨h0, ht⟩ := s2 hf
    exact slow_out _ _ _ _ _ _ _ _ _ _ _ _ _ _ _ (slow_words A b h) (hO.2 (fun hh => hf ((flag_eq A b h).1 hh))) h0 i d ht

end Cert.Proof.KernelIdeal
end
-- ==== Proof.Algebraic.lean ====
/-
  The two programs end with the same results wherever they are claimed.
-/
module

public import proofs.«01_k».proof.Defs
public import proofs.«01_k».proof.Proof.Gen.On_reached
public import proofs.«01_k».proof.Proof.Point

@[expose] public section

set_option maxRecDepth 16384

noncomputable section

namespace Cert.Proof

open Idealize.ShloMosaic Idealize.ShloMosaic.TcCoe
open Idealize.SL.Sem
open Cert.Proof.Spec

/-- Every index of the first result. -/
theorem idx4_eq (i : (⟨4, ![2, 896, 16, 64]⟩ : Shape).Idx) : i = ix4 (n0 := 2) (n1 := 896) (n2 := 16) (n3 := 64) (i 0) (i 1) (i 2) (i 3) := by
  funext a
  match a with
  | ⟨0, _⟩ => rfl
  | ⟨1, _⟩ => rfl
  | ⟨2, _⟩ => rfl
  | ⟨3, _⟩ => rfl

/-- Every index of the second result. -/
theorem idx3_eq (i : (⟨3, ![2, 896, 16]⟩ : Shape).Idx) : i = ix3 (n0 := 2) (n1 := 896) (n2 := 16) (i 0) (i 1) (i 2) := by
  funext a
  match a with
  | ⟨0, _⟩ => rfl
  | ⟨1, _⟩ => rfl
  | ⟨2, _⟩ => rfl

/-- The reference's row sums. -/
def refSum (W : Valuation Cert.ReferenceIdeal.τ Cert.ReferenceIdeal.sig (Elt Ideal)) : IVec Cert.ReferenceIdeal.S2x896x16 32 :=
  transpose Cert.ReferenceIdeal.S2x896x16 [0, 2, 1] (Cert.ReferenceIdeal.Value.res_main_v126 (F := Ideal) W) Cert.ReferenceIdeal.Gen.transposes_S2x16x896_S2x896x16_0_2_1

theorem tr_at (f : IVec Cert.ReferenceIdeal.S2x16x896 32) (b : Fin 2) (i : Fin 896) (h : Fin 16) :
    transpose Cert.ReferenceIdeal.S2x896x16 [0, 2, 1] f Cert.ReferenceIdeal.Gen.transposes_S2x16x896_S2x896x16_0_2_1 (ix3 b i h) = f (ix3 b h i) := by
  pointwise []

section device
variable (m : (ℓ : Loc Cert.KernelIdeal.nD Cert.KernelIdeal.τ Cert.KernelIdeal.sig) → Buf (Elt Ideal) ℓ)
variable (c : Dev Cert.KernelIdeal.nD) (W : Valuation Cert.ReferenceIdeal.τ Cert.ReferenceIdeal.sig (Elt Ideal)) (A : KernelIdeal.Agree m c W)

/-- The mask of the kernel's arguments. -/
def mask : IVec Cert.ReferenceIdeal.S2x896x16x64 1 × IVec Cert.ReferenceIdeal.S2x896x16 1 :=
  Cert.On_reached.fn (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg4))
    (m ((c.tc : Thread Cert.KernelIdeal.nD Cert.KernelIdeal.τ).loc Cert.KernelIdeal.main_arg5)) (m ((c.tc : Thread Cert.KernelIdeal.nD Cert.KernelIdeal.τ).loc Cert.KernelIdeal.main_arg6))

include A in
theorem mask_eq : mask m c = Mask.part7 W := by
  rw [← Mask.fn_eq W, A.h0, A.h1, A.h2, A.h3, A.h4, A.h5, A.h6]
  rfl

include A in
theorem out_eq (i : (⟨4, ![2, 896, 16, 64]⟩ : Shape).Idx) (hm : (mask m c).1 i = 1#1) :
    (Pipeline.afterTail₀ Cert.KernelIdeal.cfgs (KernelIdeal.dats m) 0 (Cert.KernelIdeal.Gen.V0 m) [Cert.KernelIdeal.Gen.hostOps1] c Cert.KernelIdeal.main_v165 : IVec Cert.KernelIdeal.S2x896x16x64 8) i
      = ReferenceIdeal.refOut W i := by
  rw [mask_eq m c W A] at hm
  obtain ⟨b, n, h, d, e⟩ : ∃ b n h d, i = ix4 (n0 := 2) (n1 := 896) (n2 := 16) (n3 := 64) b n h d := ⟨_, _, _, _, idx4_eq i⟩
  subst e
  exact (KernelIdeal.tailO m c _ _ _ _).trans (KernelIdeal.point_out A _ _ _ _ hm)

include A in
theorem sum_eq (i : (⟨3, ![2, 896, 16]⟩ : Shape).Idx) (hm : (mask m c).2 i = 1#1) :
    (Pipeline.afterTail₀ Cert.KernelIdeal.cfgs (KernelIdeal.dats m) 0 (Cert.KernelIdeal.Gen.V0 m) [Cert.KernelIdeal.Gen.hostOps1] c Cert.KernelIdeal.main_v167 : IVec Cert.KernelIdeal.S2x896x16 32) i
      = refSum W i := by
  rw [mask_eq m c W A] at hm
  obtain ⟨b, n, h, e⟩ : ∃ b n h, i = ix3 (n0 := 2) (n1 := 896) (n2 := 16) b n h := ⟨_, _, _, idx3_eq i⟩
  subst e
  have hm := (Mask.second_at W _ _ _).symm.trans hm
  refine (KernelIdeal.tailS m c _ _ _).trans ((KernelIdeal.point_sum A _ _ _ hm).trans ?_)
  exact ((tr_at _ _ _ _).trans (ReferenceIdeal.v126_at W _ _ _)).symm

end device

set_option backward.isDefEq.respectTransparency.types false in
/-- At exact arithmetic, wherever the mask is set, the two programs end with the same results. -/
theorem algebraic : Cert.algebraic_KernelIdeal_ReferenceIdeal_on_reached (hKernelIdeal := Cert.KernelIdeal.Gen.facts) (hReferenceIdeal := Cert.ReferenceIdeal.Gen.facts)
    (hOn_reached := Cert.On_reached.Gen.facts) := by
  intro m g m' g' _ hagree
  have A : ∀ c, KernelIdeal.Agree m c (Idealize.ShloMosaic.StableHlo.launchContents m' c) := fun c =>
    ⟨(hagree c).1, (hagree c).2.1, (hagree c).2.2.1, (hagree c).2.2.2.1, (hagree c).2.2.2.2.1, (hagree c).2.2.2.2.2.1, (hagree c).2.2.2.2.2.2⟩
  refine ⟨fun c => ReferenceIdeal.refOut (Idealize.ShloMosaic.StableHlo.launchContents m' c), fun c => refSum (Idealize.ShloMosaic.StableHlo.launchContents m' c), ?_, ?_⟩
  · refine (θ_run Cert.KernelIdeal.defs _ _).mono (fun r h c => ?_) (θ_run_and (KernelIdeal.run_main (F := Ideal) m g) (KernelIdeal.quiescent (F := Ideal) m g))
    obtain ⟨⟨hr, -⟩, hq, -⟩ := h
    refine ⟨fun i hi => ?_, fun i hi => ?_, hq c⟩
    · have e := (hr c).2 Cert.KernelIdeal.main_v165 (Pipeline.mem_restRefs_of Cert.KernelIdeal.main_v165 (by decide) (by decide))
      exact (congrFun e i).trans (out_eq m c _ (A c) i hi)
    · have e := (hr c).2 Cert.KernelIdeal.main_v167 (Pipeline.mem_restRefs_of Cert.KernelIdeal.main_v167 (by decide) (by decide))
      exact (congrFun e i).trans (sum_eq m c _ (A c) i hi)
  · exact (θ_run Cert.ReferenceIdeal.defs _ _).mono (fun r h c => ⟨fun i _ => congrFun (h c).1 i, fun i _ => congrFun (h c).2.1 i, (h c).2.2⟩)
      (Cert.ReferenceIdeal.Value.run (F := Ideal) m' g')

end Cert.Proof
end
-- ==== Proof.lean ====
/-
  The proof of `Cert.Claim`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Kernel.Run
public import proofs.«01_k».proof.Proof.Gen.On_reached
public import proofs.«01_k».proof.Proof.Algebraic

@[expose] public section

noncomputable section

namespace Cert.Proof

open Idealize.ShloMosaic Idealize.SL.Sem

/-- The kernel at the machine's floats. -/
theorem frame_kernel : Cert.quiescent_Kernel (hKernel := Cert.Kernel.Gen.facts) := fun m ρ _ => Cert.Proof.Kernel.quiescent (F := Bits) m ρ

/-- The idealized kernel. -/
theorem frame_ideal : Cert.quiescent_KernelIdeal (hKernelIdeal := Cert.KernelIdeal.Gen.facts) := fun m ρ _ => Cert.Proof.KernelIdeal.quiescent (F := Ideal) m ρ

/-- The reference, which declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.On_reached.Gen.facts,
  frame_kernel, frame_ideal, frame_reference, trivial, algebraic⟩

end Cert.Proof

end
